-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v36) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S2x8192x1024 : Shape := ⟨3, ![2, 8192, 1024]⟩
abbrev S16x1024 : Shape := ⟨2, ![16, 1024]⟩
abbrev S1x1024 : Shape := ⟨2, ![1, 1024]⟩
abbrev S1x1024x8704 : Shape := ⟨3, ![1, 1024, 8704]⟩
abbrev S1x4x1280 : Shape := ⟨3, ![1, 4, 1280]⟩
abbrev S1x1280 : Shape := ⟨2, ![1, 1280]⟩
abbrev S1x16x80x80 : Shape := ⟨4, ![1, 16, 80, 80]⟩
abbrev S2x1024 : Shape := ⟨2, ![2, 1024]⟩
abbrev S1x128 : Shape := ⟨2, ![1, 128]⟩
abbrev S1x1280x1024 : Shape := ⟨3, ![1, 1280, 1024]⟩
abbrev S1x1024x1024 : Shape := ⟨3, ![1, 1024, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x8704 : S_.BroadcastsInDim S1x1024x8704 (![] : Fin 0 → Fin S1x1024x8704.rank)
  reducesTo_S1x1024x8704_S_d0_1_2 : S1x1024x8704.ReducesTo [0, 1, 2] S_
  bcast_S_S1x1280 : S_.BroadcastsInDim S1x1280 (![] : Fin 0 → Fin S1x1280.rank)
  reducesTo_S1x1280_S_d0_1 : S1x1280.ReducesTo [0, 1] S_
  bcast_S_S2x1024 : S_.BroadcastsInDim S2x1024 (![] : Fin 0 → Fin S2x1024.rank)
  reducesTo_S2x1024_S_d0_1 : S2x1024.ReducesTo [0, 1] S_

variable [Facts]

def fn_part1 {F : FTy → Type} [FloatOps F] (main_v14 : IVec S_ 1) (main_v15 : FVec F S2x1024 .f32) (main_cst_5 : FVec F S_ .f32) : IVec S_ 1 :=
  let main_v16 : FVec F S2x1024 .f32 := broadcastInDim S2x1024 ![] bcast_S_S2x1024 main_cst_5
  let main_v17 : IVec S2x1024 1 := cmpf .olt main_v15 main_v16
  let main_c_6 : IVec S_ 1 := constantI S_ 1 1#1
  let main_v18 : IVec S_ 1 := (fun x v => Host.reduce IntOp.andi x v reducesTo_S2x1024_S_d0_1 h_S_) main_v17 main_c_6
  let main_v19 : IVec S_ 1 := andi main_v14 main_v18
  main_v19

def fn {F : FTy → Type} [FloatOps F] (main_arg0 : FVec F S2x8192x1024 .f32) (main_arg1 : FVec F S16x1024 .f32) (main_arg2 : FVec F S1x1024 .f32) (main_arg3 : FVec F S1x1024x8704 .f32) (main_arg4 : FVec F S1x4x1280 .f32) (main_arg5 : FVec F S1x1280 .f32) (main_arg6 : FVec F S1x16x80x80 .f32) (main_arg7 : FVec F S1x1280 .f32) (main_arg8 : FVec F S1x16x80x80 .f32) (main_arg9 : FVec F S1x1280 .f32) (main_arg10 : FVec F S1x1280 .f32) (main_arg11 : FVec F S2x1024 .f32) (main_arg12 : FVec F S1x128 .f32) (main_arg13 : FVec F S1x1280x1024 .f32) (main_arg14 : FVec F S1x1024x1024 .f32) (main_arg15 : FVec F S1x1024x1024 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_c_0 : IVec S_ 1 := constantI S_ 1 1#1
  let main_v4 : IVec S_ 1 := andi main_c_0 main_v3
  let main_v5 : FVec F S1x1024x8704 .f32 := Host.absf main_arg3
  let main_cst_1 : FVec F S_ .f32 := constant S_ .f32 0x7F800000#32
  let main_v6 : FVec F S1x1024x8704 .f32 := broadcastInDim S1x1024x8704 ![] bcast_S_S1x1024x8704 main_cst_1
  let main_v7 : IVec S1x1024x8704 1 := cmpf .olt main_v5 main_v6
  let main_c_2 : IVec S_ 1 := constantI S_ 1 1#1
  let main_v8 : IVec S_ 1 := (fun x v => Host.reduce IntOp.andi x v reducesTo_S1x1024x8704_S_d0_1_2 h_S_) main_v7 main_c_2
  let main_v9 : IVec S_ 1 := andi main_v4 main_v8
  let main_v10 : FVec F S1x1280 .f32 := Host.absf main_arg10
  let main_cst_3 : FVec F S_ .f32 := constant S_ .f32 0x7F800000#32
  let main_v11 : FVec F S1x1280 .f32 := broadcastInDim S1x1280 ![] bcast_S_S1x1280 main_cst_3
  let main_v12 : IVec S1x1280 1 := cmpf .olt main_v10 main_v11
  let main_c_4 : IVec S_ 1 := constantI S_ 1 1#1
  let main_v13 : IVec S_ 1 := (fun x v => Host.reduce IntOp.andi x v reducesTo_S1x1280_S_d0_1 h_S_) main_v12 main_c_4
  let main_v14 : IVec S_ 1 := andi main_v9 main_v13
  let main_v15 : FVec F S2x1024 .f32 := Host.absf main_arg11
  let main_cst_5 : FVec F S_ .f32 := constant S_ .f32 0x7F800000#32
  fn_part1 (F := F) main_v14 main_v15 main_cst_5
-- ==== Kernel.lean ====
abbrev S2x8192x1024 : Shape := ⟨3, ![2, 8192, 1024]⟩
abbrev S16x1024 : Shape := ⟨2, ![16, 1024]⟩
abbrev S1x1024 : Shape := ⟨2, ![1, 1024]⟩
abbrev S1x1024x8704 : Shape := ⟨3, ![1, 1024, 8704]⟩
abbrev S1x4x1280 : Shape := ⟨3, ![1, 4, 1280]⟩
abbrev S1x1280 : Shape := ⟨2, ![1, 1280]⟩
abbrev S1x16x80x80 : Shape := ⟨4, ![1, 16, 80, 80]⟩
abbrev S2x1024 : Shape := ⟨2, ![2, 1024]⟩
abbrev S1x128 : Shape := ⟨2, ![1, 128]⟩
abbrev S1x1280x1024 : Shape := ⟨3, ![1, 1280, 1024]⟩
abbrev S1x1024x1024 : Shape := ⟨3, ![1, 1024, 1024]⟩
abbrev S_ : Shape := ⟨0, ![]⟩
abbrev S128x1024 : Shape := ⟨2, ![128, 1024]⟩
abbrev S1 : Shape := ⟨1, ![1]⟩
abbrev S1024x8704 : Shape := ⟨2, ![1024, 8704]⟩
abbrev S16x80x80 : Shape := ⟨3, ![16, 80, 80]⟩
abbrev S2x8x80x80 : Shape := ⟨4, ![2, 8, 80, 80]⟩
abbrev S8x8 : Shape := ⟨2, ![8, 8]⟩
abbrev S2x8x80x1x80 : Shape := ⟨5, ![2, 8, 80, 1, 80]⟩
abbrev S1x8x1x8x1 : Shape := ⟨5, ![1, 8, 1, 8, 1]⟩
abbrev S2x8x80x8x80 : Shape := ⟨5, ![2, 8, 80, 8, 80]⟩
abbrev S2x640x640 : Shape := ⟨3, ![2, 640, 640]⟩
abbrev S2x640x1280 : Shape := ⟨3, ![2, 640, 1280]⟩
abbrev S1024 : Shape := ⟨1, ![1024]⟩
abbrev S4x1280 : Shape := ⟨2, ![4, 1280]⟩
abbrev S1280 : Shape := ⟨1, ![1280]⟩
abbrev S128 : Shape := ⟨1, ![128]⟩
abbrev S1280x1024 : Shape := ⟨2, ![1280, 1024]⟩
abbrev S1024x1024 : Shape := ⟨2, ![1024, 1024]⟩
abbrev S2x128x1024 : Shape := ⟨3, ![2, 128, 1024]⟩
abbrev S2x136x1280 : Shape := ⟨3, ![2, 136, 1280]⟩
abbrev S2x1x1280 : Shape := ⟨3, ![2, 1, 1280]⟩
abbrev S2x8x128x128 : Shape := ⟨4, ![2, 8, 128, 128]⟩
abbrev S1x128x1024 : Shape := ⟨3, ![1, 128, 1024]⟩
abbrev S256x1024 : Shape := ⟨2, ![256, 1024]⟩
abbrev S256 : Shape := ⟨1, ![256]⟩
abbrev S256x1 : Shape := ⟨2, ![256, 1]⟩
abbrev S1024x1280 : Shape := ⟨2, ![1024, 1280]⟩
abbrev S256x1280 : Shape := ⟨2, ![256, 1280]⟩
abbrev S128x1280 : Shape := ⟨2, ![128, 1280]⟩
abbrev S1x128x1280 : Shape := ⟨3, ![1, 128, 1280]⟩
abbrev S1x8x1280 : Shape := ⟨3, ![1, 8, 1280]⟩
abbrev S8x1280 : Shape := ⟨2, ![8, 1280]⟩
abbrev S256x640 : Shape := ⟨2, ![256, 640]⟩
abbrev S1x640x1280 : Shape := ⟨3, ![1, 640, 1280]⟩
abbrev S640x1280 : Shape := ⟨2, ![640, 1280]⟩
abbrev S1x640 : Shape := ⟨2, ![1, 640]⟩
abbrev S1x1x1280 : Shape := ⟨3, ![1, 1, 1280]⟩
abbrev S64x64 : Shape := ⟨2, ![64, 64]⟩
abbrev S64x1024 : Shape := ⟨2, ![64, 1024]⟩
abbrev S8x1024 : Shape := ⟨2, ![8, 1024]⟩
abbrev S32x1024 : Shape := ⟨2, ![32, 1024]⟩
abbrev S1x1x128x128 : Shape := ⟨4, ![1, 1, 128, 128]⟩
abbrev S128x128 : Shape := ⟨2, ![128, 128]⟩
abbrev S64x128 : Shape := ⟨2, ![64, 128]⟩
abbrev S256x128 : Shape := ⟨2, ![256, 128]⟩

abbrev nBuf : Space → Nat
  | .hbm => 75
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S16x1024, .f32⟩
  | .hbm, ⟨2, _⟩ => ⟨S1x1024, .f32⟩
  | .hbm, ⟨3, _⟩ => ⟨S1x1024x8704, .f32⟩
  | .hbm, ⟨4, _⟩ => ⟨S1x4x1280, .f32⟩
  | .hbm, ⟨5, _⟩ => ⟨S1x1280, .f32⟩
  | .hbm, ⟨6, _⟩ => ⟨S1x16x80x80, .f32⟩
  | .hbm, ⟨7, _⟩ => ⟨S1x1280, .f32⟩
  | .hbm, ⟨8, _⟩ => ⟨S1x16x80x80, .f32⟩
  | .hbm, ⟨9, _⟩ => ⟨S1x1280, .f32⟩
  | .hbm, ⟨10, _⟩ => ⟨S1x1280, .f32⟩
  | .hbm, ⟨11, _⟩ => ⟨S2x1024, .f32⟩
  | .hbm, ⟨12, _⟩ => ⟨S1x128, .f32⟩
  | .hbm, ⟨13, _⟩ => ⟨S1x1280x1024, .f32⟩
  | .hbm, ⟨14, _⟩ => ⟨S1x1024x1024, .f32⟩
  | .hbm, ⟨15, _⟩ => ⟨S1x1024x1024, .f32⟩
  | .hbm, ⟨16, _⟩ => ⟨S_, .f32⟩
  | .hbm, ⟨17, _⟩ => ⟨S128x1024, .f32⟩
  | .hbm, ⟨18, _⟩ => ⟨S_, .i32⟩
  | .hbm, ⟨19, _⟩ => ⟨S1, .i32⟩
  | .hbm, ⟨20, _⟩ => ⟨S128x1024, .f32⟩
  | .hbm, ⟨21, _⟩ => ⟨S1024x8704, .f32⟩
  | .hbm, ⟨22, _⟩ => ⟨S1024x8704, .bf16⟩
  | .hbm, ⟨23, _⟩ => ⟨S16x80x80, .f32⟩
  | .hbm, ⟨24, _⟩ => ⟨S2x8x80x80, .f32⟩
  | .hbm, ⟨25, _⟩ => ⟨S8x8, .i32⟩
  | .hbm, ⟨26, _⟩ => ⟨S8x8, .i32⟩
  | .hbm, ⟨27, _⟩ => ⟨S_, .i32⟩
  | .hbm, ⟨28, _⟩ => ⟨S8x8, .i32⟩
  | .hbm, ⟨29, _⟩ => ⟨S8x8, .i32⟩
  | .hbm, ⟨30, _⟩ => ⟨S8x8, .i1⟩
  | .hbm, ⟨31, _⟩ => ⟨S8x8, .f32⟩
  | .hbm, ⟨32, _⟩ => ⟨S2x8x80x1x80, .f32⟩
  | .hbm, ⟨33, _⟩ => ⟨S1x8x1x8x1, .f32⟩
  | .hbm, ⟨34, _⟩ => ⟨S2x8x80x8x80, .f32⟩
  | .hbm, ⟨35, _⟩ => ⟨S2x8x80x8x80, .f32⟩
  | .hbm, ⟨36, _⟩ => ⟨S2x8x80x8x80, .f32⟩
  | .hbm, ⟨37, _⟩ => ⟨S2x640x640, .f32⟩
  | .hbm, ⟨38, _⟩ => ⟨S16x80x80, .f32⟩
  | .hbm, ⟨39, _⟩ => ⟨S2x8x80x80, .f32⟩
  | .hbm, ⟨40, _⟩ => ⟨S8x8, .i32⟩
  | .hbm, ⟨41, _⟩ => ⟨S8x8, .i32⟩
  | .hbm, ⟨42, _⟩ => ⟨S_, .i32⟩
  | .hbm, ⟨43, _⟩ => ⟨S8x8, .i32⟩
  | .hbm, ⟨44, _⟩ => ⟨S8x8, .i32⟩
  | .hbm, ⟨45, _⟩ => ⟨S8x8, .i1⟩
  | .hbm, ⟨46, _⟩ => ⟨S8x8, .f32⟩
  | .hbm, ⟨47, _⟩ => ⟨S2x8x80x1x80, .f32⟩
  | .hbm, ⟨48, _⟩ => ⟨S1x8x1x8x1, .f32⟩
  | .hbm, ⟨49, _⟩ => ⟨S2x8x80x8x80, .f32⟩
  | .hbm, ⟨50, _⟩ => ⟨S2x8x80x8x80, .f32⟩
  | .hbm, ⟨51, _⟩ => ⟨S2x8x80x8x80, .f32⟩
  | .hbm, ⟨52, _⟩ => ⟨S2x640x640, .f32⟩
  | .hbm, ⟨53, _⟩ => ⟨S2x640x1280, .f32⟩
  | .hbm, ⟨54, _⟩ => ⟨S2x640x1280, .bf16⟩
  | .hbm, ⟨55, _⟩ => ⟨S1024, .f32⟩
  | .hbm, ⟨56, _⟩ => ⟨S1x1024, .f32⟩
  | .hbm, ⟨57, _⟩ => ⟨S4x1280, .f32⟩
  | .hbm, ⟨58, _⟩ => ⟨S1280, .f32⟩
  | .hbm, ⟨59, _⟩ => ⟨S1x1280, .f32⟩
  | .hbm, ⟨60, _⟩ => ⟨S1280, .f32⟩
  | .hbm, ⟨61, _⟩ => ⟨S1x1280, .f32⟩
  | .hbm, ⟨62, _⟩ => ⟨S1280, .f32⟩
  | .hbm, ⟨63, _⟩ => ⟨S1x1280, .f32⟩
  | .hbm, ⟨64, _⟩ => ⟨S1280, .f32⟩
  | .hbm, ⟨65, _⟩ => ⟨S1x1280, .f32⟩
  | .hbm, ⟨66, _⟩ => ⟨S128, .f32⟩
  | .hbm, ⟨67, _⟩ => ⟨S1x128, .f32⟩
  | .hbm, ⟨68, _⟩ => ⟨S1280x1024, .f32⟩
  | .hbm, ⟨69, _⟩ => ⟨S1280x1024, .bf16⟩
  | .hbm, ⟨70, _⟩ => ⟨S1024x1024, .f32⟩
  | .hbm, ⟨71, _⟩ => ⟨S1024x1024, .bf16⟩
  | .hbm, ⟨72, _⟩ => ⟨S1024x1024, .f32⟩
  | .hbm, ⟨73, _⟩ => ⟨S1024x1024, .bf16⟩
  | .hbm, ⟨74, _⟩ => ⟨S2x8192x1024, .f32⟩
  | .local _ .vmem, ⟨0, _⟩ => ⟨S128x1024, .f32⟩
  | .local _ .vmem, ⟨1, _⟩ => ⟨S2x128x1024, .f32⟩
  | .local _ .vmem, ⟨2, _⟩ => ⟨S2x128x1024, .f32⟩
  | .local _ .vmem, ⟨3, _⟩ => ⟨S1x1024, .f32⟩
  | .local _ .vmem, ⟨4, _⟩ => ⟨S1024x8704, .bf16⟩
  | .local _ .vmem, ⟨5, _⟩ => ⟨S4x1280, .f32⟩
  | .local _ .vmem, ⟨6, _⟩ => ⟨S1x1280, .f32⟩
  | .local _ .vmem, ⟨7, _⟩ => ⟨S2x640x1280, .bf16⟩
  | .local _ .vmem, ⟨8, _⟩ => ⟨S1x1280, .f32⟩
  | .local _ .vmem, ⟨9, _⟩ => ⟨S1x1280, .f32⟩
  | .local _ .vmem, ⟨10, _⟩ => ⟨S1x1280, .f32⟩
  | .local _ .vmem, ⟨11, _⟩ => ⟨S2x1024, .f32⟩
  | .local _ .vmem, ⟨12, _⟩ => ⟨S1x128, .f32⟩
  | .local _ .vmem, ⟨13, _⟩ => ⟨S1280x1024, .bf16⟩
  | .local _ .vmem, ⟨14, _⟩ => ⟨S1024x1024, .bf16⟩
  | .local _ .vmem, ⟨15, _⟩ => ⟨S1024x1024, .bf16⟩
  | .local _ .vmem, ⟨16, _⟩ => ⟨S2x128x1024, .f32⟩
  | .local _ .vmem, ⟨17, _⟩ => ⟨S2x128x1024, .f32⟩
  | .local _ .vmem, ⟨18, _⟩ => ⟨S2x136x1280, .f32⟩
  | .local _ .vmem, ⟨19, _⟩ => ⟨S2x1x1280, .f32⟩
  | .local _ .vmem, ⟨20, _⟩ => ⟨S2x8x128x128, .f32⟩
  | .local _ .vmem, ⟨21, _⟩ => ⟨S256x1280, .f32⟩
  | .local _ .vmem, ⟨22, _⟩ => ⟨S256x1280, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_c_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_1 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scoped0 : Ref sig .tc := ⟨.vmem, 21, rfl⟩
abbrev cc0_scoped1 : Ref sig .tc := ⟨.vmem, 22, rfl⟩
abbrev cc0_scoped2 : Ref sig .tc := ⟨.vmem, 23, rfl⟩
abbrev cc0_scoped3 : Ref sig .tc := ⟨.vmem, 24, rfl⟩
abbrev cc0_scoped4 : Ref sig .tc := ⟨.vmem, 25, rfl⟩
abbrev cc0_scoped5 : Ref sig .tc := ⟨.vmem, 26, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![65], ![false]⟩

@[reducible] def k0_t1_loop : Scf.Loop 32 :=
  let c0_i32_163_r0 : BitVec 32 := 0#32
  let c16_i32_r0 : BitVec 32 := 16#32
  let v424_r0 : BitVec 32 := Scalar.addi c0_i32_163_r0 c16_i32_r0
  let c1_i32_164_r0 : BitVec 32 := 1#32
  ⟨c0_i32_163_r0, v424_r0, c1_i32_164_r0⟩
def k0_mult1 (k0_t1 : Fin k0_t1_loop.trips) : BitVec 32 :=
  let c0_i32_174_r0 : BitVec 32 := 0#32
  let c0_i32_163_r0 : BitVec 32 := 0#32
  let c1_i32_164_r0 : BitVec 32 := 1#32
  let arg20_r0 : BitVec 32 := Scf.iv c0_i32_163_r0 c1_i32_164_r0 k0_t1
  let c8_i32_r0 : BitVec 32 := 8#32
  let v433_r0 : BitVec 32 := Scalar.muli arg20_r0 c8_i32_r0
  let v434_r0 : BitVec 32 := Scalar.addi c0_i32_174_r0 v433_r0
  v434_r0
def k0_off1 (k0_t1 : Fin k0_t1_loop.trips) (c0_i32_174_r0 : BitVec 32) : Fin 2 → Nat :=
  let c0_i32_163_r0 : BitVec 32 := 0#32
  let c1_i32_164_r0 : BitVec 32 := 1#32
  let arg20_r0 : BitVec 32 := Scf.iv c0_i32_163_r0 c1_i32_164_r0 k0_t1
  let c8_i32_r0 : BitVec 32 := 8#32
  let v433_r0 : BitVec 32 := Scalar.muli arg20_r0 c8_i32_r0
  let v434_r0 : BitVec 32 := Scalar.addi c0_i32_174_r0 v433_r0
  let v435_r0 : BitVec 32 := v434_r0
  let v436_r0 : Index := Scalar.indexCast v435_r0
  let c0_175_r0 : Index := 0#32
  ![v436_r0.toNat, 0]
def k0_mult2 (k0_t1 : Fin k0_t1_loop.trips) : BitVec 32 :=
  let c128_i32_192_r0 : BitVec 32 := 128#32
  let c0_i32_163_r0 : BitVec 32 := 0#32
  let c1_i32_164_r0 : BitVec 32 := 1#32
  let arg20_r0 : BitVec 32 := Scf.iv c0_i32_163_r0 c1_i32_164_r0 k0_t1
  let c8_i32_191_r0 : BitVec 32 := 8#32
  let v481_r0 : BitVec 32 := Scalar.muli arg20_r0 c8_i32_191_r0
  let v482_r0 : BitVec 32 := Scalar.addi c128_i32_192_r0 v481_r0
  v482_r0
@[reducible] def k0_t2_loop : Scf.Loop 32 :=
  let c0_i32_192_r1 : BitVec 32 := 0#32
  let c2_i32_193_r1 : BitVec 32 := 2#32
  let v518_r1 : BitVec 32 := Scalar.addi c0_i32_192_r1 c2_i32_193_r1
  let c1_i32_194_r1 : BitVec 32 := 1#32
  ⟨c0_i32_192_r1, v518_r1, c1_i32_194_r1⟩
def k0_mult3 (k0_t2 : Fin k0_t2_loop.trips) : BitVec 32 :=
  let c0_i32_198_r1 : BitVec 32 := 0#32
  let c0_i32_192_r1 : BitVec 32 := 0#32
  let c1_i32_194_r1 : BitVec 32 := 1#32
  let arg20_r1 : BitVec 32 := Scf.iv c0_i32_192_r1 c1_i32_194_r1 k0_t2
  let c64_i32_r1 : BitVec 32 := 64#32
  let v521_r1 : BitVec 32 := Scalar.muli arg20_r1 c64_i32_r1
  let v522_r1 : BitVec 32 := Scalar.addi c0_i32_198_r1 v521_r1
  v522_r1
def k0_off2 (k0_t2 : Fin k0_t2_loop.trips) (c0_i32_198_r1 : BitVec 32) : Fin 2 → Nat :=
  let c0_i32_192_r1 : BitVec 32 := 0#32
  let c1_i32_194_r1 : BitVec 32 := 1#32
  let arg20_r1 : BitVec 32 := Scf.iv c0_i32_192_r1 c1_i32_194_r1 k0_t2
  let c64_i32_r1 : BitVec 32 := 64#32
  let v521_r1 : BitVec 32 := Scalar.muli arg20_r1 c64_i32_r1
  let v522_r1 : BitVec 32 := Scalar.addi c0_i32_198_r1 v521_r1
  let v523_r1 : BitVec 32 := v522_r1
  let v524_r1 : Index := Scalar.indexCast v523_r1
  let c0_199_r1 : Index := 0#32
  ![v524_r1.toNat, 0]
def k0_mult4 (k0_t2 : Fin k0_t2_loop.trips) : BitVec 32 :=
  let c128_i32_470_r1 : BitVec 32 := 128#32
  let c0_i32_192_r1 : BitVec 32 := 0#32
  let c1_i32_194_r1 : BitVec 32 := 1#32
  let arg20_r1 : BitVec 32 := Scf.iv c0_i32_192_r1 c1_i32_194_r1 k0_t2
  let c64_i32_469_r1 : BitVec 32 := 64#32
  let v1470_r1 : BitVec 32 := Scalar.muli arg20_r1 c64_i32_469_r1
  let v1471_r1 : BitVec 32 := Scalar.addi c128_i32_470_r1 v1470_r1
  v1471_r1
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![c0_i32_0.toNat, v1.toNat, c0_i32_1.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8704 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x640x1280 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1280 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1280 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1280 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1280x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2x128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S2x8192x1024 : Shape := ⟨3, ![2, 8192, 1024]⟩
abbrev S16x1024 : Shape := ⟨2, ![16, 1024]⟩
abbrev S1x1024 : Shape := ⟨2, ![1, 1024]⟩
abbrev S1x1024x8704 : Shape := ⟨3, ![1, 1024, 8704]⟩
abbrev S1x4x1280 : Shape := ⟨3, ![1, 4, 1280]⟩
abbrev S1x1280 : Shape := ⟨2, ![1, 1280]⟩
abbrev S1x16x80x80 : Shape := ⟨4, ![1, 16, 80, 80]⟩
abbrev S2x1024 : Shape := ⟨2, ![2, 1024]⟩
abbrev S1x128 : Shape := ⟨2, ![1, 128]⟩
abbrev S1x1280x1024 : Shape := ⟨3, ![1, 1280, 1024]⟩
abbrev S1x1024x1024 : Shape := ⟨3, ![1, 1024, 1024]⟩
abbrev S1x16x1024 : Shape := ⟨3, ![1, 16, 1024]⟩
abbrev S2x16x1024 : Shape := ⟨3, ![2, 16, 1024]⟩
abbrev S2x8208x1024 : Shape := ⟨3, ![2, 8208, 1024]⟩
abbrev S1024 : Shape := ⟨1, ![1024]⟩
abbrev S_ : Shape := ⟨0, ![]⟩
abbrev S2x8208 : Shape := ⟨2, ![2, 8208]⟩
abbrev S2x8208x1 : Shape := ⟨3, ![2, 8208, 1]⟩
abbrev S1x1x1024 : Shape := ⟨3, ![1, 1, 1024]⟩
abbrev S1024x8704 : Shape := ⟨2, ![1024, 8704]⟩
abbrev S2x8208x8704 : Shape := ⟨3, ![2, 8208, 8704]⟩
abbrev S2x8208x1280 : Shape := ⟨3, ![2, 8208, 1280]⟩
abbrev S8208 : Shape := ⟨1, ![8208]⟩
abbrev S8208x1 : Shape := ⟨2, ![8208, 1]⟩
abbrev S1x8208 : Shape := ⟨2, ![1, 8208]⟩
abbrev S8208x8208 : Shape := ⟨2, ![8208, 8208]⟩
abbrev S2x8211x1280 : Shape := ⟨3, ![2, 8211, 1280]⟩
abbrev S1x1x1280 : Shape := ⟨3, ![1, 1, 1280]⟩
abbrev S1280 : Shape := ⟨1, ![1280]⟩
abbrev S2x8208x16x80 : Shape := ⟨4, ![2, 8208, 16, 80]⟩
abbrev S16x80x80 : Shape := ⟨3, ![16, 80, 80]⟩
abbrev S16x80x2x8208 : Shape := ⟨4, ![16, 80, 2, 8208]⟩
abbrev S8208x8208x1 : Shape := ⟨3, ![8208, 8208, 1]⟩
abbrev S2x8208x1x1280 : Shape := ⟨4, ![2, 8208, 1, 1280]⟩
abbrev S2x1x8208x1280 : Shape := ⟨4, ![2, 1, 8208, 1280]⟩
abbrev S2x8208x8208x1280 : Shape := ⟨4, ![2, 8208, 8208, 1280]⟩
abbrev S2x8208x8x128 : Shape := ⟨4, ![2, 8208, 8, 128]⟩
abbrev S2x8x8208x128 : Shape := ⟨4, ![2, 8, 8208, 128]⟩
abbrev S2x8x8208x1x128 : Shape := ⟨5, ![2, 8, 8208, 1, 128]⟩
abbrev S2x8x1x8208x128 : Shape := ⟨5, ![2, 8, 1, 8208, 128]⟩
abbrev S2x8x8208x8208x128 : Shape := ⟨5, ![2, 8, 8208, 8208, 128]⟩
abbrev S2x8x8208x8208 : Shape := ⟨4, ![2, 8, 8208, 8208]⟩
abbrev S128 : Shape := ⟨1, ![128]⟩
abbrev S2x8208x8 : Shape := ⟨3, ![2, 8208, 8]⟩
abbrev S2x8208x8x1 : Shape := ⟨4, ![2, 8208, 8, 1]⟩
abbrev S1x1x1x128 : Shape := ⟨4, ![1, 1, 1, 128]⟩
abbrev S1280x1024 : Shape := ⟨2, ![1280, 1024]⟩
abbrev S1024x1024 : Shape := ⟨2, ![1024, 1024]⟩

abbrev nBuf : Space → Nat
  | .hbm => 341
  | .vmem => 0
  | .smem => 0
  | _ => 0

abbrev hbmTy0_0 (i : Nat) : BufTy := match i % 128 with
  | 0 => ⟨S2x8192x1024, .f32⟩
  | 1 => ⟨S16x1024, .f32⟩
  | 2 => ⟨S1x1024, .f32⟩
  | 3 => ⟨S1x1024x8704, .f32⟩
  | 4 => ⟨S1x4x1280, .f32⟩
  | 5 => ⟨S1x1280, .f32⟩
  | 6 => ⟨S1x16x80x80, .f32⟩
  | 7 => ⟨S1x1280, .f32⟩
  | 8 => ⟨S1x16x80x80, .f32⟩
  | 9 => ⟨S1x1280, .f32⟩
  | 10 => ⟨S1x1280, .f32⟩
  | 11 => ⟨S2x1024, .f32⟩
  | 12 => ⟨S1x128, .f32⟩
  | 13 => ⟨S1x1280x1024, .f32⟩
  | 14 => ⟨S1x1024x1024, .f32⟩
  | 15 => ⟨S1x1024x1024, .f32⟩
  | 16 => ⟨S1x16x1024, .f32⟩
  | 17 => ⟨S2x16x1024, .f32⟩
  | 18 => ⟨S2x8208x1024, .f32⟩
  | 19 => ⟨S1024, .f32⟩
  | 20 => ⟨S2x8208x1024, .f32⟩
  | 21 => ⟨S_, .f32⟩
  | 22 => ⟨S2x8208, .f32⟩
  | 23 => ⟨S2x8208x1, .f32⟩
  | 24 => ⟨S_, .f32⟩
  | 25 => ⟨S2x8208x1, .f32⟩
  | 26 => ⟨S2x8208x1, .f32⟩
  | 27 => ⟨S_, .f32⟩
  | 28 => ⟨S2x8208x1, .f32⟩
  | 29 => ⟨S2x8208x1, .f32⟩
  | 30 => ⟨S2x8208x1, .f32⟩
  | 31 => ⟨S2x8208x1024, .f32⟩
  | 32 => ⟨S2x8208x1024, .f32⟩
  | 33 => ⟨S1x1x1024, .f32⟩
  | 34 => ⟨S2x8208x1024, .f32⟩
  | 35 => ⟨S2x8208x1024, .f32⟩
  | 36 => ⟨S1024x8704, .f32⟩
  | 37 => ⟨S2x8208x8704, .f32⟩
  | 38 => ⟨S2x8208x1280, .f32⟩
  | 39 => ⟨S2x8208x1280, .f32⟩
  | 40 => ⟨S2x8208x1024, .f32⟩
  | 41 => ⟨S2x8208x1024, .f32⟩
  | 42 => ⟨S2x8208x1024, .f32⟩
  | 43 => ⟨S2x8208x1024, .f32⟩
  | 44 => ⟨S2x8208x1024, .f32⟩
  | 45 => ⟨S2x8208x1024, .f32⟩
  | 46 => ⟨S8208, .i32⟩
  | 47 => ⟨S8208x1, .i32⟩
  | 48 => ⟨S8208, .i32⟩
  | 49 => ⟨S1x8208, .i32⟩
  | 50 => ⟨S8208x8208, .i32⟩
  | 51 => ⟨S8208x8208, .i32⟩
  | 52 => ⟨S8208x8208, .i1⟩
  | 53 => ⟨S_, .i32⟩
  | 54 => ⟨S_, .f32⟩
  | 55 => ⟨S2x8211x1280, .f32⟩
  | 56 => ⟨S1x1x1280, .f32⟩
  | 57 => ⟨S1280, .f32⟩
  | 58 => ⟨S2x8208x1280, .f32⟩
  | 59 => ⟨S1x1x1280, .f32⟩
  | 60 => ⟨S2x8208x1280, .f32⟩
  | 61 => ⟨S2x8208x1280, .f32⟩
  | 62 => ⟨S_, .f32⟩
  | 63 => ⟨S2x8208x1280, .f32⟩
  | 64 => ⟨S2x8208x1280, .f32⟩
  | 65 => ⟨S1x1x1280, .f32⟩
  | 66 => ⟨S1280, .f32⟩
  | 67 => ⟨S2x8208x1280, .f32⟩
  | 68 => ⟨S1x1x1280, .f32⟩
  | 69 => ⟨S2x8208x1280, .f32⟩
  | 70 => ⟨S2x8208x1280, .f32⟩
  | 71 => ⟨S2x8208x1280, .f32⟩
  | 72 => ⟨S1x1x1280, .f32⟩
  | 73 => ⟨S1280, .f32⟩
  | 74 => ⟨S2x8208x1280, .f32⟩
  | 75 => ⟨S1x1x1280, .f32⟩
  | 76 => ⟨S2x8208x1280, .f32⟩
  | 77 => ⟨S2x8208x1280, .f32⟩
  | 78 => ⟨S2x8208x1280, .f32⟩
  | 79 => ⟨S1x1x1280, .f32⟩
  | 80 => ⟨S1280, .f32⟩
  | 81 => ⟨S2x8208x1280, .f32⟩
  | 82 => ⟨S1x1x1280, .f32⟩
  | 83 => ⟨S2x8208x1280, .f32⟩
  | 84 => ⟨S2x8208x1280, .f32⟩
  | 85 => ⟨S2x8208x1280, .f32⟩
  | 86 => ⟨S1280, .f32⟩
  | 87 => ⟨S1x1x1280, .f32⟩
  | 88 => ⟨S2x8208x1280, .f32⟩
  | 89 => ⟨S2x8208x1280, .f32⟩
  | 90 => ⟨S2x8208x16x80, .f32⟩
  | 91 => ⟨S16x80x80, .f32⟩
  | 92 => ⟨S16x80x2x8208, .f32⟩
  | 93 => ⟨S2x8208x16x80, .f32⟩
  | 94 => ⟨S2x8208x1280, .f32⟩
  | 95 => ⟨S1280, .f32⟩
  | 96 => ⟨S1x1x1280, .f32⟩
  | 97 => ⟨S2x8208x1280, .f32⟩
  | 98 => ⟨S2x8208x1280, .f32⟩
  | 99 => ⟨S2x8208x1280, .f32⟩
  | 100 => ⟨S2x8208x1280, .f32⟩
  | 101 => ⟨S_, .f32⟩
  | 102 => ⟨S2x8208x1280, .f32⟩
  | 103 => ⟨S2x8208x1280, .f32⟩
  | 104 => ⟨S_, .f32⟩
  | 105 => ⟨S2x8208x1280, .f32⟩
  | 106 => ⟨S2x8208x1280, .f32⟩
  | 107 => ⟨S16x80x80, .f32⟩
  | 108 => ⟨S16x80x2x8208, .f32⟩
  | 109 => ⟨S2x8208x16x80, .f32⟩
  | 110 => ⟨S2x8208x1280, .f32⟩
  | 111 => ⟨S1280, .f32⟩
  | 112 => ⟨S1x1x1280, .f32⟩
  | 113 => ⟨S2x8208x1280, .f32⟩
  | 114 => ⟨S2x8208x1280, .f32⟩
  | 115 => ⟨S2x8208x1280, .f32⟩
  | 116 => ⟨S2x8208x1280, .f32⟩
  | 117 => ⟨S_, .f32⟩
  | 118 => ⟨S2x8208x1280, .f32⟩
  | 119 => ⟨S2x8208x1280, .f32⟩
  | 120 => ⟨S_, .f32⟩
  | 121 => ⟨S2x8208x1280, .f32⟩
  | 122 => ⟨S2x8208x1280, .f32⟩
  | 123 => ⟨S_, .f32⟩
  | 124 => ⟨S2x8208x1280, .f32⟩
  | 125 => ⟨S2x8208x1280, .f32⟩
  | 126 => ⟨S1280, .f32⟩
  | 127 => ⟨S1280, .f32⟩
  | _ => ⟨S2x8192x1024, .f32⟩

abbrev hbmTy0_1 (i : Nat) : BufTy := match i % 128 with
  | 0 => ⟨S_, .f32⟩
  | 1 => ⟨S1280, .f32⟩
  | 2 => ⟨S1280, .f32⟩
  | 3 => ⟨S1280, .f32⟩
  | 4 => ⟨S1280, .f32⟩
  | 5 => ⟨S1280, .i1⟩
  | 6 => ⟨S1280, .f32⟩
  | 7 => ⟨S1280, .f32⟩
  | 8 => ⟨S1280, .f32⟩
  | 9 => ⟨S1280, .f32⟩
  | 10 => ⟨S1280, .f32⟩
  | 11 => ⟨S1280, .f32⟩
  | 12 => ⟨S1280, .f32⟩
  | 13 => ⟨S1280, .f32⟩
  | 14 => ⟨S1x1x1280, .f32⟩
  | 15 => ⟨S2x8208x1280, .f32⟩
  | 16 => ⟨S2x8208x1280, .f32⟩
  | 17 => ⟨S_, .f32⟩
  | 18 => ⟨S2x8208x1280, .f32⟩
  | 19 => ⟨S2x8208x1280, .f32⟩
  | 20 => ⟨S2x8208x1280, .f32⟩
  | 21 => ⟨S2x8208x1280, .f32⟩
  | 22 => ⟨S2x8208x1280, .f32⟩
  | 23 => ⟨S2x8208x1280, .f32⟩
  | 24 => ⟨S2x8208x1280, .f32⟩
  | 25 => ⟨S_, .f32⟩
  | 26 => ⟨S_, .f32⟩
  | 27 => ⟨S2x8208x1280, .f32⟩
  | 28 => ⟨S8208x8208x1, .i1⟩
  | 29 => ⟨S2x8208x1x1280, .f32⟩
  | 30 => ⟨S2x1x8208x1280, .f32⟩
  | 31 => ⟨S2x8208x8208x1280, .f32⟩
  | 32 => ⟨S2x8208x8208x1280, .f32⟩
  | 33 => ⟨S2x8208x8208x1280, .f32⟩
  | 34 => ⟨S_, .f32⟩
  | 35 => ⟨S_, .f32⟩
  | 36 => ⟨S2x8208x8208x1280, .i1⟩
  | 37 => ⟨S2x8208x8208x1280, .f32⟩
  | 38 => ⟨S2x8208x8208x1280, .f32⟩
  | 39 => ⟨S2x8208x8208x1280, .f32⟩
  | 40 => ⟨S2x1x8208x1280, .f32⟩
  | 41 => ⟨S2x8208x8208x1280, .f32⟩
  | 42 => ⟨S2x8208x8208x1280, .f32⟩
  | 43 => ⟨S_, .f32⟩
  | 44 => ⟨S2x8208x1280, .f32⟩
  | 45 => ⟨S2x8208x1280, .f32⟩
  | 46 => ⟨S2x8208x1280, .f32⟩
  | 47 => ⟨S_, .f32⟩
  | 48 => ⟨S2x8208x1280, .f32⟩
  | 49 => ⟨S2x8208x1280, .f32⟩
  | 50 => ⟨S2x8208x1280, .f32⟩
  | 51 => ⟨S_, .f32⟩
  | 52 => ⟨S2x8208x1280, .f32⟩
  | 53 => ⟨S2x8208x1280, .f32⟩
  | 54 => ⟨S2x8208x1280, .f32⟩
  | 55 => ⟨S_, .f32⟩
  | 56 => ⟨S2x8208x1280, .f32⟩
  | 57 => ⟨S2x8208x1280, .f32⟩
  | 58 => ⟨S_, .f32⟩
  | 59 => ⟨S2x8208x1280, .f32⟩
  | 60 => ⟨S2x8208x1280, .f32⟩
  | 61 => ⟨S2x8208x1280, .f32⟩
  | 62 => ⟨S2x8208x1280, .f32⟩
  | 63 => ⟨S_, .f32⟩
  | 64 => ⟨S1024, .f32⟩
  | 65 => ⟨S_, .f32⟩
  | 66 => ⟨S1024, .f32⟩
  | 67 => ⟨S1024, .f32⟩
  | 68 => ⟨S1x1024, .f32⟩
  | 69 => ⟨S2x1024, .f32⟩
  | 70 => ⟨S2x1024, .f32⟩
  | 71 => ⟨S2x1024, .f32⟩
  | 72 => ⟨S_, .f32⟩
  | 73 => ⟨S1024, .f32⟩
  | 74 => ⟨S1x1024, .f32⟩
  | 75 => ⟨S2x1024, .f32⟩
  | 76 => ⟨S2x1024, .f32⟩
  | 77 => ⟨S_, .f32⟩
  | 78 => ⟨S_, .f32⟩
  | 79 => ⟨S2x1024, .f32⟩
  | 80 => ⟨S1x1024, .f32⟩
  | 81 => ⟨S1024, .f32⟩
  | 82 => ⟨S_, .f32⟩
  | 83 => ⟨S1024, .f32⟩
  | 84 => ⟨S1024, .f32⟩
  | 85 => ⟨S2x8208x1024, .f32⟩
  | 86 => ⟨S2x8208x1024, .f32⟩
  | 87 => ⟨S_, .f32⟩
  | 88 => ⟨S2x8208x1024, .f32⟩
  | 89 => ⟨S2x8208x1024, .f32⟩
  | 90 => ⟨S_, .f32⟩
  | 91 => ⟨S2x8208x1024, .f32⟩
  | 92 => ⟨S2x8208x1024, .f32⟩
  | 93 => ⟨S1x1x1024, .f32⟩
  | 94 => ⟨S2x8208x1024, .f32⟩
  | 95 => ⟨S2x8208x1024, .f32⟩
  | 96 => ⟨S1x1x1024, .f32⟩
  | 97 => ⟨S2x8208x1024, .f32⟩
  | 98 => ⟨S2x8208x1024, .f32⟩
  | 99 => ⟨S2x8208x1024, .f32⟩
  | 100 => ⟨S_, .f32⟩
  | 101 => ⟨S1024, .f32⟩
  | 102 => ⟨S1024, .f32⟩
  | 103 => ⟨S2x8208x1024, .f32⟩
  | 104 => ⟨S2x8208x1024, .f32⟩
  | 105 => ⟨S2x8208x1024, .f32⟩
  | 106 => ⟨S_, .f32⟩
  | 107 => ⟨S2x8208x1024, .f32⟩
  | 108 => ⟨S2x8208x1024, .f32⟩
  | 109 => ⟨S_, .f32⟩
  | 110 => ⟨S2x8208x1024, .f32⟩
  | 111 => ⟨S2x8208x1024, .f32⟩
  | 112 => ⟨S1x1x1024, .f32⟩
  | 113 => ⟨S2x8208x1024, .f32⟩
  | 114 => ⟨S2x8208x1024, .f32⟩
  | 115 => ⟨S2x8208x1024, .f32⟩
  | 116 => ⟨S2x8208x1024, .f32⟩
  | 117 => ⟨S_, .f32⟩
  | 118 => ⟨S2x8208x1024, .f32⟩
  | 119 => ⟨S2x8208x1024, .f32⟩
  | 120 => ⟨S_, .f32⟩
  | 121 => ⟨S2x8208x1024, .f32⟩
  | 122 => ⟨S2x8208x1024, .f32⟩
  | 123 => ⟨S2x8208x1024, .f32⟩
  | 124 => ⟨S2x8208x8x128, .f32⟩
  | 125 => ⟨S2x8x8208x128, .f32⟩
  | 126 => ⟨S2x8208x8x128, .f32⟩
  | 127 => ⟨S2x8x8208x128, .f32⟩
  | _ => ⟨S2x8192x1024, .f32⟩

abbrev hbmTy0_2 (i : Nat) : BufTy := match i % 128 with
  | 0 => ⟨S2x8208x8x128, .f32⟩
  | 1 => ⟨S2x8x8208x128, .f32⟩
  | 2 => ⟨S2x8208x8x128, .f32⟩
  | 3 => ⟨S2x8x8208x128, .f32⟩
  | 4 => ⟨S_, .f32⟩
  | 5 => ⟨S_, .f32⟩
  | 6 => ⟨S2x8x8208x128, .f32⟩
  | 7 => ⟨S2x8x8208x1x128, .f32⟩
  | 8 => ⟨S2x8x1x8208x128, .f32⟩
  | 9 => ⟨S2x8x8208x8208x128, .f32⟩
  | 10 => ⟨S2x8x8208x8208x128, .f32⟩
  | 11 => ⟨S2x8x8208x8208x128, .f32⟩
  | 12 => ⟨S8208x8208x1, .i1⟩
  | 13 => ⟨S_, .f32⟩
  | 14 => ⟨S_, .f32⟩
  | 15 => ⟨S2x8x8208x8208x128, .i1⟩
  | 16 => ⟨S2x8x8208x8208x128, .f32⟩
  | 17 => ⟨S2x8x8208x8208x128, .f32⟩
  | 18 => ⟨S2x8x8208x8208x128, .f32⟩
  | 19 => ⟨S2x8x8208x1x128, .f32⟩
  | 20 => ⟨S2x8x8208x8208x128, .f32⟩
  | 21 => ⟨S2x8x8208x8208x128, .f32⟩
  | 22 => ⟨S2x8x1x8208x128, .f32⟩
  | 23 => ⟨S2x8x8208x8208x128, .f32⟩
  | 24 => ⟨S2x8x8208x8208x128, .f32⟩
  | 25 => ⟨S_, .f32⟩
  | 26 => ⟨S2x8x8208x8208, .f32⟩
  | 27 => ⟨S2x8x8208x128, .f32⟩
  | 28 => ⟨S2x8208x8x128, .f32⟩
  | 29 => ⟨S2x8208x8x128, .f32⟩
  | 30 => ⟨S128, .f32⟩
  | 31 => ⟨S2x8208x8x128, .f32⟩
  | 32 => ⟨S_, .f32⟩
  | 33 => ⟨S2x8208x8, .f32⟩
  | 34 => ⟨S2x8208x8x1, .f32⟩
  | 35 => ⟨S_, .f32⟩
  | 36 => ⟨S2x8208x8x1, .f32⟩
  | 37 => ⟨S2x8208x8x1, .f32⟩
  | 38 => ⟨S_, .f32⟩
  | 39 => ⟨S2x8208x8x1, .f32⟩
  | 40 => ⟨S2x8208x8x1, .f32⟩
  | 41 => ⟨S2x8208x8x1, .f32⟩
  | 42 => ⟨S2x8208x8x128, .f32⟩
  | 43 => ⟨S2x8208x8x128, .f32⟩
  | 44 => ⟨S1x1x1x128, .f32⟩
  | 45 => ⟨S2x8208x8x128, .f32⟩
  | 46 => ⟨S2x8208x8x128, .f32⟩
  | 47 => ⟨S2x8208x8x128, .f32⟩
  | 48 => ⟨S2x8208x8x128, .f32⟩
  | 49 => ⟨S_, .f32⟩
  | 50 => ⟨S2x8208x8x128, .f32⟩
  | 51 => ⟨S2x8208x8x128, .f32⟩
  | 52 => ⟨S_, .f32⟩
  | 53 => ⟨S2x8208x8x128, .f32⟩
  | 54 => ⟨S2x8208x8x128, .f32⟩
  | 55 => ⟨S2x8208x8x128, .f32⟩
  | 56 => ⟨S2x8208x8x128, .f32⟩
  | 57 => ⟨S2x8208x1024, .f32⟩
  | 58 => ⟨S2x8208x1024, .f32⟩
  | 59 => ⟨S2x8208x1024, .f32⟩
  | 60 => ⟨S_, .f32⟩
  | 61 => ⟨S2x8208x1024, .f32⟩
  | 62 => ⟨S2x8208x1024, .f32⟩
  | 63 => ⟨S_, .f32⟩
  | 64 => ⟨S2x8208x1024, .f32⟩
  | 65 => ⟨S2x8208x1024, .f32⟩
  | 66 => ⟨S1280x1024, .f32⟩
  | 67 => ⟨S2x8208x1024, .f32⟩
  | 68 => ⟨S2x8208x1024, .f32⟩
  | 69 => ⟨S2x8208x1024, .f32⟩
  | 70 => ⟨S2x8208x1024, .f32⟩
  | 71 => ⟨S_, .f32⟩
  | 72 => ⟨S2x8208x1024, .f32⟩
  | 73 => ⟨S2x8208x1024, .f32⟩
  | 74 => ⟨S_, .f32⟩
  | 75 => ⟨S2x8208x1024, .f32⟩
  | 76 => ⟨S2x8208x1024, .f32⟩
  | 77 => ⟨S1024x1024, .f32⟩
  | 78 => ⟨S2x8208x1024, .f32⟩
  | 79 => ⟨S2x8208x1024, .f32⟩
  | 80 => ⟨S2x8208x1024, .f32⟩
  | 81 => ⟨S1024x1024, .f32⟩
  | 82 => ⟨S2x8208x1024, .f32⟩
  | 83 => ⟨S2x8208x1024, .f32⟩
  | 84 => ⟨S2x8192x1024, .f32⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c : Ref sig .tc := ⟨.hbm, 53, rfl⟩
abbrev main_call0_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_2 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_3 : Ref sig .tc := ⟨.hbm, 101, rfl⟩
abbrev main_v79 : Ref sig .tc := ⟨.hbm, 102, rfl⟩
abbrev main_v80 : Ref sig .tc := ⟨.hbm, 103, rfl⟩
abbrev main_cst_4 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_5 : Ref sig .tc := ⟨.hbm, 117, rfl⟩
abbrev main_v93 : Ref sig .tc := ⟨.hbm, 118, rfl⟩
abbrev main_v94 : Ref sig .tc := ⟨.hbm, 119, rfl⟩
abbrev main_cst_6 : Ref sig .tc := ⟨.hbm, 120, rfl⟩
abbrev main_v95 : Ref sig .tc := ⟨.hbm, 121, rfl⟩
abbrev main_v96 : Ref sig .tc := ⟨.hbm, 122, rfl⟩
abbrev main_cst_7 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_call1_cst : Ref sig .tc := ⟨.hbm, 128, rfl⟩
abbrev main_call1_v0 : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_v7 : Ref sig .tc := ⟨.hbm, 136, rfl⟩
abbrev main_call1_v8 : Ref sig .tc := ⟨.hbm, 137, rfl⟩
abbrev main_call1_v9 : Ref sig .tc := ⟨.hbm, 138, rfl⟩
abbrev main_call1_v10 : Ref sig .tc := ⟨.hbm, 139, rfl⟩
abbrev main_call1_v11 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_8 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_call2_call0_cst : Ref sig .tc := ⟨.hbm, 153, rfl⟩
abbrev main_call2_call0_v0 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_9 : Ref sig .tc := ⟨.hbm, 162, rfl⟩
abbrev main_call3_v0 : Ref sig .tc := ⟨.hbm, 163, rfl⟩
abbrev main_call3_v1 : Ref sig .tc := ⟨.hbm, 164, rfl⟩
abbrev main_call3_v2 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_10 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_11 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_12 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_13 : Ref sig .tc := ⟨.hbm, 183, rfl⟩
abbrev main_v133 : Ref sig .tc := ⟨.hbm, 184, rfl⟩
abbrev main_v134 : Ref sig .tc := ⟨.hbm, 185, rfl⟩
abbrev main_cst_14 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_15 : Ref sig .tc := ⟨.hbm, 191, rfl⟩
abbrev main_v139 : Ref sig .tc := ⟨.hbm, 192, rfl⟩
abbrev main_cst_16 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_cst_17 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_call4_call0_cst : Ref sig .tc := ⟨.hbm, 205, rfl⟩
abbrev main_call4_call0_v0 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_18 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_cst_19 : Ref sig .tc := ⟨.hbm, 215, rfl⟩
abbrev main_v157 : Ref sig .tc := ⟨.hbm, 216, rfl⟩
abbrev main_v158 : Ref sig .tc := ⟨.hbm, 217, rfl⟩
abbrev main_cst_20 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_cst_21 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_cst_22 : Ref sig .tc := ⟨.hbm, 234, rfl⟩
abbrev main_v173 : Ref sig .tc := ⟨.hbm, 235, rfl⟩
abbrev main_v174 : Ref sig .tc := ⟨.hbm, 236, rfl⟩
abbrev main_cst_23 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_call5_v0 : Ref sig .tc := ⟨.hbm, 243, rfl⟩
abbrev main_call5_v1 : Ref sig .tc := ⟨.hbm, 244, rfl⟩
abbrev main_call5_cst : Ref sig .tc := ⟨.hbm, 245, rfl⟩
abbrev main_call5_v2 : Ref sig .tc := ⟨.hbm, 246, rfl⟩
abbrev main_call5_v3 : Ref sig .tc := ⟨.hbm, 247, rfl⟩
abbrev main_call5_cst_0 : Ref sig .tc := ⟨.hbm, 248, rfl⟩
abbrev main_call5_v4 : Ref sig .tc := ⟨.hbm, 249, rfl⟩
abbrev main_call5_v5 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_v187 : Ref sig .tc := ⟨.hbm, 258, rfl⟩
abbrev main_v188 : Ref sig .tc := ⟨.hbm, 259, rfl⟩
abbrev main_call6_call0_cst : Ref sig .tc := ⟨.hbm, 260, rfl⟩
abbrev main_call6_call0_v0 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_cst_24 : Ref sig .tc := ⟨.hbm, 269, rfl⟩
abbrev main_call7_v0 : Ref sig .tc := ⟨.hbm, 270, rfl⟩
abbrev main_call7_v1 : Ref sig .tc := ⟨.hbm, 271, rfl⟩
abbrev main_call7_v2 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_cst_25 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_v207 : Ref sig .tc := ⟨.hbm, 285, rfl⟩
abbrev main_v208 : Ref sig .tc := ⟨.hbm, 286, rfl⟩
abbrev main_v209 : Ref sig .tc := ⟨.hbm, 287, rfl⟩
abbrev main_cst_26 : Ref sig .tc := ⟨.hbm, 288, rfl⟩
abbrev main_v210 : Ref sig .tc := ⟨.hbm, 289, rfl⟩
abbrev main_v211 : Ref sig .tc := ⟨.hbm, 290, rfl⟩
abbrev main_cst_27 : Ref sig .tc := ⟨.hbm, 291, rfl⟩
abbrev main_v212 : Ref sig .tc := ⟨.hbm, 292, rfl⟩
abbrev main_v213 : Ref sig .tc := ⟨.hbm, 293, rfl⟩
abbrev main_cst_28 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_call8_v0 : Ref sig .tc := ⟨.hbm, 303, rfl⟩
abbrev main_call8_v1 : Ref sig .tc := ⟨.hbm, 304, rfl⟩
abbrev main_call8_cst : Ref sig .tc := ⟨.hbm, 305, rfl⟩
abbrev main_call8_v2 : Ref sig .tc := ⟨.hbm, 306, rfl⟩
abbrev main_call8_v3 : Ref sig .tc := ⟨.hbm, 307, rfl⟩
abbrev main_call8_cst_0 : Ref sig .tc := ⟨.hbm, 308, rfl⟩
abbrev main_call8_v4 : Ref sig .tc := ⟨.hbm, 309, rfl⟩
abbrev main_call8_v5 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_cst_29 : Ref sig .tc := ⟨.hbm, 316, rfl⟩
abbrev main_v227 : Ref sig .tc := ⟨.hbm, 317, rfl⟩
abbrev main_v228 : Ref sig .tc := ⟨.hbm, 318, rfl⟩
abbrev main_cst_30 : Ref sig .tc := ⟨.hbm, 319, rfl⟩
abbrev main_v229 : Ref sig .tc := ⟨.hbm, 320, rfl⟩
abbrev main_v230 : Ref sig .tc := ⟨.hbm, 321, rfl⟩
abbrev main_v231 : Ref sig .tc := ⟨.hbm, 322, rfl⟩
abbrev main_v232 : Ref sig .tc := ⟨.hbm, 323, rfl⟩
abbrev main_v233 : Ref sig .tc := ⟨.hbm, 324, rfl⟩
abbrev main_v234 : Ref sig .tc := ⟨.hbm, 325, rfl⟩
abbrev main_v235 : Ref sig .tc := ⟨.hbm, 326, rfl⟩
abbrev main_cst_31 : Ref sig .tc := ⟨.hbm, 327, rfl⟩
abbrev main_v236 : Ref sig .tc := ⟨.hbm, 328, rfl⟩
abbrev main_v237 : Ref sig .tc := ⟨.hbm, 329, rfl⟩
abbrev main_cst_32 : Ref sig .tc := ⟨.hbm, 330, rfl⟩
abbrev main_v238 : Ref sig .tc := ⟨.hbm, 331, rfl⟩
abbrev main_v239 : Ref sig .tc := ⟨.hbm, 332, rfl⟩
abbrev main_v240 : Ref sig .tc := ⟨.hbm, 333, rfl⟩
abbrev main_v241 : Ref sig .tc := ⟨.hbm, 334, rfl⟩
abbrev main_v242 : Ref sig .tc := ⟨.hbm, 335, rfl⟩
abbrev main_v243 : Ref sig .tc := ⟨.hbm, 336, rfl⟩
abbrev main_v244 : Ref sig .tc := ⟨.hbm, 337, rfl⟩
abbrev main_v245 : Ref sig .tc := ⟨.hbm, 338, rfl⟩
abbrev main_v246 : Ref sig .tc := ⟨.hbm, 339, rfl⟩
abbrev main_v247 : Ref sig .tc := ⟨.hbm, 340, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S16384x1024 : Shape := ⟨2, ![16384, 1024]⟩
abbrev S1024x5632 : Shape := ⟨2, ![1024, 5632]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 14
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S16384x1024, .f32⟩
  | .hbm, ⟨6, _⟩ => ⟨S1024, .f32⟩
  | .hbm, ⟨7, _⟩ => ⟨S1x1024, .f32⟩
  | .hbm, ⟨8, _⟩ => ⟨S1024x5632, .f32⟩
  | .hbm, ⟨9, _⟩ => ⟨S1024x5632, .bf16⟩
  | .hbm, ⟨10, _⟩ => ⟨S2816x1024, .f32⟩
  | .hbm, ⟨11, _⟩ => ⟨S2816x1024, .bf16⟩
  | .hbm, ⟨12, _⟩ => ⟨S1x1024, .f32⟩
  | .hbm, ⟨13, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x1024 : Shape := ⟨3, ![2, 8192, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S2x8192x2816 : Shape := ⟨3, ![2, 8192, 2816]⟩
abbrev S2816x1024 : Shape := ⟨2, ![2816, 1024]⟩
abbrev S16384x1024 : Shape := ⟨2, ![16384, 1024]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1024, .f32⟩
  | .hbm, ⟨5, _⟩ => ⟨S1024, .f32⟩
  | .hbm, ⟨6, _⟩ => ⟨S2x8192x1024, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x1024, .f32⟩
  | .hbm, ⟨18, _⟩ => ⟨S2x8192x1024, .f32⟩
  | .hbm, ⟨19, _⟩ => ⟨S1x1x1024, .f32⟩
  | .hbm, ⟨20, _⟩ => ⟨S2x8192x1024, .f32⟩
  | .hbm, ⟨21, _⟩ => ⟨S2x8192x1024, .f32⟩
  | .hbm, ⟨22, _⟩ => ⟨S1024x5632, .f32⟩
  | .hbm, ⟨23, _⟩ => ⟨S2x8192x5632, .f32⟩
  | .hbm, ⟨24, _⟩ => ⟨S2x8192x2816, .f32⟩
  | .hbm, ⟨25, _⟩ => ⟨S2x8192x2816, .f32⟩
  | .hbm, ⟨26, _⟩ => ⟨S2x8192x2816, .f32⟩
  | .hbm, ⟨27, _⟩ => ⟨S2x8192x2816, .f32⟩
  | .hbm, ⟨28, _⟩ => ⟨S_, .f32⟩
  | .hbm, ⟨29, _⟩ => ⟨S2x8192x2816, .f32⟩
  | .hbm, ⟨30, _⟩ => ⟨S2x8192x2816, .f32⟩
  | .hbm, ⟨31, _⟩ => ⟨S_, .f32⟩
  | .hbm, ⟨32, _⟩ => ⟨S2x8192x2816, .f32⟩
  | .hbm, ⟨33, _⟩ => ⟨S2x8192x2816, .f32⟩
  | .hbm, ⟨34, _⟩ => ⟨S2x8192x2816, .f32⟩
  | .hbm, ⟨35, _⟩ => ⟨S2x8192x2816, .f32⟩
  | .hbm, ⟨36, _⟩ => ⟨S2816x1024, .f32⟩
  | .hbm, ⟨37, _⟩ => ⟨S2x8192x1024, .f32⟩
  | .hbm, ⟨38, _⟩ => ⟨S2x8192x1024, .f32⟩
  | .hbm, ⟨39, _⟩ => ⟨S2x8192x1024, .f32⟩
  | .hbm, ⟨40, _⟩ => ⟨S_, .f32⟩
  | .hbm, ⟨41, _⟩ => ⟨S2x8192, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S2x8192x1, .f32⟩
  | .hbm, ⟨50, _⟩ => ⟨S2x8192x1024, .f32⟩
  | .hbm, ⟨51, _⟩ => ⟨S2x8192x1024, .f32⟩
  | .hbm, ⟨52, _⟩ => ⟨S1x1x1024, .f32⟩
  | .hbm, ⟨53, _⟩ => ⟨S2x8192x1024, .f32⟩
  | .hbm, ⟨54, _⟩ => ⟨S2x8192x1024, .f32⟩
  | .hbm, ⟨55, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]
-- ==== Proof.Body.lean ====
/-
  One grid point of the mixer call, run once at symbolic buffers.
-/
module

public import proofs.«01_k».proof.Proof.Gen.KernelIdeal.Loops
public import proofs.«01_k».proof.Proof.Gen.KernelIdeal.Frame
public import Idealize.ShloMosaic.Lib.Pipeline.TableIdle

@[expose] public section

set_option maxRecDepth 16384

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

theorem owns_of_pt (c : Dev nD) {sp : Space} {S : Shape} {e : EltTy} (M : Memref sig .tc sp S e) (f : Bf (F := F) c M) :
    pt c M f ⊢ (owns (c : Thread nD τ) M fullShare (M.view.read (Elt F) f) : sProp 𝕄) := by
  iintro H
  unfold owns
  iexists f
  isplitr [H]; · ipureintro; rfl
  iexact H

/-- A point after the first: what it leaves in the result's buffer and in the three scratch buffers, with the proof that it does. -/
noncomputable def runNext (c : Dev nD) (i : grid0.Coords) (hi : ¬ (Scalar.cmpi .ne (Scalar.extui (Scalar.cmpi .eq (BitVec.ofNat 32 (i 0).val) 0#32)) (0#32 : BitVec 32) : BitVec 1) = 1#1)
    (arg1 : Memref sig .tc .vmem S128x1024 .f32) (harg1 : arg1.IsWhole)
    (arg2 : Memref sig .tc .vmem S2x128x1024 .f32) (harg2 : arg2.IsWhole)
    (arg3 : Memref sig .tc .vmem S1x1024 .f32) (harg3 : arg3.IsWhole)
    (arg4 : Memref sig .tc .vmem S1024x8704 .bf16) (harg4 : arg4.IsWhole)
    (arg5 : Memref sig .tc .vmem S4x1280 .f32) (harg5 : arg5.IsWhole)
    (arg6 : Memref sig .tc .vmem S1x1280 .f32) (harg6 : arg6.IsWhole)
    (arg7 : Memref sig .tc .vmem S2x640x1280 .bf16) (harg7 : arg7.IsWhole)
    (arg8 : Memref sig .tc .vmem S1x1280 .f32) (harg8 : arg8.IsWhole)
    (arg9 : Memref sig .tc .vmem S1x1280 .f32) (harg9 : arg9.IsWhole)
    (arg10 : Memref sig .tc .vmem S1x1280 .f32) (harg10 : arg10.IsWhole)
    (arg11 : Memref sig .tc .vmem S2x1024 .f32) (harg11 : arg11.IsWhole)
    (arg12 : Memref sig .tc .vmem S1x128 .f32) (harg12 : arg12.IsWhole)
    (arg13 : Memref sig .tc .vmem S1280x1024 .bf16) (harg13 : arg13.IsWhole)
    (arg14 : Memref sig .tc .vmem S1024x1024 .bf16) (harg14 : arg14.IsWhole)
    (arg15 : Memref sig .tc .vmem S1024x1024 .bf16) (harg15 : arg15.IsWhole)
    (arg16 : Memref sig .tc .vmem S2x128x1024 .f32) (harg16 : arg16.IsWhole)
    (arg17 : Memref sig .tc .vmem S2x136x1280 .f32) (harg17 : arg17.IsWhole)
    (arg18 : Memref sig .tc .vmem S2x1x1280 .f32) (harg18 : arg18.IsWhole)
    (arg19 : Memref sig .tc .vmem S2x8x128x128 .f32) (harg19 : arg19.IsWhole)
    (alloca_r0 : Memref sig .tc .vmem S256x1280 .f32) (halloca_r0 : alloca_r0.IsWhole)
    (alloca_152_r0 : Memref sig .tc .vmem S256x1280 .f32) (halloca_152_r0 : alloca_152_r0.IsWhole)
    (alloca_r1 : Memref sig .tc .vmem S256x1024 .f32) (halloca_r1 : alloca_r1.IsWhole)
    (alloca_152_r1 : Memref sig .tc .vmem S256x1024 .f32) (halloca_152_r1 : alloca_152_r1.IsWhole)
    (alloca_153_r1 : Memref sig .tc .vmem S256x1024 .f32) (halloca_153_r1 : alloca_153_r1.IsWhole)
    (alloca_154_r1 : Memref sig .tc .vmem S256x1024 .bf16) (halloca_154_r1 : alloca_154_r1.IsWhole)
    (X1 : Vec F S128x1024 .f32) (X2 : Vec F S2x128x1024 .f32) (X3 : Vec F S1x1024 .f32) (X4 : Vec F S1024x8704 .bf16) (X5 : Vec F S4x1280 .f32) (X6 : Vec F S1x1280 .f32) (X7 : Vec F S2x640x1280 .bf16) (X8 : Vec F S1x1280 .f32) (X9 : Vec F S1x1280 .f32) (X10 : Vec F S1x1280 .f32) (X11 : Vec F S2x1024 .f32) (X12 : Vec F S1x128 .f32) (X13 : Vec F S1280x1024 .bf16) (X14 : Vec F S1024x1024 .bf16) (X15 : Vec F S1024x1024 .bf16)
    (X17 : Vec F S2x136x1280 .f32) (X18 : Vec F S2x1x1280 .f32) (X19 : Vec F S2x8x128x128 .f32) :
    { W : Vec F S2x128x1024 .f32 × Vec F S2x136x1280 .f32 × Vec F S2x1x1280 .f32 × Vec F S2x8x128x128 .f32 //
      ∀ (g_arg16 : Bf (F := F) c arg16) (g_alloca_r0 : Bf (F := F) c alloca_r0) (g_alloca_152_r0 : Bf (F := F) c alloca_152_r0) (g_alloca_r1 : Bf (F := F) c alloca_r1) (g_alloca_152_r1 : Bf (F := F) c alloca_152_r1) (g_alloca_153_r1 : Bf (F := F) c alloca_153_r1) (g_alloca_154_r1 : Bf (F := F) c alloca_154_r1)
        (E : Set ℕ) (Q : PUnit → sProp 𝕄),
        iprop(pt c arg1 (arg1.view.rep X1) ∗ pt c arg2 (arg2.view.rep X2) ∗ pt c arg3 (arg3.view.rep X3) ∗ pt c arg4 (arg4.view.rep X4) ∗ pt c arg5 (arg5.view.rep X5) ∗ pt c arg6 (arg6.view.rep X6) ∗ pt c arg7 (arg7.view.rep X7) ∗ pt c arg8 (arg8.view.rep X8) ∗ pt c arg9 (arg9.view.rep X9) ∗ pt c arg10 (arg10.view.rep X10) ∗ pt c arg11 (arg11.view.rep X11) ∗ pt c arg12 (arg12.view.rep X12) ∗ pt c arg13 (arg13.view.rep X13) ∗ pt c arg14 (arg14.view.rep X14) ∗ pt c arg15 (arg15.view.rep X15) ∗ pt c arg16 g_arg16 ∗ pt c arg17 (arg17.view.rep X17) ∗ pt c arg18 (arg18.view.rep X18) ∗ pt c arg19 (arg19.view.rep X19) ∗ pt c alloca_r0 g_alloca_r0 ∗ pt c alloca_152_r0 g_alloca_152_r0 ∗ pt c alloca_r1 g_alloca_r1 ∗ pt c alloca_152_r1 g_alloca_152_r1 ∗ pt c alloca_153_r1 g_alloca_153_r1 ∗ pt c alloca_154_r1 g_alloca_154_r1
          ∗ (iprop(pt c arg1 (arg1.view.rep X1) ∗ pt c arg2 (arg2.view.rep X2) ∗ pt c arg3 (arg3.view.rep X3) ∗ pt c arg4 (arg4.view.rep X4) ∗ pt c arg5 (arg5.view.rep X5) ∗ pt c arg6 (arg6.view.rep X6) ∗ pt c arg7 (arg7.view.rep X7) ∗ pt c arg8 (arg8.view.rep X8) ∗ pt c arg9 (arg9.view.rep X9) ∗ pt c arg10 (arg10.view.rep X10) ∗ pt c arg11 (arg11.view.rep X11) ∗ pt c arg12 (arg12.view.rep X12) ∗ pt c arg13 (arg13.view.rep X13) ∗ pt c arg14 (arg14.view.rep X14) ∗ pt c arg15 (arg15.view.rep X15) ∗ owns (c : Thread nD τ) arg16 fullShare W.1 ∗ owns (c : Thread nD τ) arg17 fullShare W.2.1 ∗ owns (c : Thread nD τ) arg18 fullShare W.2.2.1 ∗ owns (c : Thread nD τ) arg19 fullShare W.2.2.2 ∗ (∃ f, pt c alloca_r0 f) ∗ (∃ f, pt c alloca_152_r0 f) ∗ (∃ f, pt c alloca_r1 f) ∗ (∃ f, pt c alloca_152_r1 f) ∗ (∃ f, pt c alloca_153_r1 f) ∗ (∃ f, pt c alloca_154_r1 f)) -∗ Q ⟨⟩))
        ⊢ wp frame (wpE (defs₀ (F := F)) Variants.none (c : Thread nD τ) none) E
            (cc0_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1) Q } := by
  refine ⟨⟨arg16.view.read (Elt F) ?_, arg17.view.read (Elt F) ?_, arg18.view.read (Elt F) ?_, arg19.view.read (Elt F) ?_⟩, fun g_arg16 g_alloca_r0 g_alloca_152_r0 g_alloca_r1 g_alloca_152_r1 g_alloca_153_r1 g_alloca_154_r1 E Q => ?run⟩
  case run =>
    iintro ⟨H_arg1, H_arg2, H_arg3, H_arg4, H_arg5, H_arg6, H_arg7, H_arg8, H_arg9, H_arg10, H_arg11, H_arg12, H_arg13, H_arg14, H_arg15, H_arg16, H_arg17, H_arg18, H_arg19, H_alloca_r0, H_alloca_152_r0, H_alloca_r1, H_alloca_152_r1, H_alloca_153_r1, H_alloca_154_r1, Hk⟩
    sl_exec_parts!
    sl_step
    iapply Hk
    isplitl [H_arg1]; · iexact H_arg1
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    isplitl [H_arg11]; · iexact H_arg11
    isplitl [H_arg12]; · iexact H_arg12
    isplitl [H_arg13]; · iexact H_arg13
    isplitl [H_arg14]; · iexact H_arg14
    isplitl [H_arg15]; · iexact H_arg15
    isplitl [H_arg16]; · iapply (owns_of_pt c arg16); iexact H_arg16
    isplitl [H_arg17]; · iapply (owns_of_pt c arg17); iexact H_arg17
    isplitl [H_arg18]; · iapply (owns_of_pt c arg18); iexact H_arg18
    isplitl [H_arg19]; · iapply (owns_of_pt c arg19); iexact H_arg19
    isplitl [H_alloca_r0]; · iexists _; iexact H_alloca_r0
    isplitl [H_alloca_152_r0]; · iexists _; iexact H_alloca_152_r0
    isplitl [H_alloca_r1]; · iexists _; iexact H_alloca_r1
    isplitl [H_alloca_152_r1]; · iexists _; iexact H_alloca_152_r1
    isplitl [H_alloca_153_r1]; · iexists _; iexact H_alloca_153_r1
    iexists _; iexact H_alloca_154_r1

/-- The first point, which fills the three scratch buffers with zeros before it uses them. -/
noncomputable def runFirst (c : Dev nD) (i : grid0.Coords) (hi : (Scalar.cmpi .ne (Scalar.extui (Scalar.cmpi .eq (BitVec.ofNat 32 (i 0).val) 0#32)) (0#32 : BitVec 32) : BitVec 1) = 1#1)
    (arg1 : Memref sig .tc .vmem S128x1024 .f32) (harg1 : arg1.IsWhole)
    (arg2 : Memref sig .tc .vmem S2x128x1024 .f32) (harg2 : arg2.IsWhole)
    (arg3 : Memref sig .tc .vmem S1x1024 .f32) (harg3 : arg3.IsWhole)
    (arg4 : Memref sig .tc .vmem S1024x8704 .bf16) (harg4 : arg4.IsWhole)
    (arg5 : Memref sig .tc .vmem S4x1280 .f32) (harg5 : arg5.IsWhole)
    (arg6 : Memref sig .tc .vmem S1x1280 .f32) (harg6 : arg6.IsWhole)
    (arg7 : Memref sig .tc .vmem S2x640x1280 .bf16) (harg7 : arg7.IsWhole)
    (arg8 : Memref sig .tc .vmem S1x1280 .f32) (harg8 : arg8.IsWhole)
    (arg9 : Memref sig .tc .vmem S1x1280 .f32) (harg9 : arg9.IsWhole)
    (arg10 : Memref sig .tc .vmem S1x1280 .f32) (harg10 : arg10.IsWhole)
    (arg11 : Memref sig .tc .vmem S2x1024 .f32) (harg11 : arg11.IsWhole)
    (arg12 : Memref sig .tc .vmem S1x128 .f32) (harg12 : arg12.IsWhole)
    (arg13 : Memref sig .tc .vmem S1280x1024 .bf16) (harg13 : arg13.IsWhole)
    (arg14 : Memref sig .tc .vmem S1024x1024 .bf16) (harg14 : arg14.IsWhole)
    (arg15 : Memref sig .tc .vmem S1024x1024 .bf16) (harg15 : arg15.IsWhole)
    (arg16 : Memref sig .tc .vmem S2x128x1024 .f32) (harg16 : arg16.IsWhole)
    (arg17 : Memref sig .tc .vmem S2x136x1280 .f32) (harg17 : arg17.IsWhole)
    (arg18 : Memref sig .tc .vmem S2x1x1280 .f32) (harg18 : arg18.IsWhole)
    (arg19 : Memref sig .tc .vmem S2x8x128x128 .f32) (harg19 : arg19.IsWhole)
    (alloca_r0 : Memref sig .tc .vmem S256x1280 .f32) (halloca_r0 : alloca_r0.IsWhole)
    (alloca_152_r0 : Memref sig .tc .vmem S256x1280 .f32) (halloca_152_r0 : alloca_152_r0.IsWhole)
    (alloca_r1 : Memref sig .tc .vmem S256x1024 .f32) (halloca_r1 : alloca_r1.IsWhole)
    (alloca_152_r1 : Memref sig .tc .vmem S256x1024 .f32) (halloca_152_r1 : alloca_152_r1.IsWhole)
    (alloca_153_r1 : Memref sig .tc .vmem S256x1024 .f32) (halloca_153_r1 : alloca_153_r1.IsWhole)
    (alloca_154_r1 : Memref sig .tc .vmem S256x1024 .bf16) (halloca_154_r1 : alloca_154_r1.IsWhole)
    (X1 : Vec F S128x1024 .f32) (X2 : Vec F S2x128x1024 .f32) (X3 : Vec F S1x1024 .f32) (X4 : Vec F S1024x8704 .bf16) (X5 : Vec F S4x1280 .f32) (X6 : Vec F S1x1280 .f32) (X7 : Vec F S2x640x1280 .bf16) (X8 : Vec F S1x1280 .f32) (X9 : Vec F S1x1280 .f32) (X10 : Vec F S1x1280 .f32) (X11 : Vec F S2x1024 .f32) (X12 : Vec F S1x128 .f32) (X13 : Vec F S1280x1024 .bf16) (X14 : Vec F S1024x1024 .bf16) (X15 : Vec F S1024x1024 .bf16)
     :
    { W : Vec F S2x128x1024 .f32 × Vec F S2x136x1280 .f32 × Vec F S2x1x1280 .f32 × Vec F S2x8x128x128 .f32 //
      ∀ (g_arg16 : Bf (F := F) c arg16) (g_arg17 : Bf (F := F) c arg17) (g_arg18 : Bf (F := F) c arg18) (g_arg19 : Bf (F := F) c arg19) (g_alloca_r0 : Bf (F := F) c alloca_r0) (g_alloca_152_r0 : Bf (F := F) c alloca_152_r0) (g_alloca_r1 : Bf (F := F) c alloca_r1) (g_alloca_152_r1 : Bf (F := F) c alloca_152_r1) (g_alloca_153_r1 : Bf (F := F) c alloca_153_r1) (g_alloca_154_r1 : Bf (F := F) c alloca_154_r1)
        (E : Set ℕ) (Q : PUnit → sProp 𝕄),
        iprop(pt c arg1 (arg1.view.rep X1) ∗ pt c arg2 (arg2.view.rep X2) ∗ pt c arg3 (arg3.view.rep X3) ∗ pt c arg4 (arg4.view.rep X4) ∗ pt c arg5 (arg5.view.rep X5) ∗ pt c arg6 (arg6.view.rep X6) ∗ pt c arg7 (arg7.view.rep X7) ∗ pt c arg8 (arg8.view.rep X8) ∗ pt c arg9 (arg9.view.rep X9) ∗ pt c arg10 (arg10.view.rep X10) ∗ pt c arg11 (arg11.view.rep X11) ∗ pt c arg12 (arg12.view.rep X12) ∗ pt c arg13 (arg13.view.rep X13) ∗ pt c arg14 (arg14.view.rep X14) ∗ pt c arg15 (arg15.view.rep X15) ∗ pt c arg16 g_arg16 ∗ pt c arg17 g_arg17 ∗ pt c arg18 g_arg18 ∗ pt c arg19 g_arg19 ∗ pt c alloca_r0 g_alloca_r0 ∗ pt c alloca_152_r0 g_alloca_152_r0 ∗ pt c alloca_r1 g_alloca_r1 ∗ pt c alloca_152_r1 g_alloca_152_r1 ∗ pt c alloca_153_r1 g_alloca_153_r1 ∗ pt c alloca_154_r1 g_alloca_154_r1
          ∗ (iprop(pt c arg1 (arg1.view.rep X1) ∗ pt c arg2 (arg2.view.rep X2) ∗ pt c arg3 (arg3.view.rep X3) ∗ pt c arg4 (arg4.view.rep X4) ∗ pt c arg5 (arg5.view.rep X5) ∗ pt c arg6 (arg6.view.rep X6) ∗ pt c arg7 (arg7.view.rep X7) ∗ pt c arg8 (arg8.view.rep X8) ∗ pt c arg9 (arg9.view.rep X9) ∗ pt c arg10 (arg10.view.rep X10) ∗ pt c arg11 (arg11.view.rep X11) ∗ pt c arg12 (arg12.view.rep X12) ∗ pt c arg13 (arg13.view.rep X13) ∗ pt c arg14 (arg14.view.rep X14) ∗ pt c arg15 (arg15.view.rep X15) ∗ owns (c : Thread nD τ) arg16 fullShare W.1 ∗ owns (c : Thread nD τ) arg17 fullShare W.2.1 ∗ owns (c : Thread nD τ) arg18 fullShare W.2.2.1 ∗ owns (c : Thread nD τ) arg19 fullShare W.2.2.2 ∗ (∃ f, pt c alloca_r0 f) ∗ (∃ f, pt c alloca_152_r0 f) ∗ (∃ f, pt c alloca_r1 f) ∗ (∃ f, pt c alloca_152_r1 f) ∗ (∃ f, pt c alloca_153_r1 f) ∗ (∃ f, pt c alloca_154_r1 f)) -∗ Q ⟨⟩))
        ⊢ wp frame (wpE (defs₀ (F := F)) Variants.none (c : Thread nD τ) none) E
            (cc0_mixer i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1) Q } := by
  refine ⟨⟨arg16.view.read (Elt F) ?_, arg17.view.read (Elt F) ?_, arg18.view.read (Elt F) ?_, arg19.view.read (Elt F) ?_⟩, fun g_arg16 g_arg17 g_arg18 g_arg19 g_alloca_r0 g_alloca_152_r0 g_alloca_r1 g_alloca_152_r1 g_alloca_153_r1 g_alloca_154_r1 E Q => ?run⟩
  case run =>
    iintro ⟨H_arg1, H_arg2, H_arg3, H_arg4, H_arg5, H_arg6, H_arg7, H_arg8, H_arg9, H_arg10, H_arg11, H_arg12, H_arg13, H_arg14, H_arg15, H_arg16, H_arg17, H_arg18, H_arg19, H_alloca_r0, H_alloca_152_r0, H_alloca_r1, H_alloca_152_r1, H_alloca_153_r1, H_alloca_154_r1, Hk⟩
    sl_exec_parts!
    sl_step
    iapply Hk
    isplitl [H_arg1]; · iexact H_arg1
    isplitl [H_arg2]; · iexact H_arg2
    isplitl [H_arg3]; · iexact H_arg3
    isplitl [H_arg4]; · iexact H_arg4
    isplitl [H_arg5]; · iexact H_arg5
    isplitl [H_arg6]; · iexact H_arg6
    isplitl [H_arg7]; · iexact H_arg7
    isplitl [H_arg8]; · iexact H_arg8
    isplitl [H_arg9]; · iexact H_arg9
    isplitl [H_arg10]; · iexact H_arg10
    isplitl [H_arg11]; · iexact H_arg11
    isplitl [H_arg12]; · iexact H_arg12
    isplitl [H_arg13]; · iexact H_arg13
    isplitl [H_arg14]; · iexact H_arg14
    isplitl [H_arg15]; · iexact H_arg15
    isplitl [H_arg16]; · iapply (owns_of_pt c arg16); iexact H_arg16
    isplitl [H_arg17]; · iapply (owns_of_pt c arg17); iexact H_arg17
    isplitl [H_arg18]; · iapply (owns_of_pt c arg18); iexact H_arg18
    isplitl [H_arg19]; · iapply (owns_of_pt c arg19); iexact H_arg19
    isplitl [H_alloca_r0]; · iexists _; iexact H_alloca_r0
    isplitl [H_alloca_152_r0]; · iexists _; iexact H_alloca_152_r0
    isplitl [H_alloca_r1]; · iexists _; iexact H_alloca_r1
    isplitl [H_alloca_152_r1]; · iexists _; iexact H_alloca_152_r1
    isplitl [H_alloca_153_r1]; · iexists _; iexact H_alloca_153_r1
    iexists _; iexact H_alloca_154_r1

end Cert.Proof

end
-- ==== Proof.Run.lean ====
/-
  The launch of the mixer call: its proof data and its run.
-/
module

public import proofs.«01_k».proof.Proof.Body
public import proofs.«01_k».proof.Proof.Gen.KernelIdeal.Frame
public import Idealize.ShloMosaic.Lib.Pipeline.TableIdle

@[expose] public section

set_option maxRecDepth 16384

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body carries from point to point: the convolution's window, the diagonal state, the matrix state. -/
abbrev St (F : FTy → Type) : Type := Vec F S2x136x1280 .f32 × Vec F S2x1x1280 .f32 × Vec F S2x8x128x128 .f32

/-- The body's test for the first point. -/
abbrev isFirst (i : grid0.Coords) : Prop := Scalar.cmpi .ne (Scalar.extui (Scalar.cmpi .eq (BitVec.ofNat 32 (i 0).val) 0#32)) (0#32 : BitVec 32) = 1#1

/-- The test holds at point 0 and at no other. -/
theorem isFirst_iff : ∀ t : Fin cfg0.N, isFirst (grid0.coords t) ↔ t.val = 0 := by
  decide +kernel

/-- The run of point 0. -/
abbrev runF (c : Dev nD) (t : Fin cfg0.N) (hi : isFirst (grid0.coords t)) :=
  runFirst (F := F) c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)

/-- The run of a later point, from the carried state `S`. -/
abbrev runN (c : Dev nD) (t : Fin cfg0.N) (hi : ¬ isFirst (grid0.coords t)) (S : St F) :=
  runNext (F := F) c (grid0.coords t) hi (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (Memref.whole cc0_scoped0) (Memref.isWhole_whole _) (Memref.whole cc0_scoped1) (Memref.isWhole_whole _) (Memref.whole cc0_scoped2) (Memref.isWhole_whole _) (Memref.whole cc0_scoped3) (Memref.isWhole_whole _) (Memref.whole cc0_scoped4) (Memref.isWhole_whole _) (Memref.whole cc0_scoped5) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) S.1 S.2.1 S.2.2

/-- What point `t` leaves: the output block and the carried state. -/
noncomputable def pointOut (c : Dev nD) (t : Fin cfg0.N) (S : St F) : Vec F S2x128x1024 .f32 × St F :=
  if hi : isFirst (grid0.coords t) then (runF m c t hi).1 else (runN m c t hi S).1

/-- The carried state before point `n`. -/
noncomputable def stt (c : Dev nD) : ℕ → St F
  | 0 => (fun _ => Scalar.ofBits .f32 0#32, fun _ => Scalar.ofBits .f32 0#32, fun _ => Scalar.ofBits .f32 0#32)
  | n + 1 => if h : n < cfg0.N then (pointOut m c ⟨n, h⟩ (stt c n)).2 else stt c n

theorem stt_succ (c : Dev nD) (t : Fin cfg0.N) : stt m c (t.val + 1) = (pointOut m c t (stt m c t.val)).2 := by
  rw [stt, dif_pos t.isLt]

/-- Between the points: the carried buffers at the carried state (before point 0 at anything), the body's scoped
    buffers at anything, the generator register at anything. -/
noncomputable def Φc (c : Dev nD) (t : Fin (cfg0.N + 1)) : sProp 𝕄 :=
  iprop((∃ S : St F, ⌜t.val ≠ 0 → S = stt m c t.val⌝ ∗ owns (c : Thread nD τ) (Memref.whole cc0_scratch0) fullShare S.1
      ∗ owns (c : Thread nD τ) (Memref.whole cc0_scratch1) fullShare S.2.1 ∗ owns (c : Thread nD τ) (Memref.whole cc0_scratch2) fullShare S.2.2)
    ∗ ((∃ f, pt c (Memref.whole cc0_scoped0) f) ∗ (∃ f, pt c (Memref.whole cc0_scoped1) f) ∗ (∃ f, pt c (Memref.whole cc0_scoped2) f) ∗ (∃ f, pt c (Memref.whole cc0_scoped3) f) ∗ (∃ f, pt c (Memref.whole cc0_scoped4) f) ∗ (∃ f, pt c (Memref.whole cc0_scoped5) f))
    ∗ ∃ r, prngReg c r)

/-- The proof data on core `c`. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (pointOut m c t (stt m c t.val)).1
    | ⟨_ + 16, h⟩ => absurd h (Nat.not_lt.mpr (Nat.le_add_left _ _))
  Φ t := Φc m c t
  q _ := fullShare
  owed _ := 0

theorem A_eq (c : Dev nD) (w : Fin cfg0.W) : (dats m 0 c).A w = V m c (Pipeline.arrRef spec0 w) := rfl
theorem after_15 (c : Dev nD) (t : Fin cfg0.N) : (dats m 0 c).after 15 t = (pointOut m c t (stt m c t.val)).1 := by dsimp only [dats]

/-- What the region runs at a row is the body at that point. -/
theorem defs₀_row (t : Fin cfg0.N) : defs₀ (F := F) .tc cfg0.body (cfg0.bodyArgs t (cfg0.slots t)) = bodyAt0 t := by
  unfold defs₀; rw [Defs.onTc_tc]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t := before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t := before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t := before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t := before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t := before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t := before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t := before0_6_of m (dats m 0 c) (A_eq m c 6) (after_6 m c) t d
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t := before0_7_of m (dats m 0 c) (A_eq m c 7) (after_7 m c) t d
theorem after_8 (c : Dev nD) (t : Fin cfg0.N) : (dats m 0 c).after 8 t = iblk m c 8 t := by dsimp only [dats]
theorem before_8 (c : Dev nD) (t : Fin cfg0.N) (d) : (dats m 0 c).before 8 t d = iblk m c 8 t := before0_8_of m (dats m 0 c) (A_eq m c 8) (after_8 m c) t d
theorem after_9 (c : Dev nD) (t : Fin cfg0.N) : (dats m 0 c).after 9 t = iblk m c 9 t := by dsimp only [dats]
theorem before_9 (c : Dev nD) (t : Fin cfg0.N) (d) : (dats m 0 c).before 9 t d = iblk m c 9 t := before0_9_of m (dats m 0 c) (A_eq m c 9) (after_9 m c) t d
theorem after_10 (c : Dev nD) (t : Fin cfg0.N) : (dats m 0 c).after 10 t = iblk m c 10 t := by dsimp only [dats]
theorem before_10 (c : Dev nD) (t : Fin cfg0.N) (d) : (dats m 0 c).before 10 t d = iblk m c 10 t := before0_10_of m (dats m 0 c) (A_eq m c 10) (after_10 m c) t d
theorem after_11 (c : Dev nD) (t : Fin cfg0.N) : (dats m 0 c).after 11 t = iblk m c 11 t := by dsimp only [dats]
theorem before_11 (c : Dev nD) (t : Fin cfg0.N) (d) : (dats m 0 c).before 11 t d = iblk m c 11 t := before0_11_of m (dats m 0 c) (A_eq m c 11) (after_11 m c) t d
theorem after_12 (c : Dev nD) (t : Fin cfg0.N) : (dats m 0 c).after 12 t = iblk m c 12 t := by dsimp only [dats]
theorem before_12 (c : Dev nD) (t : Fin cfg0.N) (d) : (dats m 0 c).before 12 t d = iblk m c 12 t := before0_12_of m (dats m 0 c) (A_eq m c 12) (after_12 m c) t d
theorem after_13 (c : Dev nD) (t : Fin cfg0.N) : (dats m 0 c).after 13 t = iblk m c 13 t := by dsimp only [dats]
theorem before_13 (c : Dev nD) (t : Fin cfg0.N) (d) : (dats m 0 c).before 13 t d = iblk m c 13 t := before0_13_of m (dats m 0 c) (A_eq m c 13) (after_13 m c) t d
theorem after_14 (c : Dev nD) (t : Fin cfg0.N) : (dats m 0 c).after 14 t = iblk m c 14 t := by dsimp only [dats]
theorem before_14 (c : Dev nD) (t : Fin cfg0.N) (d) : (dats m 0 c).before 14 t d = iblk m c 14 t := before0_14_of m (dats m 0 c) (A_eq m c 14) (after_14 m c) t d

/-- The buffers a point finds, as the body takes them. -/
noncomputable def preT (c : Dev nD) (t : Fin cfg0.N) : sProp 𝕄 :=
  iprop((dats m 0 c).Φ t.castSucc ∗ (dats m 0 c).owesAt () t.castSucc
    ∗ ((∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d))))

/-- The buffers a point leaves. -/
noncomputable def postT (c : Dev nD) (t : Fin cfg0.N) : sProp 𝕄 :=
  iprop((dats m 0 c).Φ t.succ ∗ (dats m 0 c).owesAt () t.succ
    ∗ (owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t) ∗ owns (c : Thread nD τ) (win0_11.stage (cfg0.slots t 11)) fullShare ((dats m 0 c).after 11 t) ∗ owns (c : Thread nD τ) (win0_12.stage (cfg0.slots t 12)) fullShare ((dats m 0 c).after 12 t) ∗ owns (c : Thread nD τ) (win0_13.stage (cfg0.slots t 13)) fullShare ((dats m 0 c).after 13 t) ∗ owns (c : Thread nD τ) (win0_14.stage (cfg0.slots t 14)) fullShare ((dats m 0 c).after 14 t) ∗ owns (c : Thread nD τ) (win0_15.stage (cfg0.slots t 15)) fullShare ((dats m 0 c).after 15 t)))

/-- A points-to at a memref's canonical contents, from owning it. -/
theorem pt_of_owns (c : Dev nD) {sp : Space} {S : Shape} {e : EltTy} (M : Memref sig .tc sp S e) (X : Vec F S e) :
    (owns (c : Thread nD τ) M fullShare X : sProp 𝕄) ⊢ pt c M (M.view.rep X) := Entails.of_eq (owns_eq_rep _ _ _ _)
theorem owns_of_rep (c : Dev nD) {sp : Space} {S : Shape} {e : EltTy} (M : Memref sig .tc sp S e) (X : Vec F S e) :
    pt c M (M.view.rep X) ⊢ (owns (c : Thread nD τ) M fullShare X : sProp 𝕄) := Entails.of_eq (owns_eq_rep _ _ _ _).symm

set_option maxHeartbeats 1000000 in
/-- Point 0: the body's triple. -/
theorem body_first (c : Dev nD) (t : Fin cfg0.N) (hi : isFirst (grid0.coords t)) :
    preT m c t ⊢ wp frame (wpE (defs₀ (F := F)) Variants.none (c : Thread nD τ) none) Set.univ (bodyAt0 t) fun _ => postT m c t := by
  unfold preT postT
  rw [show (dats m 0 c).Φ t.castSucc = Φc m c t.castSucc from rfl, show (dats m 0 c).Φ t.succ = Φc m c t.succ from rfl]
  unfold Φc
  simp only [before_0, before_1, before_2, before_3, before_4, before_5, before_6, before_7, before_8, before_9, before_10, before_11, before_12, before_13, before_14]
  rw [after_0, after_1, after_2, after_3, after_4, after_5, after_6, after_7, after_8, after_9, after_10, after_11, after_12, after_13, after_14, after_15]
  iintro ⟨⟨⟨%S, %hS, S0, S1, S2⟩, ⟨⟨%f0, L0⟩, ⟨%f1, L1⟩, ⟨%f2, L2⟩, ⟨%f3, L3⟩, ⟨%f4, L4⟩, ⟨%f5, L5⟩⟩, Hr⟩, HO, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, ⟨%d11, I11⟩, ⟨%d12, I12⟩, ⟨%d13, I13⟩, ⟨%d14, I14⟩, ⟨%d15, O⟩⟩
  iapply ((runF m c t hi).2 _ _ _ _ _ _ _ _ _ _ Set.univ _)
  isplitl [I0]; · iapply (pt_of_owns c (win0_0.stage (cfg0.slots t 0))); iexact I0
  isplitl [I1]; · iapply (pt_of_owns c (win0_1.stage (cfg0.slots t 1))); iexact I1
  isplitl [I2]; · iapply (pt_of_owns c (win0_2.stage (cfg0.slots t 2))); iexact I2
  isplitl [I3]; · iapply (pt_of_owns c (win0_3.stage (cfg0.slots t 3))); iexact I3
  isplitl [I4]; · iapply (pt_of_owns c (win0_4.stage (cfg0.slots t 4))); iexact I4
  isplitl [I5]; · iapply (pt_of_owns c (win0_5.stage (cfg0.slots t 5))); iexact I5
  isplitl [I6]; · iapply (pt_of_owns c (win0_6.stage (cfg0.slots t 6))); iexact I6
  isplitl [I7]; · iapply (pt_of_owns c (win0_7.stage (cfg0.slots t 7))); iexact I7
  isplitl [I8]; · iapply (pt_of_owns c (win0_8.stage (cfg0.slots t 8))); iexact I8
  isplitl [I9]; · iapply (pt_of_owns c (win0_9.stage (cfg0.slots t 9))); iexact I9
  isplitl [I10]; · iapply (pt_of_owns c (win0_10.stage (cfg0.slots t 10))); iexact I10
  isplitl [I11]; · iapply (pt_of_owns c (win0_11.stage (cfg0.slots t 11))); iexact I11
  isplitl [I12]; · iapply (pt_of_owns c (win0_12.stage (cfg0.slots t 12))); iexact I12
  isplitl [I13]; · iapply (pt_of_owns c (win0_13.stage (cfg0.slots t 13))); iexact I13
  isplitl [I14]; · iapply (pt_of_owns c (win0_14.stage (cfg0.slots t 14))); iexact I14
  isplitl [O]; · iapply (pt_of_owns c (win0_15.stage (cfg0.slots t 15))); iexact O
  isplitl [S0]; · iapply (pt_of_owns c (Memref.whole cc0_scratch0)); iexact S0
  isplitl [S1]; · iapply (pt_of_owns c (Memref.whole cc0_scratch1)); iexact S1
  isplitl [S2]; · iapply (pt_of_owns c (Memref.whole cc0_scratch2)); iexact S2
  isplitl [L0]; · iexact L0
  isplitl [L1]; · iexact L1
  isplitl [L2]; · iexact L2
  isplitl [L3]; · iexact L3
  isplitl [L4]; · iexact L4
  isplitl [L5]; · iexact L5
  iintro ⟨I0, I1, I2, I3, I4, I5, I6, I7, I8, I9, I10, I11, I12, I13, I14, O, S0, S1, S2, L0, L1, L2, L3, L4, L5⟩
  isplitl [S0 S1 S2 L0 L1 L2 L3 L4 L5 Hr]
  · isplitl [S0 S1 S2]
    · iexists (pointOut m c t (stt m c t.val)).2
      isplitr; · ipureintro; intro _; exact (stt_succ m c t).symm
      rw [show pointOut m c t (stt m c t.val) = (runF m c t hi).1 from dif_pos hi]
      isplitl [S0]; · iexact S0
      isplitl [S1]; · iexact S1
      iexact S2
    isplitl [L0 L1 L2 L3 L4 L5]
    · isplitl [L0]; · iexact L0
      isplitl [L1]; · iexact L1
      isplitl [L2]; · iexact L2
      isplitl [L3]; · iexact L3
      isplitl [L4]; · iexact L4
      iexact L5
    iexact Hr
  isplitl [HO]; · iexact HO
  isplitl [I0]; · iapply (owns_of_rep c (win0_0.stage (cfg0.slots t 0))); iexact I0
  isplitl [I1]; · iapply (owns_of_rep c (win0_1.stage (cfg0.slots t 1))); iexact I1
  isplitl [I2]; · iapply (owns_of_rep c (win0_2.stage (cfg0.slots t 2))); iexact I2
  isplitl [I3]; · iapply (owns_of_rep c (win0_3.stage (cfg0.slots t 3))); iexact I3
  isplitl [I4]; · iapply (owns_of_rep c (win0_4.stage (cfg0.slots t 4))); iexact I4
  isplitl [I5]; · iapply (owns_of_rep c (win0_5.stage (cfg0.slots t 5))); iexact I5
  isplitl [I6]; · iapply (owns_of_rep c (win0_6.stage (cfg0.slots t 6))); iexact I6
  isplitl [I7]; · iapply (owns_of_rep c (win0_7.stage (cfg0.slots t 7))); iexact I7
  isplitl [I8]; · iapply (owns_of_rep c (win0_8.stage (cfg0.slots t 8))); iexact I8
  isplitl [I9]; · iapply (owns_of_rep c (win0_9.stage (cfg0.slots t 9))); iexact I9
  isplitl [I10]; · iapply (owns_of_rep c (win0_10.stage (cfg0.slots t 10))); iexact I10
  isplitl [I11]; · iapply (owns_of_rep c (win0_11.stage (cfg0.slots t 11))); iexact I11
  isplitl [I12]; · iapply (owns_of_rep c (win0_12.stage (cfg0.slots t 12))); iexact I12
  isplitl [I13]; · iapply (owns_of_rep c (win0_13.stage (cfg0.slots t 13))); iexact I13
  isplitl [I14]; · iapply (owns_of_rep c (win0_14.stage (cfg0.slots t 14))); iexact I14
  rw [show pointOut m c t (stt m c t.val) = (runF m c t hi).1 from dif_pos hi]
  iexact O

set_option maxHeartbeats 1000000 in
/-- A later point: the body's triple. -/
theorem body_next (c : Dev nD) (t : Fin cfg0.N) (hi : ¬ isFirst (grid0.coords t)) :
    preT m c t ⊢ wp frame (wpE (defs₀ (F := F)) Variants.none (c : Thread nD τ) none) Set.univ (bodyAt0 t) fun _ => postT m c t := by
  unfold preT postT
  rw [show (dats m 0 c).Φ t.castSucc = Φc m c t.castSucc from rfl, show (dats m 0 c).Φ t.succ = Φc m c t.succ from rfl]
  unfold Φc
  simp only [before_0, before_1, before_2, before_3, before_4, before_5, before_6, before_7, before_8, before_9, before_10, before_11, before_12, before_13, before_14]
  rw [after_0, after_1, after_2, after_3, after_4, after_5, after_6, after_7, after_8, after_9, after_10, after_11, after_12, after_13, after_14, after_15]
  iintro ⟨⟨⟨%S, %hS, S0, S1, S2⟩, ⟨⟨%f0, L0⟩, ⟨%f1, L1⟩, ⟨%f2, L2⟩, ⟨%f3, L3⟩, ⟨%f4, L4⟩, ⟨%f5, L5⟩⟩, Hr⟩, HO, ⟨%d0, I0⟩, ⟨%d1, I1⟩, ⟨%d2, I2⟩, ⟨%d3, I3⟩, ⟨%d4, I4⟩, ⟨%d5, I5⟩, ⟨%d6, I6⟩, ⟨%d7, I7⟩, ⟨%d8, I8⟩, ⟨%d9, I9⟩, ⟨%d10, I10⟩, ⟨%d11, I11⟩, ⟨%d12, I12⟩, ⟨%d13, I13⟩, ⟨%d14, I14⟩, ⟨%d15, O⟩⟩
  have hS := hS (fun h => hi ((isFirst_iff t).mpr h))
  subst hS
  iapply ((runN m c t hi (stt m c t.castSucc.val)).2 _ _ _ _ _ _ _ Set.univ _)
  isplitl [I0]; · iapply (pt_of_owns c (win0_0.stage (cfg0.slots t 0))); iexact I0
  isplitl [I1]; · iapply (pt_of_owns c (win0_1.stage (cfg0.slots t 1))); iexact I1
  isplitl [I2]; · iapply (pt_of_owns c (win0_2.stage (cfg0.slots t 2))); iexact I2
  isplitl [I3]; · iapply (pt_of_owns c (win0_3.stage (cfg0.slots t 3))); iexact I3
  isplitl [I4]; · iapply (pt_of_owns c (win0_4.stage (cfg0.slots t 4))); iexact I4
  isplitl [I5]; · iapply (pt_of_owns c (win0_5.stage (cfg0.slots t 5))); iexact I5
  isplitl [I6]; · iapply (pt_of_owns c (win0_6.stage (cfg0.slots t 6))); iexact I6
  isplitl [I7]; · iapply (pt_of_owns c (win0_7.stage (cfg0.slots t 7))); iexact I7
  isplitl [I8]; · iapply (pt_of_owns c (win0_8.stage (cfg0.slots t 8))); iexact I8
  isplitl [I9]; · iapply (pt_of_owns c (win0_9.stage (cfg0.slots t 9))); iexact I9
  isplitl [I10]; · iapply (pt_of_owns c (win0_10.stage (cfg0.slots t 10))); iexact I10
  isplitl [I11]; · iapply (pt_of_owns c (win0_11.stage (cfg0.slots t 11))); iexact I11
  isplitl [I12]; · iapply (pt_of_owns c (win0_12.stage (cfg0.slots t 12))); iexact I12
  isplitl [I13]; · iapply (pt_of_owns c (win0_13.stage (cfg0.slots t 13))); iexact I13
  isplitl [I14]; · iapply (pt_of_owns c (win0_14.stage (cfg0.slots t 14))); iexact I14
  isplitl [O]; · iapply (pt_of_owns c (win0_15.stage (cfg0.slots t 15))); iexact O
  isplitl [S0]; · iapply (pt_of_owns c (Memref.whole cc0_scratch0)); iexact S0
  isplitl [S1]; · iapply (pt_of_owns c (Memref.whole cc0_scratch1)); iexact S1
  isplitl [S2]; · iapply (pt_of_owns c (Memref.whole cc0_scratch2)); iexact S2
  isplitl [L0]; · iexact L0
  isplitl [L1]; · iexact L1
  isplitl [L2]; · iexact L2
  isplitl [L3]; · iexact L3
  isplitl [L4]; · iexact L4
  isplitl [L5]; · iexact L5
  iintro ⟨I0, I1, I2, I3, I4, I5, I6, I7, I8, I9, I10, I11, I12, I13, I14, O, S0, S1, S2, L0, L1, L2, L3, L4, L5⟩
  isplitl [S0 S1 S2 L0 L1 L2 L3 L4 L5 Hr]
  · isplitl [S0 S1 S2]
    · iexists (pointOut m c t (stt m c t.val)).2
      isplitr; · ipureintro; intro _; exact (stt_succ m c t).symm
      rw [show pointOut m c t (stt m c t.val) = (runN m c t hi (stt m c t.val)).1 from dif_neg hi]
      isplitl [S0]; · iexact S0
      isplitl [S1]; · iexact S1
      iexact S2
    isplitl [L0 L1 L2 L3 L4 L5]
    · isplitl [L0]; · iexact L0
      isplitl [L1]; · iexact L1
      isplitl [L2]; · iexact L2
      isplitl [L3]; · iexact L3
      isplitl [L4]; · iexact L4
      iexact L5
    iexact Hr
  isplitl [HO]; · iexact HO
  isplitl [I0]; · iapply (owns_of_rep c (win0_0.stage (cfg0.slots t 0))); iexact I0
  isplitl [I1]; · iapply (owns_of_rep c (win0_1.stage (cfg0.slots t 1))); iexact I1
  isplitl [I2]; · iapply (owns_of_rep c (win0_2.stage (cfg0.slots t 2))); iexact I2
  isplitl [I3]; · iapply (owns_of_rep c (win0_3.stage (cfg0.slots t 3))); iexact I3
  isplitl [I4]; · iapply (owns_of_rep c (win0_4.stage (cfg0.slots t 4))); iexact I4
  isplitl [I5]; · iapply (owns_of_rep c (win0_5.stage (cfg0.slots t 5))); iexact I5
  isplitl [I6]; · iapply (owns_of_rep c (win0_6.stage (cfg0.slots t 6))); iexact I6
  isplitl [I7]; · iapply (owns_of_rep c (win0_7.stage (cfg0.slots t 7))); iexact I7
  isplitl [I8]; · iapply (owns_of_rep c (win0_8.stage (cfg0.slots t 8))); iexact I8
  isplitl [I9]; · iapply (owns_of_rep c (win0_9.stage (cfg0.slots t 9))); iexact I9
  isplitl [I10]; · iapply (owns_of_rep c (win0_10.stage (cfg0.slots t 10))); iexact I10
  isplitl [I11]; · iapply (owns_of_rep c (win0_11.stage (cfg0.slots t 11))); iexact I11
  isplitl [I12]; · iapply (owns_of_rep c (win0_12.stage (cfg0.slots t 12))); iexact I12
  isplitl [I13]; · iapply (owns_of_rep c (win0_13.stage (cfg0.slots t 13))); iexact I13
  isplitl [I14]; · iapply (owns_of_rep c (win0_14.stage (cfg0.slots t 14))); iexact I14
  rw [show pointOut m c t (stt m c t.val) = (runN m c t hi (stt m c t.val)).1 from dif_neg hi]
  iexact O

/-- The body keeps the proof data at every point. -/
theorem hbody (c : Dev nD) : Pipeline.BodyObligationLoose (dats m 0 c) (defs₀ (F := F)) Variants.none () Set.univ := by
  refine Pipeline.BodyObligation.loose (Lvl := ℕ) (dat := dats m 0 c) (fgt := fun _ => false) ?_
  intro t
  rw [bigSep_W0, bigSep_W0, defs₀_row]
  by_cases hi : isFirst (grid0.coords t)
  · exact triple_restated (body_first m c t hi) rfl .rfl fun _ => .rfl
  · exact triple_restated (body_next m c t hi) rfl .rfl fun _ => .rfl

theorem ownsW (c : Dev nD) (b : Ref sig .tc) (f : Buf (Elt F) ((c : Thread nD τ).loc b)) :
    (((c : Thread nD τ).loc b) ↦{fullShare} f : sProp 𝕄) ⊢ pt c (Memref.whole b) f := by
  unfold pt; rw [View.set_whole]

theorem wOwns (c : Dev nD) (b : Ref sig .tc) (f : Buf (Elt F) ((c : Thread nD τ).loc b)) :
    pt c (Memref.whole b) f ⊢ (((c : Thread nD τ).loc b) ↦{fullShare} f : sProp 𝕄) := by
  unfold pt; rw [View.set_whole]

theorem hin (c : Dev nD) : (Pipeline.ΦA spec0 c : sProp 𝕄) ⊢ (dats m 0 c).Φ 0 := by
  rw [show (dats m 0 c).Φ 0 = Φc m c 0 from rfl]
  unfold Φc Pipeline.ΦA
  rw [scopedRest0_eq]
  iintro ⟨⟨⟨%s0, S0⟩, ⟨%s1, S1⟩, ⟨%s2, S2⟩, ⟨%f0, L0⟩, ⟨%f1, L1⟩, ⟨%f2, L2⟩, ⟨%f3, L3⟩, ⟨%f4, L4⟩, ⟨%f5, L5⟩⟩, Hr⟩
  isplitl [S0 S1 S2]
  · iexists ((Memref.whole cc0_scratch0).view.read (Elt F) s0, (Memref.whole cc0_scratch1).view.read (Elt F) s1, (Memref.whole cc0_scratch2).view.read (Elt F) s2)
    isplitr; · ipureintro; intro h; exact absurd rfl h
    isplitl [S0]; · iapply (owns_of_pt c (Memref.whole cc0_scratch0)); iapply (ownsW c cc0_scratch0); iexact S0
    isplitl [S1]; · iapply (owns_of_pt c (Memref.whole cc0_scratch1)); iapply (ownsW c cc0_scratch1); iexact S1
    iapply (owns_of_pt c (Memref.whole cc0_scratch2)); iapply (ownsW c cc0_scratch2); iexact S2
  isplitl [L0 L1 L2 L3 L4 L5]
  · isplitl [L0]; · iexists f0; iapply (ownsW c cc0_scoped0); iexact L0
    isplitl [L1]; · iexists f1; iapply (ownsW c cc0_scoped1); iexact L1
    isplitl [L2]; · iexists f2; iapply (ownsW c cc0_scoped2); iexact L2
    isplitl [L3]; · iexists f3; iapply (ownsW c cc0_scoped3); iexact L3
    isplitl [L4]; · iexists f4; iapply (ownsW c cc0_scoped4); iexact L4
    iexists f5; iapply (ownsW c cc0_scoped5); iexact L5
  iexact Hr

theorem hout (c : Dev nD) : (dats m 0 c).Φ (Fin.last cfg0.N) ⊢ (Pipeline.ΦA spec0 c : sProp 𝕄) := by
  rw [show (dats m 0 c).Φ (Fin.last cfg0.N) = Φc m c (Fin.last cfg0.N) from rfl]
  unfold Φc Pipeline.ΦA owns
  rw [scopedRest0_eq]
  iintro ⟨⟨%S, %hS, ⟨%s0, %e0, S0⟩, ⟨%s1, %e1, S1⟩, ⟨%s2, %e2, S2⟩⟩, ⟨⟨%f0, L0⟩, ⟨%f1, L1⟩, ⟨%f2, L2⟩, ⟨%f3, L3⟩, ⟨%f4, L4⟩, ⟨%f5, L5⟩⟩, Hr⟩
  isplitl [S0 S1 S2 L0 L1 L2 L3 L4 L5]
  · isplitl [S0]; · iexists s0; iapply (wOwns c cc0_scratch0); iexact S0
    isplitl [S1]; · iexists s1; iapply (wOwns c cc0_scratch1); iexact S1
    isplitl [S2]; · iexists s2; iapply (wOwns c cc0_scratch2); iexact S2
    isplitl [L0]; · iexists f0; iapply (wOwns c cc0_scoped0); iexact L0
    isplitl [L1]; · iexists f1; iapply (wOwns c cc0_scoped1); iexact L1
    isplitl [L2]; · iexists f2; iapply (wOwns c cc0_scoped2); iexact L2
    isplitl [L3]; · iexists f3; iapply (wOwns c cc0_scoped3); iexact L3
    isplitl [L4]; · iexists f4; iapply (wOwns c cc0_scoped4); iexact L4
    iexists f5; iapply (wOwns c cc0_scoped5); iexact L5
  iexact Hr

set_option backward.isDefEq.respectTransparency.types false in
/-- The launch: every execution from zero counters ends with the arrays as the proof data say and the counters at
    zero. -/
theorem run_both : θ_run defs (onTc (τ := τ) (main (F := F))) (s₀ m ρ)
    (fun r => Pipeline.FramePost cfgs (dats m) 0 (V m) r ∧ r.2.sem = (fun _ => 0)) :=
  Pipeline.θ_run_frame_track cfgs (dats m) 0 launch0 defs₀ Variants.none m ρ main
    (hbody m) (fun c w => (dats m 0 c).share_full (fun _ => rfl) w) (fun _ _ => rfl) (V m) (hmain m Variants.none)
    (fun _ _ => rfl) (hin m) (hout m) _ (fun _ h => h)

/-- The launch, read at the argument arrays: each as it was, and the counters at zero. -/
theorem run_frame : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_with_sems (frame_of m ρ (dats m) fun _ _ => rfl) (run_both m ρ)

end Cert.Proof

end
-- ==== Proof.Ffn.lean ====
module
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise
public import Idealize.ShloMosaic.Lib.IdealHost
@[expose] public section
set_option maxRecDepth 16384
noncomputable section

/-! The feed-forward call's value: on every row both programs compute
    `norm (h + (silu (norm h · W_gate) * (norm h · W_up)) · W_down)`, written here once as `ffnRow`. -/
namespace Cert.Proof.Ffn
open Idealize.ShloMosaic Idealize.ShloMosaic.TcCoe Idealize.SL.Sem

/-- Root-mean-square normalisation of one row with a gain. -/
def rmsRow (x g : Fin 1024 → EReal) (l : Fin 1024) : EReal :=
  x l * Ideal.rsqrt (Ideal.div (∑ k, x k * x k) (Ideal.ofBits FTy.f32 1149239296#32) + Ideal.ofBits FTy.f32 897988541#32) * g l

/-- A hidden unit: column `a` of the gate through silu, times column `b`. -/
def unit (x : Fin 1024 → EReal) (w : Fin 1024 → Fin 5632 → EReal) (a b : Fin 5632) : EReal :=
  (∑ k, x k * w k a) * Ideal.logistic (∑ k, x k * w k a) * ∑ k, x k * w k b

/-- One row of the feed-forward network with its residual and the last normalisation. -/
def ffnRow (h g : Fin 1024 → EReal) (w : Fin 1024 → Fin 5632 → EReal) (d : Fin 2816 → Fin 1024 → EReal) (gf : Fin 1024 → EReal) :
    Fin 1024 → EReal :=
  rmsRow (fun l => h l + ∑ x : Fin 2816, unit (rmsRow h g) w ⟨x, by omega⟩ ⟨2816 + x, by omega⟩ * d x l) gf

section Reference
open Cert.Reference2Ideal Cert.Reference2Ideal.Facts Cert.Reference2Ideal.Gen
variable {F : FTy → Type} [FloatOps F]

/-- The reference's normalisation. -/
def rmsV (x : Vec F S2x8192x1024 .f32) (g : Vec F S1024 .f32) : Vec F S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The reference's two hidden halves in one array. -/
def guV (x : Vec F S2x8192x1024 .f32) (w : Vec F S1x1024x5632 .f32) : Vec F S2x8192x5632 .f32 :=
  Host.dotGeneral dot_S2x8192x1024_S1024x5632_S2x8192x5632_2_0_01_1_n_n none x (shapeCast _ w shapeCasts_S1x1024x5632_S1024x5632)

/-- The reference's hidden layer. -/
def actV (u : Vec F S2x8192x5632 .f32) : Vec F S2x8192x2816 .f32 :=
  mulf (mulf (extractStridedSlice S2x8192x2816 ![0, 0, 0] u slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] u slices_S2x8192x5632_S2x8192x2816_0_0_0)))))) (extractStridedSlice S2x8192x2816 ![0, 0, 2816] u slices_S2x8192x5632_S2x8192x2816_0_0_2816)

/-- The residual sum. -/
def resV (h : Vec F S2x8192x1024 .f32) (a : Vec F S2x8192x2816 .f32) (d : Vec F S1x2816x1024 .f32) : Vec F S2x8192x1024 .f32 :=
  addf h (Host.dotGeneral dot_S2x8192x2816_S2816x1024_S2x8192x1024_2_0_01_1_n_n none a (shapeCast _ d shapeCasts_S1x2816x1024_S2816x1024))

theorem rmsV_at (x : Vec Ideal S2x8192x1024 .f32) (g : Vec Ideal S1024 .f32) (b : Fin 2) (r : Fin 8192) (l : Fin 1024) :
    rmsV x g (ix3 b r l) = rmsRow (fun k => x (ix3 b r k)) (fun k => g (ix1 k)) l := by
  pointwise [rmsV]; rfl

theorem guV_at (x : Vec Ideal S2x8192x1024 .f32) (w : Vec Ideal S1x1024x5632 .f32) (b : Fin 2) (r : Fin 8192) (l : Fin 5632) :
    guV x w (ix3 b r l) = ∑ k : Fin 1024, x (ix3 b r k) * w (ix3 0 k l) := by
  pointwise [guV]; try rfl

theorem actV_at (u : Vec Ideal S2x8192x5632 .f32) (b : Fin 2) (r : Fin 8192) (l : Fin 2816) :
    actV u (ix3 b r l) = u (ix3 b r ⟨l, by omega⟩) * Ideal.logistic (u (ix3 b r ⟨l, by omega⟩)) * u (ix3 b r ⟨2816 + l, by omega⟩) := by
  pointwise [actV]; rfl

theorem resV_at (h : Vec Ideal S2x8192x1024 .f32) (a : Vec Ideal S2x8192x2816 .f32) (d : Vec Ideal S1x2816x1024 .f32) (b : Fin 2) (r : Fin 8192) (l : Fin 1024) :
    resV h a d (ix3 b r l) = h (ix3 b r l) + ∑ k : Fin 2816, a (ix3 b r k) * d (ix3 0 k l) := by
  pointwise [resV]; try rfl

theorem res_eq (m : (ℓ : Loc nD τ sig) → Buf (Elt Ideal) ℓ) (c : Dev nD) :
    Value.res_main_v36 m c = (shapeCast S16384x1024 (rmsV (resV (m ((c.tc : Thread nD τ).loc main_arg0))
      (actV (guV (rmsV (m ((c.tc : Thread nD τ).loc main_arg0)) (shapeCast _ (m ((c.tc : Thread nD τ).loc main_arg1)) shapeCasts_S1x1024_S1024)) (m ((c.tc : Thread nD τ).loc main_arg2))))
      (m ((c.tc : Thread nD τ).loc main_arg3))) (m ((c.tc : Thread nD τ).loc main_arg4))) shapeCasts_S2x8192x1024_S16384x1024 : Vec Ideal S16384x1024 .f32) := rfl

/-- The reference's result at a row and a column. -/
theorem ref_at (m : (ℓ : Loc nD τ sig) → Buf (Elt Ideal) ℓ) (c : Dev nD) (r : Fin 16384) (l : Fin 1024) :
    (Value.res_main_v36 m c : Vec Ideal S16384x1024 .f32) (ix2 r l)
      = ffnRow (fun k => (m ((c.tc : Thread nD τ).loc main_arg0) : Vec Ideal S2x8192x1024 .f32) (ix3 ⟨r / 8192, by omega⟩ ⟨r % 8192, by omega⟩ k))
          (fun k => (m ((c.tc : Thread nD τ).loc main_arg1) : Vec Ideal S1x1024 .f32) (ix2 0 k))
          (fun k j => (m ((c.tc : Thread nD τ).loc main_arg2) : Vec Ideal S1x1024x5632 .f32) (ix3 0 k j))
          (fun k j => (m ((c.tc : Thread nD τ).loc main_arg3) : Vec Ideal S1x2816x1024 .f32) (ix3 0 k j))
          (fun k => (m ((c.tc : Thread nD τ).loc main_arg4) : Vec Ideal S1024 .f32) (ix1 k)) l := by
  rw [res_eq]
  generalize m ((c.tc : Thread nD τ).loc main_arg0) = h
  generalize m ((c.tc : Thread nD τ).loc main_arg1) = g
  generalize m ((c.tc : Thread nD τ).loc main_arg2) = w
  generalize m ((c.tc : Thread nD τ).loc main_arg3) = d
  generalize m ((c.tc : Thread nD τ).loc main_arg4) = gf
  pointwise
  rw [rmsV_at]
  simp only [resV_at, actV_at, guV_at, rmsV_at]
  pointwise
  rfl
end Reference

section Kernel
open Cert.Kernel2Ideal Cert.Kernel2Ideal.Gen

theorem pay3_at (v0 : Vec Ideal S512x1024 .f32) (v2 : Vec Ideal S1x1024 .f32) (r : Fin 512) (l : Fin 1024) :
    k0_pay3 v0 v2 (ix2 r l) = rmsRow (fun k => v0 (ix2 r k)) (fun k => v2 (ix2 0 k)) l := by
  pointwise [k0_pay3, k0_pay2]; rfl

theorem pay4_at (v0 : Vec Ideal S512x1024 .f32) (v2 : Vec Ideal S1x1024 .f32) a b d (r : Fin 512) (l : Fin 1024) :
    k0_pay4 v0 v2 a b d (ix2 r l) = v0 (ix2 r l) + ∑ x : Fin 1408, ((∑ k : Fin 1024, k0_pay3 v0 v2 (ix2 r k) * a (ix2 k x))
      * Ideal.logistic (∑ k : Fin 1024, k0_pay3 v0 v2 (ix2 r k) * a (ix2 k x)) * ∑ k : Fin 1024, k0_pay3 v0 v2 (ix2 r k) * b (ix2 k x)) * d (ix2 x l) := by
  pointwise [k0_pay4, k0_pay2]; try rfl

theorem pay5_at (v0 : Vec Ideal S512x1024 .f32) (v2 : Vec Ideal S1x1024 .f32) a (r : Fin 512) (l : Fin 1408) :
    k0_pay5 v0 v2 a (ix2 r l) = ∑ k : Fin 1024, k0_pay3 v0 v2 (ix2 r k) * a (ix2 k l) := by
  pointwise [k0_pay5, k0_pay2]; try rfl
theorem pay6_at (v0 : Vec Ideal S512x1024 .f32) (v2 : Vec Ideal S1x1024 .f32) a (r : Fin 512) (l : Fin 1408) :
    k0_pay6 v0 v2 a (ix2 r l) = ∑ k : Fin 1024, k0_pay3 v0 v2 (ix2 r k) * a (ix2 k l) := by
  pointwise [k0_pay6, k0_pay2]; try rfl

theorem pay1_at a b c d (v2 : Vec Ideal S1x1024 .f32) (r : Fin 512) (l : Fin 1024) :
    k0_pay1 a b c d v2 (ix2 r l) = rmsRow (fun l => a (ix2 r l) + ∑ x : Fin 1408, b (ix2 r x) * Ideal.logistic (b (ix2 r x)) * c (ix2 r x) * d (ix2 x l))
      (fun k => v2 (ix2 0 k)) l := by
  pointwise [k0_pay1]; rfl

theorem idx : ∀ t : Fin cfg0.N, win0_0.index t = ![(t : ℕ), 0] ∧ win0_1.index t = ![0, 0] ∧ win0_2.index t = ![0, 0] ∧ win0_3.index t = ![0, 0]
    ∧ win0_4.index t = ![0, 0] ∧ win0_5.index t = ![(t : ℕ), 0] ∧ (t : ℕ) < 32 := by decide +kernel

section Blocks
variable (m : (ℓ : Loc nD τ sig) → Buf (Elt Ideal) ℓ) (c : Dev nD) (t : Fin cfg0.N)

theorem blk0 (r : Fin 512) (k : Fin 1024) : (iblk m c 0 t : Vec Ideal S512x1024 .f32) (ix2 r k)
    = (m ((c.tc : Thread nD τ).loc main_arg0) : Vec Ideal S2x8192x1024 .f32) (ix3 ⟨((t : ℕ) * 512 + r) / 8192, by have := (idx t).2.2.2.2.2.2; omega⟩ ⟨((t : ℕ) * 512 + r) % 8192, by omega⟩ k) := by
  blk_simp [iblk, V, idx t]; entry_read; pointwise; blk_ext [idx t]
theorem blk1 (k : Fin 1024) : (iblk m c 1 t : Vec Ideal S1x1024 .f32) (ix2 0 k)
    = (m ((c.tc : Thread nD τ).loc main_arg1) : Vec Ideal S1x1024 .f32) (ix2 0 k) := by
  blk_simp [iblk, V, idx t]; entry_read; pointwise; blk_ext [idx t]
theorem blk2 (k : Fin 1024) (j : Fin 5632) : (iblk m c 2 t : Vec Ideal S1024x5632 .bf16) (ix2 k j)
    = (m ((c.tc : Thread nD τ).loc main_arg2) : Vec Ideal S1x1024x5632 .f32) (ix3 0 k j) := by
  blk_simp [iblk, V, idx t]; entry_read; pointwise; blk_ext [idx t]
theorem blk3 (k : Fin 2816) (j : Fin 1024) : (iblk m c 3 t : Vec Ideal S2816x1024 .bf16) (ix2 k j)
    = (m ((c.tc : Thread nD τ).loc main_arg3) : Vec Ideal S1x2816x1024 .f32) (ix3 0 k j) := by
  blk_simp [iblk, V, idx t]; entry_read; pointwise; blk_ext [idx t]
theorem blk4 (k : Fin 1024) : (iblk m c 4 t : Vec Ideal S1x1024 .f32) (ix2 0 k)
    = (m ((c.tc : Thread nD τ).loc main_arg4) : Vec Ideal S1024 .f32) (ix1 k) := by
  blk_simp [iblk, V, idx t]; entry_read; pointwise; blk_ext [idx t]
end Blocks

/-- What a grid point leaves in its block, row by row: the two column blocks of the hidden layer add up to the whole. -/
theorem out_at (x0 : Vec Ideal S512x1024 .f32) (x1 : Vec Ideal S1x1024 .f32) (x2 : Vec Ideal S1024x5632 .bf16) (x3 : Vec Ideal S2816x1024 .bf16)
    (x4 : Vec Ideal S1x1024 .f32) (r : Fin 512) (l : Fin 1024) :
    out0_5 x0 x1 x2 x3 x4 (ix2 r l) = ffnRow (fun k => x0 (ix2 r k)) (fun k => x1 (ix2 0 k)) (fun k j => x2 (ix2 k j)) (fun k j => x3 (ix2 k j))
      (fun k => x4 (ix2 0 k)) l := by
  frame_out
  rw [pay1_at]
  simp only [pay4_at, pay5_at, pay6_at, pay3_at]
  pointwise
  unfold ffnRow
  congr 1
  funext l
  rw [Fin.sum_univ_two_halves 1408 1408 rfl]
  rw [← add_assoc]
  refine congrArg₂ (· + ·) rfl (Finset.sum_congr rfl fun k _ => ?_)
  have e : (⟨4224 + (k : ℕ), by omega⟩ : Fin 5632) = ⟨2816 + (1408 + (k : ℕ)), by omega⟩ := Fin.ext (by simp only; omega)
  exact congrArg (· * x3 (ix2 ⟨1408 + (k : ℕ), by omega⟩ l)) (congrArg₂ (· * ·) rfl (Finset.sum_congr rfl fun q _ => congrArg
    (fun z : Fin 5632 => rmsRow (fun k => x0 (ix2 r k)) (fun k => x1 (ix2 0 k)) q * x2 (ix2 q z)) e))

theorem arr_eq (m : (ℓ : Loc nD τ sig) → Buf (Elt Ideal) ℓ) (c : Dev nD) :
    (dats m 0 c).arrAt 5 cfg0.N = (fun j : S16384x1024.Idx =>
      ffnRow (fun k => (m ((c.tc : Thread nD τ).loc main_arg0) : Vec Ideal S2x8192x1024 .f32) (ix3 ⟨(j 0 : ℕ) / 8192, by have : (j 0 : ℕ) < 16384 := (j 0).isLt; omega⟩ ⟨(j 0 : ℕ) % 8192, by omega⟩ k))
          (fun k => (m ((c.tc : Thread nD τ).loc main_arg1) : Vec Ideal S1x1024 .f32) (ix2 0 k))
          (fun k j => (m ((c.tc : Thread nD τ).loc main_arg2) : Vec Ideal S1x1024x5632 .f32) (ix3 0 k j))
          (fun k j => (m ((c.tc : Thread nD τ).loc main_arg3) : Vec Ideal S1x2816x1024 .f32) (ix3 0 k j))
          (fun k => (m ((c.tc : Thread nD τ).loc main_arg4) : Vec Ideal S1024 .f32) (ix1 k)) (j 1)) := by
  refine (dats m 0 c).arrAt_eq_of_covers 5 _ (by decide +kernel) fun t hf y => ?_
  blk_simp
  rw [after0_5]
  idx_vars y
  refine (out_at _ _ _ _ _ y0 y1).trans ?_
  rw [funext (blk0 m c t y0), funext (blk1 m c t), funext fun k => funext (blk2 m c t k), funext fun k => funext (blk3 m c t k), funext (blk4 m c t)]
  have e : (((View.whole main_v8).slice (win0_5.rect t)).emb (ix2 y0 y1) 1) = y1 := by
    apply Fin.ext; blk_simp [idx t]
  rw [e]
  simp only [(idx t).2.2.2.2.2.1]
  rfl
end Kernel

/-- The two programs on agreeing arguments: the results equal, the arguments unchanged. -/
theorem same (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) :
    (Cert.Reference2Ideal.Value.res_main_v36 m' c : Vec Ideal Cert.Reference2Ideal.S16384x1024 .f32)
      = (Cert.Kernel2Ideal.Gen.dats m 0 c).arrAt 5 Cert.Kernel2Ideal.cfg0.N := by
  rw [arr_eq]
  funext j
  idx_vars j
  refine (ref_at m' c j0 j1).trans ?_
  rw [h0, h1, h2, h3, h4]
end Cert.Proof.Ffn
-- ==== Proof.Twin.lean ====
module
public import proofs.«01_k».proof.Defs
public import proofs.«01_k».proof.Proof.Gen.Kernel
public import proofs.«01_k».proof.Proof.Gen.Kernel2
public import proofs.«01_k».proof.Proof.Gen.Kernel2Ideal.Value
public import proofs.«01_k».proof.Proof.Run
@[expose] public section
set_option maxRecDepth 100000
set_option maxHeartbeats 8000000
noncomputable section

/-! The kernels and their ideal programs have the same text, so at the bit-exact floats they have the same labels'
    bodies; a frame proved for the ideal program's text over any floats is then the kernel's own. -/
namespace Cert.Proof
open Idealize.ShloMosaic Idealize.SL.Sem

theorem mixer_bodies : (Cert.Kernel.defs₀ (F := Bits)) = Cert.KernelIdeal.defs₀ (F := Bits) := by
  unfold Cert.Kernel.defs₀ Cert.KernelIdeal.defs₀
  refine congrArg Defs.onTc (funext fun l => funext fun a => ?_)
  match l, a with
  | 0, (t, s) => rfl

theorem mixer_defs : (Cert.Kernel.defs (F := Bits)) = Cert.KernelIdeal.defs (F := Bits) := by
  unfold Cert.Kernel.defs Cert.KernelIdeal.defs
  rw [mixer_bodies]; rfl

/-- The mixer call's frame at the bit-exact floats. -/
theorem frame_mixer : Cert.quiescent_Kernel := fun m ρ _ => by
  rw [mixer_defs]
  exact run_frame (F := Bits) m ρ

theorem ffn_bodies : (Cert.Kernel2.defs₀ (F := Bits)) = Cert.Kernel2Ideal.defs₀ (F := Bits) := by
  unfold Cert.Kernel2.defs₀ Cert.Kernel2Ideal.defs₀
  refine congrArg Defs.onTc (funext fun l => funext fun a => ?_)
  match l, a with
  | 0, (t, s) => rfl

theorem ffn_defs : (Cert.Kernel2.defs (F := Bits)) = Cert.Kernel2Ideal.defs (F := Bits) := by
  unfold Cert.Kernel2.defs Cert.Kernel2Ideal.defs
  rw [ffn_bodies]; rfl

/-- The feed-forward call's frame at the bit-exact floats. -/
theorem frame_ffn : Cert.quiescent_Kernel2 := fun m ρ _ => by
  rw [ffn_defs]
  exact Cert.Kernel2Ideal.Gen.frame (F := Bits) m ρ

end Cert.Proof
-- ==== Proof.Rec.lean ====
module
public import Idealize.ShloMosaic.Lib.Pointwise

@[expose] public section
noncomputable section

/-! Linear recurrences: the step by step form, the form cut at a time, and the closed form. -/
namespace Cert.Proof.Rec

/-- The recurrence `h' = a h + u` from the value `c`, after `n` steps. -/
def rc (a u : ℕ → ℝ) (c : ℝ) : ℕ → ℝ
  | 0 => c
  | n + 1 => a n * rc a u c n + u n

/-- The running sum. -/
def cum (g : ℕ → ℝ) (n : ℕ) : ℝ := ∑ s ∈ Finset.range n, g s

theorem cum_zero (g : ℕ → ℝ) : cum g 0 = 0 := by simp [cum]
theorem cum_succ (g : ℕ → ℝ) (n : ℕ) : cum g (n + 1) = cum g n + g n := Finset.sum_range_succ _ _

theorem cum_add (g : ℕ → ℝ) (n m : ℕ) : cum g (n + m) = cum g n + cum (fun s => g (n + s)) m := by
  induction m with
  | zero => simp [cum_zero]
  | succ m ih => rw [← Nat.add_assoc, cum_succ, cum_succ, ih, add_assoc]

theorem cum_anti (g : ℕ → ℝ) (hg : ∀ s, g s ≤ 0) {n m : ℕ} (h : n ≤ m) : cum g m ≤ cum g n := by
  obtain ⟨d, rfl⟩ := Nat.exists_eq_add_of_le h
  rw [cum_add]
  have : cum (fun s => g (n + s)) d ≤ 0 := Finset.sum_nonpos fun s _ => hg _
  linarith

theorem rc_add (a u : ℕ → ℝ) (c : ℝ) (n m : ℕ) : rc a u c (n + m) = rc (fun s => a (n + s)) (fun s => u (n + s)) (rc a u c n) m := by
  induction m with
  | zero => rfl
  | succ m ih => rw [← Nat.add_assoc, rc, rc, ih]

theorem rc_congr {a a' u u' : ℕ → ℝ} {c : ℝ} {n : ℕ} (ha : ∀ s < n, a s = a' s) (hu : ∀ s < n, u s = u' s) : rc a u c n = rc a' u' c n := by
  induction n with
  | zero => rfl
  | succ n ih =>
    rw [rc, rc, ih (fun s h => ha s (by omega)) (fun s h => hu s (by omega)), ha n (by omega), hu n (by omega)]

/-- No input, no state: the recurrence may be started late. -/
theorem rc_shift (a u : ℕ → ℝ) (n m : ℕ) (h : ∀ s < n, u s = 0) : rc a u 0 (n + m) = rc (fun s => a (n + s)) (fun s => u (n + s)) 0 m := by
  rw [rc_add]
  congr 1
  clear m
  induction n with
  | zero => rfl
  | succ n ih => rw [rc, ih (fun s hs => h s (by omega)), h n (by omega)]; ring

/-- The closed form for exponential factors. -/
theorem rc_exp (l u : ℕ → ℝ) (c : ℝ) (n : ℕ) :
    rc (fun s => Real.exp (l s)) u c n = Real.exp (cum l n) * c + ∑ s ∈ Finset.range n, Real.exp (cum l n - cum l (s + 1)) * u s := by
  induction n with
  | zero => simp [rc, cum_zero]
  | succ n ih =>
    rw [rc, ih, Finset.sum_range_succ, sub_self, Real.exp_zero, one_mul, mul_add, ← mul_assoc, cum_succ, ← Real.exp_add, Finset.mul_sum,
      add_comm (l n), ← add_assoc]
    congr 2
    refine Finset.sum_congr rfl fun s _ => ?_
    rw [← mul_assoc, ← Real.exp_add]
    congr 2
    ring

/-- The same with a query: the sum over the state's rows against the double sum. -/
theorem query {K : ℕ} (l kk : Fin K → ℕ → ℝ) (q : Fin K → ℝ) (v : ℕ → ℝ) (c : Fin K → ℝ) (n : ℕ) :
    (∑ s ∈ Finset.range n, (∑ k, q k * (kk k s * Real.exp (cum (l k) n - cum (l k) (s + 1)))) * v s) + ∑ k, q k * Real.exp (cum (l k) n) * c k
      = ∑ k, q k * rc (fun s => Real.exp (l k s)) (fun s => kk k s * v s) (c k) n := by
  simp only [rc_exp, mul_add, Finset.sum_add_distrib]
  rw [add_comm]
  congr 1
  · exact Finset.sum_congr rfl fun k _ => by ring
  · simp only [Finset.sum_mul, Finset.mul_sum]
    rw [Finset.sum_comm]
    refine Finset.sum_congr rfl fun k _ => Finset.sum_congr rfl fun s _ => by ring

/-! The same recurrence with real factors that are not negative, its inputs and its state possibly infinite. -/

/-- A real factor that is not negative distributes over every sum. -/
theorem coe_mul_add {a : ℝ} (ha : 0 ≤ a) (x y : EReal) : (a : EReal) * (x + y) = a * x + a * y :=
  EReal.left_distrib_of_nonneg_of_ne_top (EReal.coe_nonneg.2 ha) (EReal.coe_ne_top a) x y
theorem coe_mul_sum {ι : Type} {a : ℝ} (ha : 0 ≤ a) (A : Finset ι) (f : ι → EReal) : (a : EReal) * ∑ i ∈ A, f i = ∑ i ∈ A, (a : EReal) * f i := by
  classical
  induction A using Finset.induction_on with
  | empty => simp
  | insert i s h ih => rw [Finset.sum_insert h, Finset.sum_insert h, coe_mul_add ha, ih]

/-- The recurrence `h' = a h + u` from the value `c`, after `n` steps. -/
def re (a : ℕ → ℝ) (u : ℕ → EReal) (c : EReal) : ℕ → EReal
  | 0 => c
  | n + 1 => (a n : EReal) * re a u c n + u n

theorem re_add (a : ℕ → ℝ) (u : ℕ → EReal) (c : EReal) (n m : ℕ) : re a u c (n + m) = re (fun s => a (n + s)) (fun s => u (n + s)) (re a u c n) m := by
  induction m with
  | zero => rfl
  | succ m ih => rw [← Nat.add_assoc, re, re, ih]

theorem re_congr {a a' : ℕ → ℝ} {u u' : ℕ → EReal} {c : EReal} {n : ℕ} (ha : ∀ s < n, a s = a' s) (hu : ∀ s < n, u s = u' s) : re a u c n = re a' u' c n := by
  induction n with
  | zero => rfl
  | succ n ih =>
    rw [re, re, ih (fun s h => ha s (by omega)) (fun s h => hu s (by omega)), ha n (by omega), hu n (by omega)]

/-- No input, no state: the recurrence may be started late. -/
theorem re_shift (a : ℕ → ℝ) (u : ℕ → EReal) (n m : ℕ) (h : ∀ s < n, u s = 0) : re a u 0 (n + m) = re (fun s => a (n + s)) (fun s => u (n + s)) 0 m := by
  rw [re_add]
  congr 1
  clear m
  induction n with
  | zero => rfl
  | succ n ih => rw [re, ih (fun s hs => h s (by omega)), h n (by omega), mul_zero, add_zero]

/-- The closed form for exponential factors. -/
theorem re_exp (l : ℕ → ℝ) (u : ℕ → EReal) (n : ℕ) :
    re (fun s => Real.exp (l s)) u 0 n = ∑ s ∈ Finset.range n, ((Real.exp (cum l n - cum l (s + 1)) : ℝ) : EReal) * u s := by
  induction n with
  | zero => simp [re]
  | succ n ih =>
    rw [re, ih, Finset.sum_range_succ, sub_self, Real.exp_zero, EReal.coe_one, one_mul, coe_mul_sum (Real.exp_pos _).le]
    congr 1
    refine Finset.sum_congr rfl fun s _ => ?_
    rw [← mul_assoc, ← EReal.coe_mul, ← Real.exp_add, cum_succ l n]
    congr 3
    ring

end Cert.Proof.Rec
-- ==== Proof.Row.lean ====
module
public import proofs.«01_k».proof.Proof.Rec
public import Idealize.ShloMosaic.Lib.IdealHost

@[expose] public section
noncomputable section

/-! The mixer on one token, as plain functions of the arguments. A token is named by its sequence and its time, counted from the
    front of the first tile: 112 empty places, then the 16 leading tokens, then the sequence. -/
namespace Cert.Proof.Row
open Idealize.ShloMosaic Cert.Proof.Rec

/-- The arguments, read by coordinates. -/
structure Par where
  tok : Fin 2 → ℕ → Fin 1024 → EReal
  g1 : Fin 1024 → EReal
  w : Fin 1024 → Fin 8704 → EReal
  cw : Fin 4 → Fin 1280 → EReal
  cb : Fin 1280 → EReal
  wa : Fin 16 → Fin 80 → Fin 80 → EReal
  ba : Fin 1280 → EReal
  wx : Fin 16 → Fin 80 → Fin 80 → EReal
  bx : Fin 1280 → EReal
  lam : Fin 1280 → EReal
  lbl : Fin 2 → Fin 1024 → EReal
  hg : Fin 128 → EReal
  pa : Fin 1280 → Fin 1024 → EReal
  pb : Fin 1024 → Fin 1024 → EReal
  wo : Fin 1024 → Fin 1024 → EReal

section Defs
variable (p : Par) (b : Fin 2) (t : ℕ)

/-- The normalised token. -/
def hn (d : Fin 1024) : EReal :=
  p.tok b t d * Ideal.rsqrt (Ideal.div (∑ k, p.tok b t k * p.tok b t k) (Ideal.ofBits FTy.f32 1149239296#32) + Ideal.ofBits FTy.f32 897988541#32) * p.g1 d
/-- A column of the projection. -/
def pr (c : Fin 8704) : EReal := ∑ x, hn p b t x * p.w x c
def ax (l : Fin 1280) : EReal := pr p b t ⟨l, by omega⟩
/-- The convolution over the last four tokens. -/
def cx (l : Fin 1280) : EReal :=
  p.cb l + p.cw 3 l * ax p b t l + p.cw 0 l * ax p b (t - 3) l + p.cw 1 l * ax p b (t - 2) l + p.cw 2 l * ax p b (t - 1) l
/-- The block-diagonal maps. -/
def za (w : Fin 16 → Fin 80 → Fin 80 → EReal) (l : Fin 1280) : EReal :=
  ∑ x : Fin 80, cx p b t ⟨80 * (l / 80) + x, by omega⟩ * w ⟨l / 80, by omega⟩ x ⟨l % 80, by omega⟩
def gr (l : Fin 1280) : EReal := Ideal.logistic (za p b t p.wa l + p.ba l)
def gi (l : Fin 1280) : EReal := Ideal.logistic (za p b t p.wx l + p.bx l)
/-- softplus of minus lambda. -/
def sp (l : Fin 1280) : EReal :=
  max (0 - p.lam l) 0 + Ideal.log1p (Ideal.exp (0 - max (0 - p.lam l) (-(0 - p.lam l))))
def la (l : Fin 1280) : EReal := Ideal.ofBits FTy.f32 3238002688#32 * gr p b t l * sp p l
def u0 (l : Fin 1280) : EReal :=
  Ideal.sqrt (1 - Ideal.exp (Ideal.ofBits FTy.f32 1073741824#32 * la p b t l)) * (gi p b t l * cx p b t l)
def ui (l : Fin 1280) : EReal := if t < 112 then 0 else u0 p b t l
/-- The diagonal recurrence before token `t`. -/
def hr (l : Fin 1280) : EReal := re (fun s => (Ideal.exp (la p b s l)).toReal) (fun s => ui p b s l) 0 t
/-- The tanh form of the gate. -/
def ge (x : EReal) : EReal :=
  x * (Ideal.ofBits FTy.f32 1056964608#32 * (1 + Ideal.tanh (Ideal.ofBits FTy.f32 1061962282#32 * (x + Ideal.ofBits FTy.f32 1027024659#32 * ((x * x) * x)))))
def ga (l : Fin 1280) : EReal := ge (pr p b t ⟨1280 + l, by omega⟩)
def mA (d : Fin 1024) : EReal :=
  Ideal.logistic (pr p b t ⟨6656 + d, by omega⟩) * ∑ x, hr p b (t + 1) x * ga p b t x * p.pa x d
/-- The lower bound of the forget gate. -/
def lb (d : Fin 1024) : EReal :=
  Ideal.div (Ideal.exp (p.lbl 0 d - max (p.lbl 0 d) (p.lbl 1 d))) (Ideal.exp (p.lbl 0 d - max (p.lbl 0 d) (p.lbl 1 d)) + Ideal.exp (p.lbl 1 d - max (p.lbl 0 d) (p.lbl 1 d)))
def lf (d : Fin 1024) : EReal := Ideal.log (lb p d + (1 - lb p d) * Ideal.logistic (pr p b t ⟨3584 + d, by omega⟩))
def ki (d : Fin 1024) : EReal := (1 - lb p d) * Ideal.logistic (0 - pr p b t ⟨3584 + d, by omega⟩)
def qi (d : Fin 1024) : EReal := pr p b t ⟨2560 + d, by omega⟩ * Ideal.logistic (pr p b t ⟨2560 + d, by omega⟩)
def vi (d : Fin 1024) : EReal := pr p b t ⟨4608 + d, by omega⟩
/-- Column `x` of head `hd`. -/
def col (hd : Fin 8) (x : Fin 128) : Fin 1024 := ⟨128 * hd.val + x.val, by omega⟩
/-- The matrix recurrence before token `t`. -/
def hs (hd : Fin 8) (j x : Fin 128) : ℝ :=
  rc (fun s => Real.exp (lf p b s (col hd x)).toReal) (fun s => (ki p b s (col hd x)).toReal * (vi p b s (col hd j)).toReal) 0 t
def oh (hd : Fin 8) (j : Fin 128) : ℝ := ∑ x, (qi p b t (col hd x)).toReal * hs p b (t + 1) hd j x
def gs (d : Fin 1024) : EReal := pr p b t ⟨5632 + d, by omega⟩ * Ideal.logistic (pr p b t ⟨5632 + d, by omega⟩)
def yb (hd : Fin 8) (j : Fin 128) : EReal :=
  ((oh p b t hd j : ℝ) : EReal) * Ideal.rsqrt (Ideal.div (∑ x, ((oh p b t hd x : ℝ) : EReal) * ((oh p b t hd x : ℝ) : EReal)) (Ideal.ofBits FTy.f32 1124073472#32) + Ideal.ofBits FTy.f32 897988541#32) * p.hg j * gs p b t (col hd j)
def ybc (d : Fin 1024) : EReal := yb p b t ⟨d / 128, by omega⟩ ⟨d % 128, by omega⟩
def mg (d : Fin 1024) : EReal :=
  mA p b t d + Ideal.logistic (pr p b t ⟨7680 + d, by omega⟩) * ∑ x : Fin 1024, ybc p b t x * p.pb x d
/-- The mixer's result. -/
def out (d : Fin 1024) : EReal := p.tok b t d + ∑ x, mg p b t x * p.wo x d
end Defs

/-! ## Numbers -/

/-- A number, neither infinite nor undefined. -/
def IsR (x : EReal) : Prop := ∃ r : ℝ, x = (r : EReal)

theorem IsR.eq {x : EReal} (h : IsR x) : x = ((x.toReal : ℝ) : EReal) := by
  obtain ⟨r, rfl⟩ := h; rfl
theorem isR_coe (r : ℝ) : IsR (r : EReal) := ⟨r, rfl⟩
theorem isR_zero : IsR 0 := ⟨0, rfl⟩
theorem isR_one : IsR 1 := ⟨1, rfl⟩
theorem IsR.add {x y : EReal} (hx : IsR x) (hy : IsR y) : IsR (x + y) := by
  obtain ⟨a, rfl⟩ := hx; obtain ⟨b, rfl⟩ := hy; exact ⟨a + b, (EReal.coe_add a b).symm⟩
theorem IsR.sub {x y : EReal} (hx : IsR x) (hy : IsR y) : IsR (x - y) := by
  obtain ⟨a, rfl⟩ := hx; obtain ⟨b, rfl⟩ := hy; exact ⟨a - b, (EReal.coe_sub a b).symm⟩
theorem IsR.mul {x y : EReal} (hx : IsR x) (hy : IsR y) : IsR (x * y) := by
  obtain ⟨a, rfl⟩ := hx; obtain ⟨b, rfl⟩ := hy; exact ⟨a * b, (EReal.coe_mul a b).symm⟩
theorem IsR.neg {x : EReal} (hx : IsR x) : IsR (-x) := by
  obtain ⟨a, rfl⟩ := hx; exact ⟨-a, rfl⟩
theorem IsR.max {x y : EReal} (hx : IsR x) (hy : IsR y) : IsR (max x y) := by
  rcases max_choice x y with h | h <;> rw [h] <;> assumption
theorem coe_sum {ι : Type} (A : Finset ι) (f : ι → ℝ) : ((∑ i ∈ A, f i : ℝ) : EReal) = ∑ i ∈ A, ((f i : ℝ) : EReal) := by
  classical
  induction A using Finset.induction_on with
  | empty => rfl
  | insert a s h ih => rw [Finset.sum_insert h, Finset.sum_insert h, EReal.coe_add, ih]
theorem isR_sum {ι : Type} (A : Finset ι) (f : ι → EReal) (h : ∀ i ∈ A, IsR (f i)) : IsR (∑ i ∈ A, f i) :=
  ⟨∑ i ∈ A, (f i).toReal, by rw [coe_sum]; exact Finset.sum_congr rfl fun i hi => (h i hi).eq⟩
theorem IsR.exp {x : EReal} (hx : IsR x) : IsR (Ideal.exp x) := by
  obtain ⟨a, rfl⟩ := hx; exact ⟨Real.exp a, by simp⟩
theorem IsR.logistic {x : EReal} (hx : IsR x) : ∃ r : ℝ, 0 < r ∧ r < 1 ∧ Ideal.logistic x = (r : EReal) := by
  obtain ⟨a, rfl⟩ := hx
  refine ⟨(1 + Real.exp (-a))⁻¹, by positivity, inv_lt_one_of_one_lt₀ (by have := Real.exp_pos (-a); linarith), by simp⟩
theorem IsR.logistic' {x : EReal} (hx : IsR x) : IsR (Ideal.logistic x) := by
  obtain ⟨r, _, _, h⟩ := hx.logistic; exact ⟨r, h⟩

theorem c1024 : Ideal.ofBits FTy.f32 1149239296#32 = ((1024 : ℝ) : EReal) := by
  simp [Ideal.ofBits, Ideal.ieee, -EReal.coe_mul]; norm_num
theorem ceps : ∃ r : ℝ, 0 < r ∧ Ideal.ofBits FTy.f32 897988541#32 = (r : EReal) := by
  refine ⟨_, ?_, by simp [Ideal.ofBits, Ideal.ieee, -EReal.coe_mul]; rfl⟩
  norm_num
theorem cm8 : Ideal.ofBits FTy.f32 3238002688#32 = ((-8 : ℝ) : EReal) := by
  simp [Ideal.ofBits, Ideal.ieee, -EReal.coe_mul]; norm_num
theorem c2 : Ideal.ofBits FTy.f32 1073741824#32 = ((2 : ℝ) : EReal) := by
  simp [Ideal.ofBits, Ideal.ieee, -EReal.coe_mul]; norm_num

theorem isR_norm {n : ℕ} (x : Fin n → EReal) (h : ∀ k, IsR (x k)) :
    IsR (Ideal.rsqrt (Ideal.div (∑ k, x k * x k) (Ideal.ofBits FTy.f32 1149239296#32) + Ideal.ofBits FTy.f32 897988541#32)) := by
  obtain ⟨e, he, ee⟩ := ceps
  have s : ∑ k, x k * x k = ((∑ k, (x k).toReal * (x k).toReal : ℝ) : EReal) := by
    rw [coe_sum]; refine Finset.sum_congr rfl fun k _ => ?_
    rw [EReal.coe_mul, ← (h k).eq]
  have s0 : 0 ≤ ∑ k, (x k).toReal * (x k).toReal := Finset.sum_nonneg fun k _ => mul_self_nonneg _
  rw [c1024, ee, s, Ideal.div_coe (by norm_num), ← EReal.coe_mul, ← EReal.coe_add, Ideal.rsqrt_coe]
  have hp : 0 < (∑ k, (x k).toReal * (x k).toReal) * (1 / 1024) + e := by positivity
  rw [if_neg (not_lt.2 hp.le), if_neg hp.ne']
  exact isR_coe _

/-- A row divided by its root mean square holds numbers, whatever the row holds: an infinite mean square divides all to zero. -/
theorem isR_rms {n : ℕ} (x : Fin n → EReal) (d : Fin n) :
    IsR (x d * Ideal.rsqrt (Ideal.div (∑ k, x k * x k) (Ideal.ofBits FTy.f32 1149239296#32) + Ideal.ofBits FTy.f32 897988541#32)) := by
  by_cases h : ∀ k, IsR (x k)
  · exact (h d).mul (isR_norm x h)
  obtain ⟨k, hk⟩ := not_forall.1 h
  obtain ⟨e, he, ee⟩ := ceps
  have t : x k * x k = ⊤ := by
    generalize x k = z at hk
    induction z with
    | bot => rfl
    | top => rfl
    | coe r => exact absurd ⟨r, rfl⟩ hk
  have n0 : ∀ j, 0 ≤ x j * x j := fun j => by
    generalize x j = z
    induction z with
    | bot => exact le_top
    | top => exact le_top
    | coe r => rw [← EReal.coe_mul]; exact_mod_cast mul_self_nonneg r
  have s : ∑ k, x k * x k = ⊤ := top_le_iff.1 (t ▸ Finset.single_le_sum (fun j _ => n0 j) (Finset.mem_univ k))
  rw [s, c1024, ee, Ideal.div_coe (by norm_num), EReal.top_mul_coe_of_pos (by norm_num), EReal.top_add_coe, Ideal.rsqrt_top, mul_zero]
  exact isR_zero
/-- The logistic function's values are numbers from 0 to 1, infinite arguments included. -/
theorem logistic_r (x : EReal) : ∃ r : ℝ, 0 ≤ r ∧ r ≤ 1 ∧ Ideal.logistic x = (r : EReal) := by
  induction x with
  | bot => exact ⟨0, le_rfl, zero_le_one, Ideal.logistic_bot⟩
  | top => exact ⟨1, zero_le_one, le_rfl, Ideal.logistic_top⟩
  | coe r =>
    obtain ⟨y, h0, h1, h⟩ := (isR_coe r).logistic
    exact ⟨y, h0.le, h1.le, h⟩

/-- The norm's gain, the input projection, lambda and the lower bounds' logits are numbers. -/
structure Fin' (p : Par) : Prop where
  g1 : ∀ d, IsR (p.g1 d)
  w : ∀ x c, IsR (p.w x c)
  lam : ∀ l, IsR (p.lam l)
  lbl : ∀ k d, IsR (p.lbl k d)

section Real
variable {p : Par} (F : Fin' p) (b : Fin 2) (t : ℕ)
include F

theorem hn_r (d : Fin 1024) : IsR (hn p b t d) := (isR_rms (p.tok b t) d).mul (F.g1 d)
theorem pr_r (c : Fin 8704) : IsR (pr p b t c) := isR_sum _ _ fun x _ => (hn_r F b t x).mul (F.w x c)
theorem ax_r (l : Fin 1280) : IsR (ax p b t l) := pr_r F b t _
theorem sp_r (l : Fin 1280) : ∃ r : ℝ, 0 ≤ r ∧ sp p l = (r : EReal) := by
  obtain ⟨a, ha⟩ := F.lam l
  refine ⟨Max.max (0 - a) 0 + Real.log (1 + Real.exp (0 - Max.max (0 - a) (-(0 - a)))), ?_, ?_⟩
  · have : 0 ≤ Real.log (1 + Real.exp (0 - Max.max (0 - a) (-(0 - a)))) := Real.log_nonneg (by have := Real.exp_pos (0 - Max.max (0 - a) (-(0 - a))); linarith)
    have := le_max_right (0 - a) 0
    linarith
  · rw [sp, ha]
    have z : (0 : EReal) = ((0 : ℝ) : EReal) := rfl
    have o : (1 : EReal) = ((1 : ℝ) : EReal) := rfl
    have m : ∀ x y : ℝ, (Max.max (x : EReal) (y : EReal)) = ((Max.max x y : ℝ) : EReal) := fun x y => (EReal.coe_strictMono.monotone.map_max).symm
    rw [z, ← EReal.coe_sub, ← EReal.coe_neg, m, m, ← EReal.coe_sub, Ideal.exp_coe, Ideal.log1p, o, ← EReal.coe_add, Ideal.log_coe, if_neg, ← EReal.coe_add]
    have := Real.exp_pos (0 - Max.max (0 - a) (-(0 - a)))
    linarith
theorem la_r (l : Fin 1280) : ∃ r : ℝ, r ≤ 0 ∧ la p b t l = (r : EReal) := by
  obtain ⟨s, hs, es⟩ := sp_r F l
  obtain ⟨g, hg, _, eg⟩ := logistic_r (za p b t p.wa l + p.ba l)
  refine ⟨-8 * g * s, ?_, ?_⟩
  · have := mul_nonneg hg hs
    nlinarith
  · rw [la, gr, es, eg, cm8, EReal.coe_mul, EReal.coe_mul]
theorem a_r (l : Fin 1280) : IsR (Ideal.exp (la p b t l)) := by
  obtain ⟨r, _, h⟩ := la_r F b t l
  exact IsR.exp ⟨r, h⟩
omit F in
theorem a_nonneg (l : Fin 1280) : 0 ≤ (Ideal.exp (la p b t l)).toReal := EReal.toReal_nonneg (by
  induction la p b t l with
  | bot => simp
  | top => simp
  | coe r => rw [Ideal.exp_coe]; exact_mod_cast (Real.exp_pos r).le)
theorem root_eq (l : Fin 1280) : ∃ r : ℝ, la p b t l = (r : EReal) ∧ Ideal.sqrt (1 - Ideal.exp (Ideal.ofBits FTy.f32 1073741824#32 * la p b t l)) = ((Real.sqrt (1 - Real.exp (2 * r)) : ℝ) : EReal) := by
  obtain ⟨r, hr, h⟩ := la_r F b t l
  refine ⟨r, h, ?_⟩
  have o : (1 : EReal) = ((1 : ℝ) : EReal) := rfl
  rw [h, c2, ← EReal.coe_mul, Ideal.exp_coe, o, ← EReal.coe_sub, Ideal.sqrt_coe, if_neg]
  have := Real.exp_le_one_iff.2 (by linarith : 2 * r ≤ 0)
  linarith
theorem lb_r (d : Fin 1024) : ∃ r : ℝ, 0 < r ∧ r < 1 ∧ lb p d = (r : EReal) := by
  have e0 := F.lbl 0 d
  have e1 := F.lbl 1 d
  obtain ⟨x, hx⟩ := e0.sub (e0.max e1)
  obtain ⟨y, hy⟩ := e1.sub (e0.max e1)
  have px := Real.exp_pos x
  have py := Real.exp_pos y
  refine ⟨Real.exp x * (1 / (Real.exp x + Real.exp y)), by positivity, ?_, ?_⟩
  · rw [mul_one_div, div_lt_one (by positivity)]; linarith
  · rw [lb, hx, hy, Ideal.exp_coe, Ideal.exp_coe, ← EReal.coe_add, Ideal.div_coe (by positivity), ← EReal.coe_mul]
theorem lf_r (d : Fin 1024) : ∃ r : ℝ, r ≤ 0 ∧ lf p b t d = (r : EReal) := by
  obtain ⟨l, h0, h1, el⟩ := lb_r F d
  obtain ⟨s, g0, g1, es⟩ := (pr_r F b t ⟨3584 + d, by omega⟩).logistic
  have pos : 0 < l + (1 - l) * s := by have := mul_pos (sub_pos.2 h1) g0; linarith
  refine ⟨Real.log (l + (1 - l) * s), Real.log_nonpos pos.le (by nlinarith), ?_⟩
  have o : (1 : EReal) = ((1 : ℝ) : EReal) := rfl
  rw [lf, el, es, o, ← EReal.coe_sub, ← EReal.coe_mul, ← EReal.coe_add, Ideal.log_coe, if_neg (not_le.2 pos)]
theorem ki_r (d : Fin 1024) : IsR (ki p b t d) := by
  obtain ⟨l, h0, h1, el⟩ := lb_r F d
  rw [ki, el]
  exact (isR_one.sub (isR_coe l)).mul (isR_zero.sub (pr_r F b t _)).logistic'
theorem qi_r (d : Fin 1024) : IsR (qi p b t d) := (pr_r F b t _).mul (pr_r F b t _).logistic'
theorem vi_r (d : Fin 1024) : IsR (vi p b t d) := pr_r F b t _
end Real
end Cert.Proof.Row
-- ==== Proof.Par.lean ====
module
public import proofs.«01_k».proof.Proof.Row

@[expose] public section
noncomputable section

/-! The mixer's arguments, read by coordinates, as the token-wise functions take them. -/
namespace Cert.Proof.Row

/-- The arguments of both programs. Time 0 is the front of the first tile: 112 empty places, the leading tokens, the sequence. -/
def par (x : Fin 2 → Fin 8192 → Fin 1024 → EReal) (mt : Fin 16 → Fin 1024 → EReal) (g1 : Fin 1024 → EReal) (w : Fin 1024 → Fin 8704 → EReal)
    (cw : Fin 4 → Fin 1280 → EReal) (cb : Fin 1280 → EReal) (wa : Fin 16 → Fin 80 → Fin 80 → EReal) (ba : Fin 1280 → EReal)
    (wx : Fin 16 → Fin 80 → Fin 80 → EReal) (bx lam : Fin 1280 → EReal) (lbl : Fin 2 → Fin 1024 → EReal) (hg : Fin 128 → EReal)
    (pa : Fin 1280 → Fin 1024 → EReal) (pb wo : Fin 1024 → Fin 1024 → EReal) : Par where
  tok b t d := if t < 112 then 0 else if h : t < 128 then mt ⟨t - 112, by omega⟩ d else if h : t < 8320 then x b ⟨t - 128, by omega⟩ d else 0
  g1 := g1
  w := w
  cw := cw
  cb := cb
  wa := wa
  ba := ba
  wx := wx
  bx := bx
  lam := lam
  lbl := lbl
  hg := hg
  pa := pa
  pb := pb
  wo := wo

end Cert.Proof.Row
-- ==== Proof.HostArr.lean ====
module
public import proofs.«01_k».proof.Proof.Run
public import Idealize.ShloMosaic.Lib.Pipeline.ValueKit
public import Idealize.ShloMosaic.Lib.Pointwise
public import Idealize.ShloMosaic.Lib.IdealHost
public import Idealize.ShloMosaic.Lib.Routing.OpsOne

@[expose] public section
set_option maxRecDepth 16384
noncomputable section

/-! Two of the call's arrays are made from the arguments before it: the first tile, with the leading tokens at its end, and the
    block-diagonal weights. -/
namespace Cert.Proof.Mixer
open Cert.KernelIdeal Cert.KernelIdeal.Facts Cert.KernelIdeal.Gen
open Idealize.ShloMosaic Idealize.ShloMosaic.TcCoe Idealize.SL.Sem
open Idealize.ShloMosaic.Routing

theorem lands (idx : IVec S1 32) (hidx : (idx (ix1 0)).toInt = 112) (a : Fin 16) (b : Fin 1024) (w : Fin 128) (e : Fin 1024) :
    scatter_S128x1024_S1_S16x1024_01_n_0_0.resultIdx? (ix2 a b) idx = some (ix2 w e) ↔ 112 + a.val = w.val ∧ b.val = e.val := by
  have hm : (0 : Fin 2) ∈ scatter_S128x1024_S1_S16x1024_01_n_0_0.scatterDimsToOperandDims := by decide
  have hwin0 : scatter_S128x1024_S1_S16x1024_01_n_0_0.window (ix2 a b) 0 = a.val := by
    unfold ScatterDims.window
    rw [dif_pos (by decide)]
    rfl
  have hwin1 : scatter_S128x1024_S1_S16x1024_01_n_0_0.window (ix2 a b) 1 = b.val := by
    unfold ScatterDims.window
    rw [dif_pos (by decide)]
    rfl
  have hstart1 : scatter_S128x1024_S1_S16x1024_01_n_0_0.start (ix2 a b) idx 1 = 0 := by
    unfold ScatterDims.start
    rw [dif_neg (by decide)]
  have hstart0 : scatter_S128x1024_S1_S16x1024_01_n_0_0.start (ix2 a b) idx 0 = 112 := by
    unfold ScatterDims.start
    rw [dif_pos hm]
    have hsi : scatter_S128x1024_S1_S16x1024_01_n_0_0.siIdx (ix2 a b) ⟨scatter_S128x1024_S1_S16x1024_01_n_0_0.scatterDimsToOperandDims.idxOf 0, List.idxOf_lt_length_iff.2 hm⟩ = ix1 (0 : Fin 1) := by
      funext b'
      match b' with
      | ⟨0, _⟩ => exact Subsingleton.elim (α := Fin 1) _ _
    rw [hsi, hidx]
  refine (resultIdx?_ix2 _ _ _ _ _).trans ?_
  rw [hstart0, hwin0, hstart1, hwin1]
  omega

theorem meta_at (x : Vec Ideal S128x1024 .f32) (u : Vec Ideal S16x1024 .f32) (idx : IVec S1 32) (hidx : (idx (ix1 0)).toInt = 112) (w : Fin 128) (e : Fin 1024) :
    Host.scatter scatter_S128x1024_S1_S16x1024_01_n_0_0 (fun _ b => b) x idx u (ix2 w e)
      = if h : w.val < 112 then x (ix2 w e) else u (ix2 ⟨w.val - 112, by omega⟩ e) := by
  have key : ∀ j : S16x1024.Idx, scatter_S128x1024_S1_S16x1024_01_n_0_0.resultIdx? j idx = some (ix2 w e) → 112 + (j 0).val = w.val ∧ (j 1).val = e.val := by
    intro j hj
    idx_vars j
    exact (lands idx hidx j0 j1 w e).1 hj
  by_cases h : w.val < 112
  · rw [dif_pos h]
    exact scatter_set_miss _ x idx u _ fun j hj => by have := (key j hj).1; omega
  · rw [dif_neg h]
    refine scatter_set_hit _ x idx u _ _ (fun j hj => ?_) (ix2 ⟨w.val - 112, by omega⟩ e) ((lands idx hidx _ _ w e).2 ⟨by simp only; omega, rfl⟩)
    have k := key j hj
    idx_vars j
    have k0 : 112 + j0.val = w.val := k.1
    have k1 : j1.val = e.val := k.2
    congr 1
    exact congrArg₂ _ (Fin.ext (by simp only; omega)) (Fin.ext k1)

/-- The sixteen 80×80 blocks, eight to a group, down the diagonal. -/
def bdV (w : FVec Ideal S1x16x80x80 .f32) : FVec Ideal S2x640x640 .f32 :=
  shapeCast S2x640x640
              (mulf (F := Ideal)
                (broadcastInDim S2x8x80x8x80 ![0, 1, 2, 3, 4] bcast_S2x8x80x1x80_S2x8x80x8x80_0_1_2_3_4
                  (broadcastInDim S2x8x80x1x80 ![0, 1, 2, 4] bcast_S2x8x80x80_S2x8x80x1x80_0_1_2_4
                    (shapeCast S2x8x80x80
                        (shapeCast S16x80x80 w shapeCasts_S1x16x80x80_S16x80x80)
                      shapeCasts_S16x80x80_S2x8x80x80)))
                (broadcastInDim S2x8x80x8x80 ![0, 1, 2, 3, 4] bcast_S1x8x1x8x1_S2x8x80x8x80_0_1_2_3_4
                  (broadcastInDim S1x8x1x8x1 ![1, 3] bcast_S8x8_S1x8x1x8x1_1_3
                    (uitofp FTy.f32
                      (cmpi CmpIPredicate.eq
                        (addi (iotaInDim S8x8 32 0) (broadcastInDim S8x8 ![] bcast_S_S8x8 (constantI S_ 32 0#32)))
                        (iotaInDim S8x8 32 1))))))
              shapeCasts_S2x8x80x8x80_S2x640x640

theorem eye : ∀ a b : Fin 8, IntOp.cmpi CmpIPredicate.eq (IntOp.addi (BitVec.ofNat 32 a.val) 0#32) (BitVec.ofNat 32 b.val) = if a.val = b.val then 1#1 else 0#1 := by
  decide +kernel

theorem bdV_at (w : FVec Ideal S1x16x80x80 .f32) (q : Fin 2) (x y : Fin 640) : bdV w (ix3 q x y)
    = if x.val / 80 = y.val / 80 then w (ix4 0 ⟨8 * q.val + x.val / 80, by omega⟩ ⟨x.val % 80, by omega⟩ ⟨y.val % 80, by omega⟩) else (0 : EReal) := by
  pointwise [bdV]
  have hx : x.val / 80 < 8 := by omega
  have hy : y.val / 80 < 8 := by omega
  have e := eye ⟨x.val / 80, hx⟩ ⟨y.val / 80, hy⟩
  simp only at e
  rw [e]
  by_cases h : x.val / 80 = y.val / 80
  · rw [if_pos h, if_pos h]
    refine (congrArg₂ (· * ·) rfl (show (FloatOps.uitofp (F := Ideal) FTy.f32 1#1 : EReal) = 1 by simp [FloatOps.uitofp])).trans ((mul_one _).trans ?_)
    congr 1
    exact congrArg (fun z => ix4 0 z _ _) (Fin.ext (by simp only; omega))
  · rw [if_neg h, if_neg h]
    exact (congrArg₂ (· * ·) rfl (show (FloatOps.uitofp (F := Ideal) FTy.f32 0#1 : EReal) = 0 by simp [FloatOps.uitofp])).trans (mul_zero _)

/-- Two groups side by side. -/
def catV (u v : FVec Ideal S2x640x640 .f32) : FVec Ideal S2x640x1280 .bf16 :=
  truncf FTy.bf16 (concatenate S2x640x1280 2 [⟨S2x640x640, u⟩, ⟨S2x640x640, v⟩] concatenates_S2x640x640_S2x640x640_S2x640x1280_d2) bitsLt_bf16_f32

theorem cat_at (u v : FVec Ideal S2x640x640 .f32) (q : Fin 2) (x : Fin 640) (z : Fin 1280) :
    catV u v (ix3 q x z) = if h : z.val < 640 then u (ix3 q x ⟨z.val, h⟩) else v (ix3 q x ⟨z.val - 640, by omega⟩) := by
  pointwise [catV]

variable (m : (ℓ : Loc nD τ sig) → Buf (Elt Ideal) ℓ) (c : Dev nD) (t : Fin cfg0.N)
theorem idx0 : ∀ t : Fin cfg0.N, win0_0.index t = ![0, 0] ∧ win0_6.index t = ![0, 0, 0] := by decide +kernel

theorem blk0 (r : Fin 128) (d : Fin 1024) : (iblk m c 0 t : Vec Ideal S128x1024 .f32) (ix2 r d)
    = if h : r.val < 112 then (0 : EReal) else (m ((c.tc : Thread nD τ).loc main_arg1) : Vec Ideal S16x1024 .f32) (ix2 ⟨r.val - 112, by omega⟩ d) := by
  blk_simp [iblk, V, idx0 t]; entry_read
  rw [show (((View.whole main_v2).slice (win0_0.rect t)).emb (ix2 r d)) = (ix2 r d : S128x1024.Idx) by blk_ext [idx0 t]]
  refine (meta_at _ _ _ (by decide) r d).trans ?_
  by_cases h : r.val < 112
  · rw [dif_pos h, dif_pos h]; exact Ideal.ofBits_zero_f32
  · rw [dif_neg h, dif_neg h]

theorem blk6 (q : Fin 2) (x : Fin 640) (z : Fin 1280) : (iblk m c 6 t : Vec Ideal S2x640x1280 .bf16) (ix3 q x z)
    = catV (bdV (m ((c.tc : Thread nD τ).loc main_arg6))) (bdV (m ((c.tc : Thread nD τ).loc main_arg8))) (ix3 q x z) := by
  blk_simp [iblk, V, idx0 t]; entry_read
  rw [show (((View.whole main_v34).slice (win0_6.rect t)).emb (ix3 q x z)) = (ix3 q x z : S2x640x1280.Idx) by blk_ext [idx0 t]]
  rfl
end Cert.Proof.Mixer
-- ==== Proof.Blocks.lean ====
module
public import proofs.«01_k».proof.Proof.Run
public import proofs.«01_k».proof.Proof.Par
public import proofs.«01_k».proof.Proof.HostArr
public import Idealize.ShloMosaic.Lib.Pipeline.ValueKit
public import Idealize.ShloMosaic.Lib.Pointwise
public import Idealize.ShloMosaic.Lib.IdealHost

@[expose] public section
set_option maxRecDepth 16384
noncomputable section

/-! The mixer call's value: the blocks a tile reads, as the arguments. -/
namespace Cert.Proof.Mixer
open Cert.KernelIdeal Cert.KernelIdeal.Facts Cert.KernelIdeal.Gen
open Idealize.ShloMosaic Idealize.ShloMosaic.TcCoe Idealize.SL.Sem
open Cert.Proof.Row Cert.Proof

theorem idx : ∀ t : Fin cfg0.N, win0_0.index t = ![0, 0] ∧ win0_1.index t = ![0, (t : ℕ) - 1, 0] ∧ win0_2.index t = ![0, 0] ∧ win0_3.index t = ![0, 0]
    ∧ win0_4.index t = ![0, 0] ∧ win0_5.index t = ![0, 0] ∧ win0_6.index t = ![0, 0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![0, 0]
    ∧ win0_14.index t = ![0, 0] ∧ win0_15.index t = ![0, (t : ℕ) - 1, 0] ∧ (t : ℕ) < 65 := by decide +kernel
theorem coord : ∀ t : Fin cfg0.N, (grid0.coords t 0 : ℕ) = t := by decide +kernel

section Blocks
variable (m : (ℓ : Loc nD τ sig) → Buf (Elt Ideal) ℓ) (c : Dev nD)

/-- The arguments as the call finds them. -/
def P : Par := par (fun b s d => (m ((c.tc : Thread nD τ).loc main_arg0) : Vec Ideal S2x8192x1024 .f32) (ix3 b s d))
  (fun k d => (m ((c.tc : Thread nD τ).loc main_arg1) : Vec Ideal S16x1024 .f32) (ix2 k d))
  (fun d => (m ((c.tc : Thread nD τ).loc main_arg2) : Vec Ideal S1x1024 .f32) (ix2 0 d))
  (fun x y => (m ((c.tc : Thread nD τ).loc main_arg3) : Vec Ideal S1x1024x8704 .f32) (ix3 0 x y))
  (fun k l => (m ((c.tc : Thread nD τ).loc main_arg4) : Vec Ideal S1x4x1280 .f32) (ix3 0 k l))
  (fun l => (m ((c.tc : Thread nD τ).loc main_arg5) : Vec Ideal S1x1280 .f32) (ix2 0 l))
  (fun n x y => (m ((c.tc : Thread nD τ).loc main_arg6) : Vec Ideal S1x16x80x80 .f32) (ix4 0 n x y))
  (fun l => (m ((c.tc : Thread nD τ).loc main_arg7) : Vec Ideal S1x1280 .f32) (ix2 0 l))
  (fun n x y => (m ((c.tc : Thread nD τ).loc main_arg8) : Vec Ideal S1x16x80x80 .f32) (ix4 0 n x y))
  (fun l => (m ((c.tc : Thread nD τ).loc main_arg9) : Vec Ideal S1x1280 .f32) (ix2 0 l))
  (fun l => (m ((c.tc : Thread nD τ).loc main_arg10) : Vec Ideal S1x1280 .f32) (ix2 0 l))
  (fun k d => (m ((c.tc : Thread nD τ).loc main_arg11) : Vec Ideal S2x1024 .f32) (ix2 k d))
  (fun j => (m ((c.tc : Thread nD τ).loc main_arg12) : Vec Ideal S1x128 .f32) (ix2 0 j))
  (fun x y => (m ((c.tc : Thread nD τ).loc main_arg13) : Vec Ideal S1x1280x1024 .f32) (ix3 0 x y))
  (fun x y => (m ((c.tc : Thread nD τ).loc main_arg14) : Vec Ideal S1x1024x1024 .f32) (ix3 0 x y))
  (fun x y => (m ((c.tc : Thread nD τ).loc main_arg15) : Vec Ideal S1x1024x1024 .f32) (ix3 0 x y))

variable (t : Fin cfg0.N)

theorem blk1 (b : Fin 2) (r : Fin 128) (d : Fin 1024) : (iblk m c 1 t : Vec Ideal S2x128x1024 .f32) (ix3 b r d)
    = (m ((c.tc : Thread nD τ).loc main_arg0) : Vec Ideal S2x8192x1024 .f32) (ix3 b ⟨((t : ℕ) - 1) * 128 + r, by have := (idx t).2.2.2.2.2.2.2.2.2.2.2.2.2.2.2.2; omega⟩ d) := by
  blk_simp [iblk, V, idx t]; entry_read; pointwise; blk_ext [idx t]
theorem blk2 (k : Fin 1024) : (iblk m c 2 t : Vec Ideal S1x1024 .f32) (ix2 0 k)
    = (m ((c.tc : Thread nD τ).loc main_arg2) : Vec Ideal S1x1024 .f32) (ix2 0 k) := by
  blk_simp [iblk, V, idx t]; entry_read; pointwise; blk_ext [idx t]
theorem blk3 (k : Fin 1024) (j : Fin 8704) : (iblk m c 3 t : Vec Ideal S1024x8704 .bf16) (ix2 k j)
    = (m ((c.tc : Thread nD τ).loc main_arg3) : Vec Ideal S1x1024x8704 .f32) (ix3 0 k j) := by
  blk_simp [iblk, V, idx t]; entry_read; pointwise; blk_ext [idx t]
theorem blk4 (k : Fin 4) (j : Fin 1280) : (iblk m c 4 t : Vec Ideal S4x1280 .f32) (ix2 k j)
    = (m ((c.tc : Thread nD τ).loc main_arg4) : Vec Ideal S1x4x1280 .f32) (ix3 0 k j) := by
  blk_simp [iblk, V, idx t]; entry_read; pointwise; blk_ext [idx t]
theorem blk5 (k : Fin 1280) : (iblk m c 5 t : Vec Ideal S1x1280 .f32) (ix2 0 k)
    = (m ((c.tc : Thread nD τ).loc main_arg5) : Vec Ideal S1x1280 .f32) (ix2 0 k) := by
  blk_simp [iblk, V, idx t]; entry_read; pointwise; blk_ext [idx t]
theorem blk7 (k : Fin 1280) : (iblk m c 7 t : Vec Ideal S1x1280 .f32) (ix2 0 k)
    = (m ((c.tc : Thread nD τ).loc main_arg7) : Vec Ideal S1x1280 .f32) (ix2 0 k) := by
  blk_simp [iblk, V, idx t]; entry_read; pointwise; blk_ext [idx t]
theorem blk8 (k : Fin 1280) : (iblk m c 8 t : Vec Ideal S1x1280 .f32) (ix2 0 k)
    = (m ((c.tc : Thread nD τ).loc main_arg9) : Vec Ideal S1x1280 .f32) (ix2 0 k) := by
  blk_simp [iblk, V, idx t]; entry_read; pointwise; blk_ext [idx t]
theorem blk9 (k : Fin 1280) : (iblk m c 9 t : Vec Ideal S1x1280 .f32) (ix2 0 k)
    = (m ((c.tc : Thread nD τ).loc main_arg10) : Vec Ideal S1x1280 .f32) (ix2 0 k) := by
  blk_simp [iblk, V, idx t]; entry_read; pointwise; blk_ext [idx t]
theorem blk10 (k : Fin 2) (d : Fin 1024) : (iblk m c 10 t : Vec Ideal S2x1024 .f32) (ix2 k d)
    = (m ((c.tc : Thread nD τ).loc main_arg11) : Vec Ideal S2x1024 .f32) (ix2 k d) := by
  blk_simp [iblk, V, idx t]; entry_read; pointwise; blk_ext [idx t]
theorem blk11 (k : Fin 128) : (iblk m c 11 t : Vec Ideal S1x128 .f32) (ix2 0 k)
    = (m ((c.tc : Thread nD τ).loc main_arg12) : Vec Ideal S1x128 .f32) (ix2 0 k) := by
  blk_simp [iblk, V, idx t]; entry_read; pointwise; blk_ext [idx t]
theorem blk12 (k : Fin 1280) (j : Fin 1024) : (iblk m c 12 t : Vec Ideal S1280x1024 .bf16) (ix2 k j)
    = (m ((c.tc : Thread nD τ).loc main_arg13) : Vec Ideal S1x1280x1024 .f32) (ix3 0 k j) := by
  blk_simp [iblk, V, idx t]; entry_read; pointwise; blk_ext [idx t]
theorem blk13 (k : Fin 1024) (j : Fin 1024) : (iblk m c 13 t : Vec Ideal S1024x1024 .bf16) (ix2 k j)
    = (m ((c.tc : Thread nD τ).loc main_arg14) : Vec Ideal S1x1024x1024 .f32) (ix3 0 k j) := by
  blk_simp [iblk, V, idx t]; entry_read; pointwise; blk_ext [idx t]
theorem blk14 (k : Fin 1024) (j : Fin 1024) : (iblk m c 14 t : Vec Ideal S1024x1024 .bf16) (ix2 k j)
    = (m ((c.tc : Thread nD τ).loc main_arg15) : Vec Ideal S1x1024x1024 .f32) (ix3 0 k j) := by
  blk_simp [iblk, V, idx t]; entry_read; pointwise; blk_ext [idx t]

end Blocks
end Cert.Proof.Mixer
-- ==== Proof.Finite.lean ====
module
public import proofs.«01_k».proof.Defs
public import proofs.«01_k».proof.Proof.Gen.Pre_finite
public import proofs.«01_k».proof.Proof.Blocks
public import Idealize.ShloMosaic.Lib.ReduceAll
public import Idealize.ShloMosaic.Lib.Pointwise

@[expose] public section
set_option maxRecDepth 16384
noncomputable section

/-! The precondition of the mixer's value claim, read back: every element of the four arguments that it names is a real number. -/
namespace Cert.Proof.Finite
open Cert.Pre_finite Cert.Pre_finite.Facts
open Idealize.ShloMosaic Idealize.ShloMosaic.TcCoe Idealize.SL.Sem
open Cert.Proof.Row Cert.Proof

/-- A number whose absolute value is below infinity is real. -/
theorem isR_of_abs (x : EReal) (h : max x (-x) < ⊤) : IsR x := by
  induction x with
  | bot => simp at h
  | top => simp at h
  | coe r => exact ⟨r, rfl⟩

theorem inf_eq : (FloatOps.ofBits (F := Ideal) .f32 0x7F800000#32 : EReal) = ⊤ := by
  simp [Ideal.ofBits, Ideal.ieee]

instance : Subsingleton S_.Idx := ⟨fun i j => funext fun k => k.elim0⟩

/-- One argument's part of the precondition. -/
theorem of_all {s : Shape} {axes : List (Fin s.rank)} (x : FVec Ideal s .f32) (hb : S_.BroadcastsInDim s (![] : Fin 0 → Fin s.rank)) (hr : s.ReducesTo axes S_)
    (hu : 0 < S_.numel) (j : S_.Idx)
    (e : Host.reduce IntOp.andi (cmpf .olt (Host.absf x) (broadcastInDim s ![] hb (constant (F := Ideal) S_ .f32 0x7F800000#32))) (constantI S_ 1 1#1) hr hu j = 1#1)
    (i : s.Idx) : IsR (x i) := by
  have h := Host.reduce_andi_all _ _ hr hu j e i
  refine isR_of_abs _ ?_
  rw [← inf_eq]
  by_contra hn
  have h' : BitVec.ofBool (decide (max (x i) (-x i) < (FloatOps.ofBits (F := Ideal) .f32 0x7F800000#32 : EReal))) = 1#1 := h
  rw [decide_eq_false hn] at h'
  exact absurd h' (by decide)

/-- The precondition: every element of those arguments is real. -/
theorem of_fn (a0 : FVec Ideal S2x8192x1024 .f32) (a1 : FVec Ideal S16x1024 .f32) (a2 : FVec Ideal S1x1024 .f32) (a3 : FVec Ideal S1x1024x8704 .f32) (a4 : FVec Ideal S1x4x1280 .f32) (a5 : FVec Ideal S1x1280 .f32) (a6 : FVec Ideal S1x16x80x80 .f32) (a7 : FVec Ideal S1x1280 .f32) (a8 : FVec Ideal S1x16x80x80 .f32) (a9 : FVec Ideal S1x1280 .f32) (a10 : FVec Ideal S1x1280 .f32) (a11 : FVec Ideal S2x1024 .f32) (a12 : FVec Ideal S1x128 .f32) (a13 : FVec Ideal S1x1280x1024 .f32) (a14 : FVec Ideal S1x1024x1024 .f32) (a15 : FVec Ideal S1x1024x1024 .f32)
    (h : fn (F := Ideal) a0 a1 a2 a3 a4 a5 a6 a7 a8 a9 a10 a11 a12 a13 a14 a15 = fun _ => 1#1) :
    (∀ i, IsR (a2 i)) ∧ (∀ i, IsR (a3 i)) ∧ (∀ i, IsR (a10 i)) ∧ (∀ i, IsR (a11 i)) := by
  have e := congrFun h (fun k => k.elim0)
  unfold fn fn_part1 at e
  obtain ⟨e, h11⟩ := IntOp.andi_eq_one.1 e
  obtain ⟨e, h10⟩ := IntOp.andi_eq_one.1 e
  obtain ⟨e, h3⟩ := IntOp.andi_eq_one.1 e
  obtain ⟨e, h2⟩ := IntOp.andi_eq_one.1 e
  exact ⟨of_all a2 _ _ _ _ h2, of_all a3 _ _ _ _ h3, of_all a10 _ _ _ _ h10, of_all a11 _ _ _ _ h11⟩

open Cert.KernelIdeal in
/-- The mixer's arguments are real where its proof needs it. -/
theorem args (m : (ℓ : Loc nD τ sig) → Buf (Elt Ideal) ℓ) (h : Cert.Pre_KernelIdeal_finite m) (c : Dev nD) : Fin' (Mixer.P m c) := by
  obtain ⟨h2, h3, h10, h11⟩ := of_fn _ _ _ _ _ _ _ _ _ _ _ _ _ _ _ _ (h c)
  exact ⟨fun _ => h2 _, fun _ _ => h3 _, fun _ => h10 _, fun _ _ => h11 _⟩

end Cert.Proof.Finite
-- ==== Proof.Pays.lean ====
module
public import proofs.«01_k».proof.Proof.Row
public import proofs.«01_k».proof.Proof.Gen.KernelIdeal.Skeleton
public import Idealize.ShloMosaic.Lib.Pointwise

@[expose] public section
set_option maxRecDepth 16384
noncomputable section

/-! The pieces of a tile's computation, each read at one row: what a piece holds at a row is the token's own value. -/
namespace Cert.Proof.Pays
open Cert.KernelIdeal Cert.KernelIdeal.Facts Cert.KernelIdeal.Gen
open Idealize.ShloMosaic Idealize.ShloMosaic.TcCoe Idealize.ShloMosaic.Tactic
open Cert.Proof.Row

theorem eq_zero_of : ∀ n : Fin 65, n.val ≠ 0 → Scalar.cmpi .eq (BitVec.ofNat 32 n.val) 0#32 = 0#1 := by decide +kernel
theorem sgt_of : ∀ n : Fin 65, Scalar.cmpi .sgt (BitVec.ofNat 32 n.val) 0#32 = if n.val = 0 then 0#1 else 1#1 := by decide +kernel
theorem rem_of : ∀ R : Fin 256, IntOp.cmpi CmpIPredicate.sge
          (Scalar.select
            (IntOp.andi
              (IntOp.xori
                (IntOp.cmpi CmpIPredicate.slt
                  (IntOp.remsi ArithUnit.vector (BitVec.ofNat 32 R.val)
                    (Scalar.select (Scalar.cmpi CmpIPredicate.eq 128#32 0#32) 1#32 128#32))
                  0#32)
                (Scalar.cmpi CmpIPredicate.slt (Scalar.select (Scalar.cmpi CmpIPredicate.eq 128#32 0#32) 1#32 128#32)
                  0#32))
              (IntOp.cmpi CmpIPredicate.ne
                (IntOp.remsi ArithUnit.vector (BitVec.ofNat 32 R.val)
                  (Scalar.select (Scalar.cmpi CmpIPredicate.eq 128#32 0#32) 1#32 128#32))
                0#32))
            (IntOp.addi
              (IntOp.remsi ArithUnit.vector (BitVec.ofNat 32 R.val)
                (Scalar.select (Scalar.cmpi CmpIPredicate.eq 128#32 0#32) 1#32 128#32))
              (Scalar.select (Scalar.cmpi CmpIPredicate.eq 128#32 0#32) 1#32 128#32))
            (IntOp.remsi ArithUnit.vector (BitVec.ofNat 32 R.val)
              (Scalar.select (Scalar.cmpi CmpIPredicate.eq 128#32 0#32) 1#32 128#32)))
          112#32 = if R.val % 128 < 112 then 0#1 else 1#1 := by decide +kernel

theorem p254_first (i : grid0.Coords) (v3 : Vec Ideal S128x1024 .f32) (v5 : Vec Ideal S1x128x1024 .f32) (v8 : Vec Ideal S1x128x1024 .f32) (i0 : (i 0).val = 0) (b : Fin 2) (r : Fin 128) (R : Fin 256) (hR : R.val = 128 * b.val + r.val) (d : Fin 1024)  :
    k0_pay254 i v3 v5 v8 (ix2 R d) = v3 (ix2 r d) := by
  pointwise [k0_pay254]
  have e : Scalar.cmpi .eq (BitVec.ofNat 32 (i 0).val) 0#32 = 1#1 := by rw [i0]; rfl
  rw [e]
  obtain ⟨b, hb⟩ := b
  split_ifs with h
  · have : b = 0 := by simp at hR; omega
    subst this
    rw [show (⟨R.val, h⟩ : Fin 128) = r from Fin.ext (by simpa using hR)]; rfl
  · have : b = 1 := by simp at hR; omega
    subst this
    rw [show (⟨R.val - 128, by omega⟩ : Fin 128) = r from Fin.ext (by simp at hR ⊢; omega)]; rfl
  · exact absurd rfl (by assumption)

theorem p254_next (i : grid0.Coords) (v3 : Vec Ideal S128x1024 .f32) (v5 : Vec Ideal S1x128x1024 .f32) (v8 : Vec Ideal S1x128x1024 .f32) (i0 : (i 0).val ≠ 0) (X : Vec Ideal S2x128x1024 .f32) (h5 : ∀ r d, v5 (ix3 0 r d) = X (ix3 0 r d)) (h8 : ∀ r d, v8 (ix3 0 r d) = X (ix3 1 r d)) (b : Fin 2) (r : Fin 128) (R : Fin 256) (hR : R.val = 128 * b.val + r.val) (d : Fin 1024)  :
    k0_pay254 i v3 v5 v8 (ix2 R d) = X (ix3 b r d) := by
  pointwise [k0_pay254]
  have e : Scalar.cmpi .eq (BitVec.ofNat 32 (i 0).val) 0#32 = 0#1 := by
    have := (i 0).isLt
    exact eq_zero_of ⟨(i 0).val, this⟩ i0
  rw [e]
  obtain ⟨b, hb⟩ := b
  split_ifs with h
  · have : b = 0 := by simp at hR; omega
    subst this
    rw [show (⟨R.val, h⟩ : Fin 128) = r from Fin.ext (by simpa using hR)]; exact h5 r d
  · have : b = 1 := by simp at hR; omega
    subst this
    rw [show (⟨R.val - 128, by omega⟩ : Fin 128) = r from Fin.ext (by simp at hR ⊢; omega)]; exact h8 r d
  · exact absurd rfl (by assumption)

theorem p255 (i : grid0.Coords) (v3 : Vec Ideal S128x1024 .f32) (v5 : Vec Ideal S1x128x1024 .f32) (v8 : Vec Ideal S1x128x1024 .f32) (v12 : Vec Ideal S1x1024 .f32) (p : Par) (b : Fin 2) (t : ℕ) (R : Fin 256) (hx : ∀ d, k0_pay254 i v3 v5 v8 (ix2 R d) = p.tok b t d) (hg : ∀ d, v12 (ix2 0 d) = p.g1 d) (d : Fin 1024) :
    k0_pay255 i v3 v5 v8 v12 (ix2 R d) = hn p b t d := by
  pointwise [k0_pay255]
  simp only [hx, hg]
  rfl

theorem p256 (i : grid0.Coords) (v3 : Vec Ideal S128x1024 .f32) (v5 : Vec Ideal S1x128x1024 .f32) (v8 : Vec Ideal S1x128x1024 .f32) (v12 : Vec Ideal S1x1024 .f32) (v27 : Vec Ideal S1024x1280 .bf16) (p : Par) (b : Fin 2) (t : ℕ) (R : Fin 256) (hx : ∀ d, k0_pay255 i v3 v5 v8 v12 (ix2 R d) = hn p b t d) (hw : ∀ x (c : Fin 1280), v27 (ix2 x c) = p.w x ⟨c, by omega⟩) (l : Fin 1280) :
    k0_pay256 i v3 v5 v8 v12 v27 (ix2 R l) = ax p b t l := by
  pointwise [k0_pay256]
  simp only [hx, hw]
  rfl

theorem p258 (i : grid0.Coords) (v3 : Vec Ideal S128x1024 .f32) (v5 : Vec Ideal S1x128x1024 .f32) (v8 : Vec Ideal S1x128x1024 .f32) (v12 : Vec Ideal S1x1024 .f32) (v27 : Vec Ideal S1024x1280 .bf16) (R : Fin 256) (r : Fin 128) (hR : R.val = r.val) (l : Fin 1280)  :
    k0_pay258 i v3 v5 v8 v12 v27 (ix2 r l) = k0_pay256 i v3 v5 v8 v12 v27 (ix2 R l) := by
  pointwise [k0_pay258]
  rw [show (⟨r.val, by omega⟩ : Fin 256) = R from Fin.ext hR.symm]

theorem p262 (v29 : FVec Ideal S256x1280 .f32) (R : Fin 256) (r : Fin 128) (hR : R.val = 128 + r.val) (l : Fin 1280)  :
    k0_pay262 v29 (ix2 r l) = v29 (ix2 R l) := by
  pointwise [k0_pay262]
  rw [show (⟨128 + r.val, by omega⟩ : Fin 256) = R from Fin.ext hR.symm]

theorem p259 (v32 : FVec Ideal S128x1280 .f32) (r : Fin 128) (l : Fin 1280)  :
    k0_pay259 v32 (ix3 0 r l) = v32 (ix2 r l) := by
  pointwise [k0_pay259]

theorem p263 (v68 : FVec Ideal S128x1280 .f32) (r : Fin 128) (l : Fin 1280)  :
    k0_pay263 v68 (ix3 0 r l) = v68 (ix2 r l) := by
  pointwise [k0_pay263]

theorem p261 (v63 : Vec Ideal S1x8x1280 .f32) (r : Fin 8) (l : Fin 1280)  :
    k0_pay261 v63 (ix3 0 r l) = v63 (ix3 0 r l) := by
  pointwise [k0_pay261]

theorem p264 (v99 : Vec Ideal S1x8x1280 .f32) (r : Fin 8) (l : Fin 1280)  :
    k0_pay264 v99 (ix3 0 r l) = v99 (ix3 0 r l) := by
  pointwise [k0_pay264]

theorem p257 (v30 : Vec Ideal S4x1280 .f32) (r : Fin 4) (l : Fin 1280)  :
    k0_pay257 v30 (ix2 r l) = v30 (ix2 r l) := by
  pointwise [k0_pay257]

theorem p260 (v31 : FVec Ideal S4x1280 .f32) (v36 : Vec Ideal S1x1280 .f32) (v39 : Vec Ideal S1x128x1280 .f32) (v46 : Vec Ideal S1x128x1280 .f32) (v52 : Vec Ideal S1x128x1280 .f32) (v58 : Vec Ideal S1x128x1280 .f32) (p : Par) (b : Fin 2) (t : ℕ) (r : Fin 128) (l : Fin 1280) (h31 : ∀ k l, v31 (ix2 k l) = p.cw k l) (h36 : ∀ l, v36 (ix2 0 l) = p.cb l) (h39 : v39 (ix3 0 r l) = ax p b t l) (h46 : v46 (ix3 0 r l) = ax p b (t - 3) l) (h52 : v52 (ix3 0 r l) = ax p b (t - 2) l) (h58 : v58 (ix3 0 r l) = ax p b (t - 1) l) :
    k0_pay260 v31 v36 v39 v46 v52 v58 (ix2 r l) = cx p b t l := by
  pointwise [k0_pay260]
  simp only [h31, h36, h39, h46, h52, h58]
  rfl

theorem p265 (v31 : FVec Ideal S4x1280 .f32) (v62 : FVec Ideal S128x1280 .f32) (v72 : Vec Ideal S1x1280 .f32) (v75 : Vec Ideal S1x128x1280 .f32) (v82 : Vec Ideal S1x128x1280 .f32) (v88 : Vec Ideal S1x128x1280 .f32) (v94 : Vec Ideal S1x128x1280 .f32) (p : Par) (n : ℕ) (b : Fin 2) (r : Fin 128) (R : Fin 256) (hR : R.val = 128 * b.val + r.val) (l : Fin 1280) (h62 : ∀ r l, v62 (ix2 r l) = cx p 0 (128 * n + r.val) l) (h31 : ∀ k l, v31 (ix2 k l) = p.cw k l) (h36 : ∀ l, v72 (ix2 0 l) = p.cb l) (h39 : ∀ r l, v75 (ix3 0 r l) = ax p 1 (128 * n + r.val) l) (h46 : ∀ r l, v82 (ix3 0 r l) = ax p 1 (128 * n + r.val - 3) l) (h52 : ∀ r l, v88 (ix3 0 r l) = ax p 1 (128 * n + r.val - 2) l) (h58 : ∀ r l, v94 (ix3 0 r l) = ax p 1 (128 * n + r.val - 1) l) :
    k0_pay265 v31 v62 v72 v75 v82 v88 v94 (ix2 R l) = cx p b (128 * n + r.val) l := by
  pointwise [k0_pay265]
  simp only [h62, h31, h36, h39, h46, h52, h58]
  obtain ⟨b, hb⟩ := b
  split_ifs with h
  · have : b = 0 := by simp at hR; omega
    subst this
    simp at hR
    simp only [hR]; rfl
  · have : b = 1 := by simp at hR; omega
    subst this
    simp at hR
    simp only [hR, Nat.add_sub_cancel_left]; rfl

theorem p266 (v31 : FVec Ideal S4x1280 .f32) (v62 : FVec Ideal S128x1280 .f32) (v72 : Vec Ideal S1x1280 .f32) (v75 : Vec Ideal S1x128x1280 .f32) (v82 : Vec Ideal S1x128x1280 .f32) (v88 : Vec Ideal S1x128x1280 .f32) (v94 : Vec Ideal S1x128x1280 .f32) (j : S256x1280.Idx)  :
    k0_pay266 v31 v62 v72 v75 v82 v88 v94 (j) = k0_pay265 v31 v62 v72 v75 v82 v88 v94 j := by
  rfl

theorem p267 (v31 : FVec Ideal S4x1280 .f32) (v62 : FVec Ideal S128x1280 .f32) (v72 : Vec Ideal S1x1280 .f32) (v75 : Vec Ideal S1x128x1280 .f32) (v82 : Vec Ideal S1x128x1280 .f32) (v88 : Vec Ideal S1x128x1280 .f32) (v94 : Vec Ideal S1x128x1280 .f32) (R : Fin 256) (l : Fin 640)  :
    k0_pay267 v31 v62 v72 v75 v82 v88 v94 (ix2 R l) = k0_pay265 v31 v62 v72 v75 v82 v88 v94 (ix2 R ⟨l.val, by omega⟩) := by
  pointwise [k0_pay267]
  rfl

/-- A sum over 640 entries of which only one block of 80 counts. -/
theorem sum_block (f g : Fin 640 → EReal) (k : Fin 8) (h : ∀ x : Fin 640, x.val / 80 ≠ k.val → g x = 0) :
    ∑ x, f x * g x = ∑ x : Fin 80, f ⟨80 * k + x, by omega⟩ * g ⟨80 * k + x, by omega⟩ := by
  classical
  let e : Fin 80 ↪ Fin 640 := ⟨fun x => ⟨80 * k + x, by omega⟩, fun x y hxy => Fin.ext (by simpa using congrArg Fin.val hxy)⟩
  have : ∑ x ∈ Finset.univ.map e, f x * g x = ∑ x, f x * g x := by
    refine Finset.sum_subset (Finset.subset_univ _) fun x _ hx => ?_
    rw [h x, mul_zero]
    intro hk
    exact hx (Finset.mem_map.2 ⟨⟨x.val % 80, by omega⟩, Finset.mem_univ _, Fin.ext (by show 80 * k.val + x.val % 80 = x.val; omega)⟩)
  rw [← this, Finset.sum_map]
  rfl

theorem p270 (v105 : FVec Ideal S256x1280 .bf16) (v106 : FVec Ideal S256x640 .bf16) (v107 : Vec Ideal S1x640x1280 .bf16) (v111 : Vec Ideal S1x640 .f32) (v123 : Vec Ideal S1x640x1280 .bf16) (v127 : Vec Ideal S1x640 .f32) (p : Par) (b : Fin 2) (t : ℕ) (R : Fin 256) (l : Fin 1280) (h105 : ∀ l, v105 (ix2 R l) = cx p b t l) (h106 : ∀ l : Fin 640, v106 (ix2 R l) = cx p b t ⟨l.val, by omega⟩)
    (h107 : ∀ (x y : Fin 640), v107 (ix3 0 x ⟨y.val, by omega⟩) = if x.val / 80 = y.val / 80 then p.wa ⟨x.val / 80, by omega⟩ ⟨x.val % 80, by omega⟩ ⟨y.val % 80, by omega⟩ else 0)
    (h123 : ∀ (x y : Fin 640), v123 (ix3 0 x ⟨y.val, by omega⟩) = if x.val / 80 = y.val / 80 then p.wa ⟨8 + x.val / 80, by omega⟩ ⟨x.val % 80, by omega⟩ ⟨y.val % 80, by omega⟩ else 0)
    (hb0 : ∀ y : Fin 640, v111 (ix2 0 y) = p.ba ⟨y.val, by omega⟩) (hb1 : ∀ y : Fin 640, v127 (ix2 0 y) = p.ba ⟨640 + y.val, by omega⟩) :
    k0_pay270 v105 v106 v107 v111 v123 v127 (ix2 R l) = gr p b t l := by
  pointwise [k0_pay270, k0_pay268, k0_pay269]
  simp only [h105, h106]
  unfold gr za
  obtain ⟨l, hl⟩ := l
  split_ifs with h
  · have h : l < 640 := h
    have hb := hb0 ⟨l, h⟩
    dsimp only at hb ⊢
    rw [hb, sum_block _ (fun x => v107 (ix3 0 x ⟨l, by omega⟩)) ⟨l / 80, by omega⟩ (fun x hx => by rw [h107 x ⟨l, h⟩]; exact if_neg hx)]
    refine congrArg Ideal.logistic (congrArg (· + p.ba ⟨l, hl⟩) (Finset.sum_congr rfl fun x _ => ?_))
    rw [h107 _ ⟨l, h⟩, if_pos (show (80 * (l / 80) + x.val) / 80 = l / 80 by omega)]
    refine congrArg₂ (· * ·) rfl ?_
    congr 1 <;> apply Fin.ext <;> dsimp only <;> omega
  · have h : ¬ l < 640 := h
    have hb := hb1 ⟨l - 640, by omega⟩
    have e : 640 + (l - 640) = l := by omega
    simp only [e] at hb
    dsimp only at hb ⊢
    rw [hb, sum_block _ (fun x => v123 (ix3 0 x ⟨(l - 640), by omega⟩)) ⟨(l - 640) / 80, by omega⟩ (fun x hx => by rw [h123 x ⟨l - 640, by omega⟩]; exact if_neg hx)]
    refine congrArg Ideal.logistic (congrArg (· + p.ba ⟨l, hl⟩) (Finset.sum_congr rfl fun x _ => ?_))
    rw [h123 _ ⟨l - 640, by omega⟩, if_pos (show (80 * ((l - 640) / 80) + x.val) / 80 = (l - 640) / 80 by omega)]
    refine congrArg₂ (· * ·) (congrArg _ (Fin.ext ?_)) ?_
    · dsimp only; omega
    · congr 1 <;> apply Fin.ext <;> dsimp only <;> omega
  · exact absurd rfl (by assumption)

theorem p271 (v105 : FVec Ideal S256x1280 .bf16) (v106 : FVec Ideal S256x640 .bf16) (v107 : Vec Ideal S1x640x1280 .bf16) (v117 : Vec Ideal S1x640 .f32) (v123 : Vec Ideal S1x640x1280 .bf16) (v133 : Vec Ideal S1x640 .f32) (p : Par) (b : Fin 2) (t : ℕ) (R : Fin 256) (l : Fin 1280) (h105 : ∀ l, v105 (ix2 R l) = cx p b t l) (h106 : ∀ l : Fin 640, v106 (ix2 R l) = cx p b t ⟨l.val, by omega⟩)
    (h107 : ∀ (x y : Fin 640), v107 (ix3 0 x ⟨640 + y.val, by omega⟩) = if x.val / 80 = y.val / 80 then p.wx ⟨x.val / 80, by omega⟩ ⟨x.val % 80, by omega⟩ ⟨y.val % 80, by omega⟩ else 0)
    (h123 : ∀ (x y : Fin 640), v123 (ix3 0 x ⟨640 + y.val, by omega⟩) = if x.val / 80 = y.val / 80 then p.wx ⟨8 + x.val / 80, by omega⟩ ⟨x.val % 80, by omega⟩ ⟨y.val % 80, by omega⟩ else 0)
    (hb0 : ∀ y : Fin 640, v117 (ix2 0 y) = p.bx ⟨y.val, by omega⟩) (hb1 : ∀ y : Fin 640, v133 (ix2 0 y) = p.bx ⟨640 + y.val, by omega⟩) :
    k0_pay271 v105 v106 v107 v117 v123 v133 (ix2 R l) = gi p b t l := by
  pointwise [k0_pay271, k0_pay268, k0_pay269]
  simp only [h105, h106]
  unfold gi za
  obtain ⟨l, hl⟩ := l
  split_ifs with h
  · have h : l < 640 := h
    have hb := hb0 ⟨l, h⟩
    dsimp only at hb ⊢
    rw [hb, sum_block _ (fun x => v107 (ix3 0 x ⟨640 + l, by omega⟩)) ⟨l / 80, by omega⟩ (fun x hx => by rw [h107 x ⟨l, h⟩]; exact if_neg hx)]
    refine congrArg Ideal.logistic (congrArg (· + p.bx ⟨l, hl⟩) (Finset.sum_congr rfl fun x _ => ?_))
    rw [h107 _ ⟨l, h⟩, if_pos (show (80 * (l / 80) + x.val) / 80 = l / 80 by omega)]
    refine congrArg₂ (· * ·) rfl ?_
    congr 1 <;> apply Fin.ext <;> dsimp only <;> omega
  · have h : ¬ l < 640 := h
    have hb := hb1 ⟨l - 640, by omega⟩
    have e : 640 + (l - 640) = l := by omega
    simp only [e] at hb
    dsimp only at hb ⊢
    rw [hb, sum_block _ (fun x => v123 (ix3 0 x ⟨640 + (l - 640), by omega⟩)) ⟨(l - 640) / 80, by omega⟩ (fun x hx => by rw [h123 x ⟨l - 640, by omega⟩]; exact if_neg hx)]
    refine congrArg Ideal.logistic (congrArg (· + p.bx ⟨l, hl⟩) (Finset.sum_congr rfl fun x _ => ?_))
    rw [h123 _ ⟨l - 640, by omega⟩, if_pos (show (80 * ((l - 640) / 80) + x.val) / 80 = (l - 640) / 80 by omega)]
    refine congrArg₂ (· * ·) (congrArg _ (Fin.ext ?_)) ?_
    · dsimp only; omega
    · congr 1 <;> apply Fin.ext <;> dsimp only <;> omega
  · exact absurd rfl (by assumption)

theorem p273 (v140 : Vec Ideal S1x1280 .f32) (l : Fin 1280)  :
    k0_pay273 v140 (ix2 0 l) = max (0 - v140 (ix2 0 l)) 0 := by
  pointwise [k0_pay273, k0_pay272]

theorem p274 (v140 : Vec Ideal S1x1280 .f32) (l : Fin 1280)  :
    k0_pay274 v140 (ix2 0 l) = max (0 - v140 (ix2 0 l)) (-(0 - v140 (ix2 0 l))) := by
  pointwise [k0_pay274, k0_pay272]
  try rfl

theorem p276 (v138 : FVec Ideal S256x1280 .f32) (v145 : FVec Ideal S1x1280 .f32) (v146 : FVec Ideal S1x1280 .f32) (cst_76 : Ideal .f32) (p : Par) (b : Fin 2) (t : ℕ) (R : Fin 256) (l : Fin 1280) (h138 : v138 (ix2 R l) = gr p b t l) (h145 : ∀ l, v145 (ix2 0 l) = max (0 - p.lam l) 0) (h146 : ∀ l, v146 (ix2 0 l) = max (0 - p.lam l) (-(0 - p.lam l))) (hc : cst_76 = 0) :
    k0_pay276 v138 v145 v146 cst_76 (ix2 R l) = Ideal.exp (la p b t l) := by
  pointwise [k0_pay276, k0_pay275]
  simp only [h138, h145, h146, hc]
  rfl

theorem p277 (arg0 : BitVec 32) (v104 : FVec Ideal S256x1280 .f32) (v138 : FVec Ideal S256x1280 .f32) (v139 : FVec Ideal S256x1280 .f32) (v145 : FVec Ideal S1x1280 .f32) (v146 : FVec Ideal S1x1280 .f32) (cst_76 : Ideal .f32) (p : Par) (n : ℕ) (b : Fin 2) (r : Fin 128) (R : Fin 256) (hR : R.val = 128 * b.val + r.val) (l : Fin 1280) (h138 : v138 (ix2 R l) = gr p b (128 * n + r.val) l) (h145 : ∀ l, v145 (ix2 0 l) = max (0 - p.lam l) 0) (h146 : ∀ l, v146 (ix2 0 l) = max (0 - p.lam l) (-(0 - p.lam l))) (hc : cst_76 = 0)(hn : n < 65) (ha : arg0 = BitVec.ofNat 32 n) (h104 : v104 (ix2 R l) = cx p b (128 * n + r.val) l) (h139 : v139 (ix2 R l) = gi p b (128 * n + r.val) l) :
    k0_pay277 arg0 v104 v138 v139 v145 v146 cst_76 (ix2 R l) = ui p b (128 * n + r.val) l := by
  pointwise [k0_pay277, k0_pay275]
  simp only [h138, h145, h146, hc, h104, h139]
  rw [rem_of, ha, sgt_of ⟨n, hn⟩]
  have e : R.val % 128 = r.val := by omega
  rw [e]
  unfold ui
  by_cases h0 : n = 0
  · rw [if_pos h0]
    by_cases h1 : r.val < 112
    · rw [if_pos h1, if_pos (by omega)]; rfl
    · rw [if_neg h1, if_neg (by omega)]; rfl
  · rw [if_neg h0, if_neg (by omega : ¬ 128 * n + r.val < 112)]
    by_cases h1 : r.val < 112
    · rw [if_pos h1]; rfl
    · rw [if_neg h1]; rfl

theorem p278 (v191 : Vec Ideal S1024x1280 .bf16) (x : Fin 1024) (l : Fin 1280)  :
    k0_pay278 v191 (ix2 x l) = v191 (ix2 x l) := by
  pointwise [k0_pay278]

theorem p279 (v26 : FVec Ideal S256x1024 .bf16) (v192 : FVec Ideal S1024x1280 .bf16) (p : Par) (b : Fin 2) (t : ℕ) (R : Fin 256) (l : Fin 1280) (hv : ∀ d, v26 (ix2 R d) = hn p b t d) (hw : ∀ x (c : Fin 1280), v192 (ix2 x c) = p.w x ⟨1280 + c, by omega⟩) :
    k0_pay279 v26 v192 (ix2 R l) = ga p b t l := by
  pointwise [k0_pay279]
  simp only [hv, hw]
  rfl

theorem p280 (v156 : FVec Ideal S256x1280 .f32) (R : Fin 256) (l : Fin 1280)  :
    k0_pay280 v156 (ix2 R l) = v156 (ix2 R l) := by
  pointwise [k0_pay280]

theorem p281 (v190 : FVec Ideal S256x1280 .f32) (R : Fin 256) (l : Fin 1280)  :
    k0_pay281 v190 (ix2 R l) = v190 (ix2 R l) := by
  pointwise [k0_pay281]

theorem p294 (v237 : FVec Ideal S256x1024 .f32) (R : Fin 256) (l : Fin 1024)  :
    k0_pay294 v237 (ix2 R l) = v237 (ix2 R l) := by
  pointwise [k0_pay294]

theorem p296 (v244 : FVec Ideal S256x1024 .f32) (R : Fin 256) (l : Fin 1024)  :
    k0_pay296 v244 (ix2 R l) = v244 (ix2 R l) := by
  pointwise [k0_pay296]

theorem p311 (v520_r1 : Vec Ideal S256x1024 .f32) (R : Fin 256) (l : Fin 1024)  :
    k0_pay311 v520_r1 (ix2 R l) = v520_r1 (ix2 R l) := by
  pointwise [k0_pay311]

theorem p282 (v420_r0 : Vec Ideal S1x1x1280 .f32) (l : Fin 1280)  :
    k0_pay282 v420_r0 (ix2 0 l) = v420_r0 (ix3 0 0 l) := by
  pointwise [k0_pay282]

theorem p283 (v422_r0 : Vec Ideal S1x1x1280 .f32) (l : Fin 1280)  :
    k0_pay283 v422_r0 (ix2 0 l) = v422_r0 (ix3 0 0 l) := by
  pointwise [k0_pay283]

theorem p287 (v425_0_r0 : FVec Ideal S1x1280 .f32) (l : Fin 1280)  :
    k0_pay287 v425_0_r0 (ix3 0 0 l) = v425_0_r0 (ix2 0 l) := by
  pointwise [k0_pay287]

theorem p288 (v425_1_r0 : FVec Ideal S1x1280 .f32) (l : Fin 1280)  :
    k0_pay288 v425_1_r0 (ix3 0 0 l) = v425_1_r0 (ix2 0 l) := by
  pointwise [k0_pay288]

theorem p289 (v26 : FVec Ideal S256x1024 .bf16) (v206 : FVec Ideal S256x1280 .f32) (v432_r0 : Vec Ideal S256x1280 .f32) (v210 : Vec Ideal S1024x1024 .bf16) (v214 : Vec Ideal S1280x1024 .bf16) (p : Par) (b : Fin 2) (t : ℕ) (R : Fin 256) (d : Fin 1024) (hv : ∀ d, v26 (ix2 R d) = hn p b t d) (h206 : ∀ l, v206 (ix2 R l) = ga p b t l) (h432 : ∀ l, v432_r0 (ix2 R l) = hr p b (t + 1) l) (hw : ∀ x (c : Fin 1024), v210 (ix2 x c) = p.w x ⟨6656 + c, by omega⟩) (hp : ∀ x c, v214 (ix2 x c) = p.pa x c) :
    k0_pay289 v26 v206 v432_r0 v210 v214 (ix2 R d) = mA p b t d := by
  pointwise [k0_pay289]
  simp only [hv, h206, h432, hw, hp]
  rfl

theorem p292 (v26 : FVec Ideal S256x1024 .bf16) (v218 : Vec Ideal S1x1024 .f32) (v219 : Vec Ideal S1x1024 .f32) (v227 : Vec Ideal S1024x1024 .bf16) (p : Par) (b : Fin 2) (t : ℕ) (R : Fin 256) (d : Fin 1024) (hv : ∀ d, v26 (ix2 R d) = hn p b t d) (h218 : ∀ d, v218 (ix2 0 d) = p.lbl 0 d) (h219 : ∀ d, v219 (ix2 0 d) = p.lbl 1 d) (hw : ∀ x (c : Fin 1024), v227 (ix2 x c) = p.w x ⟨3584 + c, by omega⟩) :
    k0_pay292 v26 v218 v219 v227 (ix2 R d) = lf p b t d := by
  pointwise [k0_pay292, k0_pay290, k0_pay291]
  simp only [hv, h218, h219, hw]
  rfl

theorem p293 (v26 : FVec Ideal S256x1024 .bf16) (v218 : Vec Ideal S1x1024 .f32) (v219 : Vec Ideal S1x1024 .f32) (v227 : Vec Ideal S1024x1024 .bf16) (p : Par) (b : Fin 2) (t : ℕ) (R : Fin 256) (d : Fin 1024) (hv : ∀ d, v26 (ix2 R d) = hn p b t d) (h218 : ∀ d, v218 (ix2 0 d) = p.lbl 0 d) (h219 : ∀ d, v219 (ix2 0 d) = p.lbl 1 d) (hw : ∀ x (c : Fin 1024), v227 (ix2 x c) = p.w x ⟨3584 + c, by omega⟩) :
    k0_pay293 v26 v218 v219 v227 (ix2 R d) = ki p b t d := by
  pointwise [k0_pay293, k0_pay290, k0_pay291]
  simp only [hv, h218, h219, hw]
  rfl

theorem p295 (v26 : FVec Ideal S256x1024 .bf16) (v245 : Vec Ideal S1024x1024 .bf16) (p : Par) (b : Fin 2) (t : ℕ) (R : Fin 256) (d : Fin 1024) (hv : ∀ d, v26 (ix2 R d) = hn p b t d) (hw : ∀ x (c : Fin 1024), v245 (ix2 x c) = p.w x ⟨2560 + c, by omega⟩) :
    k0_pay295 v26 v245 (ix2 R d) = qi p b t d := by
  pointwise [k0_pay295]
  simp only [hv, hw]
  rfl

theorem p297 (v26 : FVec Ideal S256x1024 .bf16) (v250 : Vec Ideal S1024x1024 .bf16) (p : Par) (b : Fin 2) (t : ℕ) (R : Fin 256) (d : Fin 1024) (hv : ∀ d, v26 (ix2 R d) = hn p b t d) (hw : ∀ x (c : Fin 1024), v250 (ix2 x c) = p.w x ⟨4608 + c, by omega⟩) :
    k0_pay297 v26 v250 (ix2 R d) = vi p b t d := by
  pointwise [k0_pay297]
  simp only [hv, hw]
  rfl

theorem p312 (v26 : FVec Ideal S256x1024 .bf16) (v255 : Vec Ideal S1024x1024 .bf16) (p : Par) (b : Fin 2) (t : ℕ) (R : Fin 256) (d : Fin 1024) (hv : ∀ d, v26 (ix2 R d) = hn p b t d) (hw : ∀ x (c : Fin 1024), v255 (ix2 x c) = p.w x ⟨5632 + c, by omega⟩) :
    k0_pay312 v26 v255 (ix2 R d) = gs p b t d := by
  pointwise [k0_pay312]
  simp only [hv, hw]
  rfl

theorem p313 (v260 : Vec Ideal S1x128 .f32) (j : Fin 128)  :
    k0_pay313 v260 (ix2 0 j) = v260 (ix2 0 j) := by
  pointwise [k0_pay313]

theorem p314 (v26 : FVec Ideal S256x1024 .bf16) (v254 : Vec Ideal S256x1024 .f32) (v255 : Vec Ideal S1024x1024 .bf16) (v260 : Vec Ideal S1x128 .f32) (p : Par) (b : Fin 2) (t : ℕ) (R : Fin 256) (j : Fin 128) (ho : ∀ hd x, v254 (ix2 R (col hd x)) = ((oh p b t hd x : ℝ) : EReal)) (hg : ∀ d, k0_pay312 v26 v255 (ix2 R d) = gs p b t d) (hh : ∀ j, k0_pay313 v260 (ix2 0 j) = p.hg j) :
    k0_pay314 v26 v254 v255 v260 (ix2 R j) = yb p b t 0 j := by
  pointwise [k0_pay314]
  have e : ∀ x : Fin 128, (⟨x.val, by omega⟩ : Fin 1024) = col 0 x := fun x => Fin.ext (by simp [col])
  simp only [e, ho, hg, hh]
  rfl

theorem p315 (v26 : FVec Ideal S256x1024 .bf16) (v254 : Vec Ideal S256x1024 .f32) (v255 : Vec Ideal S1024x1024 .bf16) (v260 : Vec Ideal S1x128 .f32) (p : Par) (b : Fin 2) (t : ℕ) (R : Fin 256) (j : Fin 128) (ho : ∀ hd x, v254 (ix2 R (col hd x)) = ((oh p b t hd x : ℝ) : EReal)) (hg : ∀ d, k0_pay312 v26 v255 (ix2 R d) = gs p b t d) (hh : ∀ j, k0_pay313 v260 (ix2 0 j) = p.hg j) :
    k0_pay315 v26 v254 v255 v260 (ix2 R j) = yb p b t 1 j := by
  pointwise [k0_pay315]
  have e : ∀ x : Fin 128, (⟨128 + x.val, by omega⟩ : Fin 1024) = col 1 x := fun x => Fin.ext (by simp [col])
  simp only [e, ho, hg, hh]
  rfl

theorem p319 (v254 : Vec Ideal S256x1024 .f32) (v259 : FVec Ideal S256x1024 .f32) (v261 : FVec Ideal S1x128 .f32) (p : Par) (b : Fin 2) (t : ℕ) (R : Fin 256) (j : Fin 128) (ho : ∀ hd x, v254 (ix2 R (col hd x)) = ((oh p b t hd x : ℝ) : EReal)) (hg : ∀ d, v259 (ix2 R d) = gs p b t d) (hh : ∀ j, v261 (ix2 0 j) = p.hg j) :
    k0_pay319 v254 v259 v261 (ix2 R j) = yb p b t 3 j := by
  pointwise [k0_pay319]
  have e : ∀ x : Fin 128, (⟨384 + x.val, by omega⟩ : Fin 1024) = col 3 x := fun x => Fin.ext (by simp [col])
  simp only [e, ho, hg, hh]
  rfl

theorem p320 (v254 : Vec Ideal S256x1024 .f32) (v259 : FVec Ideal S256x1024 .f32) (v261 : FVec Ideal S1x128 .f32) (p : Par) (b : Fin 2) (t : ℕ) (R : Fin 256) (j : Fin 128) (ho : ∀ hd x, v254 (ix2 R (col hd x)) = ((oh p b t hd x : ℝ) : EReal)) (hg : ∀ d, v259 (ix2 R d) = gs p b t d) (hh : ∀ j, v261 (ix2 0 j) = p.hg j) :
    k0_pay320 v254 v259 v261 (ix2 R j) = yb p b t 4 j := by
  pointwise [k0_pay320]
  have e : ∀ x : Fin 128, (⟨512 + x.val, by omega⟩ : Fin 1024) = col 4 x := fun x => Fin.ext (by simp [col])
  simp only [e, ho, hg, hh]
  rfl

theorem p316 (v254 : Vec Ideal S256x1024 .f32) (p : Par) (b : Fin 2) (t : ℕ) (R : Fin 256) (j : Fin 128) (ho : ∀ hd x, v254 (ix2 R (col hd x)) = ((oh p b t hd x : ℝ) : EReal)) :
    k0_pay316 v254 (ix2 R j) = ((oh p b t 2 j : ℝ) : EReal) := by
  pointwise [k0_pay316]
  have e : ∀ x : Fin 128, (⟨256 + x.val, by omega⟩ : Fin 1024) = col 2 x := fun x => Fin.ext (by simp [col])
  simp only [e, ho]

theorem p317 (v254 : Vec Ideal S256x1024 .f32) (p : Par) (b : Fin 2) (t : ℕ) (R : Fin 256) (ho : ∀ hd x, v254 (ix2 R (col hd x)) = ((oh p b t hd x : ℝ) : EReal)) :
    k0_pay317 v254 (ix2 R 0) = Ideal.rsqrt (Ideal.div (∑ x, ((oh p b t 2 x : ℝ) : EReal) * ((oh p b t 2 x : ℝ) : EReal)) (Ideal.ofBits FTy.f32 1124073472#32) + Ideal.ofBits FTy.f32 897988541#32) := by
  pointwise [k0_pay317]
  simp only [p316 v254 p b t R _ ho]

theorem p318 (v259 : FVec Ideal S256x1024 .f32) (v261 : FVec Ideal S1x128 .f32) (v294 : FVec Ideal S256x128 .f32) (v302 : FVec Ideal S256x1 .f32) (p : Par) (b : Fin 2) (t : ℕ) (R : Fin 256) (j : Fin 128) (hg : ∀ d, v259 (ix2 R d) = gs p b t d) (hh : ∀ j, v261 (ix2 0 j) = p.hg j) (h294 : v294 (ix2 R j) = ((oh p b t 2 j : ℝ) : EReal)) (h302 : v302 (ix2 R 0) = Ideal.rsqrt (Ideal.div (∑ x, ((oh p b t 2 x : ℝ) : EReal) * ((oh p b t 2 x : ℝ) : EReal)) (Ideal.ofBits FTy.f32 1124073472#32) + Ideal.ofBits FTy.f32 897988541#32)) :
    k0_pay318 v259 v261 v294 v302 (ix2 R j) = yb p b t 2 j := by
  pointwise [k0_pay318]
  have e : ∀ x : Fin 128, (⟨256 + x.val, by omega⟩ : Fin 1024) = col 2 x := fun x => Fin.ext (by simp [col])
  simp only [e, h294, h302, hg, hh]
  rfl

theorem p321 (v254 : Vec Ideal S256x1024 .f32) (p : Par) (b : Fin 2) (t : ℕ) (R : Fin 256) (j : Fin 128) (ho : ∀ hd x, v254 (ix2 R (col hd x)) = ((oh p b t hd x : ℝ) : EReal)) :
    k0_pay321 v254 (ix2 R j) = ((oh p b t 5 j : ℝ) : EReal) * Ideal.rsqrt (Ideal.div (∑ x, ((oh p b t 5 x : ℝ) : EReal) * ((oh p b t 5 x : ℝ) : EReal)) (Ideal.ofBits FTy.f32 1124073472#32) + Ideal.ofBits FTy.f32 897988541#32) := by
  pointwise [k0_pay321]
  have e : ∀ x : Fin 128, (⟨640 + x.val, by omega⟩ : Fin 1024) = col 5 x := fun x => Fin.ext (by simp [col])
  simp only [e, ho]

theorem p322 (v261 : FVec Ideal S1x128 .f32) (R : Fin 256) (j : Fin 128)  :
    k0_pay322 v261 (ix2 R j) = v261 (ix2 0 j) := by
  pointwise [k0_pay322]

theorem p323 (v26 : FVec Ideal S256x1024 .bf16) (v217 : FVec Ideal S256x1024 .f32) (v254 : Vec Ideal S256x1024 .f32) (v259 : FVec Ideal S256x1024 .f32) (v261 : FVec Ideal S1x128 .f32) (v277 : FVec Ideal S256x128 .bf16) (v293 : FVec Ideal S256x128 .bf16) (v309 : FVec Ideal S256x128 .bf16) (v325 : FVec Ideal S256x128 .bf16) (v341 : FVec Ideal S256x128 .bf16) (v352 : FVec Ideal S256x128 .f32) (v353 : FVec Ideal S256x128 .f32) (v391 : Vec Ideal S1024x1024 .bf16) (v395 : Vec Ideal S1024x1024 .bf16) (p : Par) (b : Fin 2) (t : ℕ) (R : Fin 256) (d : Fin 1024) (hv : ∀ d, v26 (ix2 R d) = hn p b t d) (ho : ∀ hd x, v254 (ix2 R (col hd x)) = ((oh p b t hd x : ℝ) : EReal)) (hg : ∀ d, v259 (ix2 R d) = gs p b t d) (hh : ∀ j, v261 (ix2 0 j) = p.hg j) (h217 : v217 (ix2 R d) = mA p b t d)
    (h0 : ∀ j, v277 (ix2 R j) = yb p b t 0 j) (h1 : ∀ j, v293 (ix2 R j) = yb p b t 1 j) (h2 : ∀ j, v309 (ix2 R j) = yb p b t 2 j) (h3 : ∀ j, v325 (ix2 R j) = yb p b t 3 j) (h4 : ∀ j, v341 (ix2 R j) = yb p b t 4 j)
    (h352 : ∀ j, v352 (ix2 R j) = ((oh p b t 5 j : ℝ) : EReal) * Ideal.rsqrt (Ideal.div (∑ x, ((oh p b t 5 x : ℝ) : EReal) * ((oh p b t 5 x : ℝ) : EReal)) (Ideal.ofBits FTy.f32 1124073472#32) + Ideal.ofBits FTy.f32 897988541#32)) (h353 : ∀ j, v353 (ix2 R j) = p.hg j)
    (hw : ∀ x (c : Fin 1024), v391 (ix2 x c) = p.w x ⟨7680 + c, by omega⟩) (hp : ∀ x c, v395 (ix2 x c) = p.pb x c) :
    k0_pay323 v26 v217 v254 v259 v261 v277 v293 v309 v325 v341 v352 v353 v391 v395 (ix2 R d) = mg p b t d := by
  pointwise [k0_pay323]
  simp only [hv, h217, h0, h1, h2, h3, h4, h352, h353, hw, hp]
  unfold mg
  refine congrArg (fun z => mA p b t d + Ideal.logistic (pr p b t ⟨7680 + d, by omega⟩) * z) (Finset.sum_congr rfl fun x _ => ?_)
  refine congrArg (· * p.pb x d) ?_
  have ybc_col : ∀ (k : Fin 8) (j : Fin 128), x.val = 128 * k.val + j.val → ybc p b t x = yb p b t k j := by
    intro k j h
    unfold ybc
    congr 1 <;> apply Fin.ext <;> dsimp only <;> omega
  have co : ∀ (k : Fin 8) (j : Fin 128) (y : Fin 1024), y.val = 128 * k.val + j.val → y = col k j := fun k j y h => Fin.ext h
  have e6 : ∀ j : Fin 128, (⟨768 + j.val, by omega⟩ : Fin 1024) = col 6 j := fun x => Fin.ext (by simp [col])
  have e7 : ∀ j : Fin 128, (⟨896 + j.val, by omega⟩ : Fin 1024) = col 7 j := fun x => Fin.ext (by simp [col])
  have hx := x.isLt
  by_cases c0 : x.val < 128
  · rw [dif_pos c0]
    exact (ybc_col 0 ⟨x.val, c0⟩ (by simp)).symm
  rw [dif_neg c0]
  by_cases c1 : x.val - 128 < 128
  · rw [dif_pos c1]
    exact (ybc_col 1 ⟨x.val - 128, c1⟩ (by simp; omega)).symm
  rw [dif_neg c1]
  by_cases c2 : x.val - 128 - 128 < 128
  · rw [dif_pos c2]
    exact (ybc_col 2 ⟨x.val - 128 - 128, c2⟩ (by simp; omega)).symm
  rw [dif_neg c2]
  by_cases c3 : x.val - 128 - 128 - 128 < 128
  · rw [dif_pos c3]
    exact (ybc_col 3 ⟨x.val - 128 - 128 - 128, c3⟩ (by simp; omega)).symm
  rw [dif_neg c3]
  by_cases c4 : x.val - 128 - 128 - 128 - 128 < 128
  · rw [dif_pos c4]
    exact (ybc_col 4 ⟨x.val - 128 - 128 - 128 - 128, c4⟩ (by simp; omega)).symm
  rw [dif_neg c4]
  by_cases c5 : x.val - 128 - 128 - 128 - 128 - 128 < 128
  · rw [dif_pos c5]
    rw [ybc_col 5 ⟨x.val - 128 - 128 - 128 - 128 - 128, c5⟩ (by simp; omega), hg, co 5 ⟨x.val - 128 - 128 - 128 - 128 - 128, c5⟩ ⟨640 + (x.val - 128 - 128 - 128 - 128 - 128), by omega⟩ (by simp)]
    rfl
  rw [dif_neg c5]
  by_cases c6 : x.val - 128 - 128 - 128 - 128 - 128 - 128 < 128
  · rw [dif_pos c6]
    rw [ybc_col 6 ⟨x.val - 128 - 128 - 128 - 128 - 128 - 128, c6⟩ (by simp; omega), co 6 ⟨x.val - 128 - 128 - 128 - 128 - 128 - 128, c6⟩ ⟨768 + (x.val - 128 - 128 - 128 - 128 - 128 - 128), by omega⟩ (by simp)]
    simp only [e6, ho, hg, hh]
    rfl
  rw [dif_neg c6]
  rw [ybc_col 7 ⟨x.val - 128 - 128 - 128 - 128 - 128 - 128 - 128, by omega⟩ (by simp; omega), co 7 ⟨x.val - 128 - 128 - 128 - 128 - 128 - 128 - 128, by omega⟩ ⟨896 + (x.val - 128 - 128 - 128 - 128 - 128 - 128 - 128), by omega⟩ (by simp)]
  simp only [e7, ho, hg, hh]
  rfl

theorem p2 (v11 : FVec Ideal S256x1024 .f32) (v400 : FVec Ideal S256x1024 .bf16) (v401 : Vec Ideal S1024x1024 .bf16) (p : Par) (b : Fin 2) (t : ℕ) (r : Fin 128) (R : Fin 256) (hR : R.val = r.val) (d : Fin 1024) (hx : ∀ d, v11 (ix2 R d) = p.tok b t d) (hm : ∀ d, v400 (ix2 R d) = mg p b t d) (hw : ∀ x c, v401 (ix2 x c) = p.wo x c) :
    k0_pay2 v11 v400 v401 (ix3 0 r d) = out p b t d := by
  pointwise [k0_pay2, k0_pay1]
  rw [show (⟨r.val, by omega⟩ : Fin 256) = R from Fin.ext hR.symm]
  simp only [hx, hm, hw]
  rfl

theorem p3 (v11 : FVec Ideal S256x1024 .f32) (v400 : FVec Ideal S256x1024 .bf16) (v401 : Vec Ideal S1024x1024 .bf16) (p : Par) (b : Fin 2) (t : ℕ) (r : Fin 128) (R : Fin 256) (hR : R.val = 128 + r.val) (d : Fin 1024) (hx : ∀ d, v11 (ix2 R d) = p.tok b t d) (hm : ∀ d, v400 (ix2 R d) = mg p b t d) (hw : ∀ x c, v401 (ix2 x c) = p.wo x c) :
    k0_pay3 v11 v400 v401 (ix3 0 r d) = out p b t d := by
  pointwise [k0_pay3, k0_pay1]
  rw [show (⟨128 + r.val, by omega⟩ : Fin 256) = R from Fin.ext hR.symm]
  simp only [hx, hm, hw]
  rfl

end Cert.Proof.Pays
-- ==== Proof.Scan.lean ====
module
public import proofs.«01_k».proof.Proof.Gen.KernelIdeal.Loops
public import Idealize.ShloMosaic.Lib.Pointwise
public import Idealize.ShloMosaic.Lib.VecWindow
public import Idealize.ShloMosaic.Lib.WritesUnit

@[expose] public section
set_option maxRecDepth 16384
noncomputable section

/-! One trip of the first loop of the mixer: eight rows of the diagonal recurrence for each of the two sequences. -/
namespace Cert.Proof.Scan
open Cert.KernelIdeal Cert.KernelIdeal.Facts Cert.KernelIdeal.Gen
open Idealize.ShloMosaic Idealize.ShloMosaic.TcCoe Idealize.ShloMosaic.Tactic

variable {F : FTy → Type} [FloatOps F]

/-- The factor's part of one doubling step. -/
def stepA (w : IVec S8x1280 32) (s : BitVec 32) (a : FVec F S8x1280 .f32) : FVec F S8x1280 .f32 :=
  mulf a (select (cmpi .sge w (broadcast S8x1280 s)) (dynamicRotate 0 s none a rotates_S8x1280_d0) (broadcast S8x1280 (Scalar.ofBits .f32 0x3F800000#32)))

/-- The value's part of one doubling step. -/
def stepH (w : IVec S8x1280 32) (s : BitVec 32) (a h : FVec F S8x1280 .f32) : FVec F S8x1280 .f32 :=
  addf h (mulf a (select (cmpi .sge w (broadcast S8x1280 s)) (dynamicRotate 0 s none h rotates_S8x1280_d0) (broadcast S8x1280 (Scalar.ofBits .f32 0x00000000#32))))

/-- Eight rows of the recurrence from the carried row `c`. -/
def scan (w : IVec S8x1280 32) (a h : FVec F S8x1280 .f32) (c : FVec F S1x1280 .f32) : FVec F S8x1280 .f32 :=
  addf (stepH w 4#32 (stepA w 2#32 (stepA w 1#32 a)) (stepH w 2#32 (stepA w 1#32 a) (stepH w 1#32 a h)))
    (mulf (stepA w 4#32 (stepA w 2#32 (stepA w 1#32 a))) (broadcastTo S8x1280 c broadcasts_S1x1280_S8x1280))

def same (x : FVec F S8x1280 .f32) : FVec F S8x1280 .f32 := shapeCast S8x1280 x shapeCasts_S8x1280_S8x1280
def last (x : FVec F S8x1280 .f32) : FVec F S1x1280 .f32 := extractStridedSlice S1x1280 ![7, 0] x slices_S8x1280_o7_0_S1x1280

section Trip
variable (𝒱 : Variants) (c : Dev nD) (bd : Option 𝒱.V) (i : grid0.Coords)
  (arg1 : Memref sig .tc .vmem S128x1024 .f32) (harg1 : arg1.IsWhole)
  (arg2 : Memref sig .tc .vmem S2x128x1024 .f32) (harg2 : arg2.IsWhole)
  (arg3 : Memref sig .tc .vmem S1x1024 .f32) (harg3 : arg3.IsWhole)
  (arg4 : Memref sig .tc .vmem S1024x8704 .bf16) (harg4 : arg4.IsWhole)
  (arg5 : Memref sig .tc .vmem S4x1280 .f32) (harg5 : arg5.IsWhole)
  (arg6 : Memref sig .tc .vmem S1x1280 .f32) (harg6 : arg6.IsWhole)
  (arg7 : Memref sig .tc .vmem S2x640x1280 .bf16) (harg7 : arg7.IsWhole)
  (arg8 : Memref sig .tc .vmem S1x1280 .f32) (harg8 : arg8.IsWhole)
  (arg9 : Memref sig .tc .vmem S1x1280 .f32) (harg9 : arg9.IsWhole)
  (arg10 : Memref sig .tc .vmem S1x1280 .f32) (harg10 : arg10.IsWhole)
  (arg11 : Memref sig .tc .vmem S2x1024 .f32) (harg11 : arg11.IsWhole)
  (arg12 : Memref sig .tc .vmem S1x128 .f32) (harg12 : arg12.IsWhole)
  (arg13 : Memref sig .tc .vmem S1280x1024 .bf16) (harg13 : arg13.IsWhole)
  (arg14 : Memref sig .tc .vmem S1024x1024 .bf16) (harg14 : arg14.IsWhole)
  (arg15 : Memref sig .tc .vmem S1024x1024 .bf16) (harg15 : arg15.IsWhole)
  (arg16 : Memref sig .tc .vmem S2x128x1024 .f32) (harg16 : arg16.IsWhole)
  (arg17 : Memref sig .tc .vmem S2x136x1280 .f32) (harg17 : arg17.IsWhole)
  (arg18 : Memref sig .tc .vmem S2x1x1280 .f32) (harg18 : arg18.IsWhole)
  (arg19 : Memref sig .tc .vmem S2x8x128x128 .f32) (harg19 : arg19.IsWhole)
  (alloca_r0 : Memref sig .tc .vmem S256x1280 .f32) (halloca_r0 : alloca_r0.IsWhole)
  (alloca_152_r0 : Memref sig .tc .vmem S256x1280 .f32) (halloca_152_r0 : alloca_152_r0.IsWhole)
  (alloca_r1 : Memref sig .tc .vmem S256x1024 .f32) (halloca_r1 : alloca_r1.IsWhole)
  (alloca_152_r1 : Memref sig .tc .vmem S256x1024 .f32) (halloca_152_r1 : alloca_152_r1.IsWhole)
  (alloca_153_r1 : Memref sig .tc .vmem S256x1024 .f32) (halloca_153_r1 : alloca_153_r1.IsWhole)
  (alloca_154_r1 : Memref sig .tc .vmem S256x1024 .bf16) (halloca_154_r1 : alloca_154_r1.IsWhole)

/-- Eight rows of a buffer. -/
abbrev rd {e : EltTy} (M : Memref sig .tc .vmem S256x1280 e) (k : Fin k0_t1_loop.trips) (r : BitVec 32) (X : BufTy.Contents (Elt F) M.view.ty)
    (h : ∀ a, k0_off1 k r a + S8x1280.size a ≤ S256x1280.size a) : Vec F S8x1280 e :=
  View.readAt (Elt F) M.view (Rect.unit (s := S256x1280) (k0_off1 k r) S8x1280.size h).toLoadRect X

variable (v26 : FVec F S256x1024 .bf16) (v156 v190 : FVec F S256x1280 .f32) (v192 : FVec F S1024x1280 .bf16)  (w : IVec S8x1280 32) (XA : BufTy.Contents (Elt F) alloca_r0.view.ty)
  (k : Fin k0_t1_loop.trips) (acc : FVec F S1x1280 .f32 × FVec F S1x1280 .f32) (fU : BufTy.Contents (Elt F) alloca_152_r0.view.ty)

set_option maxHeartbeats 4000000 in
/-- What a trip writes over the inputs: each sequence's eight rows of the recurrence. -/
theorem trip_u : ∃ (h0 : ∀ a, k0_off1 k 0#32 a + S8x1280.size a ≤ S256x1280.size a) (h1 : ∀ a, k0_off1 k 128#32 a + S8x1280.size a ≤ S256x1280.size a),
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v26 v156 v190 v192 w XA k).2.1 acc fU
      = [⟨Rect.unit (k0_off1 k 128#32) S8x1280.size h1, same (scan w (rd alloca_r0 k 128#32 XA h1) (rd alloca_152_r0 k 128#32 fU h1) acc.2)⟩,
         ⟨Rect.unit (k0_off1 k 0#32) S8x1280.size h0, same (scan w (rd alloca_r0 k 0#32 XA h0) (rd alloca_152_r0 k 0#32 fU h0) acc.1)⟩] ∧
    (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v26 v156 v190 v192 w XA k).1 acc fU
      = (last (scan w (rd alloca_r0 k 0#32 XA h0) (rd alloca_152_r0 k 0#32 fU h0) acc.1), last (scan w (rd alloca_r0 k 128#32 XA h1) (rd alloca_152_r0 k 128#32 fU h1) acc.2)) := by
  unfold trip_k0_t1
  exact ⟨_, _, rfl, rfl⟩
end Trip
end Cert.Proof.Scan
-- ==== Proof.ScanAt.lean ====
module
public import proofs.«01_k».proof.Proof.Scan
public import proofs.«01_k».proof.Proof.Rec

@[expose] public section
set_option maxRecDepth 16384
noncomputable section

/-! The eight rows of a trip of the first loop are eight steps of the recurrence. -/
namespace Cert.Proof.Scan
open Cert.KernelIdeal Cert.KernelIdeal.Facts Cert.KernelIdeal.Gen Cert.Proof.Rec
open Idealize.ShloMosaic Idealize.ShloMosaic.TcCoe Idealize.ShloMosaic.Tactic

/-- The row numbers. -/
def rows : IVec S8x1280 32 := iota .tc S8x1280 32 [0] iota_S8x1280_d0_w32

theorem sel_ge (r : Fin 8) (s : ℕ) (hs : s < 8) (x y : EReal) :
    Scalar.select (α := EReal) (IntOp.cmpi CmpIPredicate.sge (BitVec.ofNat 32 r.val) (BitVec.ofNat 32 s)) x y = if s ≤ r.val then x else y := by
  interval_cases s <;> fin_cases r <;> rfl

def dA (s : ℕ) (f : ℕ → EReal) (r : ℕ) : EReal := f r * if s ≤ r then f (r - s) else 1
def dH (s : ℕ) (f g : ℕ → EReal) (r : ℕ) : EReal := g r + f r * if s ≤ r then g (r - s) else 0

theorem stepA_at (s : ℕ) (hs : s < 8) (a : FVec Ideal S8x1280 .f32) (f : ℕ → EReal) (l : Fin 1280) (ha : ∀ r : Fin 8, a (ix2 r l) = f r.val) (r : Fin 8) :
    stepA rows (BitVec.ofNat 32 s) a (ix2 r l) = dA s f r.val := by
  pointwise [stepA, rows]
  rw [ha, sel_ge _ _ hs, ha]
  interval_cases s <;> fin_cases r <;> simp [dA, dH]

theorem stepH_at (s : ℕ) (hs : s < 8) (a h : FVec Ideal S8x1280 .f32) (f g : ℕ → EReal) (l : Fin 1280) (ha : ∀ r : Fin 8, a (ix2 r l) = f r.val)
    (hh : ∀ r : Fin 8, h (ix2 r l) = g r.val) (r : Fin 8) :
    stepH rows (BitVec.ofNat 32 s) a h (ix2 r l) = dH s f g r.val := by
  pointwise [stepH, rows]
  rw [ha, hh, sel_ge _ _ hs, hh]
  interval_cases s <;> fin_cases r <;> simp [dA, dH]

theorem scan_at (a h : FVec Ideal S8x1280 .f32) (c : FVec Ideal S1x1280 .f32) (f : ℕ → ℝ) (hf : ∀ r, 0 ≤ f r) (g : ℕ → EReal) (c0 : EReal) (l : Fin 1280)
    (ha : ∀ r : Fin 8, a (ix2 r l) = ((f r.val : ℝ) : EReal)) (hh : ∀ r : Fin 8, h (ix2 r l) = g r.val) (hc : c (ix2 0 l) = c0) (r : Fin 8) :
    scan rows a h c (ix2 r l) = re f g c0 (r.val + 1) := by
  have A1 := stepA_at 1 (by decide) a (fun r => ((f r : ℝ) : EReal)) l ha
  have H1 := stepH_at 1 (by decide) a h (fun r => ((f r : ℝ) : EReal)) g l ha hh
  have A2 := stepA_at 2 (by decide) _ _ l A1
  have H2 := stepH_at 2 (by decide) _ _ _ _ l A1 H1
  have A4 := stepA_at 4 (by decide) _ _ l A2
  have H4 := stepH_at 4 (by decide) _ _ _ _ l A2 H2
  have e : scan rows a h c (ix2 r l) = stepH rows (BitVec.ofNat 32 4) (stepA rows (BitVec.ofNat 32 2) (stepA rows (BitVec.ofNat 32 1) a)) (stepH rows (BitVec.ofNat 32 2) (stepA rows (BitVec.ofNat 32 1) a) (stepH rows (BitVec.ofNat 32 1) a h)) (ix2 r l)
      + stepA rows (BitVec.ofNat 32 4) (stepA rows (BitVec.ofNat 32 2) (stepA rows (BitVec.ofNat 32 1) a)) (ix2 r l) * c (ix2 0 l) := by
    pointwise [scan]
  rw [e, H4, A4, hc]
  have D : ∀ r x y, ((f r : ℝ) : EReal) * (x + y) = f r * x + f r * y := fun r => coe_mul_add (hf r)
  fin_cases r <;> simp only [dA, dH, re] <;> simp [D, mul_assoc] <;> simp only [mul_assoc, mul_left_comm, mul_comm] <;> abel

theorem last_at (x : FVec Ideal S8x1280 .f32) (l : Fin 1280) : last x (ix2 0 l) = x (ix2 7 l) := by
  pointwise [last]
theorem same_eq (x : FVec Ideal S8x1280 .f32) : same x = x := by
  funext j
  idx_vars j
  pointwise [same]
end Cert.Proof.Scan
-- ==== Proof.LoopA.lean ====
module
public import proofs.«01_k».proof.Proof.ScanAt

@[expose] public section
set_option maxRecDepth 16384
noncomputable section

/-! The first loop of the mixer: after `n` trips the first `8 n` rows of each sequence hold the recurrence. -/
namespace Cert.Proof.Scan
open Cert.KernelIdeal Cert.KernelIdeal.Facts Cert.KernelIdeal.Gen Cert.Proof.Rec
open Idealize.ShloMosaic Idealize.ShloMosaic.TcCoe Idealize.ShloMosaic.Tactic

theorem off_0 : ∀ k : Fin k0_t1_loop.trips, k0_off1 k 0#32 = ![8 * k.val, 0] ∧ k.val < 16 := by decide +kernel
theorem off_1 : ∀ k : Fin k0_t1_loop.trips, k0_off1 k 128#32 = ![128 + 8 * k.val, 0] := by decide +kernel

theorem rd_at {e : EltTy} (M : Memref sig .tc .vmem S256x1280 e) (k : Fin k0_t1_loop.trips) (r : BitVec 32) (X : BufTy.Contents (Elt Ideal) M.view.ty)
    (h : ∀ a, k0_off1 k r a + S8x1280.size a ≤ S256x1280.size a) (o : ℕ) (ho : k0_off1 k r = ![o, 0]) (j : Fin 8) (l : Fin 1280) (R : Fin 256) (hR : R.val = o + j.val) :
    rd M k r X h (ix2 j l) = M.view.read (Elt Ideal) X (ix2 R l) := by
  refine (View.readAt_apply ..).trans (congrArg _ (funext fun a => Fin.ext ?_))
  show k0_off1 k r a + 1 * (ix2 j l a).val = _
  rw [ho]
  refine Fin.cases ?_ (fun a => ?_) a
  · show o + 1 * j.val = R.val; omega
  · have : a = 0 := Subsingleton.elim _ _
    subst this
    show 0 + 1 * l.val = l.val; omega

/-- What the loop holds after `n` trips. -/
structure Inv (f : Fin 2 → Fin 1280 → ℕ → ℝ) (g : Fin 2 → Fin 1280 → ℕ → EReal) (c0 : Fin 2 → Fin 1280 → EReal) (n : ℕ) (a : FVec Ideal S1x1280 .f32 × FVec Ideal S1x1280 .f32) (B : Vec Ideal S256x1280 .f32) : Prop where
  h0 : ∀ l, a.1 (ix2 0 l) = re (f 0 l) (g 0 l) (c0 0 l) (8 * n)
  h1 : ∀ l, a.2 (ix2 0 l) = re (f 1 l) (g 1 l) (c0 1 l) (8 * n)
  hB : ∀ (R : Fin 256) (b : Fin 2) (r : ℕ) l, r < 128 → R.val = 128 * b.val + r → B (ix2 R l) = if r < 8 * n then re (f b l) (g b l) (c0 b l) (r + 1) else g b l r

theorem re_step (f : ℕ → ℝ) (g : ℕ → EReal) (c : EReal) (n m : ℕ) : re (fun s => f (n + s)) (fun s => g (n + s)) (re f g c n) m = re f g c (n + m) := (re_add f g c n m).symm

theorem inv_step (f : Fin 2 → Fin 1280 → ℕ → ℝ) (hf : ∀ b l r, 0 ≤ f b l r) (g : Fin 2 → Fin 1280 → ℕ → EReal) (c0 : Fin 2 → Fin 1280 → EReal) (k : Fin k0_t1_loop.trips) (A U : Memref sig .tc .vmem S256x1280 .f32)
    (XA : BufTy.Contents (Elt Ideal) A.view.ty) (G : BufTy.Contents (Elt Ideal) U.view.ty) (L : List (View.Piece (Elt Ideal) S256x1280 .f32))
    (acc : FVec Ideal S1x1280 .f32 × FVec Ideal S1x1280 .f32)
    (hA : ∀ (R : Fin 256) (b : Fin 2) (r : ℕ) l, r < 128 → R.val = 128 * b.val + r → A.view.read (Elt Ideal) XA (ix2 R l) = ((f b l r : ℝ) : EReal))
    (I : Inv f g c0 k.val acc (U.view.read (Elt Ideal) (U.view.writes (Elt Ideal) G L))) h0 h1 :
    Inv f g c0 (k.val + 1) (last (scan rows (rd A k 0#32 XA h0) (rd U k 0#32 (U.view.writes (Elt Ideal) G L) h0) acc.1), last (scan rows (rd A k 128#32 XA h1) (rd U k 128#32 (U.view.writes (Elt Ideal) G L) h1) acc.2))
      (U.view.read (Elt Ideal) (U.view.writes (Elt Ideal) G (⟨Rect.unit (k0_off1 k 128#32) S8x1280.size h1, same (scan rows (rd A k 128#32 XA h1) (rd U k 128#32 (U.view.writes (Elt Ideal) G L) h1) acc.2)⟩ ::
         ⟨Rect.unit (k0_off1 k 0#32) S8x1280.size h0, same (scan rows (rd A k 0#32 XA h0) (rd U k 0#32 (U.view.writes (Elt Ideal) G L) h0) acc.1)⟩ :: L))) := by
  have hk := (off_0 k).2
  have s0 : ∀ (l : Fin 1280) (r : Fin 8), scan rows (rd A k 0#32 XA h0) (rd U k 0#32 (U.view.writes (Elt Ideal) G L) h0) acc.1 (ix2 r l) = re (f 0 l) (g 0 l) (c0 0 l) (8 * k.val + (r.val + 1)) := fun l r => by
    rw [← re_step]
    refine scan_at _ _ _ (fun s => f 0 l (8 * k.val + s)) (fun s => hf 0 l _) (fun s => g 0 l (8 * k.val + s)) _ l (fun r => ?_) (fun r => ?_) (I.h0 l) r
    · rw [rd_at A k 0#32 XA h0 (8 * k.val) (off_0 k).1 r l ⟨8 * k.val + r.val, by omega⟩ rfl, hA _ 0 (8 * k.val + r.val) l (by omega) (by simp)]
    · rw [rd_at U k 0#32 _ h0 (8 * k.val) (off_0 k).1 r l ⟨8 * k.val + r.val, by omega⟩ rfl, I.hB _ 0 (8 * k.val + r.val) l (by omega) (by simp), if_neg (by omega)]
  have s1 : ∀ (l : Fin 1280) (r : Fin 8), scan rows (rd A k 128#32 XA h1) (rd U k 128#32 (U.view.writes (Elt Ideal) G L) h1) acc.2 (ix2 r l) = re (f 1 l) (g 1 l) (c0 1 l) (8 * k.val + (r.val + 1)) := fun l r => by
    rw [← re_step]
    refine scan_at _ _ _ (fun s => f 1 l (8 * k.val + s)) (fun s => hf 1 l _) (fun s => g 1 l (8 * k.val + s)) _ l (fun r => ?_) (fun r => ?_) (I.h1 l) r
    · rw [rd_at A k 128#32 XA h1 (128 + 8 * k.val) (off_1 k) r l ⟨128 + 8 * k.val + r.val, by omega⟩ rfl, hA _ 1 (8 * k.val + r.val) l (by omega) (by simp; omega)]
    · rw [rd_at U k 128#32 _ h1 (128 + 8 * k.val) (off_1 k) r l ⟨128 + 8 * k.val + r.val, by omega⟩ rfl, I.hB _ 1 (8 * k.val + r.val) l (by omega) (by simp; omega), if_neg (by omega)]
  refine ⟨fun l => ?_, fun l => ?_, fun R b r l hr hR => ?_⟩
  · exact (last_at _ l).trans (s0 l 7)
  · exact (last_at _ l).trans (s1 l 7)
  · rw [same_eq, same_eq]
    by_cases hin : 8 * k.val ≤ r ∧ r < 8 * (k.val + 1)
    · have e : 8 * k.val + (r - 8 * k.val + 1) = r + 1 := by omega
      rw [if_pos hin.2]
      fin_cases b
      · refine (View.read_writes_cons_rows_of_not_mem U.view G h1 _ _ (ix2 R l) (off_1 k) (W := 8) rfl (Or.inl ?_)).trans ?_
        · show R.val < _; simp at hR; omega
        refine (View.read_writes_cons_rows_of_mem U.view G h0 _ _ (ix2 R l) (ix2 (⟨r - 8 * k.val, by omega⟩ : Fin 8) l) (off_0 k).1 ?_ rfl).trans ?_
        · show R.val = 8 * k.val + (r - 8 * k.val); simp at hR; omega
        · refine (s0 l ⟨r - 8 * k.val, by omega⟩).trans ?_
          simp only [e]; rfl
      · refine (View.read_writes_cons_rows_of_mem U.view G h1 _ _ (ix2 R l) (ix2 (⟨r - 8 * k.val, by omega⟩ : Fin 8) l) (off_1 k) ?_ rfl).trans ?_
        · show R.val = 128 + 8 * k.val + (r - 8 * k.val); simp at hR; omega
        · refine (s1 l ⟨r - 8 * k.val, by omega⟩).trans ?_
          simp only [e]; rfl
    · refine (View.read_writes_cons_rows_of_not_mem U.view G h1 _ _ (ix2 R l) (off_1 k) (W := 8) rfl ?_).trans ?_
      · show R.val < _ ∨ _ ≤ R.val; have := b.isLt; omega
      refine (View.read_writes_cons_rows_of_not_mem U.view G h0 _ _ (ix2 R l) (off_0 k).1 (W := 8) rfl ?_).trans ?_
      · show R.val < _ ∨ _ ≤ R.val; have := b.isLt; omega
      rw [I.hB R b r l hr hR]
      by_cases h : r < 8 * k.val
      · rw [if_pos h, if_pos (by omega)]
      · rw [if_neg h, if_neg (by omega)]

section Trip
variable (𝒱 : Variants) (c : Dev nD) (bd : Option 𝒱.V) (i : grid0.Coords)
  (arg1 : Memref sig .tc .vmem S128x1024 .f32) (harg1 : arg1.IsWhole)
  (arg2 : Memref sig .tc .vmem S2x128x1024 .f32) (harg2 : arg2.IsWhole)
  (arg3 : Memref sig .tc .vmem S1x1024 .f32) (harg3 : arg3.IsWhole)
  (arg4 : Memref sig .tc .vmem S1024x8704 .bf16) (harg4 : arg4.IsWhole)
  (arg5 : Memref sig .tc .vmem S4x1280 .f32) (harg5 : arg5.IsWhole)
  (arg6 : Memref sig .tc .vmem S1x1280 .f32) (harg6 : arg6.IsWhole)
  (arg7 : Memref sig .tc .vmem S2x640x1280 .bf16) (harg7 : arg7.IsWhole)
  (arg8 : Memref sig .tc .vmem S1x1280 .f32) (harg8 : arg8.IsWhole)
  (arg9 : Memref sig .tc .vmem S1x1280 .f32) (harg9 : arg9.IsWhole)
  (arg10 : Memref sig .tc .vmem S1x1280 .f32) (harg10 : arg10.IsWhole)
  (arg11 : Memref sig .tc .vmem S2x1024 .f32) (harg11 : arg11.IsWhole)
  (arg12 : Memref sig .tc .vmem S1x128 .f32) (harg12 : arg12.IsWhole)
  (arg13 : Memref sig .tc .vmem S1280x1024 .bf16) (harg13 : arg13.IsWhole)
  (arg14 : Memref sig .tc .vmem S1024x1024 .bf16) (harg14 : arg14.IsWhole)
  (arg15 : Memref sig .tc .vmem S1024x1024 .bf16) (harg15 : arg15.IsWhole)
  (arg16 : Memref sig .tc .vmem S2x128x1024 .f32) (harg16 : arg16.IsWhole)
  (arg17 : Memref sig .tc .vmem S2x136x1280 .f32) (harg17 : arg17.IsWhole)
  (arg18 : Memref sig .tc .vmem S2x1x1280 .f32) (harg18 : arg18.IsWhole)
  (arg19 : Memref sig .tc .vmem S2x8x128x128 .f32) (harg19 : arg19.IsWhole)
  (alloca_r0 : Memref sig .tc .vmem S256x1280 .f32) (halloca_r0 : alloca_r0.IsWhole)
  (alloca_152_r0 : Memref sig .tc .vmem S256x1280 .f32) (halloca_152_r0 : alloca_152_r0.IsWhole)
  (alloca_r1 : Memref sig .tc .vmem S256x1024 .f32) (halloca_r1 : alloca_r1.IsWhole)
  (alloca_152_r1 : Memref sig .tc .vmem S256x1024 .f32) (halloca_152_r1 : alloca_152_r1.IsWhole)
  (alloca_153_r1 : Memref sig .tc .vmem S256x1024 .f32) (halloca_153_r1 : alloca_153_r1.IsWhole)
  (alloca_154_r1 : Memref sig .tc .vmem S256x1024 .bf16) (halloca_154_r1 : alloca_154_r1.IsWhole)

variable (v26 : FVec Ideal S256x1024 .bf16) (v156 v190 : FVec Ideal S256x1280 .f32) (v192 : FVec Ideal S1024x1280 .bf16) (XA : BufTy.Contents (Elt Ideal) alloca_r0.view.ty)
  (G : BufTy.Contents (Elt Ideal) alloca_152_r0.view.ty) (init : FVec Ideal S1x1280 .f32 × FVec Ideal S1x1280 .f32)

theorem loop_inv (f : Fin 2 → Fin 1280 → ℕ → ℝ) (hf : ∀ b l r, 0 ≤ f b l r) (g : Fin 2 → Fin 1280 → ℕ → EReal) (c0 : Fin 2 → Fin 1280 → EReal)
    (hA : ∀ (R : Fin 256) (b : Fin 2) (r : ℕ) l, r < 128 → R.val = 128 * b.val + r → alloca_r0.view.read (Elt Ideal) XA (ix2 R l) = ((f b l r : ℝ) : EReal))
    (hU : ∀ (R : Fin 256) (b : Fin 2) (r : ℕ) l, r < 128 → R.val = 128 * b.val + r → alloca_152_r0.view.read (Elt Ideal) G (ix2 R l) = g b l r)
    (h0 : ∀ l, init.1 (ix2 0 l) = c0 0 l) (h1 : ∀ l, init.2 (ix2 0 l) = c0 1 l) (n : ℕ) (hn : n ≤ k0_t1_loop.trips) :
    Inv f g c0 n (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v26 v156 v190 v192 rows XA G init n).1
      (alloca_152_r0.view.read (Elt Ideal) (alloca_152_r0.view.writes (Elt Ideal) G (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v26 v156 v190 v192 rows XA G init n).2)) := by
  induction n with
  | zero =>
    refine ⟨h0, h1, fun R b r l hr hR => ?_⟩
    rw [if_neg (by omega)]
    exact hU R b r l hr hR
  | succ n ih =>
    have I := ih (by omega)
    rw [st_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v26 v156 v190 v192 rows XA G init ⟨n, by omega⟩]
    obtain ⟨q0, q1, e1, e2⟩ := trip_u (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v26 v156 v190 v192 rows XA ⟨n, by omega⟩ (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v26 v156 v190 v192 rows XA G init n).1
      (alloca_152_r0.view.writes (Elt Ideal) G (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v26 v156 v190 v192 rows XA G init n).2)
    have K := inv_step f hf g c0 ⟨n, by omega⟩ alloca_r0 alloca_152_r0 XA G (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v26 v156 v190 v192 rows XA G init n).2 (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v26 v156 v190 v192 rows XA G init n).1 hA I q0 q1
    rw [← e2] at K
    refine ⟨K.h0, K.h1, ?_⟩
    have := K.hB
    unfold tripL_k0_t1
    rw [e1]
    exact this
end Trip
end Cert.Proof.Scan
-- ==== Proof.Chunk.lean ====
module
public import proofs.«01_k».proof.Proof.Gen.KernelIdeal.Loops
public import Idealize.ShloMosaic.Lib.Pointwise
public import Idealize.ShloMosaic.Lib.VecWindow
public import Idealize.ShloMosaic.Lib.WritesUnit

@[expose] public section
set_option maxRecDepth 16384
noncomputable section

/-! One trip of the second loop of the mixer: for each of the two sequences a chunk of 64 rows, for each of 8 heads. Here the
    chunk is written once, and both halves of the trip are this text at their own arguments. -/
namespace Cert.Proof.Chunk
open Cert.KernelIdeal Cert.KernelIdeal.Facts Cert.KernelIdeal.Gen
open Idealize.ShloMosaic Idealize.ShloMosaic.TcCoe Idealize.ShloMosaic.Tactic

variable {F : FTy → Type} [FloatOps F]

/-- The row number within a tile of 8 rows. -/
def sub : IVec S8x1024 32 := iota .tc S8x1024 32 [0] iota_S8x1024_d0_w32

/-- One doubling step of the running sum. -/
def step (s : BitVec 32) (x : FVec F S8x1024 .f32) : FVec F S8x1024 .f32 :=
  addf x (select (cmpi .sge sub (broadcast S8x1024 s)) (dynamicRotate 0 s none x rotates_S8x1024_d0) (broadcast S8x1024 (Scalar.ofBits .f32 0x00000000#32)))

/-- The running sum within a tile. -/
def inner (x : FVec F S8x1024 .f32) : FVec F S8x1024 .f32 := step 4#32 (step 2#32 (step 1#32 x))

/-- A row of a tile, as a row. -/
def row (r : ℕ) (h : S8x1024.Slices ![r, 0] S1x1024) (x : FVec F S8x1024 .f32) : FVec F S1x1024 .f32 := extractStridedSlice S1x1024 ![r, 0] x h

/-- The running sum continued from the tile before. -/
def next (x : FVec F S8x1024 .f32) (p : FVec F S8x1024 .f32) : FVec F S8x1024 .f32 :=
  addf (inner x) (broadcastTo S8x1024 (row 7 slices_S8x1024_o7_0_S1x1024 p) broadcasts_S1x1024_S8x1024)

def b0 (g : Vec F S64x1024 .f32) : FVec F S8x1024 .f32 := inner (extractStridedSlice S8x1024 ![0, 0] g slices_S64x1024_o0_0_S8x1024)
def b1 (g : Vec F S64x1024 .f32) : FVec F S8x1024 .f32 := next (extractStridedSlice S8x1024 ![8, 0] g slices_S64x1024_o8_0_S8x1024) (b0 g)
def b2 (g : Vec F S64x1024 .f32) : FVec F S8x1024 .f32 := next (extractStridedSlice S8x1024 ![16, 0] g slices_S64x1024_o16_0_S8x1024) (b1 g)
def b3 (g : Vec F S64x1024 .f32) : FVec F S8x1024 .f32 := next (extractStridedSlice S8x1024 ![24, 0] g slices_S64x1024_o24_0_S8x1024) (b2 g)
def b4 (g : Vec F S64x1024 .f32) : FVec F S8x1024 .f32 := next (extractStridedSlice S8x1024 ![32, 0] g slices_S64x1024_o32_0_S8x1024) (b3 g)
def b5 (g : Vec F S64x1024 .f32) : FVec F S8x1024 .f32 := next (extractStridedSlice S8x1024 ![40, 0] g slices_S64x1024_o40_0_S8x1024) (b4 g)
def b6 (g : Vec F S64x1024 .f32) : FVec F S8x1024 .f32 := next (extractStridedSlice S8x1024 ![48, 0] g slices_S64x1024_o48_0_S8x1024) (b5 g)
def b7 (g : Vec F S64x1024 .f32) : FVec F S8x1024 .f32 := next (extractStridedSlice S8x1024 ![56, 0] g slices_S64x1024_o56_0_S8x1024) (b6 g)

/-- Eight tiles on top of each other. -/
def cat8 (x0 x1 x2 x3 x4 x5 x6 x7 : FVec F S8x1024 .f32) : FVec F S64x1024 .f32 :=
  concatenate S64x1024 0 [⟨S8x1024, x0⟩, ⟨S8x1024, x1⟩, ⟨S8x1024, x2⟩, ⟨S8x1024, x3⟩, ⟨S8x1024, x4⟩, ⟨S8x1024, x5⟩, ⟨S8x1024, x6⟩, ⟨S8x1024, x7⟩] concatenates_S8x1024_S8x1024_S8x1024_S8x1024_S8x1024_S8x1024_S8x1024_S8x1024_S64x1024_d0

/-- The running sum of the chunk. -/
def bc (g : Vec F S64x1024 .f32) : FVec F S64x1024 .f32 := cat8 (b0 g) (b1 g) (b2 g) (b3 g) (b4 g) (b5 g) (b6 g) (b7 g)

def re (x : FVec F S1x1024 .f32) : FVec F S1x1024 .f32 := shapeCast S1x1024 x shapeCasts_S1x1024_S1x1024
def last (x : FVec F S8x1024 .f32) : FVec F S1x1024 .f32 := re (row 7 slices_S8x1024_o7_0_S1x1024 x)
/-- A row of a tile repeated over a tile. -/
def rep8 (r : ℕ) (h : S8x1024.Slices ![r, 0] S1x1024) (x : FVec F S8x1024 .f32) : FVec F S8x1024 .f32 := broadcastTo S8x1024 (re (row r h x)) broadcasts_S1x1024_S8x1024
def lt (n : BitVec 32) : IVec S8x1024 1 := cmpi .slt sub (broadcast S8x1024 n)

def m32 (g : Vec F S64x1024 .f32) : FVec F S64x1024 .f32 := broadcastTo S64x1024 (last (b3 g)) broadcasts_S1x1024_S64x1024
def m16 (g : Vec F S64x1024 .f32) : FVec F S64x1024 .f32 :=
  concatenate S64x1024 0 [⟨S32x1024, broadcastTo S32x1024 (last (b1 g)) broadcasts_S1x1024_S32x1024⟩, ⟨S32x1024, broadcastTo S32x1024 (last (b5 g)) broadcasts_S1x1024_S32x1024⟩] concatenates_S32x1024_S32x1024_S64x1024_d0
def m8 (g : Vec F S64x1024 .f32) : FVec F S64x1024 .f32 :=
  concatenate S64x1024 0 [⟨S16x1024, broadcastTo S16x1024 (last (b0 g)) broadcasts_S1x1024_S16x1024⟩, ⟨S16x1024, broadcastTo S16x1024 (last (b2 g)) broadcasts_S1x1024_S16x1024⟩, ⟨S16x1024, broadcastTo S16x1024 (last (b4 g)) broadcasts_S1x1024_S16x1024⟩, ⟨S16x1024, broadcastTo S16x1024 (last (b6 g)) broadcasts_S1x1024_S16x1024⟩] concatenates_S16x1024_S16x1024_S16x1024_S16x1024_S64x1024_d0
def e4 (x : FVec F S8x1024 .f32) : FVec F S8x1024 .f32 := rep8 3 slices_S8x1024_o3_0_S1x1024 x
def m4 (g : Vec F S64x1024 .f32) : FVec F S64x1024 .f32 := cat8 (e4 (b0 g)) (e4 (b1 g)) (e4 (b2 g)) (e4 (b3 g)) (e4 (b4 g)) (e4 (b5 g)) (e4 (b6 g)) (e4 (b7 g))
def e2 (x : FVec F S8x1024 .f32) : FVec F S8x1024 .f32 := select (lt 4#32) (rep8 1 slices_S8x1024_o1_0_S1x1024 x) (rep8 5 slices_S8x1024_o5_0_S1x1024 x)
def m2 (g : Vec F S64x1024 .f32) : FVec F S64x1024 .f32 := cat8 (e2 (b0 g)) (e2 (b1 g)) (e2 (b2 g)) (e2 (b3 g)) (e2 (b4 g)) (e2 (b5 g)) (e2 (b6 g)) (e2 (b7 g))
def e1 (x : FVec F S8x1024 .f32) : FVec F S8x1024 .f32 :=
  select (lt 2#32) (rep8 0 slices_S8x1024_o0_0_S1x1024 x) (select (lt 4#32) (rep8 2 slices_S8x1024_o2_0_S1x1024 x)
    (select (lt 6#32) (rep8 4 slices_S8x1024_o4_0_S1x1024 x) (rep8 6 slices_S8x1024_o6_0_S1x1024 x)))
def m1 (g : Vec F S64x1024 .f32) : FVec F S64x1024 .f32 := cat8 (e1 (b0 g)) (e1 (b1 g)) (e1 (b2 g)) (e1 (b3 g)) (e1 (b4 g)) (e1 (b5 g)) (e1 (b6 g)) (e1 (b7 g))

/-- A factor decayed by the difference of two running sums, which the text cuts off at zero. -/
def dec (q a b : FVec F S64x1024 .f32) : FVec F S64x1024 .bf16 :=
  truncf .bf16 (mulf q (exp (minimumf (subf a b) (broadcast S64x1024 (Scalar.ofBits .f32 0x00000000#32))))) bitsLt_bf16_f32

/-- The products of the rows of two factors, at one head. -/
def sc (o : ℕ) (h : S64x1024.Slices ![0, o] S64x128) (a b : FVec F S64x1024 .bf16) : FVec F S64x64 .f32 :=
  matmul dot_S64x128_S64x128_S64x64_1_1_0_0_n_n none (extractStridedSlice S64x128 ![0, o] a h) (extractStridedSlice S64x128 ![0, o] b h) (constant S64x64 .f32 0x00000000#32)

section Head
variable (w0 w1 w2 w4 w8 w16 w32 : IVec S64x64 1) (o : ℕ) (h : S64x1024.Slices ![0, o] S64x128) (h1 : S1x1024.Slices ![0, o] S1x128)
  (g q k : Vec F S64x1024 .f32) (v : Vec F S64x1024 .bf16) (st : Vec F S1x1x128x128 .f32)

def score : FVec F S64x64 .f32 :=
  select w1 (sc o h (dec q (bc g) (m1 g)) (dec k (m1 g) (bc g)))
  (select w2 (sc o h (dec q (bc g) (m2 g)) (dec k (m2 g) (bc g)))
  (select w4 (sc o h (dec q (bc g) (m4 g)) (dec k (m4 g) (bc g)))
  (select w8 (sc o h (dec q (bc g) (m8 g)) (dec k (m8 g) (bc g)))
  (select w16 (sc o h (dec q (bc g) (m16 g)) (dec k (m16 g) (bc g)))
  (select w32 (sc o h (dec q (bc g) (m32 g)) (dec k (m32 g) (bc g)))
  (select w0 (sc o h (truncf .bf16 q bitsLt_bf16_f32) (truncf .bf16 k bitsLt_bf16_f32)) (broadcast S64x64 (Scalar.ofBits .f32 0x00000000#32))))))))

/-- The state as a matrix. -/
def mat : FVec F S128x128 .f32 := shapeCast S128x128 st shapeCasts_S1x1x128x128_S128x128

/-- What a head puts out. -/
def headO : FVec F S64x128 .f32 :=
  addf (matmul dot_S64x64_S64x128_S64x128_1_0_0_1_n_n none (truncf .bf16 (score w0 w1 w2 w4 w8 w16 w32 o h g q k) bitsLt_bf16_f32) (extractStridedSlice S64x128 ![0, o] v h) (constant S64x128 .f32 0x00000000#32))
    (matmul dot_S64x128_S128x128_S64x128_1_1_0_0_n_n none (extractStridedSlice S64x128 ![0, o] (truncf .bf16 (mulf q (exp (bc g))) bitsLt_bf16_f32 : FVec F S64x1024 .bf16) h) (truncf .bf16 (mat st) bitsLt_bf16_f32) (constant S64x128 .f32 0x00000000#32))

/-- The state a head leaves. -/
def headS : FVec F S1x1x128x128 .f32 :=
  shapeCast S1x1x128x128 (addf (mulf (broadcastTo S128x128 (extractStridedSlice S1x128 ![0, o] (exp (row 7 slices_S8x1024_o7_0_S1x1024 (b7 g))) h1) broadcasts_S1x128_S128x128) (mat st))
    (matmul dot_S64x128_S64x128_S128x128_0_0_1_1_n_n none (extractStridedSlice S64x128 ![0, o] v h)
      (extractStridedSlice S64x128 ![0, o] (truncf .bf16 (mulf k (exp (subf (broadcastTo S64x1024 (row 7 slices_S8x1024_o7_0_S1x1024 (b7 g)) broadcasts_S1x1024_S64x1024) (bc g)))) bitsLt_bf16_f32 : FVec F S64x1024 .bf16) h) (constant S128x128 .f32 0x00000000#32)))
    shapeCasts_S128x128_S1x1x128x128
end Head

/-- What the eight heads put out, side by side. -/
def allO (w0 w1 w2 w4 w8 w16 w32 : IVec S64x64 1) (g q k : Vec F S64x1024 .f32) (v : Vec F S64x1024 .bf16) (st : Fin 8 → Vec F S1x1x128x128 .f32) : FVec F S64x1024 .f32 :=
  shapeCast S64x1024 (concatenate S64x1024 1 [⟨S64x128, headO w0 w1 w2 w4 w8 w16 w32 0 slices_S64x1024_o0_0_S64x128 g q k v (st 0)⟩,
    ⟨S64x128, headO w0 w1 w2 w4 w8 w16 w32 128 slices_S64x1024_o0_128_S64x128 g q k v (st 1)⟩,
    ⟨S64x128, headO w0 w1 w2 w4 w8 w16 w32 256 slices_S64x1024_o0_256_S64x128 g q k v (st 2)⟩,
    ⟨S64x128, headO w0 w1 w2 w4 w8 w16 w32 384 slices_S64x1024_o0_384_S64x128 g q k v (st 3)⟩,
    ⟨S64x128, headO w0 w1 w2 w4 w8 w16 w32 512 slices_S64x1024_o0_512_S64x128 g q k v (st 4)⟩,
    ⟨S64x128, headO w0 w1 w2 w4 w8 w16 w32 640 slices_S64x1024_o0_640_S64x128 g q k v (st 5)⟩,
    ⟨S64x128, headO w0 w1 w2 w4 w8 w16 w32 768 slices_S64x1024_o0_768_S64x128 g q k v (st 6)⟩,
    ⟨S64x128, headO w0 w1 w2 w4 w8 w16 w32 896 slices_S64x1024_o0_896_S64x128 g q k v (st 7)⟩] concatenates_S64x128_S64x128_S64x128_S64x128_S64x128_S64x128_S64x128_S64x128_S64x1024_d1) shapeCasts_S64x1024_S64x1024

section Trip
variable (𝒱 : Variants) (c : Dev nD) (bd : Option 𝒱.V) (i : grid0.Coords)
  (arg1 : Memref sig .tc .vmem S128x1024 .f32) (harg1 : arg1.IsWhole)
  (arg2 : Memref sig .tc .vmem S2x128x1024 .f32) (harg2 : arg2.IsWhole)
  (arg3 : Memref sig .tc .vmem S1x1024 .f32) (harg3 : arg3.IsWhole)
  (arg4 : Memref sig .tc .vmem S1024x8704 .bf16) (harg4 : arg4.IsWhole)
  (arg5 : Memref sig .tc .vmem S4x1280 .f32) (harg5 : arg5.IsWhole)
  (arg6 : Memref sig .tc .vmem S1x1280 .f32) (harg6 : arg6.IsWhole)
  (arg7 : Memref sig .tc .vmem S2x640x1280 .bf16) (harg7 : arg7.IsWhole)
  (arg8 : Memref sig .tc .vmem S1x1280 .f32) (harg8 : arg8.IsWhole)
  (arg9 : Memref sig .tc .vmem S1x1280 .f32) (harg9 : arg9.IsWhole)
  (arg10 : Memref sig .tc .vmem S1x1280 .f32) (harg10 : arg10.IsWhole)
  (arg11 : Memref sig .tc .vmem S2x1024 .f32) (harg11 : arg11.IsWhole)
  (arg12 : Memref sig .tc .vmem S1x128 .f32) (harg12 : arg12.IsWhole)
  (arg13 : Memref sig .tc .vmem S1280x1024 .bf16) (harg13 : arg13.IsWhole)
  (arg14 : Memref sig .tc .vmem S1024x1024 .bf16) (harg14 : arg14.IsWhole)
  (arg15 : Memref sig .tc .vmem S1024x1024 .bf16) (harg15 : arg15.IsWhole)
  (arg16 : Memref sig .tc .vmem S2x128x1024 .f32) (harg16 : arg16.IsWhole)
  (arg17 : Memref sig .tc .vmem S2x136x1280 .f32) (harg17 : arg17.IsWhole)
  (arg18 : Memref sig .tc .vmem S2x1x1280 .f32) (harg18 : arg18.IsWhole)
  (arg19 : Memref sig .tc .vmem S2x8x128x128 .f32) (harg19 : arg19.IsWhole)
  (alloca_r0 : Memref sig .tc .vmem S256x1280 .f32) (halloca_r0 : alloca_r0.IsWhole)
  (alloca_152_r0 : Memref sig .tc .vmem S256x1280 .f32) (halloca_152_r0 : alloca_152_r0.IsWhole)
  (alloca_r1 : Memref sig .tc .vmem S256x1024 .f32) (halloca_r1 : alloca_r1.IsWhole)
  (alloca_152_r1 : Memref sig .tc .vmem S256x1024 .f32) (halloca_152_r1 : alloca_152_r1.IsWhole)
  (alloca_153_r1 : Memref sig .tc .vmem S256x1024 .f32) (halloca_153_r1 : alloca_153_r1.IsWhole)
  (alloca_154_r1 : Memref sig .tc .vmem S256x1024 .bf16) (halloca_154_r1 : alloca_154_r1.IsWhole)

/-- A chunk of rows of a buffer. -/
abbrev rd {e : EltTy} (M : Memref sig .tc .vmem S256x1024 e) (k : Fin k0_t2_loop.trips) (r : BitVec 32) (X : BufTy.Contents (Elt F) M.view.ty)
    (h : ∀ a, k0_off2 k r a + S64x1024.size a ≤ S256x1024.size a) : Vec F S64x1024 e :=
  View.readAt (Elt F) M.view (Rect.unit (s := S256x1024) (k0_off2 k r) S64x1024.size h).toLoadRect X

theorem inbS (b : ℕ) (hb : b < 2) (hd : Fin 8) : ∀ a, (![b, hd.val, 0, 0] : Fin 4 → ℕ) a + S1x1x128x128.size a ≤ S2x8x128x128.size a := by
  have := hd.isLt
  intro a
  fin_cases a
  · show b + 1 ≤ 2; omega
  · show hd.val + 1 ≤ 8; omega
  · show 0 + 128 ≤ 128; omega
  · show 0 + 128 ≤ 128; omega

/-- The state of one sequence and head. -/
abbrev rdS (M : Memref sig .tc .vmem S2x8x128x128 .f32) (f : BufTy.Contents (Elt F) M.view.ty) (b : ℕ) (hb : b < 2) (hd : Fin 8) : Vec F S1x1x128x128 .f32 :=
  View.readAt (Elt F) M.view (Rect.unit (s := S2x8x128x128) ![b, hd.val, 0, 0] S1x1x128x128.size (inbS b hb hd)).toLoadRect f

variable (v425 v426 : IVec S64x64 32) (v427 v442 v457 v472 v482 : IVec S64x64 1) (v483 : IVec S64x64 32)
  (XG : BufTy.Contents (Elt F) alloca_r1.view.ty) (XK : BufTy.Contents (Elt F) alloca_153_r1.view.ty) (XV : BufTy.Contents (Elt F) alloca_154_r1.view.ty)
  (k : Fin k0_t2_loop.trips) (acc : BitVec 32) (fS : BufTy.Contents (Elt F) arg19.view.ty) (fQ : BufTy.Contents (Elt F) alloca_152_r1.view.ty)

set_option maxHeartbeats 4000000 in
/-- What a trip writes over the queries: each sequence's output rows. -/
theorem trip_q : ∃ (h0 : ∀ a, k0_off2 k 0#32 a + S64x1024.size a ≤ S256x1024.size a) (h1 : ∀ a, k0_off2 k 128#32 a + S64x1024.size a ≤ S256x1024.size a),
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v425 v426 v427 v442 v457 v472 v482 v483 XG XK XV k).2.2.1 acc fS fQ
      = [⟨Rect.unit (k0_off2 k 128#32) S64x1024.size h1, allO v427 v442 v457 v472 (k0_pay307 v426 v482 v483) (k0_pay308 v425 v426) (k0_pay309 v425 v426)
            (rd alloca_r1 k 128#32 XG h1) (rd alloca_152_r1 k 128#32 fQ h1) (rd alloca_153_r1 k 128#32 XK h1) (rd alloca_154_r1 k 128#32 XV h1) (rdS arg19 fS 1 (by decide))⟩,
         ⟨Rect.unit (k0_off2 k 0#32) S64x1024.size h0, allO v427 v442 v457 v472 (k0_pay307 v426 v482 v483) (k0_pay308 v425 v426) (k0_pay309 v425 v426)
            (rd alloca_r1 k 0#32 XG h0) (rd alloca_152_r1 k 0#32 fQ h0) (rd alloca_153_r1 k 0#32 XK h0) (rd alloca_154_r1 k 0#32 XV h0) (rdS arg19 fS 0 (by decide))⟩] := by
  unfold trip_k0_t2
  exact ⟨_, _, rfl⟩
set_option maxHeartbeats 4000000 in
/-- What a trip writes over the states. -/
theorem trip_s : ∃ (h0 : ∀ a, k0_off2 k 0#32 a + S64x1024.size a ≤ S256x1024.size a) (h1 : ∀ a, k0_off2 k 128#32 a + S64x1024.size a ≤ S256x1024.size a),
    (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v425 v426 v427 v442 v457 v472 v482 v483 XG XK XV k).2.1 acc fS fQ
      = [⟨Rect.unit (s := S2x8x128x128) ![1, 7, 0, 0] S1x1x128x128.size inb_S2x8x128x128_S1x1x128x128_1_7_0_0, headS 896 slices_S64x1024_o0_896_S64x128 slices_S1x1024_o0_896_S1x128 (rd alloca_r1 k 128#32 XG h1) (rd alloca_153_r1 k 128#32 XK h1) (rd alloca_154_r1 k 128#32 XV h1) (rdS arg19 fS 1 (by decide) 7)⟩,
         ⟨Rect.unit (s := S2x8x128x128) ![1, 6, 0, 0] S1x1x128x128.size inb_S2x8x128x128_S1x1x128x128_1_6_0_0, headS 768 slices_S64x1024_o0_768_S64x128 slices_S1x1024_o0_768_S1x128 (rd alloca_r1 k 128#32 XG h1) (rd alloca_153_r1 k 128#32 XK h1) (rd alloca_154_r1 k 128#32 XV h1) (rdS arg19 fS 1 (by decide) 6)⟩,
         ⟨Rect.unit (s := S2x8x128x128) ![1, 5, 0, 0] S1x1x128x128.size inb_S2x8x128x128_S1x1x128x128_1_5_0_0, headS 640 slices_S64x1024_o0_640_S64x128 slices_S1x1024_o0_640_S1x128 (rd alloca_r1 k 128#32 XG h1) (rd alloca_153_r1 k 128#32 XK h1) (rd alloca_154_r1 k 128#32 XV h1) (rdS arg19 fS 1 (by decide) 5)⟩,
         ⟨Rect.unit (s := S2x8x128x128) ![1, 4, 0, 0] S1x1x128x128.size inb_S2x8x128x128_S1x1x128x128_1_4_0_0, headS 512 slices_S64x1024_o0_512_S64x128 slices_S1x1024_o0_512_S1x128 (rd alloca_r1 k 128#32 XG h1) (rd alloca_153_r1 k 128#32 XK h1) (rd alloca_154_r1 k 128#32 XV h1) (rdS arg19 fS 1 (by decide) 4)⟩,
         ⟨Rect.unit (s := S2x8x128x128) ![1, 3, 0, 0] S1x1x128x128.size inb_S2x8x128x128_S1x1x128x128_1_3_0_0, headS 384 slices_S64x1024_o0_384_S64x128 slices_S1x1024_o0_384_S1x128 (rd alloca_r1 k 128#32 XG h1) (rd alloca_153_r1 k 128#32 XK h1) (rd alloca_154_r1 k 128#32 XV h1) (rdS arg19 fS 1 (by decide) 3)⟩,
         ⟨Rect.unit (s := S2x8x128x128) ![1, 2, 0, 0] S1x1x128x128.size inb_S2x8x128x128_S1x1x128x128_1_2_0_0, headS 256 slices_S64x1024_o0_256_S64x128 slices_S1x1024_o0_256_S1x128 (rd alloca_r1 k 128#32 XG h1) (rd alloca_153_r1 k 128#32 XK h1) (rd alloca_154_r1 k 128#32 XV h1) (rdS arg19 fS 1 (by decide) 2)⟩,
         ⟨Rect.unit (s := S2x8x128x128) ![1, 1, 0, 0] S1x1x128x128.size inb_S2x8x128x128_S1x1x128x128_1_1_0_0, headS 128 slices_S64x1024_o0_128_S64x128 slices_S1x1024_o0_128_S1x128 (rd alloca_r1 k 128#32 XG h1) (rd alloca_153_r1 k 128#32 XK h1) (rd alloca_154_r1 k 128#32 XV h1) (rdS arg19 fS 1 (by decide) 1)⟩,
         ⟨Rect.unit (s := S2x8x128x128) ![1, 0, 0, 0] S1x1x128x128.size inb_S2x8x128x128_S1x1x128x128_1_0_0_0, headS 0 slices_S64x1024_o0_0_S64x128 slices_S1x1024_o0_0_S1x128 (rd alloca_r1 k 128#32 XG h1) (rd alloca_153_r1 k 128#32 XK h1) (rd alloca_154_r1 k 128#32 XV h1) (rdS arg19 fS 1 (by decide) 0)⟩,
         ⟨Rect.unit (s := S2x8x128x128) ![0, 7, 0, 0] S1x1x128x128.size inb_S2x8x128x128_S1x1x128x128_0_7_0_0, headS 896 slices_S64x1024_o0_896_S64x128 slices_S1x1024_o0_896_S1x128 (rd alloca_r1 k 0#32 XG h0) (rd alloca_153_r1 k 0#32 XK h0) (rd alloca_154_r1 k 0#32 XV h0) (rdS arg19 fS 0 (by decide) 7)⟩,
         ⟨Rect.unit (s := S2x8x128x128) ![0, 6, 0, 0] S1x1x128x128.size inb_S2x8x128x128_S1x1x128x128_0_6_0_0, headS 768 slices_S64x1024_o0_768_S64x128 slices_S1x1024_o0_768_S1x128 (rd alloca_r1 k 0#32 XG h0) (rd alloca_153_r1 k 0#32 XK h0) (rd alloca_154_r1 k 0#32 XV h0) (rdS arg19 fS 0 (by decide) 6)⟩,
         ⟨Rect.unit (s := S2x8x128x128) ![0, 5, 0, 0] S1x1x128x128.size inb_S2x8x128x128_S1x1x128x128_0_5_0_0, headS 640 slices_S64x1024_o0_640_S64x128 slices_S1x1024_o0_640_S1x128 (rd alloca_r1 k 0#32 XG h0) (rd alloca_153_r1 k 0#32 XK h0) (rd alloca_154_r1 k 0#32 XV h0) (rdS arg19 fS 0 (by decide) 5)⟩,
         ⟨Rect.unit (s := S2x8x128x128) ![0, 4, 0, 0] S1x1x128x128.size inb_S2x8x128x128_S1x1x128x128_0_4_0_0, headS 512 slices_S64x1024_o0_512_S64x128 slices_S1x1024_o0_512_S1x128 (rd alloca_r1 k 0#32 XG h0) (rd alloca_153_r1 k 0#32 XK h0) (rd alloca_154_r1 k 0#32 XV h0) (rdS arg19 fS 0 (by decide) 4)⟩,
         ⟨Rect.unit (s := S2x8x128x128) ![0, 3, 0, 0] S1x1x128x128.size inb_S2x8x128x128_S1x1x128x128_0_3_0_0, headS 384 slices_S64x1024_o0_384_S64x128 slices_S1x1024_o0_384_S1x128 (rd alloca_r1 k 0#32 XG h0) (rd alloca_153_r1 k 0#32 XK h0) (rd alloca_154_r1 k 0#32 XV h0) (rdS arg19 fS 0 (by decide) 3)⟩,
         ⟨Rect.unit (s := S2x8x128x128) ![0, 2, 0, 0] S1x1x128x128.size inb_S2x8x128x128_S1x1x128x128_0_2_0_0, headS 256 slices_S64x1024_o0_256_S64x128 slices_S1x1024_o0_256_S1x128 (rd alloca_r1 k 0#32 XG h0) (rd alloca_153_r1 k 0#32 XK h0) (rd alloca_154_r1 k 0#32 XV h0) (rdS arg19 fS 0 (by decide) 2)⟩,
         ⟨Rect.unit (s := S2x8x128x128) ![0, 1, 0, 0] S1x1x128x128.size inb_S2x8x128x128_S1x1x128x128_0_1_0_0, headS 128 slices_S64x1024_o0_128_S64x128 slices_S1x1024_o0_128_S1x128 (rd alloca_r1 k 0#32 XG h0) (rd alloca_153_r1 k 0#32 XK h0) (rd alloca_154_r1 k 0#32 XV h0) (rdS arg19 fS 0 (by decide) 1)⟩,
         ⟨Rect.unit (s := S2x8x128x128) ![0, 0, 0, 0] S1x1x128x128.size inb_S2x8x128x128_S1x1x128x128_0_0_0_0, headS 0 slices_S64x1024_o0_0_S64x128 slices_S1x1024_o0_0_S1x128 (rd alloca_r1 k 0#32 XG h0) (rd alloca_153_r1 k 0#32 XK h0) (rd alloca_154_r1 k 0#32 XV h0) (rdS arg19 fS 0 (by decide) 0)⟩] := by
  unfold trip_k0_t2
  exact ⟨_, _, rfl⟩
end Trip
end Cert.Proof.Chunk
-- ==== Proof.ChunkSum.lean ====
module
public import proofs.«01_k».proof.Proof.Chunk
public import proofs.«01_k».proof.Proof.Rec

@[expose] public section
set_option maxRecDepth 16384
noncomputable section

/-! The running sums of a chunk, and the row of the running sum each level splits at. -/
namespace Cert.Proof.Chunk
open Cert.KernelIdeal Cert.KernelIdeal.Facts Cert.KernelIdeal.Gen Cert.Proof.Rec
open Idealize.ShloMosaic Idealize.ShloMosaic.TcCoe Idealize.ShloMosaic.Tactic

theorem sel_ge (r : Fin 8) (s : ℕ) (hs : s < 8) (x y : EReal) :
    Scalar.select (α := EReal) (IntOp.cmpi CmpIPredicate.sge (BitVec.ofNat 32 r.val) (BitVec.ofNat 32 s)) x y = if s ≤ r.val then x else y := by
  interval_cases s <;> fin_cases r <;> rfl

theorem sel_lt (r : Fin 8) (s : ℕ) (hs : s < 8) (x y : EReal) :
    Scalar.select (α := EReal) (IntOp.cmpi CmpIPredicate.slt (BitVec.ofNat 32 r.val) (BitVec.ofNat 32 s)) x y = if r.val < s then x else y := by
  interval_cases s <;> fin_cases r <;> rfl

def dS (s : ℕ) (f : ℕ → EReal) (r : ℕ) : EReal := f r + if s ≤ r then f (r - s) else 0

theorem step_at (s : ℕ) (hs : s < 8) (a : FVec Ideal S8x1024 .f32) (f : ℕ → EReal) (l : Fin 1024) (ha : ∀ r : Fin 8, a (ix2 r l) = f r.val) (r : Fin 8) :
    step (BitVec.ofNat 32 s) a (ix2 r l) = dS s f r.val := by
  pointwise [step, sub]
  rw [ha, sel_ge _ _ hs, ha]
  interval_cases s <;> fin_cases r <;> simp [dS]

theorem inner_at (a : FVec Ideal S8x1024 .f32) (f : ℕ → ℝ) (l : Fin 1024) (ha : ∀ r : Fin 8, a (ix2 r l) = ((f r.val : ℝ) : EReal)) (r : Fin 8) :
    inner a (ix2 r l) = ((cum f (r.val + 1) : ℝ) : EReal) := by
  have A1 := step_at 1 (by decide) a (fun r => ((f r : ℝ) : EReal)) l ha
  have A2 := step_at 2 (by decide) _ _ l A1
  have A4 := step_at 4 (by decide) _ _ l A2
  rw [show inner a (ix2 r l) = _ from A4 r]
  fin_cases r <;> simp [dS, cum, Finset.sum_range_succ] <;> norm_cast <;> ring

theorem next_at (a p : FVec Ideal S8x1024 .f32) (f : ℕ → ℝ) (c : ℝ) (l : Fin 1024) (ha : ∀ r : Fin 8, a (ix2 r l) = ((f r.val : ℝ) : EReal))
    (hp : p (ix2 7 l) = ((c : ℝ) : EReal)) (r : Fin 8) : next a p (ix2 r l) = ((c + cum f (r.val + 1) : ℝ) : EReal) := by
  have e : next a p (ix2 r l) = inner a (ix2 r l) + p (ix2 7 l) := by
    pointwise [next, row]
  rw [e, hp, inner_at a f l ha, add_comm c]
  norm_cast

section Col
variable (g : Vec Ideal S64x1024 .f32) (G : ℕ → ℝ) (l : Fin 1024) (hg : ∀ t : Fin 64, g (ix2 t l) = ((G t.val : ℝ) : EReal))
include hg
theorem b0_at (r : Fin 8) : b0 g (ix2 r l) = ((cum G (r.val + 1) : ℝ) : EReal) := by
  refine inner_at _ G l (fun r => ?_) r
  pointwise
  exact (hg _).trans (by simp)
theorem tile (o : ℕ) (ho : o + 8 ≤ 64) (h : S64x1024.Slices ![o, 0] S8x1024) (r : Fin 8) :
    (extractStridedSlice S8x1024 ![o, 0] g h : FVec Ideal S8x1024 .f32) (ix2 r l) = ((G (o + r.val) : ℝ) : EReal) := by
  pointwise
  exact (hg _).trans (by simp)
theorem nx (p : FVec Ideal S8x1024 .f32) (o : ℕ) (ho : o + 8 ≤ 64) (h : S64x1024.Slices ![o, 0] S8x1024) (hp : p (ix2 7 l) = ((cum G o : ℝ) : EReal)) (r : Fin 8) :
    next (extractStridedSlice S8x1024 ![o, 0] g h) p (ix2 r l) = ((cum G (o + (r.val + 1)) : ℝ) : EReal) := by
  rw [next_at _ p (fun s => G (o + s)) _ l (tile g G l hg o ho h) hp, cum_add G o]
theorem b1_at (r : Fin 8) : b1 g (ix2 r l) = ((cum G (8 + (r.val + 1)) : ℝ) : EReal) := nx g G l hg _ 8 (by decide) _ (b0_at g G l hg 7) r
theorem b2_at (r : Fin 8) : b2 g (ix2 r l) = ((cum G (16 + (r.val + 1)) : ℝ) : EReal) := nx g G l hg _ 16 (by decide) _ (b1_at g G l hg 7) r
theorem b3_at (r : Fin 8) : b3 g (ix2 r l) = ((cum G (24 + (r.val + 1)) : ℝ) : EReal) := nx g G l hg _ 24 (by decide) _ (b2_at g G l hg 7) r
theorem b4_at (r : Fin 8) : b4 g (ix2 r l) = ((cum G (32 + (r.val + 1)) : ℝ) : EReal) := nx g G l hg _ 32 (by decide) _ (b3_at g G l hg 7) r
theorem b5_at (r : Fin 8) : b5 g (ix2 r l) = ((cum G (40 + (r.val + 1)) : ℝ) : EReal) := nx g G l hg _ 40 (by decide) _ (b4_at g G l hg 7) r
theorem b6_at (r : Fin 8) : b6 g (ix2 r l) = ((cum G (48 + (r.val + 1)) : ℝ) : EReal) := nx g G l hg _ 48 (by decide) _ (b5_at g G l hg 7) r
theorem b7_at (r : Fin 8) : b7 g (ix2 r l) = ((cum G (56 + (r.val + 1)) : ℝ) : EReal) := nx g G l hg _ 56 (by decide) _ (b6_at g G l hg 7) r
end Col

theorem cat8_at (x0 x1 x2 x3 x4 x5 x6 x7 : FVec Ideal S8x1024 .f32) (l : Fin 1024) (f : ℕ → EReal)
    (h0 : ∀ r : Fin 8, x0 (ix2 r l) = f r.val) (h1 : ∀ r : Fin 8, x1 (ix2 r l) = f (8 + r.val)) (h2 : ∀ r : Fin 8, x2 (ix2 r l) = f (16 + r.val))
    (h3 : ∀ r : Fin 8, x3 (ix2 r l) = f (24 + r.val)) (h4 : ∀ r : Fin 8, x4 (ix2 r l) = f (32 + r.val)) (h5 : ∀ r : Fin 8, x5 (ix2 r l) = f (40 + r.val))
    (h6 : ∀ r : Fin 8, x6 (ix2 r l) = f (48 + r.val)) (h7 : ∀ r : Fin 8, x7 (ix2 r l) = f (56 + r.val)) (t : Fin 64) :
    cat8 x0 x1 x2 x3 x4 x5 x6 x7 (ix2 t l) = f t.val := by
  pointwise [cat8]
  simp only [h0, h1, h2, h3, h4, h5, h6, h7]
  split_ifs <;> (congr 1; try omega)

section Col
variable (g : Vec Ideal S64x1024 .f32) (G : ℕ → ℝ) (l : Fin 1024) (hg : ∀ t : Fin 64, g (ix2 t l) = ((G t.val : ℝ) : EReal))
include hg
theorem bc_at (t : Fin 64) : bc g (ix2 t l) = ((cum G (t.val + 1) : ℝ) : EReal) :=
  cat8_at _ _ _ _ _ _ _ _ l (fun t => ((cum G (t + 1) : ℝ) : EReal)) (b0_at g G l hg) (b1_at g G l hg) (b2_at g G l hg) (b3_at g G l hg) (b4_at g G l hg)
    (b5_at g G l hg) (b6_at g G l hg) (b7_at g G l hg) t
theorem m32_at (t : Fin 64) : m32 g (ix2 t l) = ((cum G (t.val / 64 * 64 + 32) : ℝ) : EReal) := by
  pointwise [m32, last, row, re]
  rw [show (ix2 (7 : Fin 8) l) = ix2 7 l from rfl, b3_at g G l hg]
  simp [Nat.div_eq_of_lt t.isLt]
theorem m16_at (t : Fin 64) : m16 g (ix2 t l) = ((cum G (t.val / 32 * 32 + 16) : ℝ) : EReal) := by
  have := t.isLt
  pointwise [m16, last, row, re]
  simp only [b1_at g G l hg, b5_at g G l hg]
  split_ifs <;> (congr 2; try omega)
theorem m8_at (t : Fin 64) : m8 g (ix2 t l) = ((cum G (t.val / 16 * 16 + 8) : ℝ) : EReal) := by
  have := t.isLt
  pointwise [m8, last, row, re]
  simp only [b0_at g G l hg, b2_at g G l hg, b4_at g G l hg, b6_at g G l hg]
  split_ifs <;> (congr 2; try omega)
end Col

section E
variable (x : FVec Ideal S8x1024 .f32) (f : ℕ → EReal) (o : ℕ) (l : Fin 1024) (hx : ∀ r : Fin 8, x (ix2 r l) = f (o + (r.val + 1)))
include hx
theorem e4_at (r : Fin 8) : e4 x (ix2 r l) = f (o + (r.val / 8 * 8 + 4)) := by
  have := r.isLt
  pointwise [e4, rep8, re, row]
  rw [hx]
  congr 1
  show o + (3 + 1) = _
  omega
theorem e2_at (r : Fin 8) : e2 x (ix2 r l) = f (o + (r.val / 4 * 4 + 2)) := by
  have := r.isLt
  pointwise [e2, rep8, re, row, lt, sub]
  rw [sel_lt _ _ (by decide), hx, hx]
  split_ifs <;> (refine congrArg f ?_; omega)
theorem e1_at (r : Fin 8) : e1 x (ix2 r l) = f (o + (r.val / 2 * 2 + 1)) := by
  have := r.isLt
  pointwise [e1, rep8, re, row, lt, sub]
  simp only [sel_lt _ 2 (by decide), sel_lt _ 4 (by decide), sel_lt _ 6 (by decide), hx]
  split_ifs <;> (refine congrArg f ?_; omega)
end E

section Col
variable (g : Vec Ideal S64x1024 .f32) (G : ℕ → ℝ) (l : Fin 1024) (hg : ∀ t : Fin 64, g (ix2 t l) = ((G t.val : ℝ) : EReal))
include hg
theorem b0_at' (r : Fin 8) : b0 g (ix2 r l) = ((cum G (0 + (r.val + 1)) : ℝ) : EReal) := by rw [b0_at g G l hg, Nat.zero_add]
theorem m4_at (t : Fin 64) : m4 g (ix2 t l) = ((cum G (t.val / 8 * 8 + 4) : ℝ) : EReal) := by
  let f : ℕ → EReal := fun n => ((cum G n : ℝ) : EReal)
  refine cat8_at _ _ _ _ _ _ _ _ l (fun t => f (t / 8 * 8 + 4)) ?_ ?_ ?_ ?_ ?_ ?_ ?_ ?_ t <;> intro r
  · refine (e4_at _ f 0 l (b0_at' g G l hg) r).trans (congrArg f (by omega))
  · refine (e4_at _ f 8 l (b1_at g G l hg) r).trans (congrArg f (by omega))
  · refine (e4_at _ f 16 l (b2_at g G l hg) r).trans (congrArg f (by omega))
  · refine (e4_at _ f 24 l (b3_at g G l hg) r).trans (congrArg f (by omega))
  · refine (e4_at _ f 32 l (b4_at g G l hg) r).trans (congrArg f (by omega))
  · refine (e4_at _ f 40 l (b5_at g G l hg) r).trans (congrArg f (by omega))
  · refine (e4_at _ f 48 l (b6_at g G l hg) r).trans (congrArg f (by omega))
  · refine (e4_at _ f 56 l (b7_at g G l hg) r).trans (congrArg f (by omega))
theorem m2_at (t : Fin 64) : m2 g (ix2 t l) = ((cum G (t.val / 4 * 4 + 2) : ℝ) : EReal) := by
  let f : ℕ → EReal := fun n => ((cum G n : ℝ) : EReal)
  refine cat8_at _ _ _ _ _ _ _ _ l (fun t => f (t / 4 * 4 + 2)) ?_ ?_ ?_ ?_ ?_ ?_ ?_ ?_ t <;> intro r
  · refine (e2_at _ f 0 l (b0_at' g G l hg) r).trans (congrArg f (by omega))
  · refine (e2_at _ f 8 l (b1_at g G l hg) r).trans (congrArg f (by omega))
  · refine (e2_at _ f 16 l (b2_at g G l hg) r).trans (congrArg f (by omega))
  · refine (e2_at _ f 24 l (b3_at g G l hg) r).trans (congrArg f (by omega))
  · refine (e2_at _ f 32 l (b4_at g G l hg) r).trans (congrArg f (by omega))
  · refine (e2_at _ f 40 l (b5_at g G l hg) r).trans (congrArg f (by omega))
  · refine (e2_at _ f 48 l (b6_at g G l hg) r).trans (congrArg f (by omega))
  · refine (e2_at _ f 56 l (b7_at g G l hg) r).trans (congrArg f (by omega))
theorem m1_at (t : Fin 64) : m1 g (ix2 t l) = ((cum G (t.val / 2 * 2 + 1) : ℝ) : EReal) := by
  let f : ℕ → EReal := fun n => ((cum G n : ℝ) : EReal)
  refine cat8_at _ _ _ _ _ _ _ _ l (fun t => f (t / 2 * 2 + 1)) ?_ ?_ ?_ ?_ ?_ ?_ ?_ ?_ t <;> intro r
  · refine (e1_at _ f 0 l (b0_at' g G l hg) r).trans (congrArg f (by omega))
  · refine (e1_at _ f 8 l (b1_at g G l hg) r).trans (congrArg f (by omega))
  · refine (e1_at _ f 16 l (b2_at g G l hg) r).trans (congrArg f (by omega))
  · refine (e1_at _ f 24 l (b3_at g G l hg) r).trans (congrArg f (by omega))
  · refine (e1_at _ f 32 l (b4_at g G l hg) r).trans (congrArg f (by omega))
  · refine (e1_at _ f 40 l (b5_at g G l hg) r).trans (congrArg f (by omega))
  · refine (e1_at _ f 48 l (b6_at g G l hg) r).trans (congrArg f (by omega))
  · refine (e1_at _ f 56 l (b7_at g G l hg) r).trans (congrArg f (by omega))
end Col

/-! ### The levels' masks -/
def mk (sh h : BitVec 32) : IVec S64x64 1 :=
  andi (andi (cmpi .eq (shrsi (iota .tc S64x64 32 [0] iota_S64x64_d0_w32) (broadcast S64x64 sh)) (shrsi (iota .tc S64x64 32 [1] iota_S64x64_d1_w32) (broadcast S64x64 sh)))
    (cmpi .ne (andi (iota .tc S64x64 32 [0] iota_S64x64_d0_w32) (broadcast S64x64 h)) (broadcast S64x64 0#32)))
    (cmpi .eq (andi (iota .tc S64x64 32 [1] iota_S64x64_d1_w32) (broadcast S64x64 h)) (broadcast S64x64 0#32))
def mk0 : IVec S64x64 1 := cmpi .eq (iota .tc S64x64 32 [0] iota_S64x64_d0_w32) (iota .tc S64x64 32 [1] iota_S64x64_d1_w32)

/-- The bit of a level at a row and a column. -/
def bit (sh h : BitVec 32) (t s : Fin 64) : BitVec 1 :=
  IntOp.andi (IntOp.andi (IntOp.cmpi .eq (IntOp.shrsi .vector (BitVec.ofNat 32 t.val) sh) (IntOp.shrsi .vector (BitVec.ofNat 32 s.val) sh))
    (IntOp.cmpi .ne (IntOp.andi (BitVec.ofNat 32 t.val) h) 0#32)) (IntOp.cmpi .eq (IntOp.andi (BitVec.ofNat 32 s.val) h) 0#32)
theorem mk_at (sh h : BitVec 32) (t s : Fin 64) : mk sh h (ix2 t s) = bit sh h t s := by
  pointwise [mk, bit]
theorem mk0_at (t s : Fin 64) : mk0 (ix2 t s) = if s = t then 1#1 else 0#1 := by
  pointwise [mk0]
  revert t s
  decide +kernel

/-- The row is in the upper half and the column in the lower half of the same block of `2 h`. -/
def hit (h : ℕ) (t s : Fin 64) : Bool := decide (t.val / (2 * h) = s.val / (2 * h) ∧ h ≤ t.val % (2 * h) ∧ s.val % (2 * h) < h)
theorem bit1 : ∀ t s : Fin 64, (bit 1#32 1#32 t s = 1) ↔ hit 1 t s = true := by decide +kernel
theorem bit2 : ∀ t s : Fin 64, (bit 2#32 2#32 t s = 1) ↔ hit 2 t s = true := by decide +kernel
theorem bit4 : ∀ t s : Fin 64, (bit 3#32 4#32 t s = 1) ↔ hit 4 t s = true := by decide +kernel
theorem bit8 : ∀ t s : Fin 64, (bit 4#32 8#32 t s = 1) ↔ hit 8 t s = true := by decide +kernel
theorem bit16 : ∀ t s : Fin 64, (bit 5#32 16#32 t s = 1) ↔ hit 16 t s = true := by decide +kernel
theorem bit32 : ∀ t s : Fin 64, (bit 6#32 32#32 t s = 1) ↔ hit 32 t s = true := by decide +kernel
theorem hit_some : ∀ t s : Fin 64, s < t → (hit 1 t s || hit 2 t s || hit 4 t s || hit 8 t s || hit 16 t s || hit 32 t s) = true := by decide +kernel
theorem hit_mid {h : ℕ} (hh : 0 < h) {t s : Fin 64} (e : hit h t s = true) : s.val + 1 ≤ t.val / (2 * h) * (2 * h) + h ∧ t.val / (2 * h) * (2 * h) + h ≤ t.val := by
  have e := of_decide_eq_true e
  have a := Nat.div_add_mod t.val (2 * h)
  have b := Nat.div_add_mod s.val (2 * h)
  rw [← e.1] at b
  rw [Nat.mul_comm] at a b
  omega

end Cert.Proof.Chunk
-- ==== Proof.ChunkAt.lean ====
module
public import proofs.«01_k».proof.Proof.ChunkSum

@[expose] public section
set_option maxRecDepth 16384
noncomputable section

/-! One head of a chunk: its output and the state it leaves are the recurrence's. -/
namespace Cert.Proof.Chunk
open Cert.KernelIdeal Cert.KernelIdeal.Facts Cert.KernelIdeal.Gen Cert.Proof.Rec
open Idealize.ShloMosaic Idealize.ShloMosaic.TcCoe Idealize.ShloMosaic.Tactic

theorem coe_sum {ι : Type} (A : Finset ι) (f : ι → ℝ) : ((∑ i ∈ A, f i : ℝ) : EReal) = ∑ i ∈ A, ((f i : ℝ) : EReal) := by
  classical
  induction A using Finset.induction_on with
  | empty => rfl
  | insert a A h ih => rw [Finset.sum_insert h, Finset.sum_insert h, EReal.coe_add, ih]

theorem dec_at (q a b : FVec Ideal S64x1024 .f32) (t : Fin 64) (l : Fin 1024) (x y z : ℝ) (hq : q (ix2 t l) = ((x : ℝ) : EReal)) (ha : a (ix2 t l) = ((y : ℝ) : EReal)) (hb : b (ix2 t l) = ((z : ℝ) : EReal)) (h : y ≤ z) :
    dec q a b (ix2 t l) = ((x * Real.exp (y - z) : ℝ) : EReal) := by
  pointwise [dec]
  rw [hq, ha, hb, ← EReal.coe_sub, min_eq_left (by exact_mod_cast (by linarith : y - z ≤ 0)), Ideal.exp_coe, EReal.coe_mul]

theorem sc_at (o : ℕ) (ho : o + 128 ≤ 1024) (h : S64x1024.Slices ![0, o] S64x128) (a b : FVec Ideal S64x1024 .bf16) (t s : Fin 64) :
    sc o h a b (ix2 t s) = ∑ k : Fin 128, a (ix2 t ⟨o + k.val, by omega⟩) * b (ix2 s ⟨o + k.val, by omega⟩) := by
  pointwise [sc]

section Head
variable (o : ℕ) (ho : o + 128 ≤ 1024) (h : S64x1024.Slices ![0, o] S64x128) (h1 : S1x1024.Slices ![0, o] S1x128)
  (g q k : Vec Ideal S64x1024 .f32) (v : Vec Ideal S64x1024 .bf16) (st : Vec Ideal S1x1x128x128 .f32)
  (G Q K V : Fin 128 → ℕ → ℝ) (S : Fin 128 → Fin 128 → ℝ) (hG : ∀ x s, G x s ≤ 0)
  (eg : ∀ (t : Fin 64) (x : Fin 128), g (ix2 t ⟨o + x.val, by omega⟩) = ((G x t.val : ℝ) : EReal))
  (eq : ∀ (t : Fin 64) (x : Fin 128), q (ix2 t ⟨o + x.val, by omega⟩) = ((Q x t.val : ℝ) : EReal))
  (ek : ∀ (t : Fin 64) (x : Fin 128), k (ix2 t ⟨o + x.val, by omega⟩) = ((K x t.val : ℝ) : EReal))
  (ev : ∀ (t : Fin 64) (x : Fin 128), v (ix2 t ⟨o + x.val, by omega⟩) = ((V x t.val : ℝ) : EReal))
  (es : ∀ (j x : Fin 128), st (ix4 0 0 j x) = ((S j x : ℝ) : EReal))

/-- The pair's score. -/
def pair (G Q K : Fin 128 → ℕ → ℝ) (t s : ℕ) : ℝ := ∑ x, Q x t * (K x s * Real.exp (cum (G x) (t + 1) - cum (G x) (s + 1)))

include hG eg eq ek in
theorem lev (n : ℕ) (hn : 0 < n) (m : FVec Ideal S64x1024 .f32) (t s : Fin 64) (e : hit n t s = true)
    (em : ∀ (t : Fin 64) (x : Fin 128), m (ix2 t ⟨o + x.val, by omega⟩) = ((cum (G x) (t.val / (2 * n) * (2 * n) + n) : ℝ) : EReal)) :
    sc o h (dec q (bc g) m) (dec k m (bc g)) (ix2 t s) = ((pair G Q K t.val s.val : ℝ) : EReal) := by
  have hm := hit_mid hn e
  have hb : s.val / (2 * n) = t.val / (2 * n) := (of_decide_eq_true e).1.symm
  rw [sc_at o ho h, pair, coe_sum]
  refine Finset.sum_congr rfl fun x _ => ?_
  rw [dec_at _ _ _ _ _ _ _ _ (eq t x) (bc_at g (G x) _ (fun t => eg t x) t) (em t x) (cum_anti _ (hG x) (by omega)),
    dec_at _ _ _ _ _ _ _ _ (ek s x) (em s x) (bc_at g (G x) _ (fun t => eg t x) s) (cum_anti _ (hG x) (by rw [hb]; omega)), ← EReal.coe_mul, hb]
  congr 1
  rw [mul_mul_mul_comm, ← Real.exp_add, mul_assoc]
  congr 3
  ring

include hG eg eq ek in
theorem score_at (t s : Fin 64) : score mk0 (mk 1#32 1#32) (mk 2#32 2#32) (mk 3#32 4#32) (mk 4#32 8#32) (mk 5#32 16#32) (mk 6#32 32#32) o h g q k (ix2 t s)
    = if s ≤ t then ((pair G Q K t.val s.val : ℝ) : EReal) else 0 := by
  pointwise [score]
  simp only [mk_at, mk0_at, Scalar.select, bit1, bit2, bit4, bit8, bit16, bit32]
  have lt : ∀ n, 0 < n → hit n t s = true → s ≤ t := fun n hn e => by
    have := hit_mid hn e
    exact Fin.le_def.2 (by omega)
  by_cases e1 : hit 1 t s = true
  · rw [if_pos e1, if_pos (lt _ (by decide) e1)]
    exact lev o ho h g q k G Q K hG eg eq ek 1 (by decide) _ t s e1 fun t x => m1_at g (G x) _ (fun t => eg t x) t
  rw [if_neg e1]
  by_cases e2 : hit 2 t s = true
  · rw [if_pos e2, if_pos (lt _ (by decide) e2)]
    exact lev o ho h g q k G Q K hG eg eq ek 2 (by decide) _ t s e2 fun t x => m2_at g (G x) _ (fun t => eg t x) t
  rw [if_neg e2]
  by_cases e4 : hit 4 t s = true
  · rw [if_pos e4, if_pos (lt _ (by decide) e4)]
    exact lev o ho h g q k G Q K hG eg eq ek 4 (by decide) _ t s e4 fun t x => m4_at g (G x) _ (fun t => eg t x) t
  rw [if_neg e4]
  by_cases e8 : hit 8 t s = true
  · rw [if_pos e8, if_pos (lt _ (by decide) e8)]
    exact lev o ho h g q k G Q K hG eg eq ek 8 (by decide) _ t s e8 fun t x => m8_at g (G x) _ (fun t => eg t x) t
  rw [if_neg e8]
  by_cases e16 : hit 16 t s = true
  · rw [if_pos e16, if_pos (lt _ (by decide) e16)]
    exact lev o ho h g q k G Q K hG eg eq ek 16 (by decide) _ t s e16 fun t x => m16_at g (G x) _ (fun t => eg t x) t
  rw [if_neg e16]
  by_cases e32 : hit 32 t s = true
  · rw [if_pos e32, if_pos (lt _ (by decide) e32)]
    exact lev o ho h g q k G Q K hG eg eq ek 32 (by decide) _ t s e32 fun t x => m32_at g (G x) _ (fun t => eg t x) t
  rw [if_neg e32]
  by_cases e0 : s = t
  · subst e0
    rw [if_pos rfl, if_pos (show (1#1 : BitVec 1) = 1 from rfl), if_pos le_rfl, sc_at o ho h, pair, coe_sum]
    refine Finset.sum_congr rfl fun x _ => ?_
    rw [sub_self, Real.exp_zero, mul_one, EReal.coe_mul, ← eq s x, ← ek s x]
    rfl
  rw [if_neg e0, if_neg (by decide), if_neg fun le => ?_]
  have hs := hit_some t s (lt_of_le_of_ne le e0)
  simp only [Bool.or_eq_true] at hs
  rcases hs with ((((a | a) | a) | a) | a) | a <;> contradiction

include hG eg eq ek ev es in
theorem headO_at (t : Fin 64) (j : Fin 128) :
    headO mk0 (mk 1#32 1#32) (mk 2#32 2#32) (mk 3#32 4#32) (mk 4#32 8#32) (mk 5#32 16#32) (mk 6#32 32#32) o h g q k v st (ix2 t j)
      = ((∑ x, Q x t.val * rc (fun s => Real.exp (G x s)) (fun s => K x s * V j s) (S j x) (t.val + 1) : ℝ) : EReal) := by
  have e : headO mk0 (mk 1#32 1#32) (mk 2#32 2#32) (mk 3#32 4#32) (mk 4#32 8#32) (mk 5#32 16#32) (mk 6#32 32#32) o h g q k v st (ix2 t j)
      = ∑ s : Fin 64, score mk0 (mk 1#32 1#32) (mk 2#32 2#32) (mk 3#32 4#32) (mk 4#32 8#32) (mk 5#32 16#32) (mk 6#32 32#32) o h g q k (ix2 t s) * v (ix2 s ⟨o + j.val, by omega⟩)
        + ∑ x : Fin 128, q (ix2 t ⟨o + x.val, by omega⟩) * Ideal.exp (bc g (ix2 t ⟨o + x.val, by omega⟩)) * st (ix4 0 0 j x) := by
    pointwise [headO, mat]
  rw [e, ← query, EReal.coe_add]
  congr 1
  · rw [show ∑ s ∈ Finset.range (t.val + 1), (∑ x, Q x t.val * (K x s * Real.exp (cum (G x) (t.val + 1) - cum (G x) (s + 1)))) * V j s
        = ∑ s : Fin 64, if s ≤ t then pair G Q K t.val s.val * V j s.val else 0 from ?_, coe_sum]
    · refine Finset.sum_congr rfl fun s _ => ?_
      rw [score_at o ho h g q k G Q K hG eg eq ek, ev s j]
      split_ifs
      · exact (EReal.coe_mul _ _).symm
      · exact zero_mul _
    · rw [← Finset.sum_filter]
      refine (Finset.sum_bij (fun (s : Fin 64) _ => s.val) (fun s hs => ?_) (fun a _ b _ e => Fin.ext e) (fun b hb => ?_) fun s hs => rfl).symm
      · exact Finset.mem_range.2 (Nat.lt_succ_of_le (Finset.mem_filter.1 hs).2)
      · have := Finset.mem_range.1 hb
        exact ⟨⟨b, by omega⟩, Finset.mem_filter.2 ⟨Finset.mem_univ _, Fin.le_def.2 (by show b ≤ t.val; omega)⟩, rfl⟩
  · rw [coe_sum]
    refine Finset.sum_congr rfl fun x _ => ?_
    rw [eq t x, bc_at g (G x) _ (fun t => eg t x) t, es j x, Ideal.exp_coe, EReal.coe_mul, EReal.coe_mul]

include eg ek ev es in
theorem headS_at (j x : Fin 128) : headS o h h1 g k v st (ix4 0 0 j x) = ((rc (fun s => Real.exp (G x s)) (fun s => K x s * V j s) (S j x) 64 : ℝ) : EReal) := by
  have e : headS o h h1 g k v st (ix4 0 0 j x) = Ideal.exp (b7 g (ix2 7 ⟨o + x.val, by omega⟩)) * st (ix4 0 0 j x)
      + ∑ s : Fin 64, v (ix2 s ⟨o + j.val, by omega⟩) * (k (ix2 s ⟨o + x.val, by omega⟩) * Ideal.exp (b7 g (ix2 7 ⟨o + x.val, by omega⟩) - bc g (ix2 s ⟨o + x.val, by omega⟩))) := by
    pointwise [headS, mat, row]
  have e7 := b7_at g (G x) _ (fun t => eg t x) 7
  rw [e, e7, es j x, rc_exp, EReal.coe_add, Ideal.exp_coe, EReal.coe_mul]
  congr 1
  rw [Finset.sum_range, coe_sum]
  refine Finset.sum_congr rfl fun s _ => ?_
  rw [ev s j, ek s x, bc_at g (G x) _ (fun t => eg t x) s, ← EReal.coe_sub, Ideal.exp_coe, ← EReal.coe_mul, ← EReal.coe_mul]
  congr 1
  show V j s.val * (K x s.val * Real.exp (cum (G x) 64 - _)) = _
  ring
end Head
end Cert.Proof.Chunk
-- ==== Proof.LoopB.lean ====
module
public import proofs.«01_k».proof.Proof.ChunkAt

@[expose] public section
set_option maxRecDepth 16384
noncomputable section

/-! The second loop of the mixer: after `n` trips the state of each sequence and head has run `64 n` rows, and those rows of
    the queries are replaced by the outputs. -/
namespace Cert.Proof.Chunk
open Cert.KernelIdeal Cert.KernelIdeal.Facts Cert.KernelIdeal.Gen Cert.Proof.Rec
open Idealize.ShloMosaic Idealize.ShloMosaic.TcCoe Idealize.ShloMosaic.Tactic

/-- Column `x` of head `hd`. -/
def col (hd : Fin 8) (x : Fin 128) : Fin 1024 := ⟨128 * hd.val + x.val, by omega⟩

theorem slc : ∀ hd : Fin 8, S64x1024.Slices ![0, 128 * hd.val] S64x128 := by
  intro hd
  fin_cases hd
  · exact slices_S64x1024_o0_0_S64x128
  · exact slices_S64x1024_o0_128_S64x128
  · exact slices_S64x1024_o0_256_S64x128
  · exact slices_S64x1024_o0_384_S64x128
  · exact slices_S64x1024_o0_512_S64x128
  · exact slices_S64x1024_o0_640_S64x128
  · exact slices_S64x1024_o0_768_S64x128
  · exact slices_S64x1024_o0_896_S64x128
theorem slc1 : ∀ hd : Fin 8, S1x1024.Slices ![0, 128 * hd.val] S1x128 := by
  intro hd
  fin_cases hd
  · exact slices_S1x1024_o0_0_S1x128
  · exact slices_S1x1024_o0_128_S1x128
  · exact slices_S1x1024_o0_256_S1x128
  · exact slices_S1x1024_o0_384_S1x128
  · exact slices_S1x1024_o0_512_S1x128
  · exact slices_S1x1024_o0_640_S1x128
  · exact slices_S1x1024_o0_768_S1x128
  · exact slices_S1x1024_o0_896_S1x128

theorem allO_at (w0 w1 w2 w4 w8 w16 w32 : IVec S64x64 1) (g q k : Vec Ideal S64x1024 .f32) (v : Vec Ideal S64x1024 .bf16) (st : Fin 8 → Vec Ideal S1x1x128x128 .f32) (hd : Fin 8) (t : Fin 64) (j : Fin 128) :
    allO w0 w1 w2 w4 w8 w16 w32 g q k v st (ix2 t (col hd j)) = headO w0 w1 w2 w4 w8 w16 w32 (128 * hd.val) (slc hd) g q k v (st hd) (ix2 t j) := by
  fin_cases hd
  · have e : allO w0 w1 w2 w4 w8 w16 w32 g q k v st (ix2 t ⟨0 + j.val, by omega⟩) = headO w0 w1 w2 w4 w8 w16 w32 0 slices_S64x1024_o0_0_S64x128 g q k v (st 0) (ix2 t j) := by
      pointwise [allO]
    exact e
  · have e : allO w0 w1 w2 w4 w8 w16 w32 g q k v st (ix2 t ⟨128 + j.val, by omega⟩) = headO w0 w1 w2 w4 w8 w16 w32 128 slices_S64x1024_o0_128_S64x128 g q k v (st 1) (ix2 t j) := by
      pointwise [allO]
    exact e
  · have e : allO w0 w1 w2 w4 w8 w16 w32 g q k v st (ix2 t ⟨256 + j.val, by omega⟩) = headO w0 w1 w2 w4 w8 w16 w32 256 slices_S64x1024_o0_256_S64x128 g q k v (st 2) (ix2 t j) := by
      pointwise [allO]
      rw [dif_neg (by omega), dif_neg (by omega), dif_pos (by omega)]
      try exact congrArg (headO _ _ _ _ _ _ _ _ _ _ _ _ _ _) (congrArg (ix2 t) (Fin.ext (by simp only; omega)))
    exact e
  · have e : allO w0 w1 w2 w4 w8 w16 w32 g q k v st (ix2 t ⟨384 + j.val, by omega⟩) = headO w0 w1 w2 w4 w8 w16 w32 384 slices_S64x1024_o0_384_S64x128 g q k v (st 3) (ix2 t j) := by
      pointwise [allO]
      rw [dif_neg (by omega), dif_neg (by omega), dif_neg (by omega), dif_pos (by omega)]
      try exact congrArg (headO _ _ _ _ _ _ _ _ _ _ _ _ _ _) (congrArg (ix2 t) (Fin.ext (by simp only; omega)))
    exact e
  · have e : allO w0 w1 w2 w4 w8 w16 w32 g q k v st (ix2 t ⟨512 + j.val, by omega⟩) = headO w0 w1 w2 w4 w8 w16 w32 512 slices_S64x1024_o0_512_S64x128 g q k v (st 4) (ix2 t j) := by
      pointwise [allO]
      rw [dif_neg (by omega), dif_neg (by omega), dif_neg (by omega), dif_neg (by omega), dif_pos (by omega)]
      try exact congrArg (headO _ _ _ _ _ _ _ _ _ _ _ _ _ _) (congrArg (ix2 t) (Fin.ext (by simp only; omega)))
    exact e
  · have e : allO w0 w1 w2 w4 w8 w16 w32 g q k v st (ix2 t ⟨640 + j.val, by omega⟩) = headO w0 w1 w2 w4 w8 w16 w32 640 slices_S64x1024_o0_640_S64x128 g q k v (st 5) (ix2 t j) := by
      pointwise [allO]
      rw [dif_neg (by omega), dif_neg (by omega), dif_neg (by omega), dif_neg (by omega), dif_neg (by omega), dif_pos (by omega)]
      try exact congrArg (headO _ _ _ _ _ _ _ _ _ _ _ _ _ _) (congrArg (ix2 t) (Fin.ext (by simp only; omega)))
    exact e
  · have e : allO w0 w1 w2 w4 w8 w16 w32 g q k v st (ix2 t ⟨768 + j.val, by omega⟩) = headO w0 w1 w2 w4 w8 w16 w32 768 slices_S64x1024_o0_768_S64x128 g q k v (st 6) (ix2 t j) := by
      pointwise [allO]
      rw [dif_neg (by omega), dif_neg (by omega), dif_neg (by omega), dif_neg (by omega), dif_neg (by omega), dif_neg (by omega), dif_pos (by omega)]
      try exact congrArg (headO _ _ _ _ _ _ _ _ _ _ _ _ _ _) (congrArg (ix2 t) (Fin.ext (by simp only; omega)))
    exact e
  · have e : allO w0 w1 w2 w4 w8 w16 w32 g q k v st (ix2 t ⟨896 + j.val, by omega⟩) = headO w0 w1 w2 w4 w8 w16 w32 896 slices_S64x1024_o0_896_S64x128 g q k v (st 7) (ix2 t j) := by
      pointwise [allO]
      rw [dif_neg (by omega), dif_neg (by omega), dif_neg (by omega), dif_neg (by omega), dif_neg (by omega), dif_neg (by omega), dif_neg (by omega)]
      try exact congrArg (headO _ _ _ _ _ _ _ _ _ _ _ _ _ _) (congrArg (ix2 t) (Fin.ext (by simp only; omega)))
    exact e

/-- Reading past, or from, one stored state. -/
theorem stS (v : View sig .tc .vmem S2x8x128x128 .f32) (f : v.ty.Contents (Elt Ideal)) (b' h' : ℕ) (inb : ∀ a, (![b', h', 0, 0] : Fin 4 → ℕ) a + S1x1x128x128.size a ≤ S2x8x128x128.size a) (w : Vec Ideal S1x1x128x128 .f32)
    (L : List (View.Piece (Elt Ideal) S2x8x128x128 .f32)) (b : Fin 2) (hd : Fin 8) (j x : Fin 128) :
    v.read (Elt Ideal) (v.writes (Elt Ideal) f (⟨Rect.unit (s := S2x8x128x128) ![b', h', 0, 0] S1x1x128x128.size inb, w⟩ :: L)) (ix4 b hd j x)
      = if b.val = b' ∧ hd.val = h' then w (ix4 0 0 j x) else v.read (Elt Ideal) (v.writes (Elt Ideal) f L) (ix4 b hd j x) := by
  by_cases e : b.val = b' ∧ hd.val = h'
  · rw [if_pos e]
    refine View.read_writes_cons_unit_of_mem v f inb w L (ix4 b hd j x) (ix4 0 0 j x) rfl fun a => ?_
    fin_cases a
    · show b.val = b' + 0; omega
    · show hd.val = h' + 0; omega
    · show j.val = 0 + j.val; omega
    · show x.val = 0 + x.val; omega
  · rw [if_neg e]
    by_cases e0 : b.val = b'
    · refine View.read_writes_cons_unit_of_not_mem v f inb w L (ix4 b hd j x) rfl (1 : Fin 4) ?_
      show hd.val < h' ∨ h' + 1 ≤ hd.val
      omega
    · refine View.read_writes_cons_unit_of_not_mem v f inb w L (ix4 b hd j x) rfl (0 : Fin 4) ?_
      show b.val < b' ∨ b' + 1 ≤ b.val
      omega

/-- The sixteen stored states read back. -/
theorem readS (v : View sig .tc .vmem S2x8x128x128 .f32) (f : v.ty.Contents (Elt Ideal)) (w0 w1 : Fin 8 → Vec Ideal S1x1x128x128 .f32)
    (L : List (View.Piece (Elt Ideal) S2x8x128x128 .f32)) (b : Fin 2) (hd : Fin 8) (j x : Fin 128) :
    v.read (Elt Ideal) (v.writes (Elt Ideal) f ([
      ⟨Rect.unit (s := S2x8x128x128) ![1, 7, 0, 0] S1x1x128x128.size inb_S2x8x128x128_S1x1x128x128_1_7_0_0, w1 7⟩,
      ⟨Rect.unit (s := S2x8x128x128) ![1, 6, 0, 0] S1x1x128x128.size inb_S2x8x128x128_S1x1x128x128_1_6_0_0, w1 6⟩,
      ⟨Rect.unit (s := S2x8x128x128) ![1, 5, 0, 0] S1x1x128x128.size inb_S2x8x128x128_S1x1x128x128_1_5_0_0, w1 5⟩,
      ⟨Rect.unit (s := S2x8x128x128) ![1, 4, 0, 0] S1x1x128x128.size inb_S2x8x128x128_S1x1x128x128_1_4_0_0, w1 4⟩,
      ⟨Rect.unit (s := S2x8x128x128) ![1, 3, 0, 0] S1x1x128x128.size inb_S2x8x128x128_S1x1x128x128_1_3_0_0, w1 3⟩,
      ⟨Rect.unit (s := S2x8x128x128) ![1, 2, 0, 0] S1x1x128x128.size inb_S2x8x128x128_S1x1x128x128_1_2_0_0, w1 2⟩,
      ⟨Rect.unit (s := S2x8x128x128) ![1, 1, 0, 0] S1x1x128x128.size inb_S2x8x128x128_S1x1x128x128_1_1_0_0, w1 1⟩,
      ⟨Rect.unit (s := S2x8x128x128) ![1, 0, 0, 0] S1x1x128x128.size inb_S2x8x128x128_S1x1x128x128_1_0_0_0, w1 0⟩,
      ⟨Rect.unit (s := S2x8x128x128) ![0, 7, 0, 0] S1x1x128x128.size inb_S2x8x128x128_S1x1x128x128_0_7_0_0, w0 7⟩,
      ⟨Rect.unit (s := S2x8x128x128) ![0, 6, 0, 0] S1x1x128x128.size inb_S2x8x128x128_S1x1x128x128_0_6_0_0, w0 6⟩,
      ⟨Rect.unit (s := S2x8x128x128) ![0, 5, 0, 0] S1x1x128x128.size inb_S2x8x128x128_S1x1x128x128_0_5_0_0, w0 5⟩,
      ⟨Rect.unit (s := S2x8x128x128) ![0, 4, 0, 0] S1x1x128x128.size inb_S2x8x128x128_S1x1x128x128_0_4_0_0, w0 4⟩,
      ⟨Rect.unit (s := S2x8x128x128) ![0, 3, 0, 0] S1x1x128x128.size inb_S2x8x128x128_S1x1x128x128_0_3_0_0, w0 3⟩,
      ⟨Rect.unit (s := S2x8x128x128) ![0, 2, 0, 0] S1x1x128x128.size inb_S2x8x128x128_S1x1x128x128_0_2_0_0, w0 2⟩,
      ⟨Rect.unit (s := S2x8x128x128) ![0, 1, 0, 0] S1x1x128x128.size inb_S2x8x128x128_S1x1x128x128_0_1_0_0, w0 1⟩,
      ⟨Rect.unit (s := S2x8x128x128) ![0, 0, 0, 0] S1x1x128x128.size inb_S2x8x128x128_S1x1x128x128_0_0_0_0, w0 0⟩] ++ L)) (ix4 b hd j x)
      = if b.val = 0 then w0 hd (ix4 0 0 j x) else w1 hd (ix4 0 0 j x) := by
  simp only [List.cons_append, List.nil_append]
  rw [stS, stS, stS, stS, stS, stS, stS, stS, stS, stS, stS, stS, stS, stS, stS, stS]
  fin_cases b <;> fin_cases hd <;> rfl

theorem off_0 : ∀ k : Fin k0_t2_loop.trips, k0_off2 k 0#32 = ![64 * k.val, 0] ∧ k.val < 2 := by decide +kernel
theorem off_1 : ∀ k : Fin k0_t2_loop.trips, k0_off2 k 128#32 = ![128 + 64 * k.val, 0] := by decide +kernel

theorem rd_at {e : EltTy} (M : Memref sig .tc .vmem S256x1024 e) (k : Fin k0_t2_loop.trips) (r : BitVec 32) (X : BufTy.Contents (Elt Ideal) M.view.ty)
    (h : ∀ a, k0_off2 k r a + S64x1024.size a ≤ S256x1024.size a) (o : ℕ) (ho : k0_off2 k r = ![o, 0]) (j : Fin 64) (l : Fin 1024) (R : Fin 256) (hR : R.val = o + j.val) :
    rd M k r X h (ix2 j l) = M.view.read (Elt Ideal) X (ix2 R l) := by
  refine (View.readAt_apply ..).trans (congrArg _ (funext fun a => Fin.ext ?_))
  show k0_off2 k r a + 1 * (ix2 j l a).val = _
  rw [ho]
  refine Fin.cases ?_ (fun a => ?_) a
  · show o + 1 * j.val = R.val; omega
  · have : a = 0 := Subsingleton.elim _ _
    subst this
    show 0 + 1 * l.val = l.val; omega

theorem rdS_at (M : Memref sig .tc .vmem S2x8x128x128 .f32) (f : BufTy.Contents (Elt Ideal) M.view.ty) (b : ℕ) (hb : b < 2) (hd : Fin 8) (j x : Fin 128) :
    rdS M f b hb hd (ix4 0 0 j x) = M.view.read (Elt Ideal) f (ix4 ⟨b, hb⟩ hd j x) := by
  refine (View.readAt_apply ..).trans (congrArg _ (funext fun a => Fin.ext ?_))
  fin_cases a
  · show b + 1 * 0 = b; omega
  · show hd.val + 1 * 0 = hd.val; omega
  · show 0 + 1 * j.val = j.val; omega
  · show 0 + 1 * x.val = x.val; omega

section Inv
variable (G Q K V : Fin 2 → Fin 1024 → ℕ → ℝ) (S0 : Fin 2 → Fin 8 → Fin 128 → Fin 128 → ℝ)

/-- The state after `n` rows. -/
def sd (b : Fin 2) (hd : Fin 8) (j x : Fin 128) (n : ℕ) : ℝ :=
  rc (fun s => Real.exp (G b (col hd x) s)) (fun s => K b (col hd x) s * V b (col hd j) s) (S0 b hd j x) n

/-- The output of a row. -/
def ob (b : Fin 2) (hd : Fin 8) (j : Fin 128) (r : ℕ) : ℝ := ∑ x, Q b (col hd x) r * sd G K V S0 b hd j x (r + 1)

/-- What the loop holds after `n` trips. -/
structure Inv (n : ℕ) (T : Vec Ideal S2x8x128x128 .f32) (B : Vec Ideal S256x1024 .f32) : Prop where
  hS : ∀ b hd j x, T (ix4 b hd j x) = ((sd G K V S0 b hd j x (64 * n) : ℝ) : EReal)
  hB : ∀ (R : Fin 256) (b : Fin 2) (r : ℕ) hd j, r < 128 → R.val = 128 * b.val + r → B (ix2 R (col hd j)) = (((if r < 64 * n then ob G Q K V S0 b hd j r else Q b (col hd j) r) : ℝ) : EReal)

theorem sd_step (b hd j x n m) : rc (fun s => Real.exp (G b (col hd x) (n + s))) (fun s => K b (col hd x) (n + s) * V b (col hd j) (n + s)) (sd G K V S0 b hd j x n) m = sd G K V S0 b hd j x (n + m) :=
  (rc_add (fun s => Real.exp (G b (col hd x) s)) (fun s => K b (col hd x) s * V b (col hd j) s) (S0 b hd j x) n m).symm

variable (k : Fin k0_t2_loop.trips) (A1 Qm A3 : Memref sig .tc .vmem S256x1024 .f32) (A4 : Memref sig .tc .vmem S256x1024 .bf16) (T : Memref sig .tc .vmem S2x8x128x128 .f32)
    (XG : BufTy.Contents (Elt Ideal) A1.view.ty) (XK : BufTy.Contents (Elt Ideal) A3.view.ty) (XV : BufTy.Contents (Elt Ideal) A4.view.ty)
    (fS : BufTy.Contents (Elt Ideal) T.view.ty) (fQ : BufTy.Contents (Elt Ideal) Qm.view.ty)
    (hG0 : ∀ b l s, G b l s ≤ 0)
    (hG : ∀ (R : Fin 256) (b : Fin 2) (r : ℕ) l, r < 128 → R.val = 128 * b.val + r → A1.view.read (Elt Ideal) XG (ix2 R l) = ((G b l r : ℝ) : EReal))
    (hK : ∀ (R : Fin 256) (b : Fin 2) (r : ℕ) l, r < 128 → R.val = 128 * b.val + r → A3.view.read (Elt Ideal) XK (ix2 R l) = ((K b l r : ℝ) : EReal))
    (hV : ∀ (R : Fin 256) (b : Fin 2) (r : ℕ) l, r < 128 → R.val = 128 * b.val + r → A4.view.read (Elt Ideal) XV (ix2 R l) = ((V b l r : ℝ) : EReal))
    (I : Inv G Q K V S0 k.val (T.view.read (Elt Ideal) fS) (Qm.view.read (Elt Ideal) fQ))

include hG0 hG hK hV I in
theorem head_step (b : Fin 2) (r : BitVec 32) (ho : k0_off2 k r = ![128 * b.val + 64 * k.val, 0]) (h : ∀ a, k0_off2 k r a + S64x1024.size a ≤ S256x1024.size a) (b' : ℕ) (hb' : b' < 2) (hbb : b' = b.val) (hd : Fin 8) :
    (∀ (t : Fin 64) (j : Fin 128), headO mk0 (mk 1#32 1#32) (mk 2#32 2#32) (mk 3#32 4#32) (mk 4#32 8#32) (mk 5#32 16#32) (mk 6#32 32#32) (128 * hd.val) (slc hd)
        (rd A1 k r XG h) (rd Qm k r fQ h) (rd A3 k r XK h) (rd A4 k r XV h) (rdS T fS b' hb' hd) (ix2 t j) = ((ob G Q K V S0 b hd j (64 * k.val + t.val) : ℝ) : EReal))
    ∧ ∀ j x : Fin 128, headS (128 * hd.val) (slc hd) (slc1 hd) (rd A1 k r XG h) (rd A3 k r XK h) (rd A4 k r XV h) (rdS T fS b' hb' hd) (ix4 0 0 j x) = ((sd G K V S0 b hd j x (64 * k.val + 64) : ℝ) : EReal) := by
  subst hbb
  have hk := (off_0 k).2
  have eg : ∀ (t : Fin 64) (x : Fin 128), rd A1 k r XG h (ix2 t ⟨128 * hd.val + x.val, by omega⟩) = ((G b (col hd x) (64 * k.val + t.val) : ℝ) : EReal) := fun t x => by
    rw [rd_at A1 k r XG h _ ho t _ ⟨128 * b.val + 64 * k.val + t.val, by omega⟩ rfl]
    exact hG _ b (64 * k.val + t.val) _ (by omega) (by simp only; omega)
  have ek : ∀ (t : Fin 64) (x : Fin 128), rd A3 k r XK h (ix2 t ⟨128 * hd.val + x.val, by omega⟩) = ((K b (col hd x) (64 * k.val + t.val) : ℝ) : EReal) := fun t x => by
    rw [rd_at A3 k r XK h _ ho t _ ⟨128 * b.val + 64 * k.val + t.val, by omega⟩ rfl]
    exact hK _ b (64 * k.val + t.val) _ (by omega) (by simp only; omega)
  have ev : ∀ (t : Fin 64) (x : Fin 128), rd A4 k r XV h (ix2 t ⟨128 * hd.val + x.val, by omega⟩) = ((V b (col hd x) (64 * k.val + t.val) : ℝ) : EReal) := fun t x => by
    rw [rd_at A4 k r XV h _ ho t _ ⟨128 * b.val + 64 * k.val + t.val, by omega⟩ rfl]
    exact hV _ b (64 * k.val + t.val) _ (by omega) (by simp only; omega)
  have eq : ∀ (t : Fin 64) (x : Fin 128), rd Qm k r fQ h (ix2 t ⟨128 * hd.val + x.val, by omega⟩) = ((Q b (col hd x) (64 * k.val + t.val) : ℝ) : EReal) := fun t x => by
    rw [rd_at Qm k r fQ h _ ho t _ ⟨128 * b.val + 64 * k.val + t.val, by omega⟩ rfl]
    refine (I.hB _ b (64 * k.val + t.val) hd x (by omega) (by simp only; omega)).trans ?_
    rw [if_neg (by omega)]
  have es : ∀ j x : Fin 128, rdS T fS b.val hb' hd (ix4 0 0 j x) = ((sd G K V S0 b hd j x (64 * k.val) : ℝ) : EReal) := fun j x => by
    rw [rdS_at]
    exact I.hS b hd j x
  refine ⟨fun t j => ?_, fun j x => ?_⟩
  · refine (headO_at (128 * hd.val) (by omega) (slc hd) _ _ _ _ _ (fun x s => G b (col hd x) (64 * k.val + s)) (fun x s => Q b (col hd x) (64 * k.val + s)) (fun x s => K b (col hd x) (64 * k.val + s)) (fun x s => V b (col hd x) (64 * k.val + s)) (fun j x => sd G K V S0 b hd j x (64 * k.val))
      (fun x s => hG0 _ _ _) eg eq ek ev es t j).trans (congrArg _ (Finset.sum_congr rfl fun x _ => ?_))
    rw [sd_step]
    rfl
  · refine (headS_at (128 * hd.val) (by omega) (slc hd) (slc1 hd) _ _ _ _ (fun x s => G b (col hd x) (64 * k.val + s)) (fun x s => K b (col hd x) (64 * k.val + s)) (fun x s => V b (col hd x) (64 * k.val + s)) (fun j x => sd G K V S0 b hd j x (64 * k.val))
      eg ek ev es j x).trans (congrArg _ ?_)
    exact sd_step G K V S0 b hd j x _ _

include hG0 hG hK hV I in
theorem inv_step (f0 : BufTy.Contents (Elt Ideal) Qm.view.ty) (L : List (View.Piece (Elt Ideal) S256x1024 .f32)) (hf : fQ = Qm.view.writes (Elt Ideal) f0 L) (f0S : BufTy.Contents (Elt Ideal) T.view.ty) (LS : List (View.Piece (Elt Ideal) S2x8x128x128 .f32)) h0 h1 :
    Inv G Q K V S0 (k.val + 1)
      (T.view.read (Elt Ideal) (T.view.writes (Elt Ideal) f0S ([
      ⟨Rect.unit (s := S2x8x128x128) ![1, 7, 0, 0] S1x1x128x128.size inb_S2x8x128x128_S1x1x128x128_1_7_0_0, (fun hd : Fin 8 => headS (128 * hd.val) (slc hd) (slc1 hd) (rd A1 k 128#32 XG h1) (rd A3 k 128#32 XK h1) (rd A4 k 128#32 XV h1) (rdS T fS 1 (by decide) hd)) 7⟩,
      ⟨Rect.unit (s := S2x8x128x128) ![1, 6, 0, 0] S1x1x128x128.size inb_S2x8x128x128_S1x1x128x128_1_6_0_0, (fun hd : Fin 8 => headS (128 * hd.val) (slc hd) (slc1 hd) (rd A1 k 128#32 XG h1) (rd A3 k 128#32 XK h1) (rd A4 k 128#32 XV h1) (rdS T fS 1 (by decide) hd)) 6⟩,
      ⟨Rect.unit (s := S2x8x128x128) ![1, 5, 0, 0] S1x1x128x128.size inb_S2x8x128x128_S1x1x128x128_1_5_0_0, (fun hd : Fin 8 => headS (128 * hd.val) (slc hd) (slc1 hd) (rd A1 k 128#32 XG h1) (rd A3 k 128#32 XK h1) (rd A4 k 128#32 XV h1) (rdS T fS 1 (by decide) hd)) 5⟩,
      ⟨Rect.unit (s := S2x8x128x128) ![1, 4, 0, 0] S1x1x128x128.size inb_S2x8x128x128_S1x1x128x128_1_4_0_0, (fun hd : Fin 8 => headS (128 * hd.val) (slc hd) (slc1 hd) (rd A1 k 128#32 XG h1) (rd A3 k 128#32 XK h1) (rd A4 k 128#32 XV h1) (rdS T fS 1 (by decide) hd)) 4⟩,
      ⟨Rect.unit (s := S2x8x128x128) ![1, 3, 0, 0] S1x1x128x128.size inb_S2x8x128x128_S1x1x128x128_1_3_0_0, (fun hd : Fin 8 => headS (128 * hd.val) (slc hd) (slc1 hd) (rd A1 k 128#32 XG h1) (rd A3 k 128#32 XK h1) (rd A4 k 128#32 XV h1) (rdS T fS 1 (by decide) hd)) 3⟩,
      ⟨Rect.unit (s := S2x8x128x128) ![1, 2, 0, 0] S1x1x128x128.size inb_S2x8x128x128_S1x1x128x128_1_2_0_0, (fun hd : Fin 8 => headS (128 * hd.val) (slc hd) (slc1 hd) (rd A1 k 128#32 XG h1) (rd A3 k 128#32 XK h1) (rd A4 k 128#32 XV h1) (rdS T fS 1 (by decide) hd)) 2⟩,
      ⟨Rect.unit (s := S2x8x128x128) ![1, 1, 0, 0] S1x1x128x128.size inb_S2x8x128x128_S1x1x128x128_1_1_0_0, (fun hd : Fin 8 => headS (128 * hd.val) (slc hd) (slc1 hd) (rd A1 k 128#32 XG h1) (rd A3 k 128#32 XK h1) (rd A4 k 128#32 XV h1) (rdS T fS 1 (by decide) hd)) 1⟩,
      ⟨Rect.unit (s := S2x8x128x128) ![1, 0, 0, 0] S1x1x128x128.size inb_S2x8x128x128_S1x1x128x128_1_0_0_0, (fun hd : Fin 8 => headS (128 * hd.val) (slc hd) (slc1 hd) (rd A1 k 128#32 XG h1) (rd A3 k 128#32 XK h1) (rd A4 k 128#32 XV h1) (rdS T fS 1 (by decide) hd)) 0⟩,
      ⟨Rect.unit (s := S2x8x128x128) ![0, 7, 0, 0] S1x1x128x128.size inb_S2x8x128x128_S1x1x128x128_0_7_0_0, (fun hd : Fin 8 => headS (128 * hd.val) (slc hd) (slc1 hd) (rd A1 k 0#32 XG h0) (rd A3 k 0#32 XK h0) (rd A4 k 0#32 XV h0) (rdS T fS 0 (by decide) hd)) 7⟩,
      ⟨Rect.unit (s := S2x8x128x128) ![0, 6, 0, 0] S1x1x128x128.size inb_S2x8x128x128_S1x1x128x128_0_6_0_0, (fun hd : Fin 8 => headS (128 * hd.val) (slc hd) (slc1 hd) (rd A1 k 0#32 XG h0) (rd A3 k 0#32 XK h0) (rd A4 k 0#32 XV h0) (rdS T fS 0 (by decide) hd)) 6⟩,
      ⟨Rect.unit (s := S2x8x128x128) ![0, 5, 0, 0] S1x1x128x128.size inb_S2x8x128x128_S1x1x128x128_0_5_0_0, (fun hd : Fin 8 => headS (128 * hd.val) (slc hd) (slc1 hd) (rd A1 k 0#32 XG h0) (rd A3 k 0#32 XK h0) (rd A4 k 0#32 XV h0) (rdS T fS 0 (by decide) hd)) 5⟩,
      ⟨Rect.unit (s := S2x8x128x128) ![0, 4, 0, 0] S1x1x128x128.size inb_S2x8x128x128_S1x1x128x128_0_4_0_0, (fun hd : Fin 8 => headS (128 * hd.val) (slc hd) (slc1 hd) (rd A1 k 0#32 XG h0) (rd A3 k 0#32 XK h0) (rd A4 k 0#32 XV h0) (rdS T fS 0 (by decide) hd)) 4⟩,
      ⟨Rect.unit (s := S2x8x128x128) ![0, 3, 0, 0] S1x1x128x128.size inb_S2x8x128x128_S1x1x128x128_0_3_0_0, (fun hd : Fin 8 => headS (128 * hd.val) (slc hd) (slc1 hd) (rd A1 k 0#32 XG h0) (rd A3 k 0#32 XK h0) (rd A4 k 0#32 XV h0) (rdS T fS 0 (by decide) hd)) 3⟩,
      ⟨Rect.unit (s := S2x8x128x128) ![0, 2, 0, 0] S1x1x128x128.size inb_S2x8x128x128_S1x1x128x128_0_2_0_0, (fun hd : Fin 8 => headS (128 * hd.val) (slc hd) (slc1 hd) (rd A1 k 0#32 XG h0) (rd A3 k 0#32 XK h0) (rd A4 k 0#32 XV h0) (rdS T fS 0 (by decide) hd)) 2⟩,
      ⟨Rect.unit (s := S2x8x128x128) ![0, 1, 0, 0] S1x1x128x128.size inb_S2x8x128x128_S1x1x128x128_0_1_0_0, (fun hd : Fin 8 => headS (128 * hd.val) (slc hd) (slc1 hd) (rd A1 k 0#32 XG h0) (rd A3 k 0#32 XK h0) (rd A4 k 0#32 XV h0) (rdS T fS 0 (by decide) hd)) 1⟩,
      ⟨Rect.unit (s := S2x8x128x128) ![0, 0, 0, 0] S1x1x128x128.size inb_S2x8x128x128_S1x1x128x128_0_0_0_0, (fun hd : Fin 8 => headS (128 * hd.val) (slc hd) (slc1 hd) (rd A1 k 0#32 XG h0) (rd A3 k 0#32 XK h0) (rd A4 k 0#32 XV h0) (rdS T fS 0 (by decide) hd)) 0⟩] ++ LS)))
      (Qm.view.read (Elt Ideal) (Qm.view.writes (Elt Ideal) f0 ([⟨Rect.unit (k0_off2 k 128#32) S64x1024.size h1, allO mk0 (mk 1#32 1#32) (mk 2#32 2#32) (mk 3#32 4#32) (mk 4#32 8#32) (mk 5#32 16#32) (mk 6#32 32#32) (rd A1 k 128#32 XG h1) (rd Qm k 128#32 fQ h1) (rd A3 k 128#32 XK h1) (rd A4 k 128#32 XV h1) (rdS T fS 1 (by decide))⟩,
        ⟨Rect.unit (k0_off2 k 0#32) S64x1024.size h0, allO mk0 (mk 1#32 1#32) (mk 2#32 2#32) (mk 3#32 4#32) (mk 4#32 8#32) (mk 5#32 16#32) (mk 6#32 32#32) (rd A1 k 0#32 XG h0) (rd Qm k 0#32 fQ h0) (rd A3 k 0#32 XK h0) (rd A4 k 0#32 XV h0) (rdS T fS 0 (by decide))⟩] ++ L))) := by
  have hk := (off_0 k).2
  have a0 := fun hd => head_step G Q K V S0 k A1 Qm A3 A4 T XG XK XV fS fQ hG0 hG hK hV I 0 0#32 (by rw [(off_0 k).1]; simp) h0 0 (by decide) rfl hd
  have a1 := fun hd => head_step G Q K V S0 k A1 Qm A3 A4 T XG XK XV fS fQ hG0 hG hK hV I 1 128#32 (by rw [off_1 k]; rfl) h1 1 (by decide) rfl hd
  refine ⟨fun b hd j x => ?_, fun R b r hd j hr hR => ?_⟩
  · refine (readS T.view f0S (fun hd => headS (128 * hd.val) (slc hd) (slc1 hd) (rd A1 k 0#32 XG h0) (rd A3 k 0#32 XK h0) (rd A4 k 0#32 XV h0) (rdS T fS 0 (by decide) hd)) (fun hd => headS (128 * hd.val) (slc hd) (slc1 hd) (rd A1 k 128#32 XG h1) (rd A3 k 128#32 XK h1) (rd A4 k 128#32 XV h1) (rdS T fS 1 (by decide) hd)) LS b hd j x).trans ?_
    fin_cases b
    · exact ((a0 hd).2 j x).trans (by rw [Nat.mul_succ]; rfl)
    · exact ((a1 hd).2 j x).trans (by rw [Nat.mul_succ]; rfl)
  · by_cases hin : 64 * k.val ≤ r ∧ r < 64 * (k.val + 1)
    · have e : 64 * k.val + (r - 64 * k.val) = r := by omega
      rw [if_pos hin.2]
      fin_cases b
      · refine (View.read_writes_cons_rows_of_not_mem Qm.view f0 h1 _ _ (ix2 R (col hd j)) (off_1 k) (W := 64) rfl (Or.inl ?_)).trans ?_
        · show R.val < _; simp at hR; omega
        refine (View.read_writes_cons_rows_of_mem Qm.view f0 h0 _ _ (ix2 R (col hd j)) (ix2 (⟨r - 64 * k.val, by omega⟩ : Fin 64) (col hd j)) (off_0 k).1 ?_ rfl).trans ?_
        · show R.val = 64 * k.val + (r - 64 * k.val); simp at hR; omega
        · refine ((allO_at ..).trans ((a0 hd).1 ⟨r - 64 * k.val, by omega⟩ j)).trans ?_
          simp only [e]; rfl
      · refine (View.read_writes_cons_rows_of_mem Qm.view f0 h1 _ _ (ix2 R (col hd j)) (ix2 (⟨r - 64 * k.val, by omega⟩ : Fin 64) (col hd j)) (off_1 k) ?_ rfl).trans ?_
        · show R.val = 128 + 64 * k.val + (r - 64 * k.val); simp at hR; omega
        · refine ((allO_at ..).trans ((a1 hd).1 ⟨r - 64 * k.val, by omega⟩ j)).trans ?_
          simp only [e]; rfl
    · refine (View.read_writes_cons_rows_of_not_mem Qm.view f0 h1 _ _ (ix2 R (col hd j)) (off_1 k) (W := 64) rfl ?_).trans ?_
      · show R.val < _ ∨ _ ≤ R.val; have := b.isLt; omega
      refine (View.read_writes_cons_rows_of_not_mem Qm.view f0 h0 _ _ (ix2 R (col hd j)) (off_0 k).1 (W := 64) rfl ?_).trans ?_
      · show R.val < _ ∨ _ ≤ R.val; have := b.isLt; omega
      have J := I.hB R b r hd j hr hR
      rw [hf] at J
      refine J.trans ?_
      by_cases h : r < 64 * k.val
      · rw [if_pos h, if_pos (by omega)]
      · rw [if_neg h, if_neg (by omega)]
end Inv

section Trip
variable (𝒱 : Variants) (c : Dev nD) (bd : Option 𝒱.V) (i : grid0.Coords)
  (arg1 : Memref sig .tc .vmem S128x1024 .f32) (harg1 : arg1.IsWhole)
  (arg2 : Memref sig .tc .vmem S2x128x1024 .f32) (harg2 : arg2.IsWhole)
  (arg3 : Memref sig .tc .vmem S1x1024 .f32) (harg3 : arg3.IsWhole)
  (arg4 : Memref sig .tc .vmem S1024x8704 .bf16) (harg4 : arg4.IsWhole)
  (arg5 : Memref sig .tc .vmem S4x1280 .f32) (harg5 : arg5.IsWhole)
  (arg6 : Memref sig .tc .vmem S1x1280 .f32) (harg6 : arg6.IsWhole)
  (arg7 : Memref sig .tc .vmem S2x640x1280 .bf16) (harg7 : arg7.IsWhole)
  (arg8 : Memref sig .tc .vmem S1x1280 .f32) (harg8 : arg8.IsWhole)
  (arg9 : Memref sig .tc .vmem S1x1280 .f32) (harg9 : arg9.IsWhole)
  (arg10 : Memref sig .tc .vmem S1x1280 .f32) (harg10 : arg10.IsWhole)
  (arg11 : Memref sig .tc .vmem S2x1024 .f32) (harg11 : arg11.IsWhole)
  (arg12 : Memref sig .tc .vmem S1x128 .f32) (harg12 : arg12.IsWhole)
  (arg13 : Memref sig .tc .vmem S1280x1024 .bf16) (harg13 : arg13.IsWhole)
  (arg14 : Memref sig .tc .vmem S1024x1024 .bf16) (harg14 : arg14.IsWhole)
  (arg15 : Memref sig .tc .vmem S1024x1024 .bf16) (harg15 : arg15.IsWhole)
  (arg16 : Memref sig .tc .vmem S2x128x1024 .f32) (harg16 : arg16.IsWhole)
  (arg17 : Memref sig .tc .vmem S2x136x1280 .f32) (harg17 : arg17.IsWhole)
  (arg18 : Memref sig .tc .vmem S2x1x1280 .f32) (harg18 : arg18.IsWhole)
  (arg19 : Memref sig .tc .vmem S2x8x128x128 .f32) (harg19 : arg19.IsWhole)
  (alloca_r0 : Memref sig .tc .vmem S256x1280 .f32) (halloca_r0 : alloca_r0.IsWhole)
  (alloca_152_r0 : Memref sig .tc .vmem S256x1280 .f32) (halloca_152_r0 : alloca_152_r0.IsWhole)
  (alloca_r1 : Memref sig .tc .vmem S256x1024 .f32) (halloca_r1 : alloca_r1.IsWhole)
  (alloca_152_r1 : Memref sig .tc .vmem S256x1024 .f32) (halloca_152_r1 : alloca_152_r1.IsWhole)
  (alloca_153_r1 : Memref sig .tc .vmem S256x1024 .f32) (halloca_153_r1 : alloca_153_r1.IsWhole)
  (alloca_154_r1 : Memref sig .tc .vmem S256x1024 .bf16) (halloca_154_r1 : alloca_154_r1.IsWhole)

variable (v425 v426 : IVec S64x64 32) (v427 v442 v457 v472 v482 : IVec S64x64 1) (v483 : IVec S64x64 32)
  (XG : BufTy.Contents (Elt Ideal) alloca_r1.view.ty) (XK : BufTy.Contents (Elt Ideal) alloca_153_r1.view.ty) (XV : BufTy.Contents (Elt Ideal) alloca_154_r1.view.ty)
  (GS : BufTy.Contents (Elt Ideal) arg19.view.ty) (GQ : BufTy.Contents (Elt Ideal) alloca_152_r1.view.ty) (init : BitVec 32)

theorem loop_inv (G Q K V : Fin 2 → Fin 1024 → ℕ → ℝ) (S0 : Fin 2 → Fin 8 → Fin 128 → Fin 128 → ℝ)
    (m0 : v427 = mk0) (m1 : v442 = mk 1#32 1#32) (m2 : v457 = mk 2#32 2#32) (m4 : v472 = mk 3#32 4#32) (m8 : k0_pay307 v426 v482 v483 = mk 4#32 8#32) (m16 : k0_pay308 v425 v426 = mk 5#32 16#32) (m32 : k0_pay309 v425 v426 = mk 6#32 32#32)
    (hG0 : ∀ b l s, G b l s ≤ 0)
    (hG : ∀ (R : Fin 256) (b : Fin 2) (r : ℕ) l, r < 128 → R.val = 128 * b.val + r → alloca_r1.view.read (Elt Ideal) XG (ix2 R l) = ((G b l r : ℝ) : EReal))
    (hK : ∀ (R : Fin 256) (b : Fin 2) (r : ℕ) l, r < 128 → R.val = 128 * b.val + r → alloca_153_r1.view.read (Elt Ideal) XK (ix2 R l) = ((K b l r : ℝ) : EReal))
    (hV : ∀ (R : Fin 256) (b : Fin 2) (r : ℕ) l, r < 128 → R.val = 128 * b.val + r → alloca_154_r1.view.read (Elt Ideal) XV (ix2 R l) = ((V b l r : ℝ) : EReal))
    (hQ : ∀ (R : Fin 256) (b : Fin 2) (r : ℕ) l, r < 128 → R.val = 128 * b.val + r → alloca_152_r1.view.read (Elt Ideal) GQ (ix2 R l) = ((Q b l r : ℝ) : EReal))
    (hS : ∀ b hd j x, arg19.view.read (Elt Ideal) GS (ix4 b hd j x) = ((S0 b hd j x : ℝ) : EReal)) (n : ℕ) (hn : n ≤ k0_t2_loop.trips) :
    Inv G Q K V S0 n (arg19.view.read (Elt Ideal) (arg19.view.writes (Elt Ideal) GS (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v425 v426 v427 v442 v457 v472 v482 v483 XG XK XV GS GQ init n).2.1))
      (alloca_152_r1.view.read (Elt Ideal) (alloca_152_r1.view.writes (Elt Ideal) GQ (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v425 v426 v427 v442 v457 v472 v482 v483 XG XK XV GS GQ init n).2.2)) := by
  induction n with
  | zero =>
    refine ⟨hS, fun R b r hd j hr hR => ?_⟩
    rw [if_neg (by omega)]
    exact hQ R b r _ hr hR
  | succ n ih =>
    have I := ih (by omega)
    rw [st_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v425 v426 v427 v442 v457 v472 v482 v483 XG XK XV GS GQ init ⟨n, by omega⟩]
    generalize (st_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v425 v426 v427 v442 v457 v472 v482 v483 XG XK XV GS GQ init n) = s at I ⊢
    obtain ⟨q0, q1, e1⟩ := trip_q (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v425 v426 v427 v442 v457 v472 v482 v483 XG XK XV ⟨n, by omega⟩ s.1
      (arg19.view.writes (Elt Ideal) GS s.2.1) (alloca_152_r1.view.writes (Elt Ideal) GQ s.2.2)
    obtain ⟨p0, p1, e2⟩ := trip_s (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 v425 v426 v427 v442 v457 v472 v482 v483 XG XK XV ⟨n, by omega⟩ s.1
      (arg19.view.writes (Elt Ideal) GS s.2.1) (alloca_152_r1.view.writes (Elt Ideal) GQ s.2.2)
    have K := inv_step G Q K V S0 ⟨n, by omega⟩ alloca_r1 alloca_152_r1 alloca_153_r1 alloca_154_r1 arg19 XG XK XV (arg19.view.writes (Elt Ideal) GS s.2.1) (alloca_152_r1.view.writes (Elt Ideal) GQ s.2.2) hG0 hG hK hV I GQ s.2.2 rfl GS s.2.1 q0 q1
    unfold tripL_k0_t2
    rw [e1, e2, m0, m1, m2, m4, m8, m16, m32]
    exact K
end Trip
end Cert.Proof.Chunk
-- ==== Proof.Win.lean ====
module
public import proofs.«01_k».proof.Proof.Pays
public import proofs.«01_k».proof.Proof.LoopA
public import proofs.«01_k».proof.Proof.LoopB
public import Idealize.ShloMosaic.Lib.VecWindow
public import Idealize.ShloMosaic.Lib.WritesUnit

@[expose] public section
set_option maxRecDepth 16384
noncomputable section

/-! Reads of buffers through boxes, by coordinates. -/
namespace Cert.Proof.Win
open Cert.KernelIdeal Cert.KernelIdeal.Facts Cert.KernelIdeal.Gen
open Idealize.ShloMosaic Idealize.ShloMosaic.TcCoe Idealize.ShloMosaic.Tactic

variable {κ : Kind} {sp : Space}

/-- A box of a buffer that holds `X` reads `X` at the box's indices. -/
theorem ra {s : Shape} {e : EltTy} (v : View sig κ sp s e) (X : s.Idx → Elt Ideal e) (B : LoadRect s) (j : B.shape.Idx) (y : s.Idx) (h : B.idx j = y) :
    v.readAt (Elt Ideal) B (v.rep X) j = X y := by
  rw [View.readAt_apply, View.read_rep, h]
theorem rw' {s : Shape} {e : EltTy} (v : View sig κ sp s e) (f : v.ty.Contents (Elt Ideal)) (B : LoadRect s) (j : B.shape.Idx) (y : s.Idx) (h : B.idx j = y) :
    v.readAt (Elt Ideal) B f j = v.read (Elt Ideal) f y := by
  rw [View.readAt_apply, h]
theorem rc' {s : Shape} {e : EltTy} (v : View sig κ sp s e) (L : List (View.Piece (Elt Ideal) s e)) (B : LoadRect s) (j : B.shape.Idx) (y : s.Idx) (h : B.idx j = y) :
    v.readCov L B j = v.read (Elt Ideal) (v.writes (Elt Ideal) v.junk L) y := rw' v _ B j y h

theorem i_w (o0 o1 : ℕ) (h0 : o0 + 1024 ≤ 1024) (h1 : o1 + 1024 ≤ 8704) (inb) (a : Fin 1024) (b : Fin 1024) : (Rect.unit (s := S1024x8704) ![o0, o1] S1024x1024.size inb).toLoadRect.idx (ix2 a b) = ix2 (⟨o0 + a.val, by omega⟩ : Fin 1024) (⟨o1 + b.val, by omega⟩ : Fin 8704) := by
  funext k
  fin_cases k
  · apply Fin.ext; show o0 + 1 * a.val = o0 + a.val; omega
  · apply Fin.ext; show o1 + 1 * b.val = o1 + b.val; omega

theorem i_w1280 (o0 o1 : ℕ) (h0 : o0 + 1024 ≤ 1024) (h1 : o1 + 1280 ≤ 8704) (inb) (a : Fin 1024) (b : Fin 1280) : (Rect.unit (s := S1024x8704) ![o0, o1] S1024x1280.size inb).toLoadRect.idx (ix2 a b) = ix2 (⟨o0 + a.val, by omega⟩ : Fin 1024) (⟨o1 + b.val, by omega⟩ : Fin 8704) := by
  funext k
  fin_cases k
  · apply Fin.ext; show o0 + 1 * a.val = o0 + a.val; omega
  · apply Fin.ext; show o1 + 1 * b.val = o1 + b.val; omega

theorem i_128x1024 (o0 o1 : ℕ) (h0 : o0 + 128 ≤ 128) (h1 : o1 + 1024 ≤ 1024) (inb) (a : Fin 128) (b : Fin 1024) : (Rect.unit (s := S128x1024) ![o0, o1] S128x1024.size inb).toLoadRect.idx (ix2 a b) = ix2 (⟨o0 + a.val, by omega⟩ : Fin 128) (⟨o1 + b.val, by omega⟩ : Fin 1024) := by
  funext k
  fin_cases k
  · apply Fin.ext; show o0 + 1 * a.val = o0 + a.val; omega
  · apply Fin.ext; show o1 + 1 * b.val = o1 + b.val; omega

theorem i_1x1024 (o0 o1 : ℕ) (h0 : o0 + 1 ≤ 1) (h1 : o1 + 1024 ≤ 1024) (inb) (a : Fin 1) (b : Fin 1024) : (Rect.unit (s := S1x1024) ![o0, o1] S1x1024.size inb).toLoadRect.idx (ix2 a b) = ix2 (⟨o0 + a.val, by omega⟩ : Fin 1) (⟨o1 + b.val, by omega⟩ : Fin 1024) := by
  funext k
  fin_cases k
  · apply Fin.ext; show o0 + 1 * a.val = o0 + a.val; omega
  · apply Fin.ext; show o1 + 1 * b.val = o1 + b.val; omega

theorem i_2x1024 (o0 o1 : ℕ) (h0 : o0 + 1 ≤ 2) (h1 : o1 + 1024 ≤ 1024) (inb) (a : Fin 1) (b : Fin 1024) : (Rect.unit (s := S2x1024) ![o0, o1] S1x1024.size inb).toLoadRect.idx (ix2 a b) = ix2 (⟨o0 + a.val, by omega⟩ : Fin 2) (⟨o1 + b.val, by omega⟩ : Fin 1024) := by
  funext k
  fin_cases k
  · apply Fin.ext; show o0 + 1 * a.val = o0 + a.val; omega
  · apply Fin.ext; show o1 + 1 * b.val = o1 + b.val; omega

theorem i_4x1280 (o0 o1 : ℕ) (h0 : o0 + 4 ≤ 4) (h1 : o1 + 1280 ≤ 1280) (inb) (a : Fin 4) (b : Fin 1280) : (Rect.unit (s := S4x1280) ![o0, o1] S4x1280.size inb).toLoadRect.idx (ix2 a b) = ix2 (⟨o0 + a.val, by omega⟩ : Fin 4) (⟨o1 + b.val, by omega⟩ : Fin 1280) := by
  funext k
  fin_cases k
  · apply Fin.ext; show o0 + 1 * a.val = o0 + a.val; omega
  · apply Fin.ext; show o1 + 1 * b.val = o1 + b.val; omega

theorem i_1x1280 (o0 o1 : ℕ) (h0 : o0 + 1 ≤ 1) (h1 : o1 + 1280 ≤ 1280) (inb) (a : Fin 1) (b : Fin 1280) : (Rect.unit (s := S1x1280) ![o0, o1] S1x1280.size inb).toLoadRect.idx (ix2 a b) = ix2 (⟨o0 + a.val, by omega⟩ : Fin 1) (⟨o1 + b.val, by omega⟩ : Fin 1280) := by
  funext k
  fin_cases k
  · apply Fin.ext; show o0 + 1 * a.val = o0 + a.val; omega
  · apply Fin.ext; show o1 + 1 * b.val = o1 + b.val; omega

theorem i_1x640 (o0 o1 : ℕ) (h0 : o0 + 1 ≤ 1) (h1 : o1 + 640 ≤ 1280) (inb) (a : Fin 1) (b : Fin 640) : (Rect.unit (s := S1x1280) ![o0, o1] S1x640.size inb).toLoadRect.idx (ix2 a b) = ix2 (⟨o0 + a.val, by omega⟩ : Fin 1) (⟨o1 + b.val, by omega⟩ : Fin 1280) := by
  funext k
  fin_cases k
  · apply Fin.ext; show o0 + 1 * a.val = o0 + a.val; omega
  · apply Fin.ext; show o1 + 1 * b.val = o1 + b.val; omega

theorem i_1x128 (o0 o1 : ℕ) (h0 : o0 + 1 ≤ 1) (h1 : o1 + 128 ≤ 128) (inb) (a : Fin 1) (b : Fin 128) : (Rect.unit (s := S1x128) ![o0, o1] S1x128.size inb).toLoadRect.idx (ix2 a b) = ix2 (⟨o0 + a.val, by omega⟩ : Fin 1) (⟨o1 + b.val, by omega⟩ : Fin 128) := by
  funext k
  fin_cases k
  · apply Fin.ext; show o0 + 1 * a.val = o0 + a.val; omega
  · apply Fin.ext; show o1 + 1 * b.val = o1 + b.val; omega

theorem i_1280x1024 (o0 o1 : ℕ) (h0 : o0 + 1280 ≤ 1280) (h1 : o1 + 1024 ≤ 1024) (inb) (a : Fin 1280) (b : Fin 1024) : (Rect.unit (s := S1280x1024) ![o0, o1] S1280x1024.size inb).toLoadRect.idx (ix2 a b) = ix2 (⟨o0 + a.val, by omega⟩ : Fin 1280) (⟨o1 + b.val, by omega⟩ : Fin 1024) := by
  funext k
  fin_cases k
  · apply Fin.ext; show o0 + 1 * a.val = o0 + a.val; omega
  · apply Fin.ext; show o1 + 1 * b.val = o1 + b.val; omega

theorem i_1024x1024 (o0 o1 : ℕ) (h0 : o0 + 1024 ≤ 1024) (h1 : o1 + 1024 ≤ 1024) (inb) (a : Fin 1024) (b : Fin 1024) : (Rect.unit (s := S1024x1024) ![o0, o1] S1024x1024.size inb).toLoadRect.idx (ix2 a b) = ix2 (⟨o0 + a.val, by omega⟩ : Fin 1024) (⟨o1 + b.val, by omega⟩ : Fin 1024) := by
  funext k
  fin_cases k
  · apply Fin.ext; show o0 + 1 * a.val = o0 + a.val; omega
  · apply Fin.ext; show o1 + 1 * b.val = o1 + b.val; omega

theorem i_256x1280 (o0 o1 : ℕ) (h0 : o0 + 256 ≤ 256) (h1 : o1 + 1280 ≤ 1280) (inb) (a : Fin 256) (b : Fin 1280) : (Rect.unit (s := S256x1280) ![o0, o1] S256x1280.size inb).toLoadRect.idx (ix2 a b) = ix2 (⟨o0 + a.val, by omega⟩ : Fin 256) (⟨o1 + b.val, by omega⟩ : Fin 1280) := by
  funext k
  fin_cases k
  · apply Fin.ext; show o0 + 1 * a.val = o0 + a.val; omega
  · apply Fin.ext; show o1 + 1 * b.val = o1 + b.val; omega

theorem i_256x1024 (o0 o1 : ℕ) (h0 : o0 + 256 ≤ 256) (h1 : o1 + 1024 ≤ 1024) (inb) (a : Fin 256) (b : Fin 1024) : (Rect.unit (s := S256x1024) ![o0, o1] S256x1024.size inb).toLoadRect.idx (ix2 a b) = ix2 (⟨o0 + a.val, by omega⟩ : Fin 256) (⟨o1 + b.val, by omega⟩ : Fin 1024) := by
  funext k
  fin_cases k
  · apply Fin.ext; show o0 + 1 * a.val = o0 + a.val; omega
  · apply Fin.ext; show o1 + 1 * b.val = o1 + b.val; omega

theorem i_x (o0 : ℕ) (ho0 : o0 + 1 ≤ 2) (o1 : ℕ) (ho1 : o1 + 128 ≤ 128) (o2 : ℕ) (ho2 : o2 + 1024 ≤ 1024) (inb) (a : Fin 1) (b : Fin 128) (c : Fin 1024) : (Rect.unit (s := S2x128x1024) ![o0, o1, o2] S1x128x1024.size inb).toLoadRect.idx (ix3 a b c) = ix3 (⟨o0 + a.val, by omega⟩ : Fin 2) (⟨o1 + b.val, by omega⟩ : Fin 128) (⟨o2 + c.val, by omega⟩ : Fin 1024) := by
  funext k
  fin_cases k
  · apply Fin.ext; show o0 + 1 * a.val = o0 + a.val; omega
  · apply Fin.ext; show o1 + 1 * b.val = o1 + b.val; omega
  · apply Fin.ext; show o2 + 1 * c.val = o2 + c.val; omega

theorem i_7 (o0 : ℕ) (ho0 : o0 + 1 ≤ 2) (o1 : ℕ) (ho1 : o1 + 640 ≤ 640) (o2 : ℕ) (ho2 : o2 + 1280 ≤ 1280) (inb) (a : Fin 1) (b : Fin 640) (c : Fin 1280) : (Rect.unit (s := S2x640x1280) ![o0, o1, o2] S1x640x1280.size inb).toLoadRect.idx (ix3 a b c) = ix3 (⟨o0 + a.val, by omega⟩ : Fin 2) (⟨o1 + b.val, by omega⟩ : Fin 640) (⟨o2 + c.val, by omega⟩ : Fin 1280) := by
  funext k
  fin_cases k
  · apply Fin.ext; show o0 + 1 * a.val = o0 + a.val; omega
  · apply Fin.ext; show o1 + 1 * b.val = o1 + b.val; omega
  · apply Fin.ext; show o2 + 1 * c.val = o2 + c.val; omega

theorem i_17 (o0 : ℕ) (ho0 : o0 + 1 ≤ 2) (o1 : ℕ) (ho1 : o1 + 128 ≤ 136) (o2 : ℕ) (ho2 : o2 + 1280 ≤ 1280) (inb) (a : Fin 1) (b : Fin 128) (c : Fin 1280) : (Rect.unit (s := S2x136x1280) ![o0, o1, o2] S1x128x1280.size inb).toLoadRect.idx (ix3 a b c) = ix3 (⟨o0 + a.val, by omega⟩ : Fin 2) (⟨o1 + b.val, by omega⟩ : Fin 136) (⟨o2 + c.val, by omega⟩ : Fin 1280) := by
  funext k
  fin_cases k
  · apply Fin.ext; show o0 + 1 * a.val = o0 + a.val; omega
  · apply Fin.ext; show o1 + 1 * b.val = o1 + b.val; omega
  · apply Fin.ext; show o2 + 1 * c.val = o2 + c.val; omega

theorem i_17s (o0 : ℕ) (ho0 : o0 + 1 ≤ 2) (o1 : ℕ) (ho1 : o1 + 8 ≤ 136) (o2 : ℕ) (ho2 : o2 + 1280 ≤ 1280) (inb) (a : Fin 1) (b : Fin 8) (c : Fin 1280) : (Rect.unit (s := S2x136x1280) ![o0, o1, o2] S1x8x1280.size inb).toLoadRect.idx (ix3 a b c) = ix3 (⟨o0 + a.val, by omega⟩ : Fin 2) (⟨o1 + b.val, by omega⟩ : Fin 136) (⟨o2 + c.val, by omega⟩ : Fin 1280) := by
  funext k
  fin_cases k
  · apply Fin.ext; show o0 + 1 * a.val = o0 + a.val; omega
  · apply Fin.ext; show o1 + 1 * b.val = o1 + b.val; omega
  · apply Fin.ext; show o2 + 1 * c.val = o2 + c.val; omega

theorem i_18 (o0 : ℕ) (ho0 : o0 + 1 ≤ 2) (o1 : ℕ) (ho1 : o1 + 1 ≤ 1) (o2 : ℕ) (ho2 : o2 + 1280 ≤ 1280) (inb) (a : Fin 1) (b : Fin 1) (c : Fin 1280) : (Rect.unit (s := S2x1x1280) ![o0, o1, o2] S1x1x1280.size inb).toLoadRect.idx (ix3 a b c) = ix3 (⟨o0 + a.val, by omega⟩ : Fin 2) (⟨o1 + b.val, by omega⟩ : Fin 1) (⟨o2 + c.val, by omega⟩ : Fin 1280) := by
  funext k
  fin_cases k
  · apply Fin.ext; show o0 + 1 * a.val = o0 + a.val; omega
  · apply Fin.ext; show o1 + 1 * b.val = o1 + b.val; omega
  · apply Fin.ext; show o2 + 1 * c.val = o2 + c.val; omega

/-- Under the newest piece, its contents; elsewhere the older ones. -/
theorem w17_in {e : EltTy} (v : View sig κ sp S2x136x1280 e) (f : v.ty.Contents (Elt Ideal)) (o0 o1 o2 : ℕ) (inb) (P : Vec Ideal S1x128x1280 e) (L : List (View.Piece (Elt Ideal) S2x136x1280 e))
    (a : Fin 2) (b : Fin 136) (c : Fin 1280) (a' : Fin 1) (b' : Fin 128) (c' : Fin 1280) (ha : a.val = o0 + a'.val) (hb : b.val = o1 + b'.val) (hc : c.val = o2 + c'.val) :
    v.read (Elt Ideal) (v.writes (Elt Ideal) f (⟨Rect.unit (s := S2x136x1280) ![o0, o1, o2] S1x128x1280.size inb, P⟩ :: L)) (ix3 a b c) = P (ix3 a' b' c') := by
  refine View.read_writes_cons_unit_of_mem v f inb P L (ix3 a b c) (ix3 a' b' c') rfl fun k => ?_
  fin_cases k
  · exact ha
  · exact hb
  · exact hc
theorem w17_out0 {e : EltTy} (v : View sig κ sp S2x136x1280 e) (f : v.ty.Contents (Elt Ideal)) (o0 o1 o2 : ℕ) (inb) (P : Vec Ideal S1x128x1280 e) (L : List (View.Piece (Elt Ideal) S2x136x1280 e))
    (a : Fin 2) (b : Fin 136) (c : Fin 1280) (h : a.val < o0 ∨ o0 + 1 ≤ a.val) :
    v.read (Elt Ideal) (v.writes (Elt Ideal) f (⟨Rect.unit (s := S2x136x1280) ![o0, o1, o2] S1x128x1280.size inb, P⟩ :: L)) (ix3 a b c) = v.read (Elt Ideal) (v.writes (Elt Ideal) f L) (ix3 a b c) :=
  View.read_writes_cons_unit_of_not_mem v f inb P L (ix3 a b c) rfl 0 h
theorem w17_out1 {e : EltTy} (v : View sig κ sp S2x136x1280 e) (f : v.ty.Contents (Elt Ideal)) (o0 o1 o2 : ℕ) (inb) (P : Vec Ideal S1x128x1280 e) (L : List (View.Piece (Elt Ideal) S2x136x1280 e))
    (a : Fin 2) (b : Fin 136) (c : Fin 1280) (h : b.val < o1 ∨ o1 + 128 ≤ b.val) :
    v.read (Elt Ideal) (v.writes (Elt Ideal) f (⟨Rect.unit (s := S2x136x1280) ![o0, o1, o2] S1x128x1280.size inb, P⟩ :: L)) (ix3 a b c) = v.read (Elt Ideal) (v.writes (Elt Ideal) f L) (ix3 a b c) :=
  View.read_writes_cons_unit_of_not_mem v f inb P L (ix3 a b c) rfl 1 h

/-- Under the newest piece, its contents; elsewhere the older ones. -/
theorem w17s_in {e : EltTy} (v : View sig κ sp S2x136x1280 e) (f : v.ty.Contents (Elt Ideal)) (o0 o1 o2 : ℕ) (inb) (P : Vec Ideal S1x8x1280 e) (L : List (View.Piece (Elt Ideal) S2x136x1280 e))
    (a : Fin 2) (b : Fin 136) (c : Fin 1280) (a' : Fin 1) (b' : Fin 8) (c' : Fin 1280) (ha : a.val = o0 + a'.val) (hb : b.val = o1 + b'.val) (hc : c.val = o2 + c'.val) :
    v.read (Elt Ideal) (v.writes (Elt Ideal) f (⟨Rect.unit (s := S2x136x1280) ![o0, o1, o2] S1x8x1280.size inb, P⟩ :: L)) (ix3 a b c) = P (ix3 a' b' c') := by
  refine View.read_writes_cons_unit_of_mem v f inb P L (ix3 a b c) (ix3 a' b' c') rfl fun k => ?_
  fin_cases k
  · exact ha
  · exact hb
  · exact hc
theorem w17s_out0 {e : EltTy} (v : View sig κ sp S2x136x1280 e) (f : v.ty.Contents (Elt Ideal)) (o0 o1 o2 : ℕ) (inb) (P : Vec Ideal S1x8x1280 e) (L : List (View.Piece (Elt Ideal) S2x136x1280 e))
    (a : Fin 2) (b : Fin 136) (c : Fin 1280) (h : a.val < o0 ∨ o0 + 1 ≤ a.val) :
    v.read (Elt Ideal) (v.writes (Elt Ideal) f (⟨Rect.unit (s := S2x136x1280) ![o0, o1, o2] S1x8x1280.size inb, P⟩ :: L)) (ix3 a b c) = v.read (Elt Ideal) (v.writes (Elt Ideal) f L) (ix3 a b c) :=
  View.read_writes_cons_unit_of_not_mem v f inb P L (ix3 a b c) rfl 0 h
theorem w17s_out1 {e : EltTy} (v : View sig κ sp S2x136x1280 e) (f : v.ty.Contents (Elt Ideal)) (o0 o1 o2 : ℕ) (inb) (P : Vec Ideal S1x8x1280 e) (L : List (View.Piece (Elt Ideal) S2x136x1280 e))
    (a : Fin 2) (b : Fin 136) (c : Fin 1280) (h : b.val < o1 ∨ o1 + 8 ≤ b.val) :
    v.read (Elt Ideal) (v.writes (Elt Ideal) f (⟨Rect.unit (s := S2x136x1280) ![o0, o1, o2] S1x8x1280.size inb, P⟩ :: L)) (ix3 a b c) = v.read (Elt Ideal) (v.writes (Elt Ideal) f L) (ix3 a b c) :=
  View.read_writes_cons_unit_of_not_mem v f inb P L (ix3 a b c) rfl 1 h

/-- Under the newest piece, its contents; elsewhere the older ones. -/
theorem w17f_in {e : EltTy} (v : View sig κ sp S2x136x1280 e) (f : v.ty.Contents (Elt Ideal)) (o0 o1 o2 : ℕ) (inb) (P : Vec Ideal S2x136x1280 e) (L : List (View.Piece (Elt Ideal) S2x136x1280 e))
    (a : Fin 2) (b : Fin 136) (c : Fin 1280) (a' : Fin 2) (b' : Fin 136) (c' : Fin 1280) (ha : a.val = o0 + a'.val) (hb : b.val = o1 + b'.val) (hc : c.val = o2 + c'.val) :
    v.read (Elt Ideal) (v.writes (Elt Ideal) f (⟨Rect.unit (s := S2x136x1280) ![o0, o1, o2] S2x136x1280.size inb, P⟩ :: L)) (ix3 a b c) = P (ix3 a' b' c') := by
  refine View.read_writes_cons_unit_of_mem v f inb P L (ix3 a b c) (ix3 a' b' c') rfl fun k => ?_
  fin_cases k
  · exact ha
  · exact hb
  · exact hc
theorem w17f_out0 {e : EltTy} (v : View sig κ sp S2x136x1280 e) (f : v.ty.Contents (Elt Ideal)) (o0 o1 o2 : ℕ) (inb) (P : Vec Ideal S2x136x1280 e) (L : List (View.Piece (Elt Ideal) S2x136x1280 e))
    (a : Fin 2) (b : Fin 136) (c : Fin 1280) (h : a.val < o0 ∨ o0 + 2 ≤ a.val) :
    v.read (Elt Ideal) (v.writes (Elt Ideal) f (⟨Rect.unit (s := S2x136x1280) ![o0, o1, o2] S2x136x1280.size inb, P⟩ :: L)) (ix3 a b c) = v.read (Elt Ideal) (v.writes (Elt Ideal) f L) (ix3 a b c) :=
  View.read_writes_cons_unit_of_not_mem v f inb P L (ix3 a b c) rfl 0 h
theorem w17f_out1 {e : EltTy} (v : View sig κ sp S2x136x1280 e) (f : v.ty.Contents (Elt Ideal)) (o0 o1 o2 : ℕ) (inb) (P : Vec Ideal S2x136x1280 e) (L : List (View.Piece (Elt Ideal) S2x136x1280 e))
    (a : Fin 2) (b : Fin 136) (c : Fin 1280) (h : b.val < o1 ∨ o1 + 136 ≤ b.val) :
    v.read (Elt Ideal) (v.writes (Elt Ideal) f (⟨Rect.unit (s := S2x136x1280) ![o0, o1, o2] S2x136x1280.size inb, P⟩ :: L)) (ix3 a b c) = v.read (Elt Ideal) (v.writes (Elt Ideal) f L) (ix3 a b c) :=
  View.read_writes_cons_unit_of_not_mem v f inb P L (ix3 a b c) rfl 1 h

/-- Under the newest piece, its contents; elsewhere the older ones. -/
theorem w18_in {e : EltTy} (v : View sig κ sp S2x1x1280 e) (f : v.ty.Contents (Elt Ideal)) (o0 o1 o2 : ℕ) (inb) (P : Vec Ideal S1x1x1280 e) (L : List (View.Piece (Elt Ideal) S2x1x1280 e))
    (a : Fin 2) (b : Fin 1) (c : Fin 1280) (a' : Fin 1) (b' : Fin 1) (c' : Fin 1280) (ha : a.val = o0 + a'.val) (hb : b.val = o1 + b'.val) (hc : c.val = o2 + c'.val) :
    v.read (Elt Ideal) (v.writes (Elt Ideal) f (⟨Rect.unit (s := S2x1x1280) ![o0, o1, o2] S1x1x1280.size inb, P⟩ :: L)) (ix3 a b c) = P (ix3 a' b' c') := by
  refine View.read_writes_cons_unit_of_mem v f inb P L (ix3 a b c) (ix3 a' b' c') rfl fun k => ?_
  fin_cases k
  · exact ha
  · exact hb
  · exact hc
theorem w18_out0 {e : EltTy} (v : View sig κ sp S2x1x1280 e) (f : v.ty.Contents (Elt Ideal)) (o0 o1 o2 : ℕ) (inb) (P : Vec Ideal S1x1x1280 e) (L : List (View.Piece (Elt Ideal) S2x1x1280 e))
    (a : Fin 2) (b : Fin 1) (c : Fin 1280) (h : a.val < o0 ∨ o0 + 1 ≤ a.val) :
    v.read (Elt Ideal) (v.writes (Elt Ideal) f (⟨Rect.unit (s := S2x1x1280) ![o0, o1, o2] S1x1x1280.size inb, P⟩ :: L)) (ix3 a b c) = v.read (Elt Ideal) (v.writes (Elt Ideal) f L) (ix3 a b c) :=
  View.read_writes_cons_unit_of_not_mem v f inb P L (ix3 a b c) rfl 0 h
theorem w18_out1 {e : EltTy} (v : View sig κ sp S2x1x1280 e) (f : v.ty.Contents (Elt Ideal)) (o0 o1 o2 : ℕ) (inb) (P : Vec Ideal S1x1x1280 e) (L : List (View.Piece (Elt Ideal) S2x1x1280 e))
    (a : Fin 2) (b : Fin 1) (c : Fin 1280) (h : b.val < o1 ∨ o1 + 1 ≤ b.val) :
    v.read (Elt Ideal) (v.writes (Elt Ideal) f (⟨Rect.unit (s := S2x1x1280) ![o0, o1, o2] S1x1x1280.size inb, P⟩ :: L)) (ix3 a b c) = v.read (Elt Ideal) (v.writes (Elt Ideal) f L) (ix3 a b c) :=
  View.read_writes_cons_unit_of_not_mem v f inb P L (ix3 a b c) rfl 1 h

/-- Under the newest piece, its contents; elsewhere the older ones. -/
theorem w18f_in {e : EltTy} (v : View sig κ sp S2x1x1280 e) (f : v.ty.Contents (Elt Ideal)) (o0 o1 o2 : ℕ) (inb) (P : Vec Ideal S2x1x1280 e) (L : List (View.Piece (Elt Ideal) S2x1x1280 e))
    (a : Fin 2) (b : Fin 1) (c : Fin 1280) (a' : Fin 2) (b' : Fin 1) (c' : Fin 1280) (ha : a.val = o0 + a'.val) (hb : b.val = o1 + b'.val) (hc : c.val = o2 + c'.val) :
    v.read (Elt Ideal) (v.writes (Elt Ideal) f (⟨Rect.unit (s := S2x1x1280) ![o0, o1, o2] S2x1x1280.size inb, P⟩ :: L)) (ix3 a b c) = P (ix3 a' b' c') := by
  refine View.read_writes_cons_unit_of_mem v f inb P L (ix3 a b c) (ix3 a' b' c') rfl fun k => ?_
  fin_cases k
  · exact ha
  · exact hb
  · exact hc
theorem w18f_out0 {e : EltTy} (v : View sig κ sp S2x1x1280 e) (f : v.ty.Contents (Elt Ideal)) (o0 o1 o2 : ℕ) (inb) (P : Vec Ideal S2x1x1280 e) (L : List (View.Piece (Elt Ideal) S2x1x1280 e))
    (a : Fin 2) (b : Fin 1) (c : Fin 1280) (h : a.val < o0 ∨ o0 + 2 ≤ a.val) :
    v.read (Elt Ideal) (v.writes (Elt Ideal) f (⟨Rect.unit (s := S2x1x1280) ![o0, o1, o2] S2x1x1280.size inb, P⟩ :: L)) (ix3 a b c) = v.read (Elt Ideal) (v.writes (Elt Ideal) f L) (ix3 a b c) :=
  View.read_writes_cons_unit_of_not_mem v f inb P L (ix3 a b c) rfl 0 h
theorem w18f_out1 {e : EltTy} (v : View sig κ sp S2x1x1280 e) (f : v.ty.Contents (Elt Ideal)) (o0 o1 o2 : ℕ) (inb) (P : Vec Ideal S2x1x1280 e) (L : List (View.Piece (Elt Ideal) S2x1x1280 e))
    (a : Fin 2) (b : Fin 1) (c : Fin 1280) (h : b.val < o1 ∨ o1 + 1 ≤ b.val) :
    v.read (Elt Ideal) (v.writes (Elt Ideal) f (⟨Rect.unit (s := S2x1x1280) ![o0, o1, o2] S2x1x1280.size inb, P⟩ :: L)) (ix3 a b c) = v.read (Elt Ideal) (v.writes (Elt Ideal) f L) (ix3 a b c) :=
  View.read_writes_cons_unit_of_not_mem v f inb P L (ix3 a b c) rfl 1 h

/-- Under the newest piece, its contents; elsewhere the older ones. -/
theorem w16_in {e : EltTy} (v : View sig κ sp S2x128x1024 e) (f : v.ty.Contents (Elt Ideal)) (o0 o1 o2 : ℕ) (inb) (P : Vec Ideal S1x128x1024 e) (L : List (View.Piece (Elt Ideal) S2x128x1024 e))
    (a : Fin 2) (b : Fin 128) (c : Fin 1024) (a' : Fin 1) (b' : Fin 128) (c' : Fin 1024) (ha : a.val = o0 + a'.val) (hb : b.val = o1 + b'.val) (hc : c.val = o2 + c'.val) :
    v.read (Elt Ideal) (v.writes (Elt Ideal) f (⟨Rect.unit (s := S2x128x1024) ![o0, o1, o2] S1x128x1024.size inb, P⟩ :: L)) (ix3 a b c) = P (ix3 a' b' c') := by
  refine View.read_writes_cons_unit_of_mem v f inb P L (ix3 a b c) (ix3 a' b' c') rfl fun k => ?_
  fin_cases k
  · exact ha
  · exact hb
  · exact hc
theorem w16_out0 {e : EltTy} (v : View sig κ sp S2x128x1024 e) (f : v.ty.Contents (Elt Ideal)) (o0 o1 o2 : ℕ) (inb) (P : Vec Ideal S1x128x1024 e) (L : List (View.Piece (Elt Ideal) S2x128x1024 e))
    (a : Fin 2) (b : Fin 128) (c : Fin 1024) (h : a.val < o0 ∨ o0 + 1 ≤ a.val) :
    v.read (Elt Ideal) (v.writes (Elt Ideal) f (⟨Rect.unit (s := S2x128x1024) ![o0, o1, o2] S1x128x1024.size inb, P⟩ :: L)) (ix3 a b c) = v.read (Elt Ideal) (v.writes (Elt Ideal) f L) (ix3 a b c) :=
  View.read_writes_cons_unit_of_not_mem v f inb P L (ix3 a b c) rfl 0 h
theorem w16_out1 {e : EltTy} (v : View sig κ sp S2x128x1024 e) (f : v.ty.Contents (Elt Ideal)) (o0 o1 o2 : ℕ) (inb) (P : Vec Ideal S1x128x1024 e) (L : List (View.Piece (Elt Ideal) S2x128x1024 e))
    (a : Fin 2) (b : Fin 128) (c : Fin 1024) (h : b.val < o1 ∨ o1 + 128 ≤ b.val) :
    v.read (Elt Ideal) (v.writes (Elt Ideal) f (⟨Rect.unit (s := S2x128x1024) ![o0, o1, o2] S1x128x1024.size inb, P⟩ :: L)) (ix3 a b c) = v.read (Elt Ideal) (v.writes (Elt Ideal) f L) (ix3 a b c) :=
  View.read_writes_cons_unit_of_not_mem v f inb P L (ix3 a b c) rfl 1 h

theorem z17 (j : S2x136x1280.Idx) : k0_pay251 (F := Ideal) j = 0 := by
  have : ∀ (a : Fin 2) (b : Fin 136) (c : Fin 1280), k0_pay251 (F := Ideal) (ix3 a b c) = 0 := by
    intro a b c
    pointwise [k0_pay251]
  idx_vars j
  exact this _ _ _
theorem z18 (j : S2x1x1280.Idx) : k0_pay252 (F := Ideal) j = 0 := by
  have : ∀ (a : Fin 2) (b : Fin 1) (c : Fin 1280), k0_pay252 (F := Ideal) (ix3 a b c) = 0 := by
    intro a b c
    pointwise [k0_pay252]
  idx_vars j
  exact this _ _ _
theorem z19 (a : Fin 2) (b : Fin 8) (c d : Fin 128) : k0_pay253 (F := Ideal) (ix4 a b c d) = 0 := by
  pointwise [k0_pay253]
end Cert.Proof.Win
-- ==== Proof.Car.lean ====
module
public import proofs.«01_k».proof.Proof.Win

@[expose] public section
set_option maxRecDepth 16384
noncomputable section

/-! What a tile of the mixer is given: the arguments' blocks, and what the tile before it left. -/
namespace Cert.Proof
open Cert.KernelIdeal Cert.KernelIdeal.Facts Cert.KernelIdeal.Gen
open Idealize.ShloMosaic Idealize.ShloMosaic.TcCoe Idealize.ShloMosaic.Tactic
open Cert.Proof.Row

/-- The blocks hold the arguments. -/
structure Blk (p : Par) (X3 : Vec Ideal S1x1024 .f32) (X4 : Vec Ideal S1024x8704 .bf16) (X5 : Vec Ideal S4x1280 .f32) (X6 : Vec Ideal S1x1280 .f32) (X7 : Vec Ideal S2x640x1280 .bf16)
    (X8 : Vec Ideal S1x1280 .f32) (X9 : Vec Ideal S1x1280 .f32) (X10 : Vec Ideal S1x1280 .f32) (X11 : Vec Ideal S2x1024 .f32) (X12 : Vec Ideal S1x128 .f32) (X13 : Vec Ideal S1280x1024 .bf16)
    (X14 : Vec Ideal S1024x1024 .bf16) (X15 : Vec Ideal S1024x1024 .bf16) : Prop where
  g1 : ∀ d, X3 (ix2 0 d) = p.g1 d
  w : ∀ x c, X4 (ix2 x c) = p.w x c
  cw : ∀ k l, X5 (ix2 k l) = p.cw k l
  cb : ∀ l, X6 (ix2 0 l) = p.cb l
  wa0 : ∀ x y : Fin 640, X7 (ix3 0 x ⟨y.val, by omega⟩) = if x.val / 80 = y.val / 80 then p.wa ⟨x.val / 80, by omega⟩ ⟨x.val % 80, by omega⟩ ⟨y.val % 80, by omega⟩ else 0
  wa1 : ∀ x y : Fin 640, X7 (ix3 1 x ⟨y.val, by omega⟩) = if x.val / 80 = y.val / 80 then p.wa ⟨8 + x.val / 80, by omega⟩ ⟨x.val % 80, by omega⟩ ⟨y.val % 80, by omega⟩ else 0
  wx0 : ∀ x y : Fin 640, X7 (ix3 0 x ⟨640 + y.val, by omega⟩) = if x.val / 80 = y.val / 80 then p.wx ⟨x.val / 80, by omega⟩ ⟨x.val % 80, by omega⟩ ⟨y.val % 80, by omega⟩ else 0
  wx1 : ∀ x y : Fin 640, X7 (ix3 1 x ⟨640 + y.val, by omega⟩) = if x.val / 80 = y.val / 80 then p.wx ⟨8 + x.val / 80, by omega⟩ ⟨x.val % 80, by omega⟩ ⟨y.val % 80, by omega⟩ else 0
  ba : ∀ l, X8 (ix2 0 l) = p.ba l
  bx : ∀ l, X9 (ix2 0 l) = p.bx l
  lam : ∀ l, X10 (ix2 0 l) = p.lam l
  lbl : ∀ k d, X11 (ix2 k d) = p.lbl k d
  hg : ∀ j, X12 (ix2 0 j) = p.hg j
  pa : ∀ x c, X13 (ix2 x c) = p.pa x c
  pb : ∀ x c, X14 (ix2 x c) = p.pb x c
  wo : ∀ x c, X15 (ix2 x c) = p.wo x c

/-- What tile `n` finds: the last eight rows of the convolution's input, the diagonal state, the matrix state. -/
structure Car (p : Par) (n : ℕ) (X17 : Vec Ideal S2x136x1280 .f32) (X18 : Vec Ideal S2x1x1280 .f32) (X19 : Vec Ideal S2x8x128x128 .f32) : Prop where
  w17 : ∀ b (k : Fin 136) l, k.val < 8 → X17 (ix3 b k l) = ax p b (128 * n + k.val - 8) l
  w18 : ∀ b l, X18 (ix3 b 0 l) = hr p b (128 * n) l
  w19 : ∀ b hd j x, X19 (ix4 b hd j x) = ((hs p b (128 * n) hd j x : ℝ) : EReal)
end Cert.Proof
-- ==== Proof.NextTile.lean ====
module
public import proofs.«01_k».proof.Proof.Car
public import proofs.«01_k».proof.Proof.Body

@[expose] public section
set_option maxRecDepth 16384
noncomputable section

/-! A later tile of the mixer: every named piece of its run is the token's own value, and so is what the run leaves. -/
namespace Cert.Proof.NextTile
open Cert.KernelIdeal Cert.KernelIdeal.Facts Cert.KernelIdeal.Gen
open Idealize.ShloMosaic Idealize.ShloMosaic.TcCoe Idealize.ShloMosaic.Tactic
open Cert.Proof.Row Cert.Proof.Rec Cert.Proof.Pays Cert.Proof.Win Cert.Proof

variable {c : Dev nD} {i : grid0.Coords}
variable {arg1 : Memref sig .tc .vmem S128x1024 .f32} {harg1 : arg1.IsWhole}
  {arg2 : Memref sig .tc .vmem S2x128x1024 .f32} {harg2 : arg2.IsWhole}
  {arg3 : Memref sig .tc .vmem S1x1024 .f32} {harg3 : arg3.IsWhole}
  {arg4 : Memref sig .tc .vmem S1024x8704 .bf16} {harg4 : arg4.IsWhole}
  {arg5 : Memref sig .tc .vmem S4x1280 .f32} {harg5 : arg5.IsWhole}
  {arg6 : Memref sig .tc .vmem S1x1280 .f32} {harg6 : arg6.IsWhole}
  {arg7 : Memref sig .tc .vmem S2x640x1280 .bf16} {harg7 : arg7.IsWhole}
  {arg8 : Memref sig .tc .vmem S1x1280 .f32} {harg8 : arg8.IsWhole}
  {arg9 : Memref sig .tc .vmem S1x1280 .f32} {harg9 : arg9.IsWhole}
  {arg10 : Memref sig .tc .vmem S1x1280 .f32} {harg10 : arg10.IsWhole}
  {arg11 : Memref sig .tc .vmem S2x1024 .f32} {harg11 : arg11.IsWhole}
  {arg12 : Memref sig .tc .vmem S1x128 .f32} {harg12 : arg12.IsWhole}
  {arg13 : Memref sig .tc .vmem S1280x1024 .bf16} {harg13 : arg13.IsWhole}
  {arg14 : Memref sig .tc .vmem S1024x1024 .bf16} {harg14 : arg14.IsWhole}
  {arg15 : Memref sig .tc .vmem S1024x1024 .bf16} {harg15 : arg15.IsWhole}
  {arg16 : Memref sig .tc .vmem S2x128x1024 .f32} {harg16 : arg16.IsWhole}
  {arg17 : Memref sig .tc .vmem S2x136x1280 .f32} {harg17 : arg17.IsWhole}
  {arg18 : Memref sig .tc .vmem S2x1x1280 .f32} {harg18 : arg18.IsWhole}
  {arg19 : Memref sig .tc .vmem S2x8x128x128 .f32} {harg19 : arg19.IsWhole}
  {alloca_r0 : Memref sig .tc .vmem S256x1280 .f32} {halloca_r0 : alloca_r0.IsWhole}
  {alloca_152_r0 : Memref sig .tc .vmem S256x1280 .f32} {halloca_152_r0 : alloca_152_r0.IsWhole}
  {alloca_r1 : Memref sig .tc .vmem S256x1024 .f32} {halloca_r1 : alloca_r1.IsWhole}
  {alloca_152_r1 : Memref sig .tc .vmem S256x1024 .f32} {halloca_152_r1 : alloca_152_r1.IsWhole}
  {alloca_153_r1 : Memref sig .tc .vmem S256x1024 .f32} {halloca_153_r1 : alloca_153_r1.IsWhole}
  {alloca_154_r1 : Memref sig .tc .vmem S256x1024 .bf16} {halloca_154_r1 : alloca_154_r1.IsWhole}
  {X1 : Vec Ideal S128x1024 .f32} {X2 : Vec Ideal S2x128x1024 .f32} {X3 : Vec Ideal S1x1024 .f32} {X4 : Vec Ideal S1024x8704 .bf16} {X5 : Vec Ideal S4x1280 .f32} {X6 : Vec Ideal S1x1280 .f32} {X7 : Vec Ideal S2x640x1280 .bf16} {X8 : Vec Ideal S1x1280 .f32} {X9 : Vec Ideal S1x1280 .f32} {X10 : Vec Ideal S1x1280 .f32} {X11 : Vec Ideal S2x1024 .f32} {X12 : Vec Ideal S1x128 .f32} {X13 : Vec Ideal S1280x1024 .bf16} {X14 : Vec Ideal S1024x1024 .bf16} {X15 : Vec Ideal S1024x1024 .bf16}
  {X17 : Vec Ideal S2x136x1280 .f32} {X18 : Vec Ideal S2x1x1280 .f32} {X19 : Vec Ideal S2x8x128x128 .f32}

variable {p : Par} {n : ℕ} (hi : (i 0).val = n) (hn65 : n < 65) (hn0 : n ≠ 0) (B : Blk p X3 X4 X5 X6 X7 X8 X9 X10 X11 X12 X13 X14 X15)
variable (ht : ∀ b (r : Fin 128) d, X2 (ix3 b r d) = p.tok b (128 * n + r.val) d) (C : Car p n X17 X18 X19)
variable (F : Fin' p)
include hi hn65 hn0 B ht C F

theorem l_tok (R : Fin 256) (b : Fin 2) (r : Fin 128) (hR : R.val = 128 * b.val + r.val) (d : Fin 1024) : (runNext.sl.r (F := Ideal) i arg1 arg2 X1 X2) (ix2 R d) = p.tok b (128 * n + r.val) d := by
  unfold runNext.sl.r
  refine (p254_next _ _ _ _ (by rw [hi]; exact hn0) X2 (fun r d => ra _ _ _ _ _ ?_) (fun r d => ra _ _ _ _ _ ?_) b r R hR d).trans (ht b r d)
  · exact (i_x 0 (by omega) 0 (by omega) 0 (by omega) _ _ _ _).trans (by congr 1 <;> apply Fin.ext <;> simp)
  · exact (i_x 1 (by omega) 0 (by omega) 0 (by omega) _ _ _ _).trans (by congr 1 <;> apply Fin.ext <;> simp)

theorem l_hn (R : Fin 256) (b : Fin 2) (r : Fin 128) (hR : R.val = 128 * b.val + r.val) (d : Fin 1024) : (runNext.sl.r_1 (F := Ideal) i arg1 arg2 arg3 X1 X2 X3) (ix2 R d) = hn p b (128 * n + r.val) d := by
  unfold runNext.sl.r_1
  refine p255 _ _ _ _ _ p b (128 * n + r.val) R (fun d => ?_) (fun d => ((ra _ _ _ _ (ix2 0 d) ((i_1x1024 0 0 (by omega) (by omega) _ _ _).trans (by congr 1 <;> apply Fin.ext <;> simp))).trans (B.g1 d))) d
  exact l_tok hi hn65 hn0 B ht C F R b r hR d

theorem l_ax (R : Fin 256) (b : Fin 2) (r : Fin 128) (hR : R.val = 128 * b.val + r.val) (l : Fin 1280) : (runNext.sl.r_2 (F := Ideal) i arg1 arg2 arg3 arg4 X1 X2 X3 X4) (ix2 R l) = ax p b (128 * n + r.val) l := by
  unfold runNext.sl.r_2
  refine p256 _ _ _ _ _ _ p b (128 * n + r.val) R (fun d => ?_) (fun x c => ((ra _ _ _ _ (ix2 x ⟨c.val, by omega⟩) ((i_w1280 0 0 (by omega) (by omega) _ _ _).trans (by congr 1 <;> apply Fin.ext <;> simp))).trans (B.w _ _))) l
  exact l_hn hi hn65 hn0 B ht C F R b r hR d

theorem l_ax0 (r : Fin 128) (l : Fin 1280) : (runNext.sl.r_4 (F := Ideal) i arg1 arg2 arg3 arg4 X1 X2 X3 X4) (ix2 r l) = ax p 0 (128 * n + r.val) l := by
  unfold runNext.sl.r_4
  refine (p258 _ _ _ _ _ _ ⟨r.val, by omega⟩ r rfl l).trans ?_
  exact l_ax hi hn65 hn0 B ht C F ⟨r.val, by omega⟩ 0 r (by simp) l

theorem l_ax1 (r : Fin 128) (l : Fin 1280) : (runNext.sl.r_6 (F := Ideal) i arg1 arg2 arg3 arg4 X1 X2 X3 X4) (ix2 r l) = ax p 1 (128 * n + r.val) l := by
  unfold runNext.sl.r_6
  refine (p262 _ ⟨128 + r.val, by omega⟩ r rfl l).trans ?_
  exact l_ax hi hn65 hn0 B ht C F ⟨128 + r.val, by omega⟩ 1 r (by simp) l

theorem l_win0 (f : arg17.view.ty.Contents (Elt Ideal)) (k : Fin 136) (l : Fin 1280) (hf : k.val < 8 → arg17.view.read (Elt Ideal) f (ix3 0 k l) = ax p 0 (128 * n + k.val - 8) l) : arg17.view.read (Elt Ideal) (arg17.view.writes (Elt Ideal) f (runNext.sl.H_arg17_1 (F := Ideal) i arg1 arg2 arg3 arg4 X1 X2 X3 X4)) (ix3 0 k l) = ax p 0 (128 * n + k.val - 8) l := by
  unfold runNext.sl.H_arg17_1
  by_cases h : k.val < 8
  · refine (w17_out1 _ _ 0 8 0 _ _ _ 0 k l (Or.inl h)).trans ?_
    exact hf h
  · refine (w17_in _ _ 0 8 0 _ _ _ 0 k l 0 ⟨k.val - 8, by omega⟩ l (by simp) (by simp; omega) (by simp)).trans ?_
    refine (p259 _ _ _).trans ((l_ax0 hi hn65 hn0 B ht C F _ _).trans (congrArg (fun t => ax p 0 t l) ?_))
    simp; omega

theorem l_win1 (f : arg17.view.ty.Contents (Elt Ideal)) (k : Fin 136) (l : Fin 1280) (hf : k.val < 8 → arg17.view.read (Elt Ideal) f (ix3 1 k l) = ax p 1 (128 * n + k.val - 8) l) : arg17.view.read (Elt Ideal) (arg17.view.writes (Elt Ideal) f (runNext.sl.H_arg17_3 (F := Ideal) i arg1 arg2 arg3 arg4 arg17 X1 X2 X3 X4)) (ix3 1 k l) = ax p 1 (128 * n + k.val - 8) l := by
  unfold runNext.sl.H_arg17_3
  by_cases h : k.val < 8
  · refine (w17_out1 _ _ 1 8 0 _ _ _ 1 k l (Or.inl h)).trans ?_
    unfold runNext.sl.H_arg17_2
    refine (w17s_out0 _ _ 0 0 0 _ _ _ 1 k l (Or.inr (by simp))).trans ?_
    unfold runNext.sl.H_arg17_1
    refine (w17_out0 _ _ 0 8 0 _ _ _ 1 k l (Or.inr (by simp))).trans ?_
    exact hf h
  · refine (w17_in _ _ 1 8 0 _ _ _ 1 k l 0 ⟨k.val - 8, by omega⟩ l (by simp) (by simp; omega) (by simp)).trans ?_
    refine (p263 _ _ _).trans ((l_ax1 hi hn65 hn0 B ht C F _ _).trans (congrArg (fun t => ax p 1 t l) ?_))
    simp; omega

theorem l_39 (r : Fin 128) (l : Fin 1280) : (runNext.sl.v39 (F := Ideal) i arg1 arg2 arg3 arg4 arg17 X1 X2 X3 X4) (ix3 0 r l) = ax p 0 (128 * n + r.val + 8 - 8) l := by
  unfold runNext.sl.v39
  refine (rc' _ _ _ _ (ix3 0 ⟨8 + r.val, by omega⟩ l) ((i_17 0 (by omega) 8 (by omega) 0 (by omega) _ _ _ _).trans (by congr 1 <;> apply Fin.ext <;> simp))).trans ?_
  refine (l_win0 hi hn65 hn0 B ht C F _ _ l (fun h => absurd h (by simp; try omega))).trans (congrArg (fun t => ax p 0 t l) ?_)
  simp; omega

theorem l_75 (r : Fin 128) (l : Fin 1280) : (runNext.sl.v75 (F := Ideal) i arg1 arg2 arg3 arg4 arg17 X1 X2 X3 X4) (ix3 0 r l) = ax p 1 (128 * n + r.val + 8 - 8) l := by
  unfold runNext.sl.v75
  refine (rc' _ _ _ _ (ix3 1 ⟨8 + r.val, by omega⟩ l) ((i_17 1 (by omega) 8 (by omega) 0 (by omega) _ _ _ _).trans (by congr 1 <;> apply Fin.ext <;> simp))).trans ?_
  refine (l_win1 hi hn65 hn0 B ht C F _ _ l (fun h => absurd h (by simp; try omega))).trans (congrArg (fun t => ax p 1 t l) ?_)
  simp; omega

theorem l_63 (r : Fin 8) (l : Fin 1280) : (runNext.sl.v63 (F := Ideal) i arg1 arg2 arg3 arg4 arg17 X1 X2 X3 X4) (ix3 0 r l) = ax p 0 (128 * n + r.val + 128 - 8) l := by
  unfold runNext.sl.v63
  refine (rc' _ _ _ _ (ix3 0 ⟨128 + r.val, by omega⟩ l) ((i_17s 0 (by omega) 128 (by omega) 0 (by omega) _ _ _ _).trans (by congr 1 <;> apply Fin.ext <;> simp))).trans ?_
  refine (l_win0 hi hn65 hn0 B ht C F _ _ l (fun h => absurd h (by simp; try omega))).trans (congrArg (fun t => ax p 0 t l) ?_)
  simp; omega

theorem l_99 (r : Fin 8) (l : Fin 1280) : (runNext.sl.v99 (F := Ideal) i arg1 arg2 arg3 arg4 arg17 X1 X2 X3 X4) (ix3 0 r l) = ax p 1 (128 * n + r.val + 128 - 8) l := by
  unfold runNext.sl.v99
  refine (rc' _ _ _ _ (ix3 1 ⟨128 + r.val, by omega⟩ l) ((i_17s 1 (by omega) 128 (by omega) 0 (by omega) _ _ _ _).trans (by congr 1 <;> apply Fin.ext <;> simp))).trans ?_
  refine (l_win1 hi hn65 hn0 B ht C F _ _ l (fun h => absurd h (by simp; try omega))).trans (congrArg (fun t => ax p 1 t l) ?_)
  simp; omega

theorem l_3 (k : Fin 4) (l : Fin 1280) : (runNext.sl.r_3 (F := Ideal) arg5 X5) (ix2 k l) = p.cw k l := by
  unfold runNext.sl.r_3
  exact (p257 _ _ _).trans ((ra _ _ _ _ (ix2 k l) ((i_4x1280 0 0 (by omega) (by omega) _ _ _).trans (by congr 1 <;> apply Fin.ext <;> simp))).trans (B.cw k l))

theorem l_cx0 (r : Fin 128) (l : Fin 1280) : (runNext.sl.r_5 (F := Ideal) i arg1 arg2 arg3 arg4 arg5 arg6 arg17 X1 X2 X3 X4 X5 X6 X17) (ix2 r l) = cx p 0 (128 * n + r.val) l := by
  unfold runNext.sl.r_5
  refine p260 _ _ _ _ _ _ p 0 (128 * n + r.val) r l (fun k l => l_3 hi hn65 hn0 B ht C F k l) (fun l => ((ra _ _ _ _ (ix2 0 l) ((i_1x1280 0 0 (by omega) (by omega) _ _ _).trans (by congr 1 <;> apply Fin.ext <;> simp))).trans (B.cb l))) ?_ ?_ ?_ ?_
  · exact (l_39 hi hn65 hn0 B ht C F r l).trans (congrArg (fun t => ax p 0 t l) (by omega))
  · exact (rw' _ _ _ _ (ix3 0 ⟨5 + r.val, by omega⟩ l) ((i_17 0 (by omega) 5 (by omega) 0 (by omega) _ _ _ _).trans (by congr 1 <;> apply Fin.ext <;> simp))).trans ((l_win0 hi hn65 hn0 B ht C F _ _ l (fun h => (congrFun (View.read_rep _ _) _).trans (C.w17 0 _ l h))).trans (congrArg (fun t => ax p 0 t l) (by simp; omega)))
  · exact (rw' _ _ _ _ (ix3 0 ⟨6 + r.val, by omega⟩ l) ((i_17 0 (by omega) 6 (by omega) 0 (by omega) _ _ _ _).trans (by congr 1 <;> apply Fin.ext <;> simp))).trans ((l_win0 hi hn65 hn0 B ht C F _ _ l (fun h => (congrFun (View.read_rep _ _) _).trans (C.w17 0 _ l h))).trans (congrArg (fun t => ax p 0 t l) (by simp; omega)))
  · exact (rw' _ _ _ _ (ix3 0 ⟨7 + r.val, by omega⟩ l) ((i_17 0 (by omega) 7 (by omega) 0 (by omega) _ _ _ _).trans (by congr 1 <;> apply Fin.ext <;> simp))).trans ((l_win0 hi hn65 hn0 B ht C F _ _ l (fun h => (congrFun (View.read_rep _ _) _).trans (C.w17 0 _ l h))).trans (congrArg (fun t => ax p 0 t l) (by simp; omega)))

theorem l_cx (R : Fin 256) (b : Fin 2) (r : Fin 128) (hR : R.val = 128 * b.val + r.val) (l : Fin 1280) : (runNext.sl.r_7 (F := Ideal) i arg1 arg2 arg3 arg4 arg5 arg6 arg17 X1 X2 X3 X4 X5 X6 X17) (ix2 R l) = cx p b (128 * n + r.val) l := by
  unfold runNext.sl.r_7
  refine p265 _ _ _ _ _ _ _ p n b r R hR l (fun r l => l_cx0 hi hn65 hn0 B ht C F r l) (fun k l => l_3 hi hn65 hn0 B ht C F k l) (fun l => ((ra _ _ _ _ (ix2 0 l) ((i_1x1280 0 0 (by omega) (by omega) _ _ _).trans (by congr 1 <;> apply Fin.ext <;> simp))).trans (B.cb l))) (fun r l => ?_) (fun r l => ?_) (fun r l => ?_) (fun r l => ?_)
  · exact (l_75 hi hn65 hn0 B ht C F r l).trans (congrArg (fun t => ax p 1 t l) (by omega))
  · exact (rw' _ _ _ _ (ix3 1 ⟨5 + r.val, by omega⟩ l) ((i_17 1 (by omega) 5 (by omega) 0 (by omega) _ _ _ _).trans (by congr 1 <;> apply Fin.ext <;> simp))).trans ((l_win1 hi hn65 hn0 B ht C F _ _ l (fun h => (congrFun (View.read_rep _ _) _).trans (C.w17 1 _ l h))).trans (congrArg (fun t => ax p 1 t l) (by simp; omega)))
  · exact (rw' _ _ _ _ (ix3 1 ⟨6 + r.val, by omega⟩ l) ((i_17 1 (by omega) 6 (by omega) 0 (by omega) _ _ _ _).trans (by congr 1 <;> apply Fin.ext <;> simp))).trans ((l_win1 hi hn65 hn0 B ht C F _ _ l (fun h => (congrFun (View.read_rep _ _) _).trans (C.w17 1 _ l h))).trans (congrArg (fun t => ax p 1 t l) (by simp; omega)))
  · exact (rw' _ _ _ _ (ix3 1 ⟨7 + r.val, by omega⟩ l) ((i_17 1 (by omega) 7 (by omega) 0 (by omega) _ _ _ _).trans (by congr 1 <;> apply Fin.ext <;> simp))).trans ((l_win1 hi hn65 hn0 B ht C F _ _ l (fun h => (congrFun (View.read_rep _ _) _).trans (C.w17 1 _ l h))).trans (congrArg (fun t => ax p 1 t l) (by simp; omega)))

theorem l_8 (R : Fin 256) (b : Fin 2) (r : Fin 128) (hR : R.val = 128 * b.val + r.val) (l : Fin 1280) : (runNext.sl.r_8 (F := Ideal) i arg1 arg2 arg3 arg4 arg5 arg6 arg17 X1 X2 X3 X4 X5 X6 X17) (ix2 R l) = cx p b (128 * n + r.val) l := by
  exact l_cx hi hn65 hn0 B ht C F R b r hR l

theorem l_9 (R : Fin 256) (b : Fin 2) (r : Fin 128) (hR : R.val = 128 * b.val + r.val) (l : Fin 640) : (runNext.sl.r_9 (F := Ideal) i arg1 arg2 arg3 arg4 arg5 arg6 arg17 X1 X2 X3 X4 X5 X6 X17) (ix2 R l) = cx p b (128 * n + r.val) ⟨l.val, by omega⟩ := by
  unfold runNext.sl.r_9
  exact (p267 _ _ _ _ _ _ _ R l).trans (l_cx hi hn65 hn0 B ht C F R b r hR _)

theorem l_gr (R : Fin 256) (b : Fin 2) (r : Fin 128) (hR : R.val = 128 * b.val + r.val) (l : Fin 1280) : (runNext.sl.r_10 (F := Ideal) i arg1 arg2 arg3 arg4 arg5 arg6 arg7 arg8 arg17 X1 X2 X3 X4 X5 X6 X7 X8 X17) (ix2 R l) = gr p b (128 * n + r.val) l := by
  unfold runNext.sl.r_10
  exact p270 _ _ _ _ _ _ p b (128 * n + r.val) R l (fun l => l_8 hi hn65 hn0 B ht C F R b r hR l) (fun l => l_9 hi hn65 hn0 B ht C F R b r hR l)
    (fun x y => ((ra _ _ _ _ (ix3 0 x ⟨y.val, by omega⟩) ((i_7 0 (by omega) 0 (by omega) 0 (by omega)  _ _ _ _).trans (by congr 1 <;> apply Fin.ext <;> simp))).trans (B.wa0 x y))) (fun x y => ((ra _ _ _ _ (ix3 1 x ⟨y.val, by omega⟩) ((i_7 1 (by omega) 0 (by omega) 0 (by omega)  _ _ _ _).trans (by congr 1 <;> apply Fin.ext <;> simp))).trans (B.wa1 x y)))
    (fun y => ((ra _ _ _ _ (ix2 0 ⟨y.val, by omega⟩) ((i_1x640 0 0 (by omega) (by omega) _ _ _).trans (by congr 1 <;> apply Fin.ext <;> simp))).trans (B.ba _))) (fun y => ((ra _ _ _ _ (ix2 0 ⟨640 + y.val, by omega⟩) ((i_1x640 0 640 (by omega) (by omega) _ _ _).trans (by congr 1 <;> apply Fin.ext <;> simp))).trans (B.ba _)))

theorem l_gi (R : Fin 256) (b : Fin 2) (r : Fin 128) (hR : R.val = 128 * b.val + r.val) (l : Fin 1280) : (runNext.sl.r_11 (F := Ideal) i arg1 arg2 arg3 arg4 arg5 arg6 arg7 arg9 arg17 X1 X2 X3 X4 X5 X6 X7 X9 X17) (ix2 R l) = gi p b (128 * n + r.val) l := by
  unfold runNext.sl.r_11
  exact p271 _ _ _ _ _ _ p b (128 * n + r.val) R l (fun l => l_8 hi hn65 hn0 B ht C F R b r hR l) (fun l => l_9 hi hn65 hn0 B ht C F R b r hR l)
    (fun x y => ((ra _ _ _ _ (ix3 0 x ⟨640 + y.val, by omega⟩) ((i_7 0 (by omega) 0 (by omega) 0 (by omega)  _ _ _ _).trans (by congr 1 <;> apply Fin.ext <;> simp))).trans (B.wx0 x y))) (fun x y => ((ra _ _ _ _ (ix3 1 x ⟨640 + y.val, by omega⟩) ((i_7 1 (by omega) 0 (by omega) 0 (by omega)  _ _ _ _).trans (by congr 1 <;> apply Fin.ext <;> simp))).trans (B.wx1 x y)))
    (fun y => ((ra _ _ _ _ (ix2 0 ⟨y.val, by omega⟩) ((i_1x640 0 0 (by omega) (by omega) _ _ _).trans (by congr 1 <;> apply Fin.ext <;> simp))).trans (B.bx _))) (fun y => ((ra _ _ _ _ (ix2 0 ⟨640 + y.val, by omega⟩) ((i_1x640 0 640 (by omega) (by omega) _ _ _).trans (by congr 1 <;> apply Fin.ext <;> simp))).trans (B.bx _)))

theorem l_12 (l : Fin 1280) : (runNext.sl.r_12 (F := Ideal) arg10 X10) (ix2 0 l) = max (0 - p.lam l) 0 := by
  unfold runNext.sl.r_12
  refine (p273 _ l).trans ?_
  rw [((ra _ _ _ _ (ix2 0 l) ((i_1x1280 0 0 (by omega) (by omega) _ _ _).trans (by congr 1 <;> apply Fin.ext <;> simp))).trans (B.lam l))]

theorem l_13 (l : Fin 1280) : (runNext.sl.r_13 (F := Ideal) arg10 X10) (ix2 0 l) = max (0 - p.lam l) (-(0 - p.lam l)) := by
  unfold runNext.sl.r_13
  refine (p274 _ l).trans ?_
  rw [((ra _ _ _ _ (ix2 0 l) ((i_1x1280 0 0 (by omega) (by omega) _ _ _).trans (by congr 1 <;> apply Fin.ext <;> simp))).trans (B.lam l))]

theorem l_cst : (runNext.sl.cst_76 (F := Ideal)) = 0 := by
  unfold runNext.sl.cst_76
  exact Ideal.ofBits_zero_f32

theorem l_a (R : Fin 256) (b : Fin 2) (r : Fin 128) (hR : R.val = 128 * b.val + r.val) (l : Fin 1280) : (runNext.sl.r_14 (F := Ideal) i arg1 arg2 arg3 arg4 arg5 arg6 arg7 arg8 arg10 arg17 X1 X2 X3 X4 X5 X6 X7 X8 X10 X17) (ix2 R l) = Ideal.exp (la p b (128 * n + r.val) l) := by
  unfold runNext.sl.r_14
  exact p276 _ _ _ _ p b (128 * n + r.val) R l (l_gr hi hn65 hn0 B ht C F R b r hR l) (l_12 hi hn65 hn0 B ht C F) (l_13 hi hn65 hn0 B ht C F) (l_cst hi hn65 hn0 B ht C F)

theorem l_u (R : Fin 256) (b : Fin 2) (r : Fin 128) (hR : R.val = 128 * b.val + r.val) (l : Fin 1280) : (runNext.sl.r_15 (F := Ideal) i arg1 arg2 arg3 arg4 arg5 arg6 arg7 arg8 arg9 arg10 arg17 X1 X2 X3 X4 X5 X6 X7 X8 X9 X10 X17) (ix2 R l) = ui p b (128 * n + r.val) l := by
  unfold runNext.sl.r_15
  exact p277 _ _ _ _ _ _ _ p n b r R hR l (l_gr hi hn65 hn0 B ht C F R b r hR l) (l_12 hi hn65 hn0 B ht C F) (l_13 hi hn65 hn0 B ht C F) (l_cst hi hn65 hn0 B ht C F) hn65 (by rw [hi]) (l_cx hi hn65 hn0 B ht C F R b r hR l) (l_gi hi hn65 hn0 B ht C F R b r hR l)

theorem l_16 (x : Fin 1024) (l : Fin 1280) : (runNext.sl.r_16 (F := Ideal) arg4 X4) (ix2 x l) = p.w x ⟨1280 + l.val, by omega⟩ := by
  unfold runNext.sl.r_16
  exact (p278 _ _ _).trans ((ra _ _ _ _ (ix2 x ⟨1280 + l.val, by omega⟩) ((i_w1280 0 1280 (by omega) (by omega) _ _ _).trans (by congr 1 <;> apply Fin.ext <;> simp))).trans (B.w _ _))

theorem l_ga (R : Fin 256) (b : Fin 2) (r : Fin 128) (hR : R.val = 128 * b.val + r.val) (l : Fin 1280) : (runNext.sl.r_17 (F := Ideal) i arg1 arg2 arg3 arg4 X1 X2 X3 X4) (ix2 R l) = ga p b (128 * n + r.val) l := by
  unfold runNext.sl.r_17
  exact p279 _ _ p b (128 * n + r.val) R l (fun d => l_hn hi hn65 hn0 B ht C F R b r hR d) (fun x c => l_16 hi hn65 hn0 B ht C F x c)

theorem loopA : Scan.Inv (fun b l r => (Ideal.exp (la p b (128 * n + r) l)).toReal) (fun b l r => ui p b (128 * n + r) l) (fun b l => hr p b (128 * n) l) k0_t1_loop.trips (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 (runNext.sl.r_1 i arg1 arg2 arg3 X1 X2 X3) (runNext.sl.r_14 i arg1 arg2 arg3 arg4 arg5 arg6 arg7 arg8 arg10 arg17 X1 X2 X3 X4 X5 X6 X7 X8 X10 X17) (runNext.sl.r_15 i arg1 arg2 arg3 arg4 arg5 arg6 arg7 arg8 arg9 arg10 arg17 X1 X2 X3 X4 X5 X6 X7 X8 X9 X10 X17) (runNext.sl.r_16 arg4 X4) runNext.sl.v419_r0 (alloca_r0.view.writes (Elt Ideal) alloca_r0.view.junk (runNext.sl.H_alloca_r0_1 i arg1 arg2 arg3 arg4 arg5 arg6 arg7 arg8 arg10 arg17 X1 X2 X3 X4 X5 X6 X7 X8 X10 X17)) (alloca_152_r0.view.writes (Elt Ideal) alloca_152_r0.view.junk (runNext.sl.H_alloca_152_r0_1 i arg1 arg2 arg3 arg4 arg5 arg6 arg7 arg8 arg9 arg10 arg17 X1 X2 X3 X4 X5 X6 X7 X8 X9 X10 X17)) (k0_pay282 (View.readAt (Elt Ideal) arg18.view (Rect.unit (s := S2x1x1280) ![0, 0, 0] S1x1x1280.size inb_S2x1x1280_S1x1x1280_0_0_0).toLoadRect (arg18.view.rep X18)), k0_pay283 (View.readAt (Elt Ideal) arg18.view (Rect.unit (s := S2x1x1280) ![1, 0, 0] S1x1x1280.size inb_S2x1x1280_S1x1x1280_1_0_0).toLoadRect (arg18.view.rep X18))) (Scf.trips k0_t1_loop.lb k0_t1_loop.ub k0_t1_loop.st)).1 (alloca_152_r0.view.read (Elt Ideal) (alloca_152_r0.view.writes (Elt Ideal) (alloca_152_r0.view.writes (Elt Ideal) alloca_152_r0.view.junk (runNext.sl.H_alloca_152_r0_1 (F := Ideal) i arg1 arg2 arg3 arg4 arg5 arg6 arg7 arg8 arg9 arg10 arg17 X1 X2 X3 X4 X5 X6 X7 X8 X9 X10 X17)) (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 (runNext.sl.r_1 i arg1 arg2 arg3 X1 X2 X3) (runNext.sl.r_14 i arg1 arg2 arg3 arg4 arg5 arg6 arg7 arg8 arg10 arg17 X1 X2 X3 X4 X5 X6 X7 X8 X10 X17) (runNext.sl.r_15 i arg1 arg2 arg3 arg4 arg5 arg6 arg7 arg8 arg9 arg10 arg17 X1 X2 X3 X4 X5 X6 X7 X8 X9 X10 X17) (runNext.sl.r_16 arg4 X4) runNext.sl.v419_r0 (alloca_r0.view.writes (Elt Ideal) alloca_r0.view.junk (runNext.sl.H_alloca_r0_1 i arg1 arg2 arg3 arg4 arg5 arg6 arg7 arg8 arg10 arg17 X1 X2 X3 X4 X5 X6 X7 X8 X10 X17)) (alloca_152_r0.view.writes (Elt Ideal) alloca_152_r0.view.junk (runNext.sl.H_alloca_152_r0_1 i arg1 arg2 arg3 arg4 arg5 arg6 arg7 arg8 arg9 arg10 arg17 X1 X2 X3 X4 X5 X6 X7 X8 X9 X10 X17)) (k0_pay282 (View.readAt (Elt Ideal) arg18.view (Rect.unit (s := S2x1x1280) ![0, 0, 0] S1x1x1280.size inb_S2x1x1280_S1x1x1280_0_0_0).toLoadRect (arg18.view.rep X18)), k0_pay283 (View.readAt (Elt Ideal) arg18.view (Rect.unit (s := S2x1x1280) ![1, 0, 0] S1x1x1280.size inb_S2x1x1280_S1x1x1280_1_0_0).toLoadRect (arg18.view.rep X18))) (Scf.trips k0_t1_loop.lb k0_t1_loop.ub k0_t1_loop.st)).2)) := by
  refine Scan.loop_inv Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 _ _ _ _ _ _ _ _ (fun b l r => a_nonneg b _ l) _ _ (fun R b r l hr hR => ?_) (fun R b r l hr hR => ?_) (fun l => ?_) (fun l => ?_) k0_t1_loop.trips le_rfl
  · unfold runNext.sl.H_alloca_r0_1
    exact (congrFun (View.read_writes_full alloca_r0.view _ _ _ _) (ix2 R l)).trans ((p280 _ R l).trans ((l_a hi hn65 hn0 B ht C F R b ⟨r, hr⟩ hR l).trans (a_r F b _ l).eq))
  · unfold runNext.sl.H_alloca_152_r0_1
    exact (congrFun (View.read_writes_full alloca_152_r0.view _ _ _ _) (ix2 R l)).trans ((p281 _ R l).trans (l_u hi hn65 hn0 B ht C F R b ⟨r, hr⟩ hR l))
  · exact (p282 _ l).trans ((ra _ _ _ _ (ix3 0 0 l) ((i_18 0 (by omega) 0 (by omega) 0 (by omega) _ _ _ _).trans (by congr 1 <;> apply Fin.ext <;> simp))).trans (C.w18 0 l))
  · exact (p283 _ l).trans ((ra _ _ _ _ (ix3 1 0 l) ((i_18 1 (by omega) 0 (by omega) 0 (by omega) _ _ _ _).trans (by congr 1 <;> apply Fin.ext <;> simp))).trans (C.w18 1 l))

theorem l_h (R : Fin 256) (b : Fin 2) (r : Fin 128) (hR : R.val = 128 * b.val + r.val) (l : Fin 1280) : (runNext.sl.v432_r0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X17 X18) (ix2 R l) = hr p b (128 * n + r.val + 1) l := by
  unfold runNext.sl.v432_r0
  refine (rc' _ _ _ _ (ix2 R l) ((i_256x1280 0 0 (by omega) (by omega) _ _ _).trans (by congr 1 <;> apply Fin.ext <;> simp))).trans ?_
  rw [View.writes_append]
  refine ((loopA hi hn65 hn0 B ht C F).hB R b r.val l r.isLt hR).trans ?_
  rw [if_pos (show r.val < 8 * k0_t1_loop.trips by have e : k0_t1_loop.trips = 16 := rfl; omega)]
  exact (re_add (fun s => (Ideal.exp (la p b s l)).toReal) (fun s => ui p b s l) 0 (128 * n) (r.val + 1)).symm

theorem l_18 (f : arg18.view.ty.Contents (Elt Ideal)) (b : Fin 2) (l : Fin 1280) : arg18.view.read (Elt Ideal) (arg18.view.writes (Elt Ideal) f (runNext.sl.H_arg18_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X17 X18)) (ix3 b 0 l) = hr p b (128 * (n + 1)) l := by
  unfold runNext.sl.H_arg18_2

  have e : k0_t1_loop.trips = 16 := rfl
  fin_cases b
  · refine (w18_out0 _ _ 1 0 0 _ _ _ 0 0 l (Or.inl (by simp))).trans ?_
    unfold runNext.sl.H_arg18_1
    refine (w18_in _ _ 0 0 0 _ _ _ 0 0 l 0 0 l (by simp) (by simp) (by simp)).trans ((p287 _ l).trans (((loopA hi hn65 hn0 B ht C F).h0 l).trans ?_))
    exact (re_add (fun s => (Ideal.exp (la p 0 s l)).toReal) (fun s => ui p 0 s l) 0 (128 * n) 128).symm
  · refine (w18_in _ _ 1 0 0 _ _ _ 1 0 l 0 0 l (by simp) (by simp) (by simp)).trans ((p288 _ l).trans ?_)
    unfold runNext.sl.r_18
    refine ((loopA hi hn65 hn0 B ht C F).h1 l).trans ?_
    exact (re_add (fun s => (Ideal.exp (la p 1 s l)).toReal) (fun s => ui p 1 s l) 0 (128 * n) 128).symm

theorem l_mA (R : Fin 256) (b : Fin 2) (r : Fin 128) (hR : R.val = 128 * b.val + r.val) (d : Fin 1024) : (runNext.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X13 X17 X18) (ix2 R d) = mA p b (128 * n + r.val) d := by
  unfold runNext.sl.r_19
  exact p289 _ _ _ _ _ p b (128 * n + r.val) R d (fun d => l_hn hi hn65 hn0 B ht C F R b r hR d) (fun l => l_ga hi hn65 hn0 B ht C F R b r hR l) (fun l => l_h hi hn65 hn0 B ht C F R b r hR l) (fun x c => ((ra _ _ _ _ (ix2 x ⟨6656 + c.val, by omega⟩) ((i_w 0 6656 (by omega) (by omega) _ _ _).trans (by congr 1 <;> apply Fin.ext <;> simp))).trans (B.w _ _))) (fun x c => ((ra _ _ _ _ (ix2 x c) ((i_1280x1024 0 0 (by omega) (by omega) _ _ _).trans (by congr 1 <;> apply Fin.ext <;> simp))).trans (B.pa x c)))

theorem l_lf (R : Fin 256) (b : Fin 2) (r : Fin 128) (hR : R.val = 128 * b.val + r.val) (d : Fin 1024) : (runNext.sl.r_20 (F := Ideal) i arg1 arg2 arg3 arg4 arg11 X1 X2 X3 X4 X11) (ix2 R d) = lf p b (128 * n + r.val) d := by
  unfold runNext.sl.r_20
  exact p292 _ _ _ _ p b (128 * n + r.val) R d (fun d => l_hn hi hn65 hn0 B ht C F R b r hR d) (fun d => ((ra _ _ _ _ (ix2 0 d) ((i_2x1024 0 0 (by omega) (by omega) _ _ _).trans (by congr 1 <;> apply Fin.ext <;> simp))).trans (B.lbl 0 d))) (fun d => ((ra _ _ _ _ (ix2 1 d) ((i_2x1024 1 0 (by omega) (by omega) _ _ _).trans (by congr 1 <;> apply Fin.ext <;> simp))).trans (B.lbl 1 d))) (fun x c => ((ra _ _ _ _ (ix2 x ⟨3584 + c.val, by omega⟩) ((i_w 0 3584 (by omega) (by omega) _ _ _).trans (by congr 1 <;> apply Fin.ext <;> simp))).trans (B.w _ _)))

theorem l_ki (R : Fin 256) (b : Fin 2) (r : Fin 128) (hR : R.val = 128 * b.val + r.val) (d : Fin 1024) : (runNext.sl.r_21 (F := Ideal) i arg1 arg2 arg3 arg4 arg11 X1 X2 X3 X4 X11) (ix2 R d) = ki p b (128 * n + r.val) d := by
  unfold runNext.sl.r_21
  exact p293 _ _ _ _ p b (128 * n + r.val) R d (fun d => l_hn hi hn65 hn0 B ht C F R b r hR d) (fun d => ((ra _ _ _ _ (ix2 0 d) ((i_2x1024 0 0 (by omega) (by omega) _ _ _).trans (by congr 1 <;> apply Fin.ext <;> simp))).trans (B.lbl 0 d))) (fun d => ((ra _ _ _ _ (ix2 1 d) ((i_2x1024 1 0 (by omega) (by omega) _ _ _).trans (by congr 1 <;> apply Fin.ext <;> simp))).trans (B.lbl 1 d))) (fun x c => ((ra _ _ _ _ (ix2 x ⟨3584 + c.val, by omega⟩) ((i_w 0 3584 (by omega) (by omega) _ _ _).trans (by congr 1 <;> apply Fin.ext <;> simp))).trans (B.w _ _)))

theorem loopB : Chunk.Inv (fun b l r => (lf p b (128 * n + r) l).toReal) (fun b l r => (qi p b (128 * n + r) l).toReal) (fun b l r => (ki p b (128 * n + r) l).toReal) (fun b l r => (vi p b (128 * n + r) l).toReal) (fun b hd j x => hs p b (128 * n) hd j x) k0_t2_loop.trips (arg19.view.read (Elt Ideal) (arg19.view.writes (Elt Ideal) (arg19.view.rep X19) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 runNext.sl.v425_r1 runNext.sl.v426_r1 k0_pay298 runNext.sl.v442_r1 runNext.sl.v457_r1 runNext.sl.v472_r1 (andi runNext.sl.v477_r1 runNext.sl.v481_r1) runNext.sl.v478_r1 (alloca_r1.view.writes (Elt Ideal) alloca_r1.view.junk (runNext.sl.H_alloca_r1_1 i arg1 arg2 arg3 arg4 arg11 X1 X2 X3 X4 X11)) (alloca_153_r1.view.writes (Elt Ideal) alloca_153_r1.view.junk (runNext.sl.H_alloca_153_r1_1 i arg1 arg2 arg3 arg4 arg11 X1 X2 X3 X4 X11)) (alloca_154_r1.view.writes (Elt Ideal) alloca_154_r1.view.junk (runNext.sl.H_alloca_154_r1_1 i arg1 arg2 arg3 arg4 X1 X2 X3 X4)) (arg19.view.rep X19) (alloca_152_r1.view.writes (Elt Ideal) alloca_152_r1.view.junk (runNext.sl.H_alloca_152_r1_1 i arg1 arg2 arg3 arg4 X1 X2 X3 X4)) (0#32) (Scf.trips k0_t2_loop.lb k0_t2_loop.ub k0_t2_loop.st)).2.1)) (alloca_152_r1.view.read (Elt Ideal) (alloca_152_r1.view.writes (Elt Ideal) (alloca_152_r1.view.writes (Elt Ideal) alloca_152_r1.view.junk (runNext.sl.H_alloca_152_r1_1 (F := Ideal) i arg1 arg2 arg3 arg4 X1 X2 X3 X4)) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 runNext.sl.v425_r1 runNext.sl.v426_r1 k0_pay298 runNext.sl.v442_r1 runNext.sl.v457_r1 runNext.sl.v472_r1 (andi runNext.sl.v477_r1 runNext.sl.v481_r1) runNext.sl.v478_r1 (alloca_r1.view.writes (Elt Ideal) alloca_r1.view.junk (runNext.sl.H_alloca_r1_1 i arg1 arg2 arg3 arg4 arg11 X1 X2 X3 X4 X11)) (alloca_153_r1.view.writes (Elt Ideal) alloca_153_r1.view.junk (runNext.sl.H_alloca_153_r1_1 i arg1 arg2 arg3 arg4 arg11 X1 X2 X3 X4 X11)) (alloca_154_r1.view.writes (Elt Ideal) alloca_154_r1.view.junk (runNext.sl.H_alloca_154_r1_1 i arg1 arg2 arg3 arg4 X1 X2 X3 X4)) (arg19.view.rep X19) (alloca_152_r1.view.writes (Elt Ideal) alloca_152_r1.view.junk (runNext.sl.H_alloca_152_r1_1 i arg1 arg2 arg3 arg4 X1 X2 X3 X4)) (0#32) (Scf.trips k0_t2_loop.lb k0_t2_loop.ub k0_t2_loop.st)).2.2)) := by
  refine Chunk.loop_inv Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 _ _ _ _ _ _ _ _ _ _ _ _ _ _ _ _ _ _ _ rfl rfl rfl rfl rfl rfl rfl (fun b l s => ?_) (fun R b r l hr hR => ?_) (fun R b r l hr hR => ?_) (fun R b r l hr hR => ?_) (fun R b r l hr hR => ?_) (fun b hd j x => ?_) k0_t2_loop.trips le_rfl
  · obtain ⟨z, hz, e⟩ := lf_r F b (128 * n + s) l
    rw [e]; exact hz
  · unfold runNext.sl.H_alloca_r1_1
    obtain ⟨z, hz, e⟩ := lf_r F b (128 * n + r) l
    exact (congrFun (View.read_writes_full alloca_r1.view _ _ _ _) (ix2 R l)).trans (((p294 _ R l).trans (l_lf hi hn65 hn0 B ht C F R b ⟨r, hr⟩ hR l)).trans (IsR.eq ⟨z, e⟩))
  · unfold runNext.sl.H_alloca_153_r1_1
    exact (congrFun (View.read_writes_full alloca_153_r1.view _ _ _ _) (ix2 R l)).trans (((p296 _ R l).trans (l_ki hi hn65 hn0 B ht C F R b ⟨r, hr⟩ hR l)).trans (ki_r F b _ l).eq)
  · unfold runNext.sl.H_alloca_154_r1_1
    exact (congrFun (View.read_writes_full alloca_154_r1.view _ _ _ _) (ix2 R l)).trans ((p297 _ _ p b (128 * n + r) R l (fun d => l_hn hi hn65 hn0 B ht C F R b ⟨r, hr⟩ hR d) (fun x c => ((ra _ _ _ _ (ix2 x ⟨4608 + c.val, by omega⟩) ((i_w 0 4608 (by omega) (by omega) _ _ _).trans (by congr 1 <;> apply Fin.ext <;> simp))).trans (B.w _ _)))).trans (vi_r F b _ l).eq)
  · unfold runNext.sl.H_alloca_152_r1_1
    exact (congrFun (View.read_writes_full alloca_152_r1.view _ _ _ _) (ix2 R l)).trans ((p295 _ _ p b (128 * n + r) R l (fun d => l_hn hi hn65 hn0 B ht C F R b ⟨r, hr⟩ hR d) (fun x c => ((ra _ _ _ _ (ix2 x ⟨2560 + c.val, by omega⟩) ((i_w 0 2560 (by omega) (by omega) _ _ _).trans (by congr 1 <;> apply Fin.ext <;> simp))).trans (B.w _ _)))).trans (qi_r F b _ l).eq)
  · skip
    exact (congrFun (View.read_rep _ _) _).trans (C.w19 b hd j x)

theorem sd_hs : ∀ b hd j x m, Chunk.sd (fun b l r => (lf p b (128 * n + r) l).toReal) (fun b l r => (ki p b (128 * n + r) l).toReal) (fun b l r => (vi p b (128 * n + r) l).toReal) (fun b hd j x => hs p b (128 * n) hd j x) b hd j x m = hs p b (128 * n + m) hd j x := by
  intro b hd j x m
  exact (rc_add (fun s => Real.exp (lf p b s (col hd x)).toReal) (fun s => (ki p b s (col hd x)).toReal * (vi p b s (col hd j)).toReal) 0 (128 * n) m).symm

theorem l_19 (b : Fin 2) (hd : Fin 8) (j x : Fin 128) : arg19.view.read (Elt Ideal) (arg19.view.writes (Elt Ideal) (arg19.view.rep X19) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 runNext.sl.v425_r1 runNext.sl.v426_r1 k0_pay298 runNext.sl.v442_r1 runNext.sl.v457_r1 runNext.sl.v472_r1 (andi runNext.sl.v477_r1 runNext.sl.v481_r1) runNext.sl.v478_r1 (alloca_r1.view.writes (Elt Ideal) alloca_r1.view.junk (runNext.sl.H_alloca_r1_1 i arg1 arg2 arg3 arg4 arg11 X1 X2 X3 X4 X11)) (alloca_153_r1.view.writes (Elt Ideal) alloca_153_r1.view.junk (runNext.sl.H_alloca_153_r1_1 i arg1 arg2 arg3 arg4 arg11 X1 X2 X3 X4 X11)) (alloca_154_r1.view.writes (Elt Ideal) alloca_154_r1.view.junk (runNext.sl.H_alloca_154_r1_1 i arg1 arg2 arg3 arg4 X1 X2 X3 X4)) (arg19.view.rep X19) (alloca_152_r1.view.writes (Elt Ideal) alloca_152_r1.view.junk (runNext.sl.H_alloca_152_r1_1 i arg1 arg2 arg3 arg4 X1 X2 X3 X4)) (0#32) (Scf.trips k0_t2_loop.lb k0_t2_loop.ub k0_t2_loop.st)).2.1) (ix4 b hd j x) = ((hs p b (128 * (n + 1)) hd j x : ℝ) : EReal) := by
  refine ((loopB hi hn65 hn0 B ht C F).hS b hd j x).trans ?_
  rw [sd_hs hi hn65 hn0 B ht C F]
  rfl

theorem l_oh (R : Fin 256) (b : Fin 2) (r : Fin 128) (hR : R.val = 128 * b.val + r.val) (hd : Fin 8) (j : Fin 128) : (runNext.sl.r_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X19) (ix2 R (col hd j)) = ((oh p b (128 * n + r.val) hd j : ℝ) : EReal) := by
  unfold runNext.sl.r_22
  refine (p311 _ R (col hd j)).trans ?_
  unfold runNext.sl.v520_r1
  refine (rc' _ _ _ _ (ix2 R (col hd j)) ((i_256x1024 0 0 (by omega) (by omega) _ _ _).trans (by congr 1 <;> apply Fin.ext <;> simp))).trans ?_
  rw [View.writes_append]
  refine ((loopB hi hn65 hn0 B ht C F).hB R b r.val hd j r.isLt hR).trans ?_
  rw [if_pos (show r.val < 64 * k0_t2_loop.trips by have e : k0_t2_loop.trips = 2 := rfl; omega)]
  refine congrArg (fun z : ℝ => (z : EReal)) ?_
  unfold Chunk.ob oh
  refine Finset.sum_congr rfl fun x _ => ?_
  rw [sd_hs hi hn65 hn0 B ht C F]
  rfl

theorem l_gs (R : Fin 256) (b : Fin 2) (r : Fin 128) (hR : R.val = 128 * b.val + r.val) (d : Fin 1024) : (runNext.sl.r_23 (F := Ideal) i arg1 arg2 arg3 arg4 X1 X2 X3 X4) (ix2 R d) = gs p b (128 * n + r.val) d := by
  unfold runNext.sl.r_23
  exact p312 _ _ p b (128 * n + r.val) R d (fun d => l_hn hi hn65 hn0 B ht C F R b r hR d) (fun x c => ((ra _ _ _ _ (ix2 x ⟨5632 + c.val, by omega⟩) ((i_w 0 5632 (by omega) (by omega) _ _ _).trans (by congr 1 <;> apply Fin.ext <;> simp))).trans (B.w _ _)))

theorem l_hg (j : Fin 128) : (runNext.sl.r_24 (F := Ideal) arg12 X12) (ix2 0 j) = p.hg j := by
  unfold runNext.sl.r_24
  exact (p313 _ j).trans ((ra _ _ _ _ (ix2 0 j) ((i_1x128 0 0 (by omega) (by omega) _ _ _).trans (by congr 1 <;> apply Fin.ext <;> simp))).trans (B.hg j))

theorem l_y0 (R : Fin 256) (b : Fin 2) (r : Fin 128) (hR : R.val = 128 * b.val + r.val) (j : Fin 128) : (runNext.sl.r_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X12 X19) (ix2 R j) = yb p b (128 * n + r.val) 0 j := by
  unfold runNext.sl.r_25
  exact p314 _ _ _ _ p b (128 * n + r.val) R j (fun hd x => l_oh hi hn65 hn0 B ht C F R b r hR hd x) (fun d => l_gs hi hn65 hn0 B ht C F R b r hR d) (fun j => l_hg hi hn65 hn0 B ht C F j)

theorem l_y1 (R : Fin 256) (b : Fin 2) (r : Fin 128) (hR : R.val = 128 * b.val + r.val) (j : Fin 128) : (runNext.sl.r_26 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X12 X19) (ix2 R j) = yb p b (128 * n + r.val) 1 j := by
  unfold runNext.sl.r_26
  exact p315 _ _ _ _ p b (128 * n + r.val) R j (fun hd x => l_oh hi hn65 hn0 B ht C F R b r hR hd x) (fun d => l_gs hi hn65 hn0 B ht C F R b r hR d) (fun j => l_hg hi hn65 hn0 B ht C F j)

theorem l_27 (R : Fin 256) (b : Fin 2) (r : Fin 128) (hR : R.val = 128 * b.val + r.val) (j : Fin 128) : (runNext.sl.r_27 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X19) (ix2 R j) = ((oh p b (128 * n + r.val) 2 j : ℝ) : EReal) := by
  unfold runNext.sl.r_27
  exact p316 _ p b (128 * n + r.val) R j (fun hd x => l_oh hi hn65 hn0 B ht C F R b r hR hd x)

theorem l_y2 (R : Fin 256) (b : Fin 2) (r : Fin 128) (hR : R.val = 128 * b.val + r.val) (j : Fin 128) : (runNext.sl.r_29 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X12 X19) (ix2 R j) = yb p b (128 * n + r.val) 2 j := by
  unfold runNext.sl.r_29
  refine p318 _ _ _ _ p b (128 * n + r.val) R j (fun d => l_gs hi hn65 hn0 B ht C F R b r hR d) (fun j => l_hg hi hn65 hn0 B ht C F j) (l_27 hi hn65 hn0 B ht C F R b r hR j) ?_
  unfold runNext.sl.r_28
  exact p317 _ p b (128 * n + r.val) R (fun hd x => l_oh hi hn65 hn0 B ht C F R b r hR hd x)

theorem l_y3 (R : Fin 256) (b : Fin 2) (r : Fin 128) (hR : R.val = 128 * b.val + r.val) (j : Fin 128) : (runNext.sl.r_30 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X12 X19) (ix2 R j) = yb p b (128 * n + r.val) 3 j := by
  unfold runNext.sl.r_30
  exact p319 _ _ _ p b (128 * n + r.val) R j (fun hd x => l_oh hi hn65 hn0 B ht C F R b r hR hd x) (fun d => l_gs hi hn65 hn0 B ht C F R b r hR d) (fun j => l_hg hi hn65 hn0 B ht C F j)

theorem l_y4 (R : Fin 256) (b : Fin 2) (r : Fin 128) (hR : R.val = 128 * b.val + r.val) (j : Fin 128) : (runNext.sl.r_31 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X12 X19) (ix2 R j) = yb p b (128 * n + r.val) 4 j := by
  unfold runNext.sl.r_31
  exact p320 _ _ _ p b (128 * n + r.val) R j (fun hd x => l_oh hi hn65 hn0 B ht C F R b r hR hd x) (fun d => l_gs hi hn65 hn0 B ht C F R b r hR d) (fun j => l_hg hi hn65 hn0 B ht C F j)

theorem l_mg (R : Fin 256) (b : Fin 2) (r : Fin 128) (hR : R.val = 128 * b.val + r.val) (d : Fin 1024) : (runNext.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14 X17 X18 X19) (ix2 R d) = mg p b (128 * n + r.val) d := by
  unfold runNext.sl.r_34
  refine p323 _ _ _ _ _ _ _ _ _ _ _ _ _ _ p b (128 * n + r.val) R d (fun d => l_hn hi hn65 hn0 B ht C F R b r hR d) (fun hd x => l_oh hi hn65 hn0 B ht C F R b r hR hd x) (fun d => l_gs hi hn65 hn0 B ht C F R b r hR d) (fun j => l_hg hi hn65 hn0 B ht C F j) (l_mA hi hn65 hn0 B ht C F R b r hR d)
    (l_y0 hi hn65 hn0 B ht C F R b r hR) (l_y1 hi hn65 hn0 B ht C F R b r hR) (l_y2 hi hn65 hn0 B ht C F R b r hR) (l_y3 hi hn65 hn0 B ht C F R b r hR) (l_y4 hi hn65 hn0 B ht C F R b r hR) (fun j => ?_) (fun j => ?_) (fun x c => ((ra _ _ _ _ (ix2 x ⟨7680 + c.val, by omega⟩) ((i_w 0 7680 (by omega) (by omega) _ _ _).trans (by congr 1 <;> apply Fin.ext <;> simp))).trans (B.w _ _))) (fun x c => ((ra _ _ _ _ (ix2 x c) ((i_1024x1024 0 0 (by omega) (by omega) _ _ _).trans (by congr 1 <;> apply Fin.ext <;> simp))).trans (B.pb x c)))
  · unfold runNext.sl.r_32
    exact p321 _ p b (128 * n + r.val) R j (fun hd x => l_oh hi hn65 hn0 B ht C F R b r hR hd x)
  · unfold runNext.sl.r_33
    exact (p322 _ R j).trans (l_hg hi hn65 hn0 B ht C F j)

theorem l_out (b : Fin 2) (r : Fin 128) (d : Fin 1024) : arg16.view.read (Elt Ideal) (arg16.view.writes (Elt Ideal) arg16.view.junk (runNext.sl.H_arg16_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14 X15 X17 X18 X19)) (ix3 b r d) = out p b (128 * n + r.val) d := by
  unfold runNext.sl.H_arg16_2
  fin_cases b
  · refine (w16_out0 _ _ 1 0 0 _ _ _ 0 r d (Or.inl (by simp))).trans ?_
    refine (w16_in _ _ 0 0 0 _ _ _ 0 r d 0 r d (by simp) (by simp) (by simp)).trans ?_
    exact p2 _ _ _ p 0 (128 * n + r.val) r ⟨r.val, by omega⟩ rfl d (fun d => l_tok hi hn65 hn0 B ht C F _ 0 r (by simp) d) (fun d => l_mg hi hn65 hn0 B ht C F _ 0 r (by simp) d) (fun x c => ((ra _ _ _ _ (ix2 x c) ((i_1024x1024 0 0 (by omega) (by omega) _ _ _).trans (by congr 1 <;> apply Fin.ext <;> simp))).trans (B.wo x c)))
  · refine (w16_in _ _ 1 0 0 _ _ _ 1 r d 0 r d (by simp) (by simp) (by simp)).trans ?_
    exact p3 _ _ _ p 1 (128 * n + r.val) r ⟨128 + r.val, by omega⟩ rfl d (fun d => l_tok hi hn65 hn0 B ht C F _ 1 r (by simp) d) (fun d => l_mg hi hn65 hn0 B ht C F _ 1 r (by simp) d) (fun x c => ((ra _ _ _ _ (ix2 x c) ((i_1024x1024 0 0 (by omega) (by omega) _ _ _).trans (by congr 1 <;> apply Fin.ext <;> simp))).trans (B.wo x c)))

theorem l_17 (f : arg17.view.ty.Contents (Elt Ideal)) (b : Fin 2) (k : Fin 136) (l : Fin 1280) (hk : k.val < 8) : arg17.view.read (Elt Ideal) (arg17.view.writes (Elt Ideal) f (runNext.sl.H_arg17_4 (F := Ideal) i arg1 arg2 arg3 arg4 arg17 X1 X2 X3 X4)) (ix3 b k l) = ax p b (128 * (n + 1) + k.val - 8) l := by
  unfold runNext.sl.H_arg17_4
  fin_cases b
  · refine (w17s_out0 _ _ 1 0 0 _ _ _ 0 k l (Or.inl (by simp))).trans ?_
    unfold runNext.sl.H_arg17_3
    refine (w17_out0 _ _ 1 8 0 _ _ _ 0 k l (Or.inl (by simp))).trans ?_
    unfold runNext.sl.H_arg17_2
    refine (w17s_in _ _ 0 0 0 _ _ _ 0 k l 0 ⟨k.val, hk⟩ l (by simp) (by simp) (by simp)).trans ((p261 _ _ _).trans ((l_63 hi hn65 hn0 B ht C F _ l).trans (congrArg (fun t => ax p 0 t l) ?_)))
    simp; omega
  · refine (w17s_in _ _ 1 0 0 _ _ _ 1 k l 0 ⟨k.val, hk⟩ l (by simp) (by simp) (by simp)).trans ((p264 _ _ _).trans ((l_99 hi hn65 hn0 B ht C F _ l).trans (congrArg (fun t => ax p 1 t l) ?_)))
    simp; omega

theorem tile (hfi : ¬ (Scalar.cmpi .ne (Scalar.extui (Scalar.cmpi .eq (BitVec.ofNat 32 (i 0).val) 0#32)) (0#32 : BitVec 32) : BitVec 1) = 1#1) : (∀ b (r : Fin 128) d, (runNext (F := Ideal) c i hfi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14 X15 X17 X18 X19).1.1 (ix3 b r d) = out p b (128 * n + r.val) d) ∧ Car p (n + 1) (runNext (F := Ideal) c i hfi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14 X15 X17 X18 X19).1.2.1 (runNext (F := Ideal) c i hfi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14 X15 X17 X18 X19).1.2.2.1 (runNext (F := Ideal) c i hfi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14 X15 X17 X18 X19).1.2.2.2 := by
  refine ⟨fun b r d => l_out hi hn65 hn0 B ht C F b r d, ⟨fun b k l hk => l_17 hi hn65 hn0 B ht C F _ b k l hk, fun b l => l_18 hi hn65 hn0 B ht C F _ b l, fun b hd j x => ?_⟩⟩

  exact l_19 hi hn65 hn0 B ht C F b hd j x

end Cert.Proof.NextTile
-- ==== Proof.FirstTile.lean ====
module
public import proofs.«01_k».proof.Proof.Car
public import proofs.«01_k».proof.Proof.Body

@[expose] public section
set_option maxRecDepth 16384
noncomputable section

/-! The first tile of the mixer: every named piece of its run is the token's own value, and so is what the run leaves. -/
namespace Cert.Proof.FirstTile
open Cert.KernelIdeal Cert.KernelIdeal.Facts Cert.KernelIdeal.Gen
open Idealize.ShloMosaic Idealize.ShloMosaic.TcCoe Idealize.ShloMosaic.Tactic
open Cert.Proof.Row Cert.Proof.Rec Cert.Proof.Pays Cert.Proof.Win Cert.Proof

variable {c : Dev nD} {i : grid0.Coords}
variable {arg1 : Memref sig .tc .vmem S128x1024 .f32} {harg1 : arg1.IsWhole}
  {arg2 : Memref sig .tc .vmem S2x128x1024 .f32} {harg2 : arg2.IsWhole}
  {arg3 : Memref sig .tc .vmem S1x1024 .f32} {harg3 : arg3.IsWhole}
  {arg4 : Memref sig .tc .vmem S1024x8704 .bf16} {harg4 : arg4.IsWhole}
  {arg5 : Memref sig .tc .vmem S4x1280 .f32} {harg5 : arg5.IsWhole}
  {arg6 : Memref sig .tc .vmem S1x1280 .f32} {harg6 : arg6.IsWhole}
  {arg7 : Memref sig .tc .vmem S2x640x1280 .bf16} {harg7 : arg7.IsWhole}
  {arg8 : Memref sig .tc .vmem S1x1280 .f32} {harg8 : arg8.IsWhole}
  {arg9 : Memref sig .tc .vmem S1x1280 .f32} {harg9 : arg9.IsWhole}
  {arg10 : Memref sig .tc .vmem S1x1280 .f32} {harg10 : arg10.IsWhole}
  {arg11 : Memref sig .tc .vmem S2x1024 .f32} {harg11 : arg11.IsWhole}
  {arg12 : Memref sig .tc .vmem S1x128 .f32} {harg12 : arg12.IsWhole}
  {arg13 : Memref sig .tc .vmem S1280x1024 .bf16} {harg13 : arg13.IsWhole}
  {arg14 : Memref sig .tc .vmem S1024x1024 .bf16} {harg14 : arg14.IsWhole}
  {arg15 : Memref sig .tc .vmem S1024x1024 .bf16} {harg15 : arg15.IsWhole}
  {arg16 : Memref sig .tc .vmem S2x128x1024 .f32} {harg16 : arg16.IsWhole}
  {arg17 : Memref sig .tc .vmem S2x136x1280 .f32} {harg17 : arg17.IsWhole}
  {arg18 : Memref sig .tc .vmem S2x1x1280 .f32} {harg18 : arg18.IsWhole}
  {arg19 : Memref sig .tc .vmem S2x8x128x128 .f32} {harg19 : arg19.IsWhole}
  {alloca_r0 : Memref sig .tc .vmem S256x1280 .f32} {halloca_r0 : alloca_r0.IsWhole}
  {alloca_152_r0 : Memref sig .tc .vmem S256x1280 .f32} {halloca_152_r0 : alloca_152_r0.IsWhole}
  {alloca_r1 : Memref sig .tc .vmem S256x1024 .f32} {halloca_r1 : alloca_r1.IsWhole}
  {alloca_152_r1 : Memref sig .tc .vmem S256x1024 .f32} {halloca_152_r1 : alloca_152_r1.IsWhole}
  {alloca_153_r1 : Memref sig .tc .vmem S256x1024 .f32} {halloca_153_r1 : alloca_153_r1.IsWhole}
  {alloca_154_r1 : Memref sig .tc .vmem S256x1024 .bf16} {halloca_154_r1 : alloca_154_r1.IsWhole}
  {X1 : Vec Ideal S128x1024 .f32} {X2 : Vec Ideal S2x128x1024 .f32} {X3 : Vec Ideal S1x1024 .f32} {X4 : Vec Ideal S1024x8704 .bf16} {X5 : Vec Ideal S4x1280 .f32} {X6 : Vec Ideal S1x1280 .f32} {X7 : Vec Ideal S2x640x1280 .bf16} {X8 : Vec Ideal S1x1280 .f32} {X9 : Vec Ideal S1x1280 .f32} {X10 : Vec Ideal S1x1280 .f32} {X11 : Vec Ideal S2x1024 .f32} {X12 : Vec Ideal S1x128 .f32} {X13 : Vec Ideal S1280x1024 .bf16} {X14 : Vec Ideal S1024x1024 .bf16} {X15 : Vec Ideal S1024x1024 .bf16}

variable {p : Par} {n : ℕ} (hi : (i 0).val = n) (hn65 : n < 65) (hn0 : n = 0) (B : Blk p X3 X4 X5 X6 X7 X8 X9 X10 X11 X12 X13 X14 X15)
variable (ht : ∀ (b : Fin 2) (r : Fin 128) d, X1 (ix2 r d) = p.tok b (128 * n + r.val) d) (A0 : ∀ b l, ax p b 0 l = 0)
variable (F : Fin' p)
include hi hn65 hn0 B ht A0 F

theorem l_tok (R : Fin 256) (b : Fin 2) (r : Fin 128) (hR : R.val = 128 * b.val + r.val) (d : Fin 1024) : (runFirst.sl.r (F := Ideal) i arg1 arg2 X1 X2) (ix2 R d) = p.tok b (128 * n + r.val) d := by
  unfold runFirst.sl.r
  refine (p254_first _ _ _ _ (by rw [hi]; exact hn0) b r R hR d).trans ?_
  refine (ra _ _ _ _ (ix2 r d) ?_).trans (ht b r d)
  exact (i_128x1024 0 0 (by omega) (by omega) _ _ _).trans (by congr 1 <;> apply Fin.ext <;> simp)

theorem l_hn (R : Fin 256) (b : Fin 2) (r : Fin 128) (hR : R.val = 128 * b.val + r.val) (d : Fin 1024) : (runFirst.sl.r_1 (F := Ideal) i arg1 arg2 arg3 X1 X2 X3) (ix2 R d) = hn p b (128 * n + r.val) d := by
  unfold runFirst.sl.r_1
  refine p255 _ _ _ _ _ p b (128 * n + r.val) R (fun d => ?_) (fun d => ((ra _ _ _ _ (ix2 0 d) ((i_1x1024 0 0 (by omega) (by omega) _ _ _).trans (by congr 1 <;> apply Fin.ext <;> simp))).trans (B.g1 d))) d
  exact l_tok hi hn65 hn0 B ht A0 F R b r hR d

theorem l_ax (R : Fin 256) (b : Fin 2) (r : Fin 128) (hR : R.val = 128 * b.val + r.val) (l : Fin 1280) : (runFirst.sl.r_2 (F := Ideal) i arg1 arg2 arg3 arg4 X1 X2 X3 X4) (ix2 R l) = ax p b (128 * n + r.val) l := by
  unfold runFirst.sl.r_2
  refine p256 _ _ _ _ _ _ p b (128 * n + r.val) R (fun d => ?_) (fun x c => ((ra _ _ _ _ (ix2 x ⟨c.val, by omega⟩) ((i_w1280 0 0 (by omega) (by omega) _ _ _).trans (by congr 1 <;> apply Fin.ext <;> simp))).trans (B.w _ _))) l
  exact l_hn hi hn65 hn0 B ht A0 F R b r hR d

theorem l_ax0 (r : Fin 128) (l : Fin 1280) : (runFirst.sl.r_4 (F := Ideal) i arg1 arg2 arg3 arg4 X1 X2 X3 X4) (ix2 r l) = ax p 0 (128 * n + r.val) l := by
  unfold runFirst.sl.r_4
  refine (p258 _ _ _ _ _ _ ⟨r.val, by omega⟩ r rfl l).trans ?_
  exact l_ax hi hn65 hn0 B ht A0 F ⟨r.val, by omega⟩ 0 r (by simp) l

theorem l_ax1 (r : Fin 128) (l : Fin 1280) : (runFirst.sl.r_6 (F := Ideal) i arg1 arg2 arg3 arg4 X1 X2 X3 X4) (ix2 r l) = ax p 1 (128 * n + r.val) l := by
  unfold runFirst.sl.r_6
  refine (p262 _ ⟨128 + r.val, by omega⟩ r rfl l).trans ?_
  exact l_ax hi hn65 hn0 B ht A0 F ⟨128 + r.val, by omega⟩ 1 r (by simp) l

theorem l_win0 (f : arg17.view.ty.Contents (Elt Ideal)) (k : Fin 136) (l : Fin 1280)  : arg17.view.read (Elt Ideal) (arg17.view.writes (Elt Ideal) f (runFirst.sl.H_arg17_2 (F := Ideal) i arg1 arg2 arg3 arg4 X1 X2 X3 X4)) (ix3 0 k l) = ax p 0 (128 * n + k.val - 8) l := by
  unfold runFirst.sl.H_arg17_2
  by_cases h : k.val < 8
  · refine (w17_out1 _ _ 0 8 0 _ _ _ 0 k l (Or.inl h)).trans ?_
    unfold runFirst.sl.H_arg17_1
    refine (w17f_in _ _ 0 0 0 _ _ _ 0 k l 0 k l (by simp) (by simp) (by simp)).trans ?_
    rw [z17, show 128 * n + k.val - 8 = 0 by omega]
    exact (A0 0 l).symm
  · refine (w17_in _ _ 0 8 0 _ _ _ 0 k l 0 ⟨k.val - 8, by omega⟩ l (by simp) (by simp; omega) (by simp)).trans ?_
    refine (p259 _ _ _).trans ((l_ax0 hi hn65 hn0 B ht A0 F _ _).trans (congrArg (fun t => ax p 0 t l) ?_))
    simp; omega

theorem l_win1 (f : arg17.view.ty.Contents (Elt Ideal)) (k : Fin 136) (l : Fin 1280)  : arg17.view.read (Elt Ideal) (arg17.view.writes (Elt Ideal) f (runFirst.sl.H_arg17_4 (F := Ideal) i arg1 arg2 arg3 arg4 arg17 X1 X2 X3 X4)) (ix3 1 k l) = ax p 1 (128 * n + k.val - 8) l := by
  unfold runFirst.sl.H_arg17_4
  by_cases h : k.val < 8
  · refine (w17_out1 _ _ 1 8 0 _ _ _ 1 k l (Or.inl h)).trans ?_
    unfold runFirst.sl.H_arg17_3
    refine (w17s_out0 _ _ 0 0 0 _ _ _ 1 k l (Or.inr (by simp))).trans ?_
    unfold runFirst.sl.H_arg17_2
    refine (w17_out0 _ _ 0 8 0 _ _ _ 1 k l (Or.inr (by simp))).trans ?_
    unfold runFirst.sl.H_arg17_1
    refine (w17f_in _ _ 0 0 0 _ _ _ 1 k l 1 k l (by simp) (by simp) (by simp)).trans ?_
    rw [z17, show 128 * n + k.val - 8 = 0 by omega]
    exact (A0 1 l).symm
  · refine (w17_in _ _ 1 8 0 _ _ _ 1 k l 0 ⟨k.val - 8, by omega⟩ l (by simp) (by simp; omega) (by simp)).trans ?_
    refine (p263 _ _ _).trans ((l_ax1 hi hn65 hn0 B ht A0 F _ _).trans (congrArg (fun t => ax p 1 t l) ?_))
    simp; omega

theorem l_39 (r : Fin 128) (l : Fin 1280) : (runFirst.sl.v39 (F := Ideal) i arg1 arg2 arg3 arg4 arg17 X1 X2 X3 X4) (ix3 0 r l) = ax p 0 (128 * n + r.val + 8 - 8) l := by
  unfold runFirst.sl.v39
  refine (rc' _ _ _ _ (ix3 0 ⟨8 + r.val, by omega⟩ l) ((i_17 0 (by omega) 8 (by omega) 0 (by omega) _ _ _ _).trans (by congr 1 <;> apply Fin.ext <;> simp))).trans ?_
  refine (l_win0 hi hn65 hn0 B ht A0 F _ _ l).trans (congrArg (fun t => ax p 0 t l) ?_)
  simp; omega

theorem l_75 (r : Fin 128) (l : Fin 1280) : (runFirst.sl.v75 (F := Ideal) i arg1 arg2 arg3 arg4 arg17 X1 X2 X3 X4) (ix3 0 r l) = ax p 1 (128 * n + r.val + 8 - 8) l := by
  unfold runFirst.sl.v75
  refine (rc' _ _ _ _ (ix3 1 ⟨8 + r.val, by omega⟩ l) ((i_17 1 (by omega) 8 (by omega) 0 (by omega) _ _ _ _).trans (by congr 1 <;> apply Fin.ext <;> simp))).trans ?_
  refine (l_win1 hi hn65 hn0 B ht A0 F _ _ l).trans (congrArg (fun t => ax p 1 t l) ?_)
  simp; omega

theorem l_63 (r : Fin 8) (l : Fin 1280) : (runFirst.sl.v63 (F := Ideal) i arg1 arg2 arg3 arg4 arg17 X1 X2 X3 X4) (ix3 0 r l) = ax p 0 (128 * n + r.val + 128 - 8) l := by
  unfold runFirst.sl.v63
  refine (rc' _ _ _ _ (ix3 0 ⟨128 + r.val, by omega⟩ l) ((i_17s 0 (by omega) 128 (by omega) 0 (by omega) _ _ _ _).trans (by congr 1 <;> apply Fin.ext <;> simp))).trans ?_
  refine (l_win0 hi hn65 hn0 B ht A0 F _ _ l).trans (congrArg (fun t => ax p 0 t l) ?_)
  simp; omega

theorem l_99 (r : Fin 8) (l : Fin 1280) : (runFirst.sl.v99 (F := Ideal) i arg1 arg2 arg3 arg4 arg17 X1 X2 X3 X4) (ix3 0 r l) = ax p 1 (128 * n + r.val + 128 - 8) l := by
  unfold runFirst.sl.v99
  refine (rc' _ _ _ _ (ix3 1 ⟨128 + r.val, by omega⟩ l) ((i_17s 1 (by omega) 128 (by omega) 0 (by omega) _ _ _ _).trans (by congr 1 <;> apply Fin.ext <;> simp))).trans ?_
  refine (l_win1 hi hn65 hn0 B ht A0 F _ _ l).trans (congrArg (fun t => ax p 1 t l) ?_)
  simp; omega

theorem l_46 (r : Fin 128) (l : Fin 1280) : (runFirst.sl.v46 (F := Ideal) i arg1 arg2 arg3 arg4 arg17 X1 X2 X3 X4) (ix3 0 r l) = ax p 0 (128 * n + r.val + 5 - 8) l := by
  unfold runFirst.sl.v46
  refine (rc' _ _ _ _ (ix3 0 ⟨5 + r.val, by omega⟩ l) ((i_17 0 (by omega) 5 (by omega) 0 (by omega) _ _ _ _).trans (by congr 1 <;> apply Fin.ext <;> simp))).trans ?_
  refine (l_win0 hi hn65 hn0 B ht A0 F _ _ l).trans (congrArg (fun t => ax p 0 t l) ?_)
  simp; omega

theorem l_52 (r : Fin 128) (l : Fin 1280) : (runFirst.sl.v52 (F := Ideal) i arg1 arg2 arg3 arg4 arg17 X1 X2 X3 X4) (ix3 0 r l) = ax p 0 (128 * n + r.val + 6 - 8) l := by
  unfold runFirst.sl.v52
  refine (rc' _ _ _ _ (ix3 0 ⟨6 + r.val, by omega⟩ l) ((i_17 0 (by omega) 6 (by omega) 0 (by omega) _ _ _ _).trans (by congr 1 <;> apply Fin.ext <;> simp))).trans ?_
  refine (l_win0 hi hn65 hn0 B ht A0 F _ _ l).trans (congrArg (fun t => ax p 0 t l) ?_)
  simp; omega

theorem l_58 (r : Fin 128) (l : Fin 1280) : (runFirst.sl.v58 (F := Ideal) i arg1 arg2 arg3 arg4 arg17 X1 X2 X3 X4) (ix3 0 r l) = ax p 0 (128 * n + r.val + 7 - 8) l := by
  unfold runFirst.sl.v58
  refine (rc' _ _ _ _ (ix3 0 ⟨7 + r.val, by omega⟩ l) ((i_17 0 (by omega) 7 (by omega) 0 (by omega) _ _ _ _).trans (by congr 1 <;> apply Fin.ext <;> simp))).trans ?_
  refine (l_win0 hi hn65 hn0 B ht A0 F _ _ l).trans (congrArg (fun t => ax p 0 t l) ?_)
  simp; omega

theorem l_82 (r : Fin 128) (l : Fin 1280) : (runFirst.sl.v82 (F := Ideal) i arg1 arg2 arg3 arg4 arg17 X1 X2 X3 X4) (ix3 0 r l) = ax p 1 (128 * n + r.val + 5 - 8) l := by
  unfold runFirst.sl.v82
  refine (rc' _ _ _ _ (ix3 1 ⟨5 + r.val, by omega⟩ l) ((i_17 1 (by omega) 5 (by omega) 0 (by omega) _ _ _ _).trans (by congr 1 <;> apply Fin.ext <;> simp))).trans ?_
  refine (l_win1 hi hn65 hn0 B ht A0 F _ _ l).trans (congrArg (fun t => ax p 1 t l) ?_)
  simp; omega

theorem l_88 (r : Fin 128) (l : Fin 1280) : (runFirst.sl.v88 (F := Ideal) i arg1 arg2 arg3 arg4 arg17 X1 X2 X3 X4) (ix3 0 r l) = ax p 1 (128 * n + r.val + 6 - 8) l := by
  unfold runFirst.sl.v88
  refine (rc' _ _ _ _ (ix3 1 ⟨6 + r.val, by omega⟩ l) ((i_17 1 (by omega) 6 (by omega) 0 (by omega) _ _ _ _).trans (by congr 1 <;> apply Fin.ext <;> simp))).trans ?_
  refine (l_win1 hi hn65 hn0 B ht A0 F _ _ l).trans (congrArg (fun t => ax p 1 t l) ?_)
  simp; omega

theorem l_94 (r : Fin 128) (l : Fin 1280) : (runFirst.sl.v94 (F := Ideal) i arg1 arg2 arg3 arg4 arg17 X1 X2 X3 X4) (ix3 0 r l) = ax p 1 (128 * n + r.val + 7 - 8) l := by
  unfold runFirst.sl.v94
  refine (rc' _ _ _ _ (ix3 1 ⟨7 + r.val, by omega⟩ l) ((i_17 1 (by omega) 7 (by omega) 0 (by omega) _ _ _ _).trans (by congr 1 <;> apply Fin.ext <;> simp))).trans ?_
  refine (l_win1 hi hn65 hn0 B ht A0 F _ _ l).trans (congrArg (fun t => ax p 1 t l) ?_)
  simp; omega

theorem l_3 (k : Fin 4) (l : Fin 1280) : (runFirst.sl.r_3 (F := Ideal) arg5 X5) (ix2 k l) = p.cw k l := by
  unfold runFirst.sl.r_3
  exact (p257 _ _ _).trans ((ra _ _ _ _ (ix2 k l) ((i_4x1280 0 0 (by omega) (by omega) _ _ _).trans (by congr 1 <;> apply Fin.ext <;> simp))).trans (B.cw k l))

theorem l_cx0 (r : Fin 128) (l : Fin 1280) : (runFirst.sl.r_5 (F := Ideal) i arg1 arg2 arg3 arg4 arg5 arg6 arg17 X1 X2 X3 X4 X5 X6) (ix2 r l) = cx p 0 (128 * n + r.val) l := by
  unfold runFirst.sl.r_5
  refine p260 _ _ _ _ _ _ p 0 (128 * n + r.val) r l (fun k l => l_3 hi hn65 hn0 B ht A0 F k l) (fun l => ((ra _ _ _ _ (ix2 0 l) ((i_1x1280 0 0 (by omega) (by omega) _ _ _).trans (by congr 1 <;> apply Fin.ext <;> simp))).trans (B.cb l))) ?_ ?_ ?_ ?_
  · exact (l_39 hi hn65 hn0 B ht A0 F r l).trans (congrArg (fun t => ax p 0 t l) (by omega))
  · exact (l_46 hi hn65 hn0 B ht A0 F r l).trans (congrArg (fun t => ax p 0 t l) (by omega))
  · exact (l_52 hi hn65 hn0 B ht A0 F r l).trans (congrArg (fun t => ax p 0 t l) (by omega))
  · exact (l_58 hi hn65 hn0 B ht A0 F r l).trans (congrArg (fun t => ax p 0 t l) (by omega))

theorem l_cx (R : Fin 256) (b : Fin 2) (r : Fin 128) (hR : R.val = 128 * b.val + r.val) (l : Fin 1280) : (runFirst.sl.r_7 (F := Ideal) i arg1 arg2 arg3 arg4 arg5 arg6 arg17 X1 X2 X3 X4 X5 X6) (ix2 R l) = cx p b (128 * n + r.val) l := by
  unfold runFirst.sl.r_7
  refine p265 _ _ _ _ _ _ _ p n b r R hR l (fun r l => l_cx0 hi hn65 hn0 B ht A0 F r l) (fun k l => l_3 hi hn65 hn0 B ht A0 F k l) (fun l => ((ra _ _ _ _ (ix2 0 l) ((i_1x1280 0 0 (by omega) (by omega) _ _ _).trans (by congr 1 <;> apply Fin.ext <;> simp))).trans (B.cb l))) (fun r l => ?_) (fun r l => ?_) (fun r l => ?_) (fun r l => ?_)
  · exact (l_75 hi hn65 hn0 B ht A0 F r l).trans (congrArg (fun t => ax p 1 t l) (by omega))
  · exact (l_82 hi hn65 hn0 B ht A0 F r l).trans (congrArg (fun t => ax p 1 t l) (by omega))
  · exact (l_88 hi hn65 hn0 B ht A0 F r l).trans (congrArg (fun t => ax p 1 t l) (by omega))
  · exact (l_94 hi hn65 hn0 B ht A0 F r l).trans (congrArg (fun t => ax p 1 t l) (by omega))

theorem l_8 (R : Fin 256) (b : Fin 2) (r : Fin 128) (hR : R.val = 128 * b.val + r.val) (l : Fin 1280) : (runFirst.sl.r_8 (F := Ideal) i arg1 arg2 arg3 arg4 arg5 arg6 arg17 X1 X2 X3 X4 X5 X6) (ix2 R l) = cx p b (128 * n + r.val) l := by
  exact l_cx hi hn65 hn0 B ht A0 F R b r hR l

theorem l_9 (R : Fin 256) (b : Fin 2) (r : Fin 128) (hR : R.val = 128 * b.val + r.val) (l : Fin 640) : (runFirst.sl.r_9 (F := Ideal) i arg1 arg2 arg3 arg4 arg5 arg6 arg17 X1 X2 X3 X4 X5 X6) (ix2 R l) = cx p b (128 * n + r.val) ⟨l.val, by omega⟩ := by
  unfold runFirst.sl.r_9
  exact (p267 _ _ _ _ _ _ _ R l).trans (l_cx hi hn65 hn0 B ht A0 F R b r hR _)

theorem l_gr (R : Fin 256) (b : Fin 2) (r : Fin 128) (hR : R.val = 128 * b.val + r.val) (l : Fin 1280) : (runFirst.sl.r_10 (F := Ideal) i arg1 arg2 arg3 arg4 arg5 arg6 arg7 arg8 arg17 X1 X2 X3 X4 X5 X6 X7 X8) (ix2 R l) = gr p b (128 * n + r.val) l := by
  unfold runFirst.sl.r_10
  exact p270 _ _ _ _ _ _ p b (128 * n + r.val) R l (fun l => l_8 hi hn65 hn0 B ht A0 F R b r hR l) (fun l => l_9 hi hn65 hn0 B ht A0 F R b r hR l)
    (fun x y => ((ra _ _ _ _ (ix3 0 x ⟨y.val, by omega⟩) ((i_7 0 (by omega) 0 (by omega) 0 (by omega)  _ _ _ _).trans (by congr 1 <;> apply Fin.ext <;> simp))).trans (B.wa0 x y))) (fun x y => ((ra _ _ _ _ (ix3 1 x ⟨y.val, by omega⟩) ((i_7 1 (by omega) 0 (by omega) 0 (by omega)  _ _ _ _).trans (by congr 1 <;> apply Fin.ext <;> simp))).trans (B.wa1 x y)))
    (fun y => ((ra _ _ _ _ (ix2 0 ⟨y.val, by omega⟩) ((i_1x640 0 0 (by omega) (by omega) _ _ _).trans (by congr 1 <;> apply Fin.ext <;> simp))).trans (B.ba _))) (fun y => ((ra _ _ _ _ (ix2 0 ⟨640 + y.val, by omega⟩) ((i_1x640 0 640 (by omega) (by omega) _ _ _).trans (by congr 1 <;> apply Fin.ext <;> simp))).trans (B.ba _)))

theorem l_gi (R : Fin 256) (b : Fin 2) (r : Fin 128) (hR : R.val = 128 * b.val + r.val) (l : Fin 1280) : (runFirst.sl.r_11 (F := Ideal) i arg1 arg2 arg3 arg4 arg5 arg6 arg7 arg9 arg17 X1 X2 X3 X4 X5 X6 X7 X9) (ix2 R l) = gi p b (128 * n + r.val) l := by
  unfold runFirst.sl.r_11
  exact p271 _ _ _ _ _ _ p b (128 * n + r.val) R l (fun l => l_8 hi hn65 hn0 B ht A0 F R b r hR l) (fun l => l_9 hi hn65 hn0 B ht A0 F R b r hR l)
    (fun x y => ((ra _ _ _ _ (ix3 0 x ⟨640 + y.val, by omega⟩) ((i_7 0 (by omega) 0 (by omega) 0 (by omega)  _ _ _ _).trans (by congr 1 <;> apply Fin.ext <;> simp))).trans (B.wx0 x y))) (fun x y => ((ra _ _ _ _ (ix3 1 x ⟨640 + y.val, by omega⟩) ((i_7 1 (by omega) 0 (by omega) 0 (by omega)  _ _ _ _).trans (by congr 1 <;> apply Fin.ext <;> simp))).trans (B.wx1 x y)))
    (fun y => ((ra _ _ _ _ (ix2 0 ⟨y.val, by omega⟩) ((i_1x640 0 0 (by omega) (by omega) _ _ _).trans (by congr 1 <;> apply Fin.ext <;> simp))).trans (B.bx _))) (fun y => ((ra _ _ _ _ (ix2 0 ⟨640 + y.val, by omega⟩) ((i_1x640 0 640 (by omega) (by omega) _ _ _).trans (by congr 1 <;> apply Fin.ext <;> simp))).trans (B.bx _)))

theorem l_12 (l : Fin 1280) : (runFirst.sl.r_12 (F := Ideal) arg10 X10) (ix2 0 l) = max (0 - p.lam l) 0 := by
  unfold runFirst.sl.r_12
  refine (p273 _ l).trans ?_
  rw [((ra _ _ _ _ (ix2 0 l) ((i_1x1280 0 0 (by omega) (by omega) _ _ _).trans (by congr 1 <;> apply Fin.ext <;> simp))).trans (B.lam l))]

theorem l_13 (l : Fin 1280) : (runFirst.sl.r_13 (F := Ideal) arg10 X10) (ix2 0 l) = max (0 - p.lam l) (-(0 - p.lam l)) := by
  unfold runFirst.sl.r_13
  refine (p274 _ l).trans ?_
  rw [((ra _ _ _ _ (ix2 0 l) ((i_1x1280 0 0 (by omega) (by omega) _ _ _).trans (by congr 1 <;> apply Fin.ext <;> simp))).trans (B.lam l))]

theorem l_cst : (runFirst.sl.cst_76 (F := Ideal)) = 0 := by
  unfold runFirst.sl.cst_76
  exact Ideal.ofBits_zero_f32

theorem l_a (R : Fin 256) (b : Fin 2) (r : Fin 128) (hR : R.val = 128 * b.val + r.val) (l : Fin 1280) : (runFirst.sl.r_14 (F := Ideal) i arg1 arg2 arg3 arg4 arg5 arg6 arg7 arg8 arg10 arg17 X1 X2 X3 X4 X5 X6 X7 X8 X10) (ix2 R l) = Ideal.exp (la p b (128 * n + r.val) l) := by
  unfold runFirst.sl.r_14
  exact p276 _ _ _ _ p b (128 * n + r.val) R l (l_gr hi hn65 hn0 B ht A0 F R b r hR l) (l_12 hi hn65 hn0 B ht A0 F) (l_13 hi hn65 hn0 B ht A0 F) (l_cst hi hn65 hn0 B ht A0 F)

theorem l_u (R : Fin 256) (b : Fin 2) (r : Fin 128) (hR : R.val = 128 * b.val + r.val) (l : Fin 1280) : (runFirst.sl.r_15 (F := Ideal) i arg1 arg2 arg3 arg4 arg5 arg6 arg7 arg8 arg9 arg10 arg17 X1 X2 X3 X4 X5 X6 X7 X8 X9 X10) (ix2 R l) = ui p b (128 * n + r.val) l := by
  unfold runFirst.sl.r_15
  exact p277 _ _ _ _ _ _ _ p n b r R hR l (l_gr hi hn65 hn0 B ht A0 F R b r hR l) (l_12 hi hn65 hn0 B ht A0 F) (l_13 hi hn65 hn0 B ht A0 F) (l_cst hi hn65 hn0 B ht A0 F) hn65 (by rw [hi]) (l_cx hi hn65 hn0 B ht A0 F R b r hR l) (l_gi hi hn65 hn0 B ht A0 F R b r hR l)

theorem l_16 (x : Fin 1024) (l : Fin 1280) : (runFirst.sl.r_16 (F := Ideal) arg4 X4) (ix2 x l) = p.w x ⟨1280 + l.val, by omega⟩ := by
  unfold runFirst.sl.r_16
  exact (p278 _ _ _).trans ((ra _ _ _ _ (ix2 x ⟨1280 + l.val, by omega⟩) ((i_w1280 0 1280 (by omega) (by omega) _ _ _).trans (by congr 1 <;> apply Fin.ext <;> simp))).trans (B.w _ _))

theorem l_ga (R : Fin 256) (b : Fin 2) (r : Fin 128) (hR : R.val = 128 * b.val + r.val) (l : Fin 1280) : (runFirst.sl.r_17 (F := Ideal) i arg1 arg2 arg3 arg4 X1 X2 X3 X4) (ix2 R l) = ga p b (128 * n + r.val) l := by
  unfold runFirst.sl.r_17
  exact p279 _ _ p b (128 * n + r.val) R l (fun d => l_hn hi hn65 hn0 B ht A0 F R b r hR d) (fun x c => l_16 hi hn65 hn0 B ht A0 F x c)

theorem l_v420_r0 (l : Fin 1280) : (runFirst.sl.v420_r0 (F := Ideal) arg18) (ix3 0 0 l) = hr p 0 (128 * n) l := by
  unfold runFirst.sl.v420_r0
  refine (rc' _ _ _ _ (ix3 0 0 l) ((i_18 0 (by omega) 0 (by omega) 0 (by omega) _ _ _ _).trans (by congr 1 <;> apply Fin.ext <;> simp))).trans ?_
  unfold runFirst.sl.H_arg18_1
  refine (w18f_in _ _ 0 0 0 _ _ _ 0 0 l 0 0 l (by simp) (by simp) (by simp)).trans ?_
  rw [z18, hn0]
  rfl

theorem l_v422_r0 (l : Fin 1280) : (runFirst.sl.v422_r0 (F := Ideal) arg18) (ix3 0 0 l) = hr p 1 (128 * n) l := by
  unfold runFirst.sl.v422_r0
  refine (rc' _ _ _ _ (ix3 1 0 l) ((i_18 1 (by omega) 0 (by omega) 0 (by omega) _ _ _ _).trans (by congr 1 <;> apply Fin.ext <;> simp))).trans ?_
  unfold runFirst.sl.H_arg18_1
  refine (w18f_in _ _ 0 0 0 _ _ _ 1 0 l 1 0 l (by simp) (by simp) (by simp)).trans ?_
  rw [z18, hn0]
  rfl

theorem loopA : Scan.Inv (fun b l r => (Ideal.exp (la p b (128 * n + r) l)).toReal) (fun b l r => ui p b (128 * n + r) l) (fun b l => hr p b (128 * n) l) k0_t1_loop.trips (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 (runFirst.sl.r_1 i arg1 arg2 arg3 X1 X2 X3) (runFirst.sl.r_14 i arg1 arg2 arg3 arg4 arg5 arg6 arg7 arg8 arg10 arg17 X1 X2 X3 X4 X5 X6 X7 X8 X10) (runFirst.sl.r_15 i arg1 arg2 arg3 arg4 arg5 arg6 arg7 arg8 arg9 arg10 arg17 X1 X2 X3 X4 X5 X6 X7 X8 X9 X10) (runFirst.sl.r_16 arg4 X4) runFirst.sl.v419_r0 (alloca_r0.view.writes (Elt Ideal) alloca_r0.view.junk (runFirst.sl.H_alloca_r0_1 i arg1 arg2 arg3 arg4 arg5 arg6 arg7 arg8 arg10 arg17 X1 X2 X3 X4 X5 X6 X7 X8 X10)) (alloca_152_r0.view.writes (Elt Ideal) alloca_152_r0.view.junk (runFirst.sl.H_alloca_152_r0_1 i arg1 arg2 arg3 arg4 arg5 arg6 arg7 arg8 arg9 arg10 arg17 X1 X2 X3 X4 X5 X6 X7 X8 X9 X10)) (k0_pay282 (runFirst.sl.v420_r0 arg18), k0_pay283 (runFirst.sl.v422_r0 arg18)) (Scf.trips k0_t1_loop.lb k0_t1_loop.ub k0_t1_loop.st)).1 (alloca_152_r0.view.read (Elt Ideal) (alloca_152_r0.view.writes (Elt Ideal) (alloca_152_r0.view.writes (Elt Ideal) alloca_152_r0.view.junk (runFirst.sl.H_alloca_152_r0_1 (F := Ideal) i arg1 arg2 arg3 arg4 arg5 arg6 arg7 arg8 arg9 arg10 arg17 X1 X2 X3 X4 X5 X6 X7 X8 X9 X10)) (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 (runFirst.sl.r_1 i arg1 arg2 arg3 X1 X2 X3) (runFirst.sl.r_14 i arg1 arg2 arg3 arg4 arg5 arg6 arg7 arg8 arg10 arg17 X1 X2 X3 X4 X5 X6 X7 X8 X10) (runFirst.sl.r_15 i arg1 arg2 arg3 arg4 arg5 arg6 arg7 arg8 arg9 arg10 arg17 X1 X2 X3 X4 X5 X6 X7 X8 X9 X10) (runFirst.sl.r_16 arg4 X4) runFirst.sl.v419_r0 (alloca_r0.view.writes (Elt Ideal) alloca_r0.view.junk (runFirst.sl.H_alloca_r0_1 i arg1 arg2 arg3 arg4 arg5 arg6 arg7 arg8 arg10 arg17 X1 X2 X3 X4 X5 X6 X7 X8 X10)) (alloca_152_r0.view.writes (Elt Ideal) alloca_152_r0.view.junk (runFirst.sl.H_alloca_152_r0_1 i arg1 arg2 arg3 arg4 arg5 arg6 arg7 arg8 arg9 arg10 arg17 X1 X2 X3 X4 X5 X6 X7 X8 X9 X10)) (k0_pay282 (runFirst.sl.v420_r0 arg18), k0_pay283 (runFirst.sl.v422_r0 arg18)) (Scf.trips k0_t1_loop.lb k0_t1_loop.ub k0_t1_loop.st)).2)) := by
  refine Scan.loop_inv Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 _ _ _ _ _ _ _ _ (fun b l r => a_nonneg b _ l) _ _ (fun R b r l hr hR => ?_) (fun R b r l hr hR => ?_) (fun l => ?_) (fun l => ?_) k0_t1_loop.trips le_rfl
  · unfold runFirst.sl.H_alloca_r0_1
    exact (congrFun (View.read_writes_full alloca_r0.view _ _ _ _) (ix2 R l)).trans ((p280 _ R l).trans ((l_a hi hn65 hn0 B ht A0 F R b ⟨r, hr⟩ hR l).trans (a_r F b _ l).eq))
  · unfold runFirst.sl.H_alloca_152_r0_1
    exact (congrFun (View.read_writes_full alloca_152_r0.view _ _ _ _) (ix2 R l)).trans ((p281 _ R l).trans (l_u hi hn65 hn0 B ht A0 F R b ⟨r, hr⟩ hR l))
  · exact (p282 _ l).trans (l_v420_r0 hi hn65 hn0 B ht A0 F l)
  · exact (p283 _ l).trans (l_v422_r0 hi hn65 hn0 B ht A0 F l)

theorem l_h (R : Fin 256) (b : Fin 2) (r : Fin 128) (hR : R.val = 128 * b.val + r.val) (l : Fin 1280) : (runFirst.sl.v432_r0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10) (ix2 R l) = hr p b (128 * n + r.val + 1) l := by
  unfold runFirst.sl.v432_r0
  refine (rc' _ _ _ _ (ix2 R l) ((i_256x1280 0 0 (by omega) (by omega) _ _ _).trans (by congr 1 <;> apply Fin.ext <;> simp))).trans ?_
  rw [View.writes_append]
  refine ((loopA hi hn65 hn0 B ht A0 F).hB R b r.val l r.isLt hR).trans ?_
  rw [if_pos (show r.val < 8 * k0_t1_loop.trips by have e : k0_t1_loop.trips = 16 := rfl; omega)]
  exact (re_add (fun s => (Ideal.exp (la p b s l)).toReal) (fun s => ui p b s l) 0 (128 * n) (r.val + 1)).symm

theorem l_18 (f : arg18.view.ty.Contents (Elt Ideal)) (b : Fin 2) (l : Fin 1280) : arg18.view.read (Elt Ideal) (arg18.view.writes (Elt Ideal) f (runFirst.sl.H_arg18_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10)) (ix3 b 0 l) = hr p b (128 * (n + 1)) l := by
  unfold runFirst.sl.H_arg18_3

  have e : k0_t1_loop.trips = 16 := rfl
  fin_cases b
  · refine (w18_out0 _ _ 1 0 0 _ _ _ 0 0 l (Or.inl (by simp))).trans ?_
    unfold runFirst.sl.H_arg18_2
    refine (w18_in _ _ 0 0 0 _ _ _ 0 0 l 0 0 l (by simp) (by simp) (by simp)).trans ((p287 _ l).trans (((loopA hi hn65 hn0 B ht A0 F).h0 l).trans ?_))
    exact (re_add (fun s => (Ideal.exp (la p 0 s l)).toReal) (fun s => ui p 0 s l) 0 (128 * n) 128).symm
  · refine (w18_in _ _ 1 0 0 _ _ _ 1 0 l 0 0 l (by simp) (by simp) (by simp)).trans ((p288 _ l).trans ?_)
    unfold runFirst.sl.r_18
    refine ((loopA hi hn65 hn0 B ht A0 F).h1 l).trans ?_
    exact (re_add (fun s => (Ideal.exp (la p 1 s l)).toReal) (fun s => ui p 1 s l) 0 (128 * n) 128).symm

theorem l_mA (R : Fin 256) (b : Fin 2) (r : Fin 128) (hR : R.val = 128 * b.val + r.val) (d : Fin 1024) : (runFirst.sl.r_19 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X13) (ix2 R d) = mA p b (128 * n + r.val) d := by
  unfold runFirst.sl.r_19
  exact p289 _ _ _ _ _ p b (128 * n + r.val) R d (fun d => l_hn hi hn65 hn0 B ht A0 F R b r hR d) (fun l => l_ga hi hn65 hn0 B ht A0 F R b r hR l) (fun l => l_h hi hn65 hn0 B ht A0 F R b r hR l) (fun x c => ((ra _ _ _ _ (ix2 x ⟨6656 + c.val, by omega⟩) ((i_w 0 6656 (by omega) (by omega) _ _ _).trans (by congr 1 <;> apply Fin.ext <;> simp))).trans (B.w _ _))) (fun x c => ((ra _ _ _ _ (ix2 x c) ((i_1280x1024 0 0 (by omega) (by omega) _ _ _).trans (by congr 1 <;> apply Fin.ext <;> simp))).trans (B.pa x c)))

theorem l_lf (R : Fin 256) (b : Fin 2) (r : Fin 128) (hR : R.val = 128 * b.val + r.val) (d : Fin 1024) : (runFirst.sl.r_20 (F := Ideal) i arg1 arg2 arg3 arg4 arg11 X1 X2 X3 X4 X11) (ix2 R d) = lf p b (128 * n + r.val) d := by
  unfold runFirst.sl.r_20
  exact p292 _ _ _ _ p b (128 * n + r.val) R d (fun d => l_hn hi hn65 hn0 B ht A0 F R b r hR d) (fun d => ((ra _ _ _ _ (ix2 0 d) ((i_2x1024 0 0 (by omega) (by omega) _ _ _).trans (by congr 1 <;> apply Fin.ext <;> simp))).trans (B.lbl 0 d))) (fun d => ((ra _ _ _ _ (ix2 1 d) ((i_2x1024 1 0 (by omega) (by omega) _ _ _).trans (by congr 1 <;> apply Fin.ext <;> simp))).trans (B.lbl 1 d))) (fun x c => ((ra _ _ _ _ (ix2 x ⟨3584 + c.val, by omega⟩) ((i_w 0 3584 (by omega) (by omega) _ _ _).trans (by congr 1 <;> apply Fin.ext <;> simp))).trans (B.w _ _)))

theorem l_ki (R : Fin 256) (b : Fin 2) (r : Fin 128) (hR : R.val = 128 * b.val + r.val) (d : Fin 1024) : (runFirst.sl.r_21 (F := Ideal) i arg1 arg2 arg3 arg4 arg11 X1 X2 X3 X4 X11) (ix2 R d) = ki p b (128 * n + r.val) d := by
  unfold runFirst.sl.r_21
  exact p293 _ _ _ _ p b (128 * n + r.val) R d (fun d => l_hn hi hn65 hn0 B ht A0 F R b r hR d) (fun d => ((ra _ _ _ _ (ix2 0 d) ((i_2x1024 0 0 (by omega) (by omega) _ _ _).trans (by congr 1 <;> apply Fin.ext <;> simp))).trans (B.lbl 0 d))) (fun d => ((ra _ _ _ _ (ix2 1 d) ((i_2x1024 1 0 (by omega) (by omega) _ _ _).trans (by congr 1 <;> apply Fin.ext <;> simp))).trans (B.lbl 1 d))) (fun x c => ((ra _ _ _ _ (ix2 x ⟨3584 + c.val, by omega⟩) ((i_w 0 3584 (by omega) (by omega) _ _ _).trans (by congr 1 <;> apply Fin.ext <;> simp))).trans (B.w _ _)))

theorem loopB : Chunk.Inv (fun b l r => (lf p b (128 * n + r) l).toReal) (fun b l r => (qi p b (128 * n + r) l).toReal) (fun b l r => (ki p b (128 * n + r) l).toReal) (fun b l r => (vi p b (128 * n + r) l).toReal) (fun b hd j x => hs p b (128 * n) hd j x) k0_t2_loop.trips (arg19.view.read (Elt Ideal) (arg19.view.writes (Elt Ideal) (arg19.view.writes (Elt Ideal) arg19.view.junk (runFirst.sl.H_arg19_1 (F := Ideal))) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 runFirst.sl.v425_r1 runFirst.sl.v426_r1 k0_pay298 runFirst.sl.v442_r1 runFirst.sl.v457_r1 runFirst.sl.v472_r1 (andi runFirst.sl.v477_r1 runFirst.sl.v481_r1) runFirst.sl.v478_r1 (alloca_r1.view.writes (Elt Ideal) alloca_r1.view.junk (runFirst.sl.H_alloca_r1_1 i arg1 arg2 arg3 arg4 arg11 X1 X2 X3 X4 X11)) (alloca_153_r1.view.writes (Elt Ideal) alloca_153_r1.view.junk (runFirst.sl.H_alloca_153_r1_1 i arg1 arg2 arg3 arg4 arg11 X1 X2 X3 X4 X11)) (alloca_154_r1.view.writes (Elt Ideal) alloca_154_r1.view.junk (runFirst.sl.H_alloca_154_r1_1 i arg1 arg2 arg3 arg4 X1 X2 X3 X4)) (arg19.view.writes (Elt Ideal) arg19.view.junk runFirst.sl.H_arg19_1) (alloca_152_r1.view.writes (Elt Ideal) alloca_152_r1.view.junk (runFirst.sl.H_alloca_152_r1_1 i arg1 arg2 arg3 arg4 X1 X2 X3 X4)) (0#32) (Scf.trips k0_t2_loop.lb k0_t2_loop.ub k0_t2_loop.st)).2.1)) (alloca_152_r1.view.read (Elt Ideal) (alloca_152_r1.view.writes (Elt Ideal) (alloca_152_r1.view.writes (Elt Ideal) alloca_152_r1.view.junk (runFirst.sl.H_alloca_152_r1_1 (F := Ideal) i arg1 arg2 arg3 arg4 X1 X2 X3 X4)) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 runFirst.sl.v425_r1 runFirst.sl.v426_r1 k0_pay298 runFirst.sl.v442_r1 runFirst.sl.v457_r1 runFirst.sl.v472_r1 (andi runFirst.sl.v477_r1 runFirst.sl.v481_r1) runFirst.sl.v478_r1 (alloca_r1.view.writes (Elt Ideal) alloca_r1.view.junk (runFirst.sl.H_alloca_r1_1 i arg1 arg2 arg3 arg4 arg11 X1 X2 X3 X4 X11)) (alloca_153_r1.view.writes (Elt Ideal) alloca_153_r1.view.junk (runFirst.sl.H_alloca_153_r1_1 i arg1 arg2 arg3 arg4 arg11 X1 X2 X3 X4 X11)) (alloca_154_r1.view.writes (Elt Ideal) alloca_154_r1.view.junk (runFirst.sl.H_alloca_154_r1_1 i arg1 arg2 arg3 arg4 X1 X2 X3 X4)) (arg19.view.writes (Elt Ideal) arg19.view.junk runFirst.sl.H_arg19_1) (alloca_152_r1.view.writes (Elt Ideal) alloca_152_r1.view.junk (runFirst.sl.H_alloca_152_r1_1 i arg1 arg2 arg3 arg4 X1 X2 X3 X4)) (0#32) (Scf.trips k0_t2_loop.lb k0_t2_loop.ub k0_t2_loop.st)).2.2)) := by
  refine Chunk.loop_inv Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 _ _ _ _ _ _ _ _ _ _ _ _ _ _ _ _ _ _ _ rfl rfl rfl rfl rfl rfl rfl (fun b l s => ?_) (fun R b r l hr hR => ?_) (fun R b r l hr hR => ?_) (fun R b r l hr hR => ?_) (fun R b r l hr hR => ?_) (fun b hd j x => ?_) k0_t2_loop.trips le_rfl
  · obtain ⟨z, hz, e⟩ := lf_r F b (128 * n + s) l
    rw [e]; exact hz
  · unfold runFirst.sl.H_alloca_r1_1
    obtain ⟨z, hz, e⟩ := lf_r F b (128 * n + r) l
    exact (congrFun (View.read_writes_full alloca_r1.view _ _ _ _) (ix2 R l)).trans (((p294 _ R l).trans (l_lf hi hn65 hn0 B ht A0 F R b ⟨r, hr⟩ hR l)).trans (IsR.eq ⟨z, e⟩))
  · unfold runFirst.sl.H_alloca_153_r1_1
    exact (congrFun (View.read_writes_full alloca_153_r1.view _ _ _ _) (ix2 R l)).trans (((p296 _ R l).trans (l_ki hi hn65 hn0 B ht A0 F R b ⟨r, hr⟩ hR l)).trans (ki_r F b _ l).eq)
  · unfold runFirst.sl.H_alloca_154_r1_1
    exact (congrFun (View.read_writes_full alloca_154_r1.view _ _ _ _) (ix2 R l)).trans ((p297 _ _ p b (128 * n + r) R l (fun d => l_hn hi hn65 hn0 B ht A0 F R b ⟨r, hr⟩ hR d) (fun x c => ((ra _ _ _ _ (ix2 x ⟨4608 + c.val, by omega⟩) ((i_w 0 4608 (by omega) (by omega) _ _ _).trans (by congr 1 <;> apply Fin.ext <;> simp))).trans (B.w _ _)))).trans (vi_r F b _ l).eq)
  · unfold runFirst.sl.H_alloca_152_r1_1
    exact (congrFun (View.read_writes_full alloca_152_r1.view _ _ _ _) (ix2 R l)).trans ((p295 _ _ p b (128 * n + r) R l (fun d => l_hn hi hn65 hn0 B ht A0 F R b ⟨r, hr⟩ hR d) (fun x c => ((ra _ _ _ _ (ix2 x ⟨2560 + c.val, by omega⟩) ((i_w 0 2560 (by omega) (by omega) _ _ _).trans (by congr 1 <;> apply Fin.ext <;> simp))).trans (B.w _ _)))).trans (qi_r F b _ l).eq)
  · skip
    unfold runFirst.sl.H_arg19_1
    refine (congrFun (View.read_writes_full arg19.view _ _ _ _) (ix4 b hd j x)).trans ?_
    rw [z19, hn0]
    rfl

theorem sd_hs : ∀ b hd j x m, Chunk.sd (fun b l r => (lf p b (128 * n + r) l).toReal) (fun b l r => (ki p b (128 * n + r) l).toReal) (fun b l r => (vi p b (128 * n + r) l).toReal) (fun b hd j x => hs p b (128 * n) hd j x) b hd j x m = hs p b (128 * n + m) hd j x := by
  intro b hd j x m
  exact (rc_add (fun s => Real.exp (lf p b s (col hd x)).toReal) (fun s => (ki p b s (col hd x)).toReal * (vi p b s (col hd j)).toReal) 0 (128 * n) m).symm

theorem l_19 (b : Fin 2) (hd : Fin 8) (j x : Fin 128) : arg19.view.read (Elt Ideal) (arg19.view.writes (Elt Ideal) (arg19.view.writes (Elt Ideal) arg19.view.junk (runFirst.sl.H_arg19_1 (F := Ideal))) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 runFirst.sl.v425_r1 runFirst.sl.v426_r1 k0_pay298 runFirst.sl.v442_r1 runFirst.sl.v457_r1 runFirst.sl.v472_r1 (andi runFirst.sl.v477_r1 runFirst.sl.v481_r1) runFirst.sl.v478_r1 (alloca_r1.view.writes (Elt Ideal) alloca_r1.view.junk (runFirst.sl.H_alloca_r1_1 i arg1 arg2 arg3 arg4 arg11 X1 X2 X3 X4 X11)) (alloca_153_r1.view.writes (Elt Ideal) alloca_153_r1.view.junk (runFirst.sl.H_alloca_153_r1_1 i arg1 arg2 arg3 arg4 arg11 X1 X2 X3 X4 X11)) (alloca_154_r1.view.writes (Elt Ideal) alloca_154_r1.view.junk (runFirst.sl.H_alloca_154_r1_1 i arg1 arg2 arg3 arg4 X1 X2 X3 X4)) (arg19.view.writes (Elt Ideal) arg19.view.junk runFirst.sl.H_arg19_1) (alloca_152_r1.view.writes (Elt Ideal) alloca_152_r1.view.junk (runFirst.sl.H_alloca_152_r1_1 i arg1 arg2 arg3 arg4 X1 X2 X3 X4)) (0#32) (Scf.trips k0_t2_loop.lb k0_t2_loop.ub k0_t2_loop.st)).2.1) (ix4 b hd j x) = ((hs p b (128 * (n + 1)) hd j x : ℝ) : EReal) := by
  refine ((loopB hi hn65 hn0 B ht A0 F).hS b hd j x).trans ?_
  rw [sd_hs hi hn65 hn0 B ht A0 F]
  rfl

theorem l_oh (R : Fin 256) (b : Fin 2) (r : Fin 128) (hR : R.val = 128 * b.val + r.val) (hd : Fin 8) (j : Fin 128) : (runFirst.sl.r_22 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11) (ix2 R (col hd j)) = ((oh p b (128 * n + r.val) hd j : ℝ) : EReal) := by
  unfold runFirst.sl.r_22
  refine (p311 _ R (col hd j)).trans ?_
  unfold runFirst.sl.v520_r1
  refine (rc' _ _ _ _ (ix2 R (col hd j)) ((i_256x1024 0 0 (by omega) (by omega) _ _ _).trans (by congr 1 <;> apply Fin.ext <;> simp))).trans ?_
  rw [View.writes_append]
  refine ((loopB hi hn65 hn0 B ht A0 F).hB R b r.val hd j r.isLt hR).trans ?_
  rw [if_pos (show r.val < 64 * k0_t2_loop.trips by have e : k0_t2_loop.trips = 2 := rfl; omega)]
  refine congrArg (fun z : ℝ => (z : EReal)) ?_
  unfold Chunk.ob oh
  refine Finset.sum_congr rfl fun x _ => ?_
  rw [sd_hs hi hn65 hn0 B ht A0 F]
  rfl

theorem l_gs (R : Fin 256) (b : Fin 2) (r : Fin 128) (hR : R.val = 128 * b.val + r.val) (d : Fin 1024) : (runFirst.sl.r_23 (F := Ideal) i arg1 arg2 arg3 arg4 X1 X2 X3 X4) (ix2 R d) = gs p b (128 * n + r.val) d := by
  unfold runFirst.sl.r_23
  exact p312 _ _ p b (128 * n + r.val) R d (fun d => l_hn hi hn65 hn0 B ht A0 F R b r hR d) (fun x c => ((ra _ _ _ _ (ix2 x ⟨5632 + c.val, by omega⟩) ((i_w 0 5632 (by omega) (by omega) _ _ _).trans (by congr 1 <;> apply Fin.ext <;> simp))).trans (B.w _ _)))

theorem l_hg (j : Fin 128) : (runFirst.sl.r_24 (F := Ideal) arg12 X12) (ix2 0 j) = p.hg j := by
  unfold runFirst.sl.r_24
  exact (p313 _ j).trans ((ra _ _ _ _ (ix2 0 j) ((i_1x128 0 0 (by omega) (by omega) _ _ _).trans (by congr 1 <;> apply Fin.ext <;> simp))).trans (B.hg j))

theorem l_y0 (R : Fin 256) (b : Fin 2) (r : Fin 128) (hR : R.val = 128 * b.val + r.val) (j : Fin 128) : (runFirst.sl.r_25 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X12) (ix2 R j) = yb p b (128 * n + r.val) 0 j := by
  unfold runFirst.sl.r_25
  exact p314 _ _ _ _ p b (128 * n + r.val) R j (fun hd x => l_oh hi hn65 hn0 B ht A0 F R b r hR hd x) (fun d => l_gs hi hn65 hn0 B ht A0 F R b r hR d) (fun j => l_hg hi hn65 hn0 B ht A0 F j)

theorem l_y1 (R : Fin 256) (b : Fin 2) (r : Fin 128) (hR : R.val = 128 * b.val + r.val) (j : Fin 128) : (runFirst.sl.r_26 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X12) (ix2 R j) = yb p b (128 * n + r.val) 1 j := by
  unfold runFirst.sl.r_26
  exact p315 _ _ _ _ p b (128 * n + r.val) R j (fun hd x => l_oh hi hn65 hn0 B ht A0 F R b r hR hd x) (fun d => l_gs hi hn65 hn0 B ht A0 F R b r hR d) (fun j => l_hg hi hn65 hn0 B ht A0 F j)

theorem l_27 (R : Fin 256) (b : Fin 2) (r : Fin 128) (hR : R.val = 128 * b.val + r.val) (j : Fin 128) : (runFirst.sl.r_27 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11) (ix2 R j) = ((oh p b (128 * n + r.val) 2 j : ℝ) : EReal) := by
  unfold runFirst.sl.r_27
  exact p316 _ p b (128 * n + r.val) R j (fun hd x => l_oh hi hn65 hn0 B ht A0 F R b r hR hd x)

theorem l_y2 (R : Fin 256) (b : Fin 2) (r : Fin 128) (hR : R.val = 128 * b.val + r.val) (j : Fin 128) : (runFirst.sl.r_29 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X12) (ix2 R j) = yb p b (128 * n + r.val) 2 j := by
  unfold runFirst.sl.r_29
  refine p318 _ _ _ _ p b (128 * n + r.val) R j (fun d => l_gs hi hn65 hn0 B ht A0 F R b r hR d) (fun j => l_hg hi hn65 hn0 B ht A0 F j) (l_27 hi hn65 hn0 B ht A0 F R b r hR j) ?_
  unfold runFirst.sl.r_28
  exact p317 _ p b (128 * n + r.val) R (fun hd x => l_oh hi hn65 hn0 B ht A0 F R b r hR hd x)

theorem l_y3 (R : Fin 256) (b : Fin 2) (r : Fin 128) (hR : R.val = 128 * b.val + r.val) (j : Fin 128) : (runFirst.sl.r_30 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X12) (ix2 R j) = yb p b (128 * n + r.val) 3 j := by
  unfold runFirst.sl.r_30
  exact p319 _ _ _ p b (128 * n + r.val) R j (fun hd x => l_oh hi hn65 hn0 B ht A0 F R b r hR hd x) (fun d => l_gs hi hn65 hn0 B ht A0 F R b r hR d) (fun j => l_hg hi hn65 hn0 B ht A0 F j)

theorem l_y4 (R : Fin 256) (b : Fin 2) (r : Fin 128) (hR : R.val = 128 * b.val + r.val) (j : Fin 128) : (runFirst.sl.r_31 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X11 X12) (ix2 R j) = yb p b (128 * n + r.val) 4 j := by
  unfold runFirst.sl.r_31
  exact p320 _ _ _ p b (128 * n + r.val) R j (fun hd x => l_oh hi hn65 hn0 B ht A0 F R b r hR hd x) (fun d => l_gs hi hn65 hn0 B ht A0 F R b r hR d) (fun j => l_hg hi hn65 hn0 B ht A0 F j)

theorem l_mg (R : Fin 256) (b : Fin 2) (r : Fin 128) (hR : R.val = 128 * b.val + r.val) (d : Fin 1024) : (runFirst.sl.r_34 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14) (ix2 R d) = mg p b (128 * n + r.val) d := by
  unfold runFirst.sl.r_34
  refine p323 _ _ _ _ _ _ _ _ _ _ _ _ _ _ p b (128 * n + r.val) R d (fun d => l_hn hi hn65 hn0 B ht A0 F R b r hR d) (fun hd x => l_oh hi hn65 hn0 B ht A0 F R b r hR hd x) (fun d => l_gs hi hn65 hn0 B ht A0 F R b r hR d) (fun j => l_hg hi hn65 hn0 B ht A0 F j) (l_mA hi hn65 hn0 B ht A0 F R b r hR d)
    (l_y0 hi hn65 hn0 B ht A0 F R b r hR) (l_y1 hi hn65 hn0 B ht A0 F R b r hR) (l_y2 hi hn65 hn0 B ht A0 F R b r hR) (l_y3 hi hn65 hn0 B ht A0 F R b r hR) (l_y4 hi hn65 hn0 B ht A0 F R b r hR) (fun j => ?_) (fun j => ?_) (fun x c => ((ra _ _ _ _ (ix2 x ⟨7680 + c.val, by omega⟩) ((i_w 0 7680 (by omega) (by omega) _ _ _).trans (by congr 1 <;> apply Fin.ext <;> simp))).trans (B.w _ _))) (fun x c => ((ra _ _ _ _ (ix2 x c) ((i_1024x1024 0 0 (by omega) (by omega) _ _ _).trans (by congr 1 <;> apply Fin.ext <;> simp))).trans (B.pb x c)))
  · unfold runFirst.sl.r_32
    exact p321 _ p b (128 * n + r.val) R j (fun hd x => l_oh hi hn65 hn0 B ht A0 F R b r hR hd x)
  · unfold runFirst.sl.r_33
    exact (p322 _ R j).trans (l_hg hi hn65 hn0 B ht A0 F j)

theorem l_out (b : Fin 2) (r : Fin 128) (d : Fin 1024) : arg16.view.read (Elt Ideal) (arg16.view.writes (Elt Ideal) arg16.view.junk (runFirst.sl.H_arg16_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14 X15)) (ix3 b r d) = out p b (128 * n + r.val) d := by
  unfold runFirst.sl.H_arg16_2
  fin_cases b
  · refine (w16_out0 _ _ 1 0 0 _ _ _ 0 r d (Or.inl (by simp))).trans ?_
    refine (w16_in _ _ 0 0 0 _ _ _ 0 r d 0 r d (by simp) (by simp) (by simp)).trans ?_
    exact p2 _ _ _ p 0 (128 * n + r.val) r ⟨r.val, by omega⟩ rfl d (fun d => l_tok hi hn65 hn0 B ht A0 F _ 0 r (by simp) d) (fun d => l_mg hi hn65 hn0 B ht A0 F _ 0 r (by simp) d) (fun x c => ((ra _ _ _ _ (ix2 x c) ((i_1024x1024 0 0 (by omega) (by omega) _ _ _).trans (by congr 1 <;> apply Fin.ext <;> simp))).trans (B.wo x c)))
  · refine (w16_in _ _ 1 0 0 _ _ _ 1 r d 0 r d (by simp) (by simp) (by simp)).trans ?_
    exact p3 _ _ _ p 1 (128 * n + r.val) r ⟨128 + r.val, by omega⟩ rfl d (fun d => l_tok hi hn65 hn0 B ht A0 F _ 1 r (by simp) d) (fun d => l_mg hi hn65 hn0 B ht A0 F _ 1 r (by simp) d) (fun x c => ((ra _ _ _ _ (ix2 x c) ((i_1024x1024 0 0 (by omega) (by omega) _ _ _).trans (by congr 1 <;> apply Fin.ext <;> simp))).trans (B.wo x c)))

theorem l_17 (f : arg17.view.ty.Contents (Elt Ideal)) (b : Fin 2) (k : Fin 136) (l : Fin 1280) (hk : k.val < 8) : arg17.view.read (Elt Ideal) (arg17.view.writes (Elt Ideal) f (runFirst.sl.H_arg17_5 (F := Ideal) i arg1 arg2 arg3 arg4 arg17 X1 X2 X3 X4)) (ix3 b k l) = ax p b (128 * (n + 1) + k.val - 8) l := by
  unfold runFirst.sl.H_arg17_5
  fin_cases b
  · refine (w17s_out0 _ _ 1 0 0 _ _ _ 0 k l (Or.inl (by simp))).trans ?_
    unfold runFirst.sl.H_arg17_4
    refine (w17_out0 _ _ 1 8 0 _ _ _ 0 k l (Or.inl (by simp))).trans ?_
    unfold runFirst.sl.H_arg17_3
    refine (w17s_in _ _ 0 0 0 _ _ _ 0 k l 0 ⟨k.val, hk⟩ l (by simp) (by simp) (by simp)).trans ((p261 _ _ _).trans ((l_63 hi hn65 hn0 B ht A0 F _ l).trans (congrArg (fun t => ax p 0 t l) ?_)))
    simp; omega
  · refine (w17s_in _ _ 1 0 0 _ _ _ 1 k l 0 ⟨k.val, hk⟩ l (by simp) (by simp) (by simp)).trans ((p264 _ _ _).trans ((l_99 hi hn65 hn0 B ht A0 F _ l).trans (congrArg (fun t => ax p 1 t l) ?_)))
    simp; omega

theorem tile (hfi : (Scalar.cmpi .ne (Scalar.extui (Scalar.cmpi .eq (BitVec.ofNat 32 (i 0).val) 0#32)) (0#32 : BitVec 32) : BitVec 1) = 1#1) : (∀ b (r : Fin 128) d, (runFirst (F := Ideal) c i hfi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14 X15).1.1 (ix3 b r d) = out p b (128 * n + r.val) d) ∧ Car p (n + 1) (runFirst (F := Ideal) c i hfi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14 X15).1.2.1 (runFirst (F := Ideal) c i hfi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14 X15).1.2.2.1 (runFirst (F := Ideal) c i hfi arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 alloca_r0 halloca_r0 alloca_152_r0 halloca_152_r0 alloca_r1 halloca_r1 alloca_152_r1 halloca_152_r1 alloca_153_r1 halloca_153_r1 alloca_154_r1 halloca_154_r1 X1 X2 X3 X4 X5 X6 X7 X8 X9 X10 X11 X12 X13 X14 X15).1.2.2.2 := by
  refine ⟨fun b r d => l_out hi hn65 hn0 B ht A0 F b r d, ⟨fun b k l hk => l_17 hi hn65 hn0 B ht A0 F _ b k l hk, fun b l => l_18 hi hn65 hn0 B ht A0 F _ b l, fun b hd j x => ?_⟩⟩
  refine (congrFun (congrArg (arg19.view.read (Elt Ideal)) (View.writes_append _ _ _ _)) _).trans ?_
  exact l_19 hi hn65 hn0 B ht A0 F b hd j x

end Cert.Proof.FirstTile
-- ==== Proof.Mixer.lean ====
module
public import proofs.«01_k».proof.Proof.Run
public import proofs.«01_k».proof.Proof.NextTile
public import proofs.«01_k».proof.Proof.FirstTile
public import proofs.«01_k».proof.Proof.Blocks
public import proofs.«01_k».proof.Proof.HostArr
public import Idealize.ShloMosaic.Lib.Pipeline.ValueKit
public import Idealize.ShloMosaic.Lib.Pointwise
public import Idealize.ShloMosaic.Lib.IdealHost

@[expose] public section
set_option maxRecDepth 16384
noncomputable section

/-! The mixer call's value: tile by tile, from the arguments. -/
namespace Cert.Proof.Mixer
open Cert.KernelIdeal Cert.KernelIdeal.Facts Cert.KernelIdeal.Gen
open Idealize.ShloMosaic Idealize.ShloMosaic.TcCoe Idealize.SL.Sem
open Cert.Proof.Row Cert.Proof

section
variable (m : (ℓ : Loc nD τ sig) → Buf (Elt Ideal) ℓ) (c : Dev nD) (t : Fin cfg0.N)

/-- Every block as its argument. -/
theorem blks : Blk (P m c) (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) where
  g1 := blk2 m c t
  w := blk3 m c t
  cw := blk4 m c t
  cb := blk5 m c t
  wa0 x y := by
    refine (blk6 m c t 0 x _).trans ((cat_at _ _ 0 x _).trans ?_)
    rw [dif_pos y.isLt]
    refine (bdV_at _ 0 x y).trans ?_
    by_cases h : x.val / 80 = y.val / 80
    · rw [if_pos h, if_pos h]
      exact congrArg (fun z => (m ((c.tc : Thread nD τ).loc main_arg6) : Vec Ideal S1x16x80x80 .f32) (ix4 0 z _ _)) (Fin.ext (by simp))
    · rw [if_neg h, if_neg h]
  wa1 x y := by
    refine (blk6 m c t 1 x _).trans ((cat_at _ _ 1 x _).trans ?_)
    rw [dif_pos y.isLt]
    refine (bdV_at _ 1 x y).trans ?_
    by_cases h : x.val / 80 = y.val / 80
    · rw [if_pos h, if_pos h]
      exact congrArg (fun z => (m ((c.tc : Thread nD τ).loc main_arg6) : Vec Ideal S1x16x80x80 .f32) (ix4 0 z _ _)) (Fin.ext (by simp))
    · rw [if_neg h, if_neg h]
  wx0 x y := by
    refine (blk6 m c t 0 x _).trans ((cat_at _ _ 0 x _).trans ?_)
    rw [dif_neg (by simp)]
    refine (congrArg (fun z => bdV _ (ix3 0 x z)) (Fin.ext (by simp) : _ = y)).trans ((bdV_at _ 0 x y).trans ?_)
    by_cases h : x.val / 80 = y.val / 80
    · rw [if_pos h, if_pos h]
      exact congrArg (fun z => (m ((c.tc : Thread nD τ).loc main_arg8) : Vec Ideal S1x16x80x80 .f32) (ix4 0 z _ _)) (Fin.ext (by simp))
    · rw [if_neg h, if_neg h]
  wx1 x y := by
    refine (blk6 m c t 1 x _).trans ((cat_at _ _ 1 x _).trans ?_)
    rw [dif_neg (by simp)]
    refine (congrArg (fun z => bdV _ (ix3 1 x z)) (Fin.ext (by simp) : _ = y)).trans ((bdV_at _ 1 x y).trans ?_)
    by_cases h : x.val / 80 = y.val / 80
    · rw [if_pos h, if_pos h]
      exact congrArg (fun z => (m ((c.tc : Thread nD τ).loc main_arg8) : Vec Ideal S1x16x80x80 .f32) (ix4 0 z _ _)) (Fin.ext (by simp))
    · rw [if_neg h, if_neg h]
  ba := blk7 m c t
  bx := blk8 m c t
  lam := blk9 m c t
  lbl := blk10 m c t
  hg := blk11 m c t
  pa := blk12 m c t
  pb := blk13 m c t
  wo := blk14 m c t

/-- The first place of the first tile is empty. -/
theorem ax_zero (b : Fin 2) (l : Fin 1280) : ax (P m c) b 0 l = 0 := by
  unfold ax pr
  refine Finset.sum_eq_zero fun x _ => ?_
  have h : (P m c).tok b 0 x = 0 := by
    simp [P, par]
  unfold hn
  rw [h, zero_mul, zero_mul, zero_mul]

theorem tok_first (b : Fin 2) (r : Fin 128) (d : Fin 1024) : (iblk m c 0 t : Vec Ideal S128x1024 .f32) (ix2 r d) = (P m c).tok b (128 * 0 + r.val) d := by
  refine (blk0 m c t r d).trans ?_
  show _ = if 128 * 0 + r.val < 112 then (0 : EReal) else _
  by_cases h : r.val < 112
  · rw [dif_pos h, if_pos (by omega)]
  · rw [dif_neg h, if_neg (by omega), dif_pos (by omega)]
    exact congrArg (fun z => (m ((c.tc : Thread nD τ).loc main_arg1) : Vec Ideal S16x1024 .f32) (ix2 z d)) (Fin.ext (by simp))

theorem tok_next (h0 : t.val ≠ 0) (b : Fin 2) (r : Fin 128) (d : Fin 1024) : (iblk m c 1 t : Vec Ideal S2x128x1024 .f32) (ix3 b r d) = (P m c).tok b (128 * t.val + r.val) d := by
  have ht := (idx t).2.2.2.2.2.2.2.2.2.2.2.2.2.2.2.2
  refine (blk1 m c t b r d).trans ?_
  show _ = if 128 * t.val + r.val < 112 then (0 : EReal) else _
  rw [if_neg (by omega), dif_neg (by omega), dif_pos (by omega)]
  exact congrArg (fun z => (m ((c.tc : Thread nD τ).loc main_arg0) : Vec Ideal S2x8192x1024 .f32) (ix3 b z d)) (Fin.ext (by simp; omega))

/-- Tile by tile: what a point leaves in its block, and what it carries on. -/
theorem tiles (F : Fin' (P m c)) : ∀ (n : ℕ) (h : n < cfg0.N), (∀ b (r : Fin 128) d, (pointOut m c ⟨n, h⟩ (stt m c n)).1 (ix3 b r d) = out (P m c) b (128 * n + r.val) d)
    ∧ Car (P m c) (n + 1) (stt m c (n + 1)).1 (stt m c (n + 1)).2.1 (stt m c (n + 1)).2.2 := by
  intro n
  induction n with
  | zero =>
    intro h
    have hi : isFirst (grid0.coords ⟨0, h⟩) := (isFirst_iff _).2 rfl
    rw [stt_succ m c ⟨0, h⟩]
    simp only [show pointOut m c ⟨0, h⟩ (stt m c 0) = (runF m c ⟨0, h⟩ hi).1 from dif_pos hi]
    exact FirstTile.tile (coord ⟨0, h⟩) (by norm_num) rfl (blks m c ⟨0, h⟩) (tok_first m c ⟨0, h⟩) (ax_zero m c) F hi
  | succ n ih =>
    intro h
    have hi : ¬ isFirst (grid0.coords ⟨n + 1, h⟩) := fun q => absurd ((isFirst_iff _).1 q) (Nat.succ_ne_zero n)
    have hC := (ih (Nat.lt_of_succ_lt h)).2
    rw [stt_succ m c ⟨n + 1, h⟩]
    simp only [show pointOut m c ⟨n + 1, h⟩ (stt m c (n + 1)) = (runN m c ⟨n + 1, h⟩ hi (stt m c (n + 1))).1 from dif_neg hi]
    exact NextTile.tile (coord ⟨n + 1, h⟩) (idx ⟨n + 1, h⟩).2.2.2.2.2.2.2.2.2.2.2.2.2.2.2.2 (Nat.succ_ne_zero n) (blks m c ⟨n + 1, h⟩) (tok_next m c ⟨n + 1, h⟩ (Nat.succ_ne_zero n)) hC F hi
end

section
variable (m : (ℓ : Loc nD τ sig) → Buf (Elt Ideal) ℓ) (c : Dev nD)
/-- The first two points share a block, and the second of them is the one that leaves it. -/
theorem last : ∀ t : Fin cfg0.N, (win0 15).flush t = true → t.val ≠ 0 := by decide +kernel
/-- The call's array: the mixer's result at each token of the sequence. -/
theorem arr_eq (F : Fin' (P m c)) : (dats m 0 c).arrAt 15 cfg0.N = (fun j : S2x8192x1024.Idx => out (P m c) (j 0) (128 + (j 1 : ℕ)) (j 2)) := by
  refine (dats m 0 c).arrAt_eq_of_covers 15 _ (by decide +kernel) fun t hf y => ?_
  blk_simp
  rw [after_15]
  idx_vars y
  refine ((tiles m c F t.val t.isLt).1 y0 y1 y2).trans ?_
  have e0 : (((View.whole main_v54).slice (win0_15.rect t)).emb (ix3 y0 y1 y2) 0) = y0 := by
    apply Fin.ext; blk_simp [idx t]
  have e2 : (((View.whole main_v54).slice (win0_15.rect t)).emb (ix3 y0 y1 y2) 2) = y2 := by
    apply Fin.ext; blk_simp [idx t]
  have ht := last t hf
  rw [e0, e2, (idx t).2.2.2.2.2.2.2.2.2.2.2.2.2.2.2.1]
  refine congrArg (fun z => out (P m c) y0 z y2) ?_
  show 128 * t.val + y1.val = 128 + ((t.val - 1) * 128 + y1.val)
  omega
end
end Cert.Proof.Mixer
-- ==== Proof.Window.lean ====
module
public import Idealize.ShloMosaic.Lib.Pointwise
public import Idealize.ShloMosaic.Lib.IdealHost
@[expose] public section
noncomputable section
namespace Cert.Proof.Window
open Idealize.ShloMosaic

/-- A window of the whole length, reaching back: only the places up to `j` count. -/
theorem reach (G : ℕ → EReal) (n j : ℕ) (hj : j < n + 1) :
    ∑ k ∈ Finset.range (n + 1), (if n ≤ j + k then G (j + k - n) else 0) = ∑ i ∈ Finset.range (j + 1), G i := by
  rw [show n + 1 = (n - j) + (j + 1) by omega, Finset.sum_range_add, Finset.sum_eq_zero, zero_add]
  · refine Finset.sum_congr rfl fun i _ => ?_
    rw [if_pos (by omega)]
    exact congrArg G (by omega)
  · intro k hk
    rw [Finset.mem_range] at hk
    rw [if_neg (by omega)]

theorem foldl_sum {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

theorem finRange_sum {n : ℕ} (f : Fin n → EReal) : ((List.finRange n).map f).sum = ∑ i, f i := by
  rw [← List.ofFn_eq_map, List.sum_ofFn]

/-- A window's sum, over the window's places. -/
theorem window {s t u : Shape} (window strides lo hi : Fin s.rank → Nat) (x : FVec Ideal s .f32) (init : u.Idx → EReal)
    (h : s.ReduceWindows window strides lo hi t) (hu : 0 < u.numel) (h0 : ∀ i, init i = 0) (j : t.Idx) :
    (Host.reduceWindowAdd (F := Ideal) (φ := .f32) window strides lo hi x init h hu) j
      = ∑ w : (⟨s.rank, window⟩ : Shape).Idx,
          if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0 := by
  show List.foldl _ (init _) _ = _
  rw [h0]
  refine (foldl_sum _ _ _).trans ?_
  rw [zero_add, finRange_sum]
  refine Eq.trans (Finset.sum_congr rfl fun i _ => dite_congr rfl (fun _ => rfl) (fun _ => rfl)) (Equiv.sum_comp (Shape.rowMajor ⟨s.rank, window⟩).symm (fun w : (⟨s.rank, window⟩ : Shape).Idx => if hin : ∀ a, lo a ≤ (j (a.cast h.1.symm)).val * strides a + (w a).val ∧ (j (a.cast h.1.symm)).val * strides a + (w a).val - lo a < s.size a
          then x (fun a => ⟨(j (a.cast h.1.symm)).val * strides a + (w a).val - lo a, (hin a).2⟩) else 0))

/-- The running sum along the middle of three axes. -/
theorem cum3 {A N C n : ℕ} (hN : N = n + 1) (x : FVec Ideal ⟨3, ![A, N, C]⟩ .f32) {u : Shape} (init : u.Idx → EReal)
    (h : (⟨3, ![A, N, C]⟩ : Shape).ReduceWindows ![1, N, 1] ![1, 1, 1] ![0, n, 0] ![0, 0, 0] ⟨3, ![A, N, C]⟩) (hu : 0 < u.numel) (h0 : ∀ i, init i = 0)
    (G : ℕ → EReal) (a : Fin A) (c : Fin C) (hG : ∀ i : Fin N, x (ix3 a i c) = G i.val) (j : Fin N) :
    (Host.reduceWindowAdd (F := Ideal) (φ := .f32) ![1, N, 1] ![1, 1, 1] ![0, n, 0] ![0, 0, 0] x init h hu) (ix3 a j c) = ∑ i ∈ Finset.range (j.val + 1), G i := by
  subst hN
  refine (window _ _ _ _ x init h hu h0 _).trans ?_
  refine (sum_idx3 (n0 := 1) (n1 := n + 1) (n2 := 1) _).trans ?_
  rw [Fin.sum_univ_one, ← reach G n j.val j.isLt, ← Fin.sum_univ_eq_sum_range (fun k => if n ≤ j.val + k then G (j.val + k - n) else 0)]
  refine Finset.sum_congr rfl fun k _ => ?_
  rw [Fin.sum_univ_one]
  by_cases hk : n ≤ j.val + k.val
  · rw [if_pos hk, dif_pos]
    · refine Eq.trans (congrArg x (funext fun d => Fin.ext ?_)) (hG ⟨j.val + k.val - n, by omega⟩)
      match d with
      | ⟨0, _⟩ => show a.val * 1 + 0 - 0 = a.val; omega
      | ⟨1, _⟩ => show j.val * 1 + k.val - n = _; simp
      | ⟨2, _⟩ => show c.val * 1 + 0 - 0 = c.val; omega
    · intro d
      match d with
      | ⟨0, _⟩ => show 0 ≤ a.val * 1 + 0 ∧ a.val * 1 + 0 - 0 < A; omega
      | ⟨1, _⟩ => show n ≤ j.val * 1 + k.val ∧ j.val * 1 + k.val - n < n + 1; omega
      | ⟨2, _⟩ => show 0 ≤ c.val * 1 + 0 ∧ c.val * 1 + 0 - 0 < C; omega
  · rw [if_neg hk, dif_neg]
    intro q
    have q1 : n ≤ j.val * 1 + k.val := (q (1 : Fin 3)).1
    omega

/-- The running sum along the third of four axes. -/
theorem cum4 {A B N C n : ℕ} (hN : N = n + 1) (x : FVec Ideal ⟨4, ![A, B, N, C]⟩ .f32) {u : Shape} (init : u.Idx → EReal)
    (h : (⟨4, ![A, B, N, C]⟩ : Shape).ReduceWindows ![1, 1, N, 1] ![1, 1, 1, 1] ![0, 0, n, 0] ![0, 0, 0, 0] ⟨4, ![A, B, N, C]⟩) (hu : 0 < u.numel) (h0 : ∀ i, init i = 0)
    (G : ℕ → EReal) (a : Fin A) (b : Fin B) (c : Fin C) (hG : ∀ i : Fin N, x (ix4 a b i c) = G i.val) (j : Fin N) :
    (Host.reduceWindowAdd (F := Ideal) (φ := .f32) ![1, 1, N, 1] ![1, 1, 1, 1] ![0, 0, n, 0] ![0, 0, 0, 0] x init h hu) (ix4 a b j c) = ∑ i ∈ Finset.range (j.val + 1), G i := by
  subst hN
  refine (window _ _ _ _ x init h hu h0 _).trans ?_
  refine (sum_idx4 (n0 := 1) (n1 := 1) (n2 := n + 1) (n3 := 1) _).trans ?_
  rw [Fin.sum_univ_one, Fin.sum_univ_one, ← reach G n j.val j.isLt, ← Fin.sum_univ_eq_sum_range (fun k => if n ≤ j.val + k then G (j.val + k - n) else 0)]
  refine Finset.sum_congr rfl fun k _ => ?_
  rw [Fin.sum_univ_one]
  by_cases hk : n ≤ j.val + k.val
  · rw [if_pos hk, dif_pos]
    · refine Eq.trans (congrArg x (funext fun d => Fin.ext ?_)) (hG ⟨j.val + k.val - n, by omega⟩)
      match d with
      | ⟨0, _⟩ => show a.val * 1 + 0 - 0 = a.val; omega
      | ⟨1, _⟩ => show b.val * 1 + 0 - 0 = b.val; omega
      | ⟨2, _⟩ => show j.val * 1 + k.val - n = _; simp
      | ⟨3, _⟩ => show c.val * 1 + 0 - 0 = c.val; omega
    · intro d
      match d with
      | ⟨0, _⟩ => show 0 ≤ a.val * 1 + 0 ∧ a.val * 1 + 0 - 0 < A; omega
      | ⟨1, _⟩ => show 0 ≤ b.val * 1 + 0 ∧ b.val * 1 + 0 - 0 < B; omega
      | ⟨2, _⟩ => show n ≤ j.val * 1 + k.val ∧ j.val * 1 + k.val - n < n + 1; omega
      | ⟨3, _⟩ => show 0 ≤ c.val * 1 + 0 ∧ c.val * 1 + 0 - 0 < C; omega
  · rw [if_neg hk, dif_neg]
    intro q
    have q1 : n ≤ j.val * 1 + k.val := (q (2 : Fin 4)).1
    omega

/-- The running sum along the first of two axes. -/
theorem cum2 {N C n : ℕ} (hN : N = n + 1) (x : FVec Ideal ⟨2, ![N, C]⟩ .f32) {u : Shape} (init : u.Idx → EReal)
    (h : (⟨2, ![N, C]⟩ : Shape).ReduceWindows ![N, 1] ![1, 1] ![n, 0] ![0, 0] ⟨2, ![N, C]⟩) (hu : 0 < u.numel) (h0 : ∀ i, init i = 0)
    (G : ℕ → EReal) (c : Fin C) (hG : ∀ i : Fin N, x (ix2 i c) = G i.val) (j : Fin N) :
    (Host.reduceWindowAdd (F := Ideal) (φ := .f32) ![N, 1] ![1, 1] ![n, 0] ![0, 0] x init h hu) (ix2 j c) = ∑ i ∈ Finset.range (j.val + 1), G i := by
  subst hN
  refine (window _ _ _ _ x init h hu h0 _).trans ?_
  refine (sum_idx2 (n0 := n + 1) (n1 := 1) _).trans ?_
  rw [← reach G n j.val j.isLt, ← Fin.sum_univ_eq_sum_range (fun k => if n ≤ j.val + k then G (j.val + k - n) else 0)]
  refine Finset.sum_congr rfl fun k _ => ?_
  rw [Fin.sum_univ_one]
  by_cases hk : n ≤ j.val + k.val
  · rw [if_pos hk, dif_pos]
    · refine Eq.trans (congrArg x (funext fun d => Fin.ext ?_)) (hG ⟨j.val + k.val - n, by omega⟩)
      match d with
      | ⟨0, _⟩ => show j.val * 1 + k.val - n = _; simp
      | ⟨1, _⟩ => show c.val * 1 + 0 - 0 = c.val; omega
    · intro d
      match d with
      | ⟨0, _⟩ => show n ≤ j.val * 1 + k.val ∧ j.val * 1 + k.val - n < n + 1; omega
      | ⟨1, _⟩ => show 0 ≤ c.val * 1 + 0 ∧ c.val * 1 + 0 - 0 < C; omega
  · rw [if_neg hk, dif_neg]
    intro q
    have q1 : n ≤ j.val * 1 + k.val := (q (0 : Fin 2)).1
    omega
end Cert.Proof.Window
-- ==== Proof.RefA.lean ====
module
public import proofs.«01_k».proof.Proof.Window
public import proofs.«01_k».proof.Proof.Par
public import proofs.«01_k».proof.Proof.Gen.ReferenceIdeal.Run
public import Idealize.ShloMosaic.Lib.Pointwise
public import Idealize.ShloMosaic.Lib.IdealHost
@[expose] public section
set_option maxRecDepth 8192
noncomputable section

/-! The first stages of the reference, entry by entry: the token, its projection, the convolution, the diagonal recurrence in closed form. -/
namespace Cert.Proof.RefMixer
open Idealize.ShloMosaic Cert.ReferenceIdeal Cert.ReferenceIdeal.Gen Cert.Proof.Row

def hV (mt : FVec Ideal S16x1024 .f32) (x : FVec Ideal S2x8192x1024 .f32) : FVec Ideal S2x8208x1024 .f32 :=
  concatenate S2x8208x1024 1 [⟨S2x16x1024, (broadcastInDim S2x16x1024 ![0, 1, 2] bcast_S1x16x1024_S2x16x1024_0_1_2 (broadcastInDim S1x16x1024 ![1, 2] bcast_S16x1024_S1x16x1024_1_2 mt))⟩, ⟨S2x8192x1024, x⟩] concatenates_S2x16x1024_S2x8192x1024_S2x8208x1024_d1
theorem hV_at (mt : FVec Ideal S16x1024 .f32) (x : FVec Ideal S2x8192x1024 .f32) (b : Fin 2) (s : Fin 8208) (d : Fin 1024) :
    hV mt x (ix3 b s d) = if h : s.val < 16 then mt (ix2 ⟨s.val, h⟩ d) else x (ix3 b ⟨s.val - 16, by omega⟩ d) := by
  pointwise [hV]

def projV (h : FVec Ideal S2x8208x1024 .f32) (g : FVec Ideal S1x1024 .f32) (w : FVec Ideal S1x1024x8704 .f32) : FVec Ideal S2x8208x8704 .f32 :=
  Host.dotGeneral dot_S2x8208x1024_S1024x8704_S2x8208x8704_2_0_01_1_n_n none (mulf (mulf h (broadcastInDim S2x8208x1024 ![0, 1, 2] bcast_S2x8208x1_S2x8208x1024_0_1_2 (Host.rsqrt (addf (Host.divf (broadcastInDim S2x8208x1 ![0, 1] bcast_S2x8208_S2x8208x1_0_1 (Host.reduceAdd (mulf h h) (constant S_ .f32 0x00000000#32) reducesTo_S2x8208x1024_S2x8208_d2 h_S_)) (broadcastInDim S2x8208x1 ![] bcast_S_S2x8208x1 (constant S_ .f32 0x44800000#32))) (broadcastInDim S2x8208x1 ![] bcast_S_S2x8208x1 (constant S_ .f32 0x358637BD#32)))))) (broadcastInDim S2x8208x1024 ![0, 1, 2] bcast_S1x1x1024_S2x8208x1024_0_1_2 (broadcastInDim S1x1x1024 ![2] bcast_S1024_S1x1x1024_2 (shapeCast _ g shapeCasts_S1x1024_S1024)))) (shapeCast _ w shapeCasts_S1x1024x8704_S1024x8704)
theorem projV_at (p : Par) (h : FVec Ideal S2x8208x1024 .f32) (g : FVec Ideal S1x1024 .f32) (w : FVec Ideal S1x1024x8704 .f32)
    (hh : ∀ b s d, h (ix3 b s d) = p.tok b (s.val + 112) d) (hg : ∀ d, g (ix2 0 d) = p.g1 d) (hw : ∀ x c, w (ix3 0 x c) = p.w x c) (b : Fin 2) (s : Fin 8208) (c : Fin 8704) :
    projV h g w (ix3 b s c) = pr p b (s.val + 112) c := by
  pointwise [projV]
  simp only [hh, hg, hw]
  rfl

def padV (a : FVec Ideal S2x8208x8704 .f32) : FVec Ideal S2x8211x1280 .f32 :=
  pad S2x8211x1280 ![0, 3, 0] ![0, 0, 0] ![0, 0, 0] (extractStridedSlice S2x8208x1280 ![0, 0, 0] a slices_S2x8208x8704_S2x8208x1280_0_0_0) (sitofp .f32 (constantI S_ 32 0#32)) pads_S2x8208x1280_S2x8211x1280_000_300_000 h_S_
theorem padV_at (a : FVec Ideal S2x8208x8704 .f32) (b : Fin 2) (s : Fin 8211) (l : Fin 1280) :
    padV a (ix3 b s l) = if h : s.val < 3 then 0 else a (ix3 b ⟨s.val - 3, by omega⟩ ⟨l, by omega⟩) := by
  pointwise [padV]
  by_cases h : s.val < 3
  · rw [dif_neg (by omega), dif_pos h]
    show (((0#32 : BitVec 32).toInt : ℝ) : EReal) = 0
    simp
  · rw [dif_pos (by omega), dif_neg h]

def convV (a : FVec Ideal S2x8211x1280 .f32) (cw : FVec Ideal S1x4x1280 .f32) (cb : FVec Ideal S1x1280 .f32) : FVec Ideal S2x8208x1280 .f32 :=
  addf (addf (addf (addf (addf (broadcastInDim S2x8208x1280 ![] bcast_S_S2x8208x1280 (constant S_ .f32 0x00000000#32)) (mulf (broadcastInDim S2x8208x1280 ![0, 1, 2] bcast_S1x1x1280_S2x8208x1280_0_1_2 (broadcastInDim S1x1x1280 ![2] bcast_S1280_S1x1x1280_2 (shapeCast _ (extractStridedSlice S1x1x1280 ![0, 0, 0] cw slices_S1x4x1280_S1x1x1280_0_0_0) shapeCasts_S1x1x1280_S1280))) (extractStridedSlice S2x8208x1280 ![0, 0, 0] a slices_S2x8211x1280_S2x8208x1280_0_0_0))) (mulf (broadcastInDim S2x8208x1280 ![0, 1, 2] bcast_S1x1x1280_S2x8208x1280_0_1_2 (broadcastInDim S1x1x1280 ![2] bcast_S1280_S1x1x1280_2 (shapeCast _ (extractStridedSlice S1x1x1280 ![0, 1, 0] cw slices_S1x4x1280_S1x1x1280_0_1_0) shapeCasts_S1x1x1280_S1280))) (extractStridedSlice S2x8208x1280 ![0, 1, 0] a slices_S2x8211x1280_S2x8208x1280_0_1_0))) (mulf (broadcastInDim S2x8208x1280 ![0, 1, 2] bcast_S1x1x1280_S2x8208x1280_0_1_2 (broadcastInDim S1x1x1280 ![2] bcast_S1280_S1x1x1280_2 (shapeCast _ (extractStridedSlice S1x1x1280 ![0, 2, 0] cw slices_S1x4x1280_S1x1x1280_0_2_0) shapeCasts_S1x1x1280_S1280))) (extractStridedSlice S2x8208x1280 ![0, 2, 0] a slices_S2x8211x1280_S2x8208x1280_0_2_0))) (mulf (broadcastInDim S2x8208x1280 ![0, 1, 2] bcast_S1x1x1280_S2x8208x1280_0_1_2 (broadcastInDim S1x1x1280 ![2] bcast_S1280_S1x1x1280_2 (shapeCast _ (extractStridedSlice S1x1x1280 ![0, 3, 0] cw slices_S1x4x1280_S1x1x1280_0_3_0) shapeCasts_S1x1x1280_S1280))) (extractStridedSlice S2x8208x1280 ![0, 3, 0] a slices_S2x8211x1280_S2x8208x1280_0_3_0))) (broadcastInDim S2x8208x1280 ![0, 1, 2] bcast_S1x1x1280_S2x8208x1280_0_1_2 (broadcastInDim S1x1x1280 ![2] bcast_S1280_S1x1x1280_2 (shapeCast _ cb shapeCasts_S1x1280_S1280)))
theorem convV_at (p : Par) (a : FVec Ideal S2x8211x1280 .f32) (cw : FVec Ideal S1x4x1280 .f32) (cb : FVec Ideal S1x1280 .f32)
    (ha : ∀ b s l, a (ix3 b s l) = ax p b (s.val + 109) l) (hw : ∀ k l, cw (ix3 0 k l) = p.cw k l) (hb : ∀ l, cb (ix2 0 l) = p.cb l) (b : Fin 2) (s : Fin 8208) (l : Fin 1280) :
    convV a cw cb (ix3 b s l) = cx p b (s.val + 112) l := by
  pointwise [convV]
  simp only [ha, hw, hb, cx, show s.val + 112 - 3 = s.val + 109 by omega, show s.val + 112 - 2 = 1 + s.val + 109 by omega,
    show s.val + 112 - 1 = 2 + s.val + 109 by omega, show 3 + s.val + 109 = s.val + 112 by omega]
  abel

def zV (w : FVec Ideal S1x16x80x80 .f32) (x : FVec Ideal S2x8208x1280 .f32) : FVec Ideal S2x8208x1280 .f32 :=
  (shapeCast _ (transpose S2x8208x16x80 [2, 3, 0, 1] (Host.dotGeneral dot_S16x80x80_S2x8208x16x80_S16x80x2x8208_1_3_2_01_0_2 none (shapeCast _ w shapeCasts_S1x16x80x80_S16x80x80) (shapeCast _ x shapeCasts_S2x8208x1280_S2x8208x16x80)) transposes_S16x80x2x8208_S2x8208x16x80_2_3_0_1) shapeCasts_S2x8208x16x80_S2x8208x1280)
theorem zV_at (p : Par) (w : FVec Ideal S1x16x80x80 .f32) (x : FVec Ideal S2x8208x1280 .f32) (ww : Fin 16 → Fin 80 → Fin 80 → EReal)
    (hw : ∀ n x y, w (ix4 0 n x y) = ww n x y) (hx : ∀ b s l, x (ix3 b s l) = cx p b (s.val + 112) l) (b : Fin 2) (s : Fin 8208) (l : Fin 1280) :
    zV w x (ix3 b s l) = za p b (s.val + 112) ww l := by
  pointwise [zV]
  unfold za
  refine Finset.sum_congr rfl fun y _ => ?_
  rw [hw, hx, mul_comm]
  exact congrArg (fun k => cx p b (s.val + 112) k * _) (Fin.ext (by show l.val / 80 * 80 + y.val = 80 * (l.val / 80) + y.val; omega))

def sgV (z : FVec Ideal S2x8208x1280 .f32) (ba : FVec Ideal S1x1280 .f32) : FVec Ideal S2x8208x1280 .f32 :=
  (Host.divf (broadcastInDim S2x8208x1280 ![] bcast_S_S2x8208x1280 (constant S_ .f32 0x3F800000#32)) (addf (broadcastInDim S2x8208x1280 ![] bcast_S_S2x8208x1280 (constant S_ .f32 0x3F800000#32)) (Host.exp (Host.negf (addf z (broadcastInDim S2x8208x1280 ![0, 1, 2] bcast_S1x1x1280_S2x8208x1280_0_1_2 (broadcastInDim S1x1x1280 ![2] bcast_S1280_S1x1x1280_2 (shapeCast _ ba shapeCasts_S1x1280_S1280))))))))
theorem sgV_at (z : FVec Ideal S2x8208x1280 .f32) (ba : FVec Ideal S1x1280 .f32) (b : Fin 2) (s : Fin 8208) (l : Fin 1280) :
    sgV z ba (ix3 b s l) = Ideal.logistic (z (ix3 b s l) + ba (ix2 0 l)) := by
  pointwise [sgV]
  rfl

def spV (l : FVec Ideal S1280 .f32) : FVec Ideal S1280 .f32 :=
  (select (cmpf .une (subf l (broadcastInDim S1280 ![] bcast_S_S1280 (constant S_ .f32 0x00000000#32))) (subf l (broadcastInDim S1280 ![] bcast_S_S1280 (constant S_ .f32 0x00000000#32)))) (addf l (broadcastInDim S1280 ![] bcast_S_S1280 (constant S_ .f32 0x00000000#32))) (addf (maximumf l (broadcastInDim S1280 ![] bcast_S_S1280 (constant S_ .f32 0x00000000#32))) (Host.log1p (Host.exp (Host.negf (Host.absf (subf l (broadcastInDim S1280 ![] bcast_S_S1280 (constant S_ .f32 0x00000000#32)))))))))
def nlV (lam : FVec Ideal S1x1280 .f32) : FVec Ideal S1280 .f32 := (Host.negf (shapeCast _ lam shapeCasts_S1x1280_S1280))
theorem spV_at (p : Par) (lam : FVec Ideal S1x1280 .f32) (h : ∀ l, lam (ix2 0 l) = p.lam l) (l : Fin 1280) : spV (nlV lam) (ix1 l) = sp p l := by
  pointwise [spV, nlV]
  rw [if_neg (not_not.2 rfl), h, sp, zero_sub, zero_sub]
  rfl

def laV (r : FVec Ideal S2x8208x1280 .f32) (s : FVec Ideal S1280 .f32) : FVec Ideal S2x8208x1280 .f32 :=
  mulf (mulf (broadcastInDim S2x8208x1280 ![] bcast_S_S2x8208x1280 (constant S_ .f32 0xC1000000#32)) r) (broadcastInDim S2x8208x1280 ![0, 1, 2] bcast_S1x1x1280_S2x8208x1280_0_1_2 (broadcastInDim S1x1x1280 ![2] bcast_S1280_S1x1x1280_2 s))
theorem laV_at (r : FVec Ideal S2x8208x1280 .f32) (q : FVec Ideal S1280 .f32) (b : Fin 2) (s : Fin 8208) (l : Fin 1280) :
    laV r q (ix3 b s l) = Ideal.ofBits FTy.f32 3238002688#32 * r (ix3 b s l) * q (ix1 l) := by
  pointwise [laV]

def uV (a g x : FVec Ideal S2x8208x1280 .f32) : FVec Ideal S2x8208x1280 .f32 :=
  (mulf (Host.sqrt (Host.negf (Host.expm1 (mulf (broadcastInDim S2x8208x1280 ![] bcast_S_S2x8208x1280 (constant S_ .f32 0x40000000#32)) a)))) (mulf g x))
theorem uV_at (a g x : FVec Ideal S2x8208x1280 .f32) (b : Fin 2) (s : Fin 8208) (l : Fin 1280) :
    uV a g x (ix3 b s l) = Ideal.sqrt (-(Ideal.exp (Ideal.ofBits FTy.f32 1073741824#32 * a (ix3 b s l)) - 1)) * (g (ix3 b s l) * x (ix3 b s l)) := by
  pointwise [uV]

def causalV : IVec S8208x8208 1 :=
  cmpi .sge (broadcastInDim S8208x8208 ![0, 1] bcast_S8208x1_S8208x8208_0_1 (broadcastInDim S8208x1 ![0] bcast_S8208_S8208x1_0 (iotaInDim S8208 32 0))) (broadcastInDim S8208x8208 ![0, 1] bcast_S1x8208_S8208x8208_0_1 (broadcastInDim S1x8208 ![1] bcast_S8208_S1x8208_1 (iotaInDim S8208 32 0)))
theorem causalV_at (i j : Fin 8208) : causalV (ix2 i j) = if j ≤ i then 1#1 else 0#1 := by
  pointwise [causalV]
  have hi := i.isLt
  have hj := j.isLt
  have e : ∀ k : ℕ, k < 8208 → (BitVec.ofNat 32 k).toInt = (k : ℤ) := fun k hk => by
    rw [BitVec.toInt_eq_toNat_cond, BitVec.toNat_ofNat, Nat.mod_eq_of_lt (by omega), if_pos (by omega)]
  simp only [IntOp.cmpi, BitVec.sle, e _ hi, e _ hj]
  by_cases h : j ≤ i
  · have h' : j.val ≤ i.val := h
    simp [h, h']
  · have h' : ¬ j.val ≤ i.val := h
    simp [h, h']

def cuV (a : FVec Ideal S2x8208x1280 .f32) : FVec Ideal S2x8208x1280 .f32 :=
  Host.reduceWindowAdd ![1, 8208, 1] ![1, 1, 1] ![0, 8207, 0] ![0, 0, 0] a (broadcastInDim S_ ![] bcast_S_S_ (constant S_ .f32 0x00000000#32)) reduceWindows_S2x8208x1280_S2x8208x1280_w1s1p0_0_w8208s1p8207_0_w1s1p0_0 h_S_
theorem cuV_at (a : FVec Ideal S2x8208x1280 .f32) (G : ℕ → EReal) (b : Fin 2) (l : Fin 1280) (h : ∀ s : Fin 8208, a (ix3 b s l) = G s.val) (s : Fin 8208) :
    cuV a (ix3 b s l) = ∑ i ∈ Finset.range (s.val + 1), G i := by
  unfold cuV
  refine Window.cum3 rfl a _ _ _ (fun i => ?_) G b l h s
  pointwise

def hrV (c u : FVec Ideal S2x8208x1280 .f32) : FVec Ideal S2x8208x1280 .f32 :=
  (Host.reduceAdd (mulf (Host.exp (select (broadcastInDim S2x8208x8208x1280 ![1, 2, 3] bcast_S8208x8208x1_S2x8208x8208x1280_1_2_3 (broadcastInDim S8208x8208x1 ![0, 1] bcast_S8208x8208_S8208x8208x1_0_1 causalV)) (subf (broadcastInDim S2x8208x8208x1280 ![0, 1, 2, 3] bcast_S2x8208x1x1280_S2x8208x8208x1280_0_1_2_3 (broadcastInDim S2x8208x1x1280 ![0, 1, 3] bcast_S2x8208x1280_S2x8208x1x1280_0_1_3 c)) (broadcastInDim S2x8208x8208x1280 ![0, 1, 2, 3] bcast_S2x1x8208x1280_S2x8208x8208x1280_0_1_2_3 (broadcastInDim S2x1x8208x1280 ![0, 2, 3] bcast_S2x8208x1280_S2x1x8208x1280_0_2_3 c))) (broadcastInDim S2x8208x8208x1280 ![] bcast_S_S2x8208x8208x1280 (id (constant S_ .f32 0xFF800000#32))))) (broadcastInDim S2x8208x8208x1280 ![0, 1, 2, 3] bcast_S2x1x8208x1280_S2x8208x8208x1280_0_1_2_3 (broadcastInDim S2x1x8208x1280 ![0, 2, 3] bcast_S2x8208x1280_S2x1x8208x1280_0_2_3 u))) (constant S_ .f32 0x00000000#32) reducesTo_S2x8208x8208x1280_S2x8208x1280_d2 h_S_)
theorem hrV_at (c u : FVec Ideal S2x8208x1280 .f32) (b : Fin 2) (s : Fin 8208) (l : Fin 1280) :
    hrV c u (ix3 b s l) = ∑ i : Fin 8208, Ideal.exp (if i ≤ s then c (ix3 b s l) - c (ix3 b i l) else Ideal.ofBits FTy.f32 0xFF800000#32) * u (ix3 b i l) := by
  pointwise [hrV]
  refine Finset.sum_congr rfl fun i _ => ?_
  rw [causalV_at]
  by_cases h : i ≤ s
  · rw [if_pos h, if_pos h]; rfl
  · rw [if_neg h, if_neg h]; rfl
end Cert.Proof.RefMixer
-- ==== Proof.RefB.lean ====
module
public import proofs.«01_k».proof.Proof.RefA
public import proofs.«01_k».proof.Proof.Par
public import proofs.«01_k».proof.Proof.Gen.ReferenceIdeal.Run
public import Idealize.ShloMosaic.Lib.Pointwise
public import Idealize.ShloMosaic.Lib.IdealHost
@[expose] public section
set_option maxRecDepth 8192
noncomputable section

/-! The second branch of the reference, entry by entry: the heads, the forget gate and its bound, the matrix recurrence in closed form. -/
namespace Cert.Proof.RefMixer
open Idealize.ShloMosaic Cert.ReferenceIdeal Cert.ReferenceIdeal.Gen Cert.Proof.Row

def heV (x : FVec Ideal S2x8208x1024 .f32) : FVec Ideal S2x8x8208x128 .f32 :=
  (transpose S2x8x8208x128 [0, 2, 1, 3] (shapeCast _ x shapeCasts_S2x8208x1024_S2x8208x8x128) transposes_S2x8208x8x128_S2x8x8208x128_0_2_1_3)
theorem heV_at (x : FVec Ideal S2x8208x1024 .f32) (b : Fin 2) (h : Fin 8) (s : Fin 8208) (j : Fin 128) :
    heV x (ix4 b h s j) = x (ix3 b s (col h j)) := by
  pointwise [heV]
  exact congrArg (fun k => x (ix3 b s k)) (Fin.ext (by show h.val * 128 + j.val = 128 * h.val + j.val; omega))

def qV (x : FVec Ideal S2x8208x1024 .f32) : FVec Ideal S2x8208x1024 .f32 :=
  (mulf x (Host.divf (broadcastInDim S2x8208x1024 ![] bcast_S_S2x8208x1024 (constant S_ .f32 0x3F800000#32)) (addf (broadcastInDim S2x8208x1024 ![] bcast_S_S2x8208x1024 (constant S_ .f32 0x3F800000#32)) (Host.exp (Host.negf x)))))
theorem qV_at (x : FVec Ideal S2x8208x1024 .f32) (b : Fin 2) (s : Fin 8208) (d : Fin 1024) :
    qV x (ix3 b s d) = x (ix3 b s d) * Ideal.logistic (x (ix3 b s d)) := by
  pointwise [qV]
  rfl

def kV (l : FVec Ideal S1024 .f32) (x : FVec Ideal S2x8208x1024 .f32) : FVec Ideal S2x8208x1024 .f32 :=
  (mulf (broadcastInDim S2x8208x1024 ![0, 1, 2] bcast_S1x1x1024_S2x8208x1024_0_1_2 (broadcastInDim S1x1x1024 ![2] bcast_S1024_S1x1x1024_2 (subf (broadcastInDim S1024 ![] bcast_S_S1024 (constant S_ .f32 0x3F800000#32)) l))) (Host.divf (broadcastInDim S2x8208x1024 ![] bcast_S_S2x8208x1024 (constant S_ .f32 0x3F800000#32)) (addf (broadcastInDim S2x8208x1024 ![] bcast_S_S2x8208x1024 (constant S_ .f32 0x3F800000#32)) (Host.exp (Host.negf (Host.negf x))))))
theorem kV_at (l : FVec Ideal S1024 .f32) (x : FVec Ideal S2x8208x1024 .f32) (b : Fin 2) (s : Fin 8208) (d : Fin 1024) :
    kV l x (ix3 b s d) = (1 - l (ix1 d)) * Ideal.logistic (0 - x (ix3 b s d)) := by
  pointwise [kV]
  rw [zero_sub]
  rfl

def lfV (l : FVec Ideal S1024 .f32) (x : FVec Ideal S2x8208x1024 .f32) : FVec Ideal S2x8208x1024 .f32 :=
  (Host.log (addf (broadcastInDim S2x8208x1024 ![0, 1, 2] bcast_S1x1x1024_S2x8208x1024_0_1_2 (broadcastInDim S1x1x1024 ![2] bcast_S1024_S1x1x1024_2 l)) (mulf (broadcastInDim S2x8208x1024 ![0, 1, 2] bcast_S1x1x1024_S2x8208x1024_0_1_2 (broadcastInDim S1x1x1024 ![2] bcast_S1024_S1x1x1024_2 (subf (broadcastInDim S1024 ![] bcast_S_S1024 (constant S_ .f32 0x3F800000#32)) l))) (Host.divf (broadcastInDim S2x8208x1024 ![] bcast_S_S2x8208x1024 (constant S_ .f32 0x3F800000#32)) (addf (broadcastInDim S2x8208x1024 ![] bcast_S_S2x8208x1024 (constant S_ .f32 0x3F800000#32)) (Host.exp (Host.negf x)))))))
theorem lfV_at (l : FVec Ideal S1024 .f32) (x : FVec Ideal S2x8208x1024 .f32) (b : Fin 2) (s : Fin 8208) (d : Fin 1024) :
    lfV l x (ix3 b s d) = Ideal.log (l (ix1 d) + (1 - l (ix1 d)) * Ideal.logistic (x (ix3 b s d))) := by
  pointwise [lfV]
  rfl

def bcV (a : FVec Ideal S2x8x8208x128 .f32) : FVec Ideal S2x8x8208x128 .f32 :=
  Host.reduceWindowAdd ![1, 1, 8208, 1] ![1, 1, 1, 1] ![0, 0, 8207, 0] ![0, 0, 0, 0] a (broadcastInDim S_ ![] bcast_S_S_ (constant S_ .f32 0x00000000#32)) reduceWindows_S2x8x8208x128_S2x8x8208x128_w1s1p0_0_w1s1p0_0_w8208s1p8207_0_w1s1p0_0 h_S_
theorem bcV_at (a : FVec Ideal S2x8x8208x128 .f32) (G : ℕ → EReal) (b : Fin 2) (h : Fin 8) (j : Fin 128) (hG : ∀ s : Fin 8208, a (ix4 b h s j) = G s.val) (s : Fin 8208) :
    bcV a (ix4 b h s j) = ∑ i ∈ Finset.range (s.val + 1), G i := by
  unfold bcV
  refine Window.cum4 rfl a _ _ _ (fun i => ?_) G b h j hG s
  pointwise

def exV (x : FVec Ideal S2x1024 .f32) : FVec Ideal S2x1024 .f32 :=
  Host.exp (subf x (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf x (constant S_ .f32 0xFF800000#32) reducesTo_S2x1024_S1024_d0 h_S_)))))
/-- Below every number. -/
theorem ninf : Ideal.ofBits FTy.f32 4286578688#32 = ⊥ := by simp [Ideal.ofBits, Ideal.ieee]
theorem exV_at (x : FVec Ideal S2x1024 .f32) (k : Fin 2) (d : Fin 1024) :
    exV x (ix2 k d) = Ideal.exp (x (ix2 k d) - max (x (ix2 0 d)) (x (ix2 1 d))) := by
  pointwise [exV]
  rw [ninf, show (Finset.univ : Finset (Fin 2)) = {0, 1} from rfl, Finset.fold_insert (by decide), Finset.fold_singleton]
  simp
def lbV (e : FVec Ideal S2x1024 .f32) : FVec Ideal S1024 .f32 :=
  shapeCast _ (extractStridedSlice S1x1024 ![0, 0] (Host.reduceWindowAdd ![2, 1] ![1, 1] ![1, 0] ![0, 0] (Host.divf e (broadcastInDim S2x1024 ![0, 1] bcast_S1x1024_S2x1024_0_1 (broadcastInDim S1x1024 ![1] bcast_S1024_S1x1024_1 (Host.reduceAdd e (constant S_ .f32 0x00000000#32) reducesTo_S2x1024_S1024_d0 h_S_)))) (broadcastInDim S_ ![] bcast_S_S_ (constant S_ .f32 0x00000000#32)) reduceWindows_S2x1024_S2x1024_w2s1p1_0_w1s1p0_0 h_S_) slices_S2x1024_S1x1024_0_0) shapeCasts_S1x1024_S1024
theorem lbV_at (e : FVec Ideal S2x1024 .f32) (d : Fin 1024) :
    lbV e (ix1 d) = Ideal.div (e (ix2 0 d)) (e (ix2 0 d) + e (ix2 1 d)) := by
  pointwise [lbV]
  refine (Window.cum2 rfl _ _ _ _ (fun i => by pointwise) (fun n => if h : n < 2 then Ideal.div (e (ix2 ⟨n, h⟩ d)) (e (ix2 0 d) + e (ix2 1 d)) else 0) d (fun i => ?_) 0).trans ?_
  · rw [dif_pos i.isLt]
    pointwise
    rw [Fin.sum_univ_two]
  · simp

def obV (q k v c : FVec Ideal S2x8x8208x128 .f32) : FVec Ideal S2x8208x8x128 .f32 :=
  transpose S2x8208x8x128 [0, 2, 1, 3] (Host.dotGeneral dot_S2x8x8208x8208_S2x8x8208x128_S2x8x8208x128_3_2_2_3_01_01 none (Host.reduceAdd (mulf (mulf (broadcastInDim S2x8x8208x8208x128 ![0, 1, 2, 3, 4] bcast_S2x8x8208x1x128_S2x8x8208x8208x128_0_1_2_3_4 (broadcastInDim S2x8x8208x1x128 ![0, 1, 2, 4] bcast_S2x8x8208x128_S2x8x8208x1x128_0_1_2_4 q)) (Host.exp (select (broadcastInDim S2x8x8208x8208x128 ![2, 3, 4] bcast_S8208x8208x1_S2x8x8208x8208x128_2_3_4 (broadcastInDim S8208x8208x1 ![0, 1] bcast_S8208x8208_S8208x8208x1_0_1 causalV)) (subf (broadcastInDim S2x8x8208x8208x128 ![0, 1, 2, 3, 4] bcast_S2x8x8208x1x128_S2x8x8208x8208x128_0_1_2_3_4 (broadcastInDim S2x8x8208x1x128 ![0, 1, 2, 4] bcast_S2x8x8208x128_S2x8x8208x1x128_0_1_2_4 c)) (broadcastInDim S2x8x8208x8208x128 ![0, 1, 2, 3, 4] bcast_S2x8x1x8208x128_S2x8x8208x8208x128_0_1_2_3_4 (broadcastInDim S2x8x1x8208x128 ![0, 1, 3, 4] bcast_S2x8x8208x128_S2x8x1x8208x128_0_1_3_4 c))) (broadcastInDim S2x8x8208x8208x128 ![] bcast_S_S2x8x8208x8208x128 (id (constant S_ .f32 0xFF800000#32)))))) (broadcastInDim S2x8x8208x8208x128 ![0, 1, 2, 3, 4] bcast_S2x8x1x8208x128_S2x8x8208x8208x128_0_1_2_3_4 (broadcastInDim S2x8x1x8208x128 ![0, 1, 3, 4] bcast_S2x8x8208x128_S2x8x1x8208x128_0_1_3_4 k))) (constant S_ .f32 0x00000000#32) reducesTo_S2x8x8208x8208x128_S2x8x8208x8208_d4 h_S_) v) transposes_S2x8x8208x128_S2x8208x8x128_0_2_1_3
theorem obV_at (q k v c : FVec Ideal S2x8x8208x128 .f32) (b : Fin 2) (s : Fin 8208) (h : Fin 8) (j : Fin 128) :
    obV q k v c (ix4 b s h j) = ∑ i : Fin 8208, (∑ x : Fin 128, q (ix4 b h s x) * Ideal.exp (if i ≤ s then c (ix4 b h s x) - c (ix4 b h i x) else Ideal.ofBits FTy.f32 0xFF800000#32) * k (ix4 b h i x)) * v (ix4 b h i j) := by
  pointwise [obV]
  refine Finset.sum_congr rfl fun i _ => ?_
  refine congrArg (· * _) (Finset.sum_congr rfl fun x _ => ?_)
  rw [causalV_at]
  by_cases h : i ≤ s
  · rw [if_pos h, if_pos h]; rfl
  · rw [if_neg h, if_neg h]; rfl
end Cert.Proof.RefMixer
-- ==== Proof.RefC.lean ====
module
public import proofs.«01_k».proof.Proof.RefB
public import proofs.«01_k».proof.Proof.Par
public import proofs.«01_k».proof.Proof.Gen.ReferenceIdeal.Run
public import Idealize.ShloMosaic.Lib.Pointwise
public import Idealize.ShloMosaic.Lib.IdealHost
@[expose] public section
set_option maxRecDepth 8192
noncomputable section

/-! The end of the reference, entry by entry, and the printed terms as these functions of the arguments. -/
namespace Cert.Proof.RefMixer
open Idealize.ShloMosaic Cert.ReferenceIdeal Cert.ReferenceIdeal.Gen Cert.Proof.Row

def geV (x : FVec Ideal S2x8208x1280 .f32) : FVec Ideal S2x8208x1280 .f32 :=
  (mulf x (mulf (broadcastInDim S2x8208x1280 ![] bcast_S_S2x8208x1280 (constant S_ .f32 0x3F000000#32)) (addf (broadcastInDim S2x8208x1280 ![] bcast_S_S2x8208x1280 (constant S_ .f32 0x3F800000#32)) (Host.tanh (mulf (broadcastInDim S2x8208x1280 ![] bcast_S_S2x8208x1280 (constant S_ .f32 0x3F4C422A#32)) (addf x (mulf (broadcastInDim S2x8208x1280 ![] bcast_S_S2x8208x1280 (constant S_ .f32 0x3D372713#32)) (mulf (mulf x x) x))))))))
theorem geV_at (x : FVec Ideal S2x8208x1280 .f32) (b : Fin 2) (s : Fin 8208) (l : Fin 1280) : geV x (ix3 b s l) = ge (x (ix3 b s l)) := by
  pointwise [geV]
  unfold ge
  rfl

def ybV (o g : FVec Ideal S2x8208x8x128 .f32) (hg : FVec Ideal S1x128 .f32) : FVec Ideal S2x8208x8x128 .f32 :=
  (mulf (mulf (mulf o (broadcastInDim S2x8208x8x128 ![0, 1, 2, 3] bcast_S2x8208x8x1_S2x8208x8x128_0_1_2_3 (Host.rsqrt (addf (Host.divf (broadcastInDim S2x8208x8x1 ![0, 1, 2] bcast_S2x8208x8_S2x8208x8x1_0_1_2 (Host.reduceAdd (mulf o o) (constant S_ .f32 0x00000000#32) reducesTo_S2x8208x8x128_S2x8208x8_d3 h_S_)) (broadcastInDim S2x8208x8x1 ![] bcast_S_S2x8208x8x1 (constant S_ .f32 0x43000000#32))) (broadcastInDim S2x8208x8x1 ![] bcast_S_S2x8208x8x1 (constant S_ .f32 0x358637BD#32)))))) (broadcastInDim S2x8208x8x128 ![0, 1, 2, 3] bcast_S1x1x1x128_S2x8208x8x128_0_1_2_3 (broadcastInDim S1x1x1x128 ![3] bcast_S128_S1x1x1x128_3 (shapeCast _ hg shapeCasts_S1x128_S128)))) (mulf g (Host.divf (broadcastInDim S2x8208x8x128 ![] bcast_S_S2x8208x8x128 (constant S_ .f32 0x3F800000#32)) (addf (broadcastInDim S2x8208x8x128 ![] bcast_S_S2x8208x8x128 (constant S_ .f32 0x3F800000#32)) (Host.exp (Host.negf g))))))
theorem ybV_at (o g : FVec Ideal S2x8208x8x128 .f32) (hg : FVec Ideal S1x128 .f32) (b : Fin 2) (s : Fin 8208) (h : Fin 8) (j : Fin 128) :
    ybV o g hg (ix4 b s h j) = o (ix4 b s h j) * Ideal.rsqrt (Ideal.div (∑ x, o (ix4 b s h x) * o (ix4 b s h x)) (Ideal.ofBits FTy.f32 1124073472#32) + Ideal.ofBits FTy.f32 897988541#32) * hg (ix2 0 j)
      * (g (ix4 b s h j) * Ideal.logistic (g (ix4 b s h j))) := by
  pointwise [ybV]
  rfl

def mgV (a : FVec Ideal S2x8208x8704 .f32) (h g : FVec Ideal S2x8208x1280 .f32) (y : FVec Ideal S2x8208x8x128 .f32) (pa : FVec Ideal S1x1280x1024 .f32)
    (pb : FVec Ideal S1x1024x1024 .f32) : FVec Ideal S2x8208x1024 .f32 :=
  addf (mulf (Host.divf (broadcastInDim S2x8208x1024 ![] bcast_S_S2x8208x1024 (constant S_ .f32 0x3F800000#32)) (addf (broadcastInDim S2x8208x1024 ![] bcast_S_S2x8208x1024 (constant S_ .f32 0x3F800000#32)) (Host.exp (Host.negf (extractStridedSlice S2x8208x1024 ![0, 0, 6656] a slices_S2x8208x8704_S2x8208x1024_0_0_6656))))) (Host.dotGeneral dot_S2x8208x1280_S1280x1024_S2x8208x1024_2_0_01_1_n_n none (mulf h g) (shapeCast _ pa shapeCasts_S1x1280x1024_S1280x1024))) (mulf (Host.divf (broadcastInDim S2x8208x1024 ![] bcast_S_S2x8208x1024 (constant S_ .f32 0x3F800000#32)) (addf (broadcastInDim S2x8208x1024 ![] bcast_S_S2x8208x1024 (constant S_ .f32 0x3F800000#32)) (Host.exp (Host.negf (extractStridedSlice S2x8208x1024 ![0, 0, 7680] a slices_S2x8208x8704_S2x8208x1024_0_0_7680))))) (Host.dotGeneral dot_S2x8208x1024_S1024x1024_S2x8208x1024_2_0_01_1_n_n none (shapeCast _ y shapeCasts_S2x8208x8x128_S2x8208x1024) (shapeCast _ pb shapeCasts_S1x1024x1024_S1024x1024)))
theorem mgV_at (a : FVec Ideal S2x8208x8704 .f32) (h g : FVec Ideal S2x8208x1280 .f32) (y : FVec Ideal S2x8208x8x128 .f32) (pa : FVec Ideal S1x1280x1024 .f32)
    (pb : FVec Ideal S1x1024x1024 .f32) (b : Fin 2) (s : Fin 8208) (d : Fin 1024) :
    mgV a h g y pa pb (ix3 b s d) = Ideal.logistic (a (ix3 b s ⟨6656 + d, by omega⟩)) * ∑ x, h (ix3 b s x) * g (ix3 b s x) * pa (ix3 0 x d)
      + Ideal.logistic (a (ix3 b s ⟨7680 + d, by omega⟩)) * ∑ x : Fin 1024, y (ix4 b s ⟨x / 128, by omega⟩ ⟨x % 128, by omega⟩) * pb (ix3 0 x d) := by
  pointwise [mgV]
  rfl

def finV (t m : FVec Ideal S2x8208x1024 .f32) (wo : FVec Ideal S1x1024x1024 .f32) : FVec Ideal S2x8192x1024 .f32 :=
  extractStridedSlice S2x8192x1024 ![0, 16, 0] (addf t (Host.dotGeneral dot_S2x8208x1024_S1024x1024_S2x8208x1024_2_0_01_1_n_n none m (shapeCast _ wo shapeCasts_S1x1024x1024_S1024x1024))) slices_S2x8208x1024_S2x8192x1024_0_16_0
theorem finV_at (t m : FVec Ideal S2x8208x1024 .f32) (wo : FVec Ideal S1x1024x1024 .f32) (b : Fin 2) (s : Fin 8192) (d : Fin 1024) :
    finV t m wo (ix3 b s d) = t (ix3 b ⟨16 + s, by omega⟩ d) + ∑ x, m (ix3 b ⟨16 + s, by omega⟩ x) * wo (ix3 0 x d) := by
  pointwise [finV]

theorem v2_eq (V0 : Valuation τ sig (Elt Ideal)) : Value.res_main_v2 V0 = hV (V0 (Proc.devRef .tc main_arg1)) (V0 (Proc.devRef .tc main_arg0)) := rfl
theorem v18_eq (V0 : Valuation τ sig (Elt Ideal)) : Value.res_main_v18 V0 = projV (Value.res_main_v2 V0) (V0 (Proc.devRef .tc main_arg2)) (V0 (Proc.devRef .tc main_arg3)) := rfl
theorem v34_eq (V0 : Valuation τ sig (Elt Ideal)) : Value.res_main_v34 V0 = padV (Value.res_main_v18 V0) := rfl
theorem v67_eq (V0 : Valuation τ sig (Elt Ideal)) : Value.res_main_v67 V0 = convV (Value.res_main_v34 V0) (V0 (Proc.devRef .tc main_arg4)) (V0 (Proc.devRef .tc main_arg5)) := rfl
theorem v104_eq (V0 : Valuation τ sig (Elt Ideal)) : Value.res_main_v104 V0 = laV (sgV (zV (V0 (Proc.devRef .tc main_arg6)) (Value.res_main_v67 V0)) (V0 (Proc.devRef .tc main_arg7))) (spV (nlV (V0 (Proc.devRef .tc main_arg10)))) := rfl
theorem v112_eq (V0 : Valuation τ sig (Elt Ideal)) : Value.res_main_v112 V0 = cuV (Value.res_main_v104 V0) := rfl
theorem v152_eq (V0 : Valuation τ sig (Elt Ideal)) : Value.res_main_v152 V0 = lbV (exV (V0 (Proc.devRef .tc main_arg11))) := rfl
theorem v189_eq (V0 : Valuation τ sig (Elt Ideal)) : Value.res_main_v189 V0 = bcV (heV (lfV (Value.res_main_v152 V0) (Value.res_main_v22 V0))) := rfl
theorem v206_eq (V0 : Valuation τ sig (Elt Ideal)) : Value.res_main_v206 V0 = obV (heV (qV (Value.res_main_v21 V0))) (heV (kV (Value.res_main_v152 V0) (Value.res_main_v22 V0)))
    (heV (extractStridedSlice S2x8208x1024 ![0, 0, 4608] (Value.res_main_v18 V0) slices_S2x8208x8704_S2x8208x1024_0_0_4608)) (Value.res_main_v189 V0) := rfl
theorem v243_eq (V0 : Valuation τ sig (Elt Ideal)) : Value.res_main_v243 V0 = mgV (Value.res_main_v18 V0)
    (hrV (Value.res_main_v112 V0) (uV (Value.res_main_v104 V0) (sgV (zV (V0 (Proc.devRef .tc main_arg8)) (Value.res_main_v67 V0)) (V0 (Proc.devRef .tc main_arg9))) (Value.res_main_v67 V0)))
    (geV (Value.res_main_v20 V0)) (ybV (Value.res_main_v206 V0) (Value.res_main_v207 V0) (V0 (Proc.devRef .tc main_arg12))) (V0 (Proc.devRef .tc main_arg13)) (V0 (Proc.devRef .tc main_arg14)) := rfl
end Cert.Proof.RefMixer
-- ==== Proof.RefMixer.lean ====
module
public import proofs.«01_k».proof.Proof.RefC
@[expose] public section
set_option maxRecDepth 8192
noncomputable section

/-! The reference's result at a token: the token-wise functions of the arguments. -/
namespace Cert.Proof.RefMixer
open Idealize.ShloMosaic Cert.ReferenceIdeal Cert.ReferenceIdeal.Gen Cert.Proof.Row Cert.Proof.Rec

/-! ## Linear recurrences by their solutions -/

theorem exp_bot : Ideal.exp ⊥ = 0 := rfl

theorem cut {N : ℕ} (L U : ℕ → ℝ) (s i : Fin N) (C : Fin N → EReal) (hC : ∀ i, C i = ((cum L (i.val + 1) : ℝ) : EReal)) :
    Ideal.exp (if i ≤ s then C s - C i else Ideal.ofBits FTy.f32 0xFF800000#32)
      = ((if i.val < s.val + 1 then Real.exp (cum L (s.val + 1) - cum L (i.val + 1)) else 0 : ℝ) : EReal) := by
  by_cases h : i ≤ s
  · have h' : i.val ≤ s.val := h
    rw [if_pos h, if_pos (by omega), hC, hC, ← EReal.coe_sub, Ideal.exp_coe]
  · have h' : ¬ i.val ≤ s.val := h
    rw [if_neg h, if_neg (by omega), ninf, exp_bot]; rfl

theorem upto {M : Type} [AddCommMonoid M] {N : ℕ} (s : Fin N) (G : ℕ → M) : ∑ i : Fin N, (if i.val < s.val + 1 then G i.val else 0) = ∑ i ∈ Finset.range (s.val + 1), G i := by
  have hs := s.isLt
  rw [Fin.sum_univ_eq_sum_range (fun n => if n < s.val + 1 then G n else 0), ← Finset.sum_filter]
  refine Finset.sum_congr (Finset.ext fun n => ?_) fun _ _ => rfl
  rw [Finset.mem_filter, Finset.mem_range, Finset.mem_range]
  omega

theorem decay {N : ℕ} (L : ℕ → ℝ) (U : ℕ → EReal) (s : Fin N) (C X : Fin N → EReal) (hC : ∀ i, C i = ((cum L (i.val + 1) : ℝ) : EReal)) (hX : ∀ i, X i = U i.val) :
    ∑ i, Ideal.exp (if i ≤ s then C s - C i else Ideal.ofBits FTy.f32 0xFF800000#32) * X i = re (fun n => Real.exp (L n)) U 0 (s.val + 1) := by
  rw [re_exp, ← upto s (fun i => ((Real.exp (cum L (s.val + 1) - cum L (i + 1)) : ℝ) : EReal) * U i)]
  refine Finset.sum_congr rfl fun i _ => ?_
  rw [cut L L s i C hC, hX]
  by_cases h : i.val < s.val + 1
  · simp only [if_pos h]
  · simp only [if_neg h, EReal.coe_zero, zero_mul]

theorem attend {N K : ℕ} (l kk : Fin K → ℕ → ℝ) (q : Fin K → ℝ) (v : ℕ → ℝ) (s : Fin N) (C X : Fin K → Fin N → EReal) (Q : Fin K → EReal) (V : Fin N → EReal)
    (hC : ∀ x i, C x i = ((cum (l x) (i.val + 1) : ℝ) : EReal)) (hX : ∀ x i, X x i = ((kk x i.val : ℝ) : EReal)) (hQ : ∀ x, Q x = ((q x : ℝ) : EReal))
    (hV : ∀ i, V i = ((v i.val : ℝ) : EReal)) :
    ∑ i, (∑ x, Q x * Ideal.exp (if i ≤ s then C x s - C x i else Ideal.ofBits FTy.f32 0xFF800000#32) * X x i) * V i
      = ((∑ x, q x * rc (fun n => Real.exp (l x n)) (fun n => kk x n * v n) 0 (s.val + 1) : ℝ) : EReal) := by
  have e := query l kk q v (fun _ => 0) (s.val + 1)
  simp only [mul_zero, Finset.sum_const_zero, add_zero] at e
  rw [← e, ← upto s (fun i => (∑ k, q k * (kk k i * Real.exp (cum (l k) (s.val + 1) - cum (l k) (i + 1)))) * v i), coe_sum]
  refine Finset.sum_congr rfl fun i _ => ?_
  have g : ∀ x, Q x * Ideal.exp (if i ≤ s then C x s - C x i else Ideal.ofBits FTy.f32 0xFF800000#32) * X x i
      = ((q x * (if i.val < s.val + 1 then Real.exp (cum (l x) (s.val + 1) - cum (l x) (i.val + 1)) else 0) * kk x i.val : ℝ) : EReal) := fun x => by
    rw [cut (l x) v s i (C x) (hC x), hX, hQ, ← EReal.coe_mul, ← EReal.coe_mul]
  simp only [g]
  rw [← coe_sum, hV, ← EReal.coe_mul]
  congr 1
  by_cases h : i.val < s.val + 1
  · simp only [if_pos h]
    refine congrArg (· * _) (Finset.sum_congr rfl fun x _ => by ring)
  · simp only [if_neg h, mul_zero, zero_mul, Finset.sum_const_zero]

theorem finV_out (p : Par) (t m : FVec Ideal S2x8208x1024 .f32) (wo : FVec Ideal S1x1024x1024 .f32) (b : Fin 2) (ht : ∀ s d, t (ix3 b s d) = p.tok b (s.val + 112) d)
    (hm : ∀ s d, m (ix3 b s d) = mg p b (s.val + 112) d) (hw : ∀ x d, wo (ix3 0 x d) = p.wo x d) (s : Fin 8192) (d : Fin 1024) :
    finV t m wo (ix3 b s d) = out p b (128 + s.val) d := by
  rw [finV_at]
  simp only [ht, hm, hw]
  have e : 16 + s.val + 112 = 128 + s.val := by omega
  unfold out
  rw [e]

section
variable (V0 : Valuation τ sig (Elt Ideal))

/-- The arguments as the reference finds them. -/
def Q : Par := par (fun b s d => (V0 (Proc.devRef .tc main_arg0) : Vec Ideal S2x8192x1024 .f32) (ix3 b s d))
  (fun k d => (V0 (Proc.devRef .tc main_arg1) : Vec Ideal S16x1024 .f32) (ix2 k d))
  (fun d => (V0 (Proc.devRef .tc main_arg2) : Vec Ideal S1x1024 .f32) (ix2 0 d))
  (fun x y => (V0 (Proc.devRef .tc main_arg3) : Vec Ideal S1x1024x8704 .f32) (ix3 0 x y))
  (fun k l => (V0 (Proc.devRef .tc main_arg4) : Vec Ideal S1x4x1280 .f32) (ix3 0 k l))
  (fun l => (V0 (Proc.devRef .tc main_arg5) : Vec Ideal S1x1280 .f32) (ix2 0 l))
  (fun n x y => (V0 (Proc.devRef .tc main_arg6) : Vec Ideal S1x16x80x80 .f32) (ix4 0 n x y))
  (fun l => (V0 (Proc.devRef .tc main_arg7) : Vec Ideal S1x1280 .f32) (ix2 0 l))
  (fun n x y => (V0 (Proc.devRef .tc main_arg8) : Vec Ideal S1x16x80x80 .f32) (ix4 0 n x y))
  (fun l => (V0 (Proc.devRef .tc main_arg9) : Vec Ideal S1x1280 .f32) (ix2 0 l))
  (fun l => (V0 (Proc.devRef .tc main_arg10) : Vec Ideal S1x1280 .f32) (ix2 0 l))
  (fun k d => (V0 (Proc.devRef .tc main_arg11) : Vec Ideal S2x1024 .f32) (ix2 k d))
  (fun j => (V0 (Proc.devRef .tc main_arg12) : Vec Ideal S1x128 .f32) (ix2 0 j))
  (fun x y => (V0 (Proc.devRef .tc main_arg13) : Vec Ideal S1x1280x1024 .f32) (ix3 0 x y))
  (fun x y => (V0 (Proc.devRef .tc main_arg14) : Vec Ideal S1x1024x1024 .f32) (ix3 0 x y))
  (fun x y => (V0 (Proc.devRef .tc main_arg15) : Vec Ideal S1x1024x1024 .f32) (ix3 0 x y))

variable (b : Fin 2) (s : Fin 8208)

/-- The empty places have no projection. -/
theorem pr_front (t : ℕ) (ht : t < 112) (c : Fin 8704) : pr (Q V0) b t c = 0 := by
  unfold pr
  refine Finset.sum_eq_zero fun x _ => ?_
  have h : (Q V0).tok b t x = 0 := by simp [Q, par, ht]
  unfold hn
  rw [h, zero_mul, zero_mul, zero_mul]

theorem v2_at (d : Fin 1024) : (Value.res_main_v2 V0 : FVec Ideal S2x8208x1024 .f32) (ix3 b s d) = (Q V0).tok b (s.val + 112) d := by
  rw [v2_eq]
  refine (hV_at _ _ b s d).trans ?_
  show _ = (if s.val + 112 < 112 then (0 : EReal) else if h : s.val + 112 < 128 then (V0 (Proc.devRef .tc main_arg1) : Vec Ideal S16x1024 .f32) (ix2 ⟨s.val + 112 - 112, by omega⟩ d)
    else if h : s.val + 112 < 8320 then (V0 (Proc.devRef .tc main_arg0) : Vec Ideal S2x8192x1024 .f32) (ix3 b ⟨s.val + 112 - 128, by omega⟩ d) else 0)
  rw [if_neg (by omega)]
  by_cases h : s.val < 16
  · rw [dif_pos h, dif_pos (by omega)]
    exact congrArg (fun z => (V0 (Proc.devRef .tc main_arg1) : Vec Ideal S16x1024 .f32) (ix2 z d)) (Fin.ext (by simp))
  · rw [dif_neg h, dif_neg (by omega), dif_pos (by omega)]
    exact congrArg (fun z => (V0 (Proc.devRef .tc main_arg0) : Vec Ideal S2x8192x1024 .f32) (ix3 b z d)) (Fin.ext (by simp))
theorem v18_at (c : Fin 8704) : (Value.res_main_v18 V0 : FVec Ideal S2x8208x8704 .f32) (ix3 b s c) = pr (Q V0) b (s.val + 112) c := by
  rw [v18_eq]
  exact projV_at (Q V0) _ _ _ (fun b s d => v2_at V0 b s d) (fun _ => rfl) (fun _ _ => rfl) b s c
theorem v34_at (s : Fin 8211) (l : Fin 1280) : (Value.res_main_v34 V0 : FVec Ideal S2x8211x1280 .f32) (ix3 b s l) = ax (Q V0) b (s.val + 109) l := by
  rw [v34_eq]
  refine (padV_at _ b s l).trans ?_
  by_cases h : s.val < 3
  · rw [dif_pos h]
    exact (pr_front V0 b _ (by omega) _).symm
  · rw [dif_neg h]
    refine (v18_at V0 b _ _).trans ?_
    exact congrArg (fun t => pr (Q V0) b t _) (by show s.val - 3 + 112 = s.val + 109; omega)
theorem v67_at (l : Fin 1280) : (Value.res_main_v67 V0 : FVec Ideal S2x8208x1280 .f32) (ix3 b s l) = cx (Q V0) b (s.val + 112) l := by
  rw [v67_eq]
  exact convV_at (Q V0) _ _ _ (fun b s l => v34_at V0 b s l) (fun _ _ => rfl) (fun _ => rfl) b s l
theorem v104_at (l : Fin 1280) : (Value.res_main_v104 V0 : FVec Ideal S2x8208x1280 .f32) (ix3 b s l) = la (Q V0) b (s.val + 112) l := by
  rw [v104_eq]
  refine (laV_at _ _ b s l).trans ?_
  rw [sgV_at, zV_at (Q V0) _ _ (Q V0).wa (fun _ _ _ => rfl) (fun b s l => v67_at V0 b s l), spV_at (Q V0) _ (fun _ => rfl)]
  rfl
theorem gi_at (l : Fin 1280) : sgV (zV (V0 (Proc.devRef .tc main_arg8)) (Value.res_main_v67 V0)) (V0 (Proc.devRef .tc main_arg9)) (ix3 b s l) = gi (Q V0) b (s.val + 112) l := by
  rw [sgV_at, zV_at (Q V0) _ _ (Q V0).wx (fun _ _ _ => rfl) (fun b s l => v67_at V0 b s l)]
  rfl
variable (F : Fin' (Q V0))
include F
theorem v112_at (l : Fin 1280) : (Value.res_main_v112 V0 : FVec Ideal S2x8208x1280 .f32) (ix3 b s l)
    = ((cum (fun n => (la (Q V0) b (n + 112) l).toReal) (s.val + 1) : ℝ) : EReal) := by
  rw [v112_eq]
  refine (cuV_at _ (fun n => la (Q V0) b (n + 112) l) b l (fun s => v104_at V0 b s l) s).trans ?_
  rw [cum, coe_sum]
  refine Finset.sum_congr rfl fun n _ => ?_
  obtain ⟨r, _, h⟩ := la_r F b (n + 112) l
  rw [h]; rfl
theorem u_at (l : Fin 1280) : uV (Value.res_main_v104 V0) (sgV (zV (V0 (Proc.devRef .tc main_arg8)) (Value.res_main_v67 V0)) (V0 (Proc.devRef .tc main_arg9))) (Value.res_main_v67 V0) (ix3 b s l)
    = ui (Q V0) b (s.val + 112) l := by
  rw [uV_at, v104_at, gi_at, v67_at, ui, if_neg (by omega), u0]
  obtain ⟨r, _, h⟩ := la_r F b (s.val + 112) l
  congr 2
  have o : (1 : EReal) = ((1 : ℝ) : EReal) := rfl
  rw [h, c2, ← EReal.coe_mul, Ideal.exp_coe, o, ← EReal.coe_sub, ← EReal.coe_sub, ← EReal.coe_neg, neg_sub]
theorem hr_at (l : Fin 1280) : hrV (Value.res_main_v112 V0) (uV (Value.res_main_v104 V0) (sgV (zV (V0 (Proc.devRef .tc main_arg8)) (Value.res_main_v67 V0)) (V0 (Proc.devRef .tc main_arg9))) (Value.res_main_v67 V0)) (ix3 b s l)
    = hr (Q V0) b (s.val + 112 + 1) l := by
  refine (hrV_at _ _ b s l).trans ?_
  refine (decay (fun n => (la (Q V0) b (n + 112) l).toReal) (fun n => ui (Q V0) b (n + 112) l) s (fun i => (Value.res_main_v112 V0 : FVec Ideal S2x8208x1280 .f32) (ix3 b i l)) _
    (fun i => v112_at V0 b i F l) (fun i => u_at V0 b i F l)).trans ?_
  rw [hr, show s.val + 112 + 1 = 112 + (s.val + 1) by omega, re_shift _ _ 112 (s.val + 1) (fun n hn => by rw [ui, if_pos hn])]
  refine re_congr (fun n _ => ?_) (fun n _ => by rw [Nat.add_comm])
  obtain ⟨r, _, h⟩ := la_r F b (112 + n) l
  rw [Nat.add_comm n, h, Ideal.exp_coe]; rfl

omit F in
theorem lb_at (d : Fin 1024) : (Value.res_main_v152 V0 : FVec Ideal S1024 .f32) (ix1 d) = lb (Q V0) d := by
  rw [v152_eq]
  refine (lbV_at _ d).trans ?_
  rw [exV_at, exV_at]
  rfl
theorem v189_at (h : Fin 8) (x : Fin 128) : (Value.res_main_v189 V0 : FVec Ideal S2x8x8208x128 .f32) (ix4 b h s x)
    = ((cum (fun n => (lf (Q V0) b (n + 112) (col h x)).toReal) (s.val + 1) : ℝ) : EReal) := by
  rw [v189_eq]
  refine (bcV_at _ (fun n => lf (Q V0) b (n + 112) (col h x)) b h x (fun s => ?_) s).trans ?_
  · rw [heV_at, lfV_at, lb_at]
    have e : (Value.res_main_v22 V0 : FVec Ideal S2x8208x1024 .f32) (ix3 b s (col h x)) = pr (Q V0) b (s.val + 112) ⟨3584 + (col h x).val, by omega⟩ := by
      refine Eq.trans ?_ (v18_at V0 b s _)
      unfold Value.res_main_v22
      pointwise
    rw [e]
    rfl
  · rw [cum, coe_sum]
    refine Finset.sum_congr rfl fun n _ => ?_
    obtain ⟨r, _, h⟩ := lf_r F b (n + 112) (col h x)
    rw [h]; rfl
theorem v206_at (h : Fin 8) (j : Fin 128) : (Value.res_main_v206 V0 : FVec Ideal S2x8208x8x128 .f32) (ix4 b s h j) = ((oh (Q V0) b (s.val + 112) h j : ℝ) : EReal) := by
  rw [v206_eq]
  refine (obV_at _ _ _ _ b s h j).trans ?_
  refine (attend (fun x n => (lf (Q V0) b (n + 112) (col h x)).toReal) (fun x n => (ki (Q V0) b (n + 112) (col h x)).toReal) (fun x => (qi (Q V0) b (s.val + 112) (col h x)).toReal)
    (fun n => (vi (Q V0) b (n + 112) (col h j)).toReal) s (fun x i => (Value.res_main_v189 V0 : FVec Ideal S2x8x8208x128 .f32) (ix4 b h i x)) _ _ _ (fun x i => v189_at V0 b i F h x)
    (fun x i => ?_) (fun x => ?_) (fun i => ?_)).trans ?_
  · rw [heV_at, kV_at, lb_at, ← (ki_r F b (i.val + 112) (col h x)).eq]
    have e : (Value.res_main_v22 V0 : FVec Ideal S2x8208x1024 .f32) (ix3 b i (col h x)) = pr (Q V0) b (i.val + 112) ⟨3584 + (col h x).val, by omega⟩ := by
      refine Eq.trans ?_ (v18_at V0 b i _)
      unfold Value.res_main_v22
      pointwise
    rw [e]
    rfl
  · rw [heV_at, qV_at, ← (qi_r F b (s.val + 112) (col h x)).eq]
    have e : (Value.res_main_v21 V0 : FVec Ideal S2x8208x1024 .f32) (ix3 b s (col h x)) = pr (Q V0) b (s.val + 112) ⟨2560 + (col h x).val, by omega⟩ := by
      refine Eq.trans ?_ (v18_at V0 b s _)
      unfold Value.res_main_v21
      pointwise
    rw [e]
    rfl
  · rw [heV_at, ← (vi_r F b (i.val + 112) (col h j)).eq]
    refine Eq.trans ?_ (v18_at V0 b i _)
    pointwise
  · rw [oh]
    refine congrArg (fun z : ℝ => (z : EReal)) (Finset.sum_congr rfl fun x _ => congrArg ((qi (Q V0) b (s.val + 112) (col h x)).toReal * ·) ?_)
    rw [hs, show s.val + 112 + 1 = 112 + (s.val + 1) by omega, rc_shift _ _ 112 (s.val + 1) (fun n hn => by rw [vi, pr_front V0 b n hn]; simp)]
    refine rc_congr (fun n _ => by rw [Nat.add_comm]) (fun n _ => by rw [Nat.add_comm])

/-- The reference's result. -/
theorem ref_at (s : Fin 8192) (d : Fin 1024) : finV (Value.res_main_v2 V0) (Value.res_main_v243 V0) (V0 (Proc.devRef .tc main_arg15)) (ix3 b s d) = out (Q V0) b (128 + s.val) d := by
  have hm : ∀ (s : Fin 8208) (d : Fin 1024), (Value.res_main_v243 V0 : FVec Ideal S2x8208x1024 .f32) (ix3 b s d) = mg (Q V0) b (s.val + 112) d := fun s d => by
    rw [v243_eq]
    refine (mgV_at _ _ _ _ _ _ b s d).trans ?_
    rw [v18_at, v18_at]
    have eA : ∀ x, hrV (Value.res_main_v112 V0) (uV (Value.res_main_v104 V0) (sgV (zV (V0 (Proc.devRef .tc main_arg8)) (Value.res_main_v67 V0)) (V0 (Proc.devRef .tc main_arg9))) (Value.res_main_v67 V0)) (ix3 b s x)
        * geV (Value.res_main_v20 V0) (ix3 b s x) = hr (Q V0) b (s.val + 112 + 1) x * ga (Q V0) b (s.val + 112) x := fun x => by
      rw [hr_at V0 b s F, geV_at]
      have e : (Value.res_main_v20 V0 : FVec Ideal S2x8208x1280 .f32) (ix3 b s x) = pr (Q V0) b (s.val + 112) ⟨1280 + x.val, by omega⟩ := by
        refine Eq.trans ?_ (v18_at V0 b s _)
        unfold Value.res_main_v20
        pointwise
      rw [e]
      rfl
    have eB : ∀ x : Fin 1024, ybV (Value.res_main_v206 V0) (Value.res_main_v207 V0) (V0 (Proc.devRef .tc main_arg12)) (ix4 b s ⟨x.val / 128, by omega⟩ ⟨x.val % 128, by omega⟩)
        = ybc (Q V0) b (s.val + 112) x := fun x => by
      rw [ybV_at]
      simp only [v206_at V0 b s F]
      have e : (Value.res_main_v207 V0 : FVec Ideal S2x8208x8x128 .f32) (ix4 b s ⟨x.val / 128, by omega⟩ ⟨x.val % 128, by omega⟩)
          = pr (Q V0) b (s.val + 112) ⟨5632 + (col ⟨x.val / 128, by omega⟩ ⟨x.val % 128, by omega⟩).val, by omega⟩ := by
        refine Eq.trans ?_ (v18_at V0 b s _)
        unfold Value.res_main_v207
        pointwise
        refine congrArg (fun k => (Value.res_main_v18 V0 : FVec Ideal S2x8208x8704 .f32) (ix3 b s k)) (Fin.ext ?_)
        simp [col]
        try omega
      rw [e]
      rfl
    simp only [eA, eB]
    rfl
  exact finV_out (Q V0) _ _ _ b (fun s d => v2_at V0 b s d) hm (fun _ _ => rfl) s d
end
end Cert.Proof.RefMixer
-- ==== Proof.Same.lean ====
module
public import proofs.«01_k».proof.Proof.Finite
public import proofs.«01_k».proof.Proof.Mixer
public import proofs.«01_k».proof.Proof.RefMixer

@[expose] public section
set_option maxRecDepth 16384
noncomputable section

/-! The mixer call and its reference: one result. -/
namespace Cert.Proof.Same
open Idealize.ShloMosaic Idealize.ShloMosaic.TcCoe Idealize.SL.Sem Idealize.ShloMosaic.StableHlo
open Cert.Proof.Row Cert.Proof

section
open Cert.KernelIdeal Cert.KernelIdeal.Gen
/-- The call ends with its result array as the windows wrote it, and every argument as it was. -/
theorem run_value (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v54) = (dats m 0 c).arrAt 15 cfg0.N
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)) :=
  (θ_run _ _ _).mono (fun r h c => ⟨(h.1 c).1 15,
    ((h.1 c).1 1).trans (((dats m 0 c).arrAt_in 1 rfl _).trans (V_main_arg0 m c)),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).2 main_arg10 (Pipeline.mem_restRefs_of main_arg10 (by decide) (by decide))).trans (V_main_arg10 m c),
    ((h.1 c).1 10).trans (((dats m 0 c).arrAt_in 10 rfl _).trans (V_main_arg11 m c)),
    ((h.1 c).2 main_arg12 (Pipeline.mem_restRefs_of main_arg12 (by decide) (by decide))).trans (V_main_arg12 m c),
    ((h.1 c).2 main_arg13 (Pipeline.mem_restRefs_of main_arg13 (by decide) (by decide))).trans (V_main_arg13 m c),
    ((h.1 c).2 main_arg14 (Pipeline.mem_restRefs_of main_arg14 (by decide) (by decide))).trans (V_main_arg14 m c),
    ((h.1 c).2 main_arg15 (Pipeline.mem_restRefs_of main_arg15 (by decide) (by decide))).trans (V_main_arg15 m c)⟩) (run_both m g)
end

/-- On agreeing arguments the two programs read one set of parameters. -/
theorem par_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    RefMixer.Q (launchContents m' c) = Mixer.P m c := by
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  have e6 : launchContents m' c (Proc.devRef .tc Cert.ReferenceIdeal.main_arg6) = m ((c.tc : Thread Cert.KernelIdeal.nD Cert.KernelIdeal.τ).loc Cert.KernelIdeal.main_arg6) := h6
  have e7 : launchContents m' c (Proc.devRef .tc Cert.ReferenceIdeal.main_arg7) = m ((c.tc : Thread Cert.KernelIdeal.nD Cert.KernelIdeal.τ).loc Cert.KernelIdeal.main_arg7) := h7
  have e8 : launchContents m' c (Proc.devRef .tc Cert.ReferenceIdeal.main_arg8) = m ((c.tc : Thread Cert.KernelIdeal.nD Cert.KernelIdeal.τ).loc Cert.KernelIdeal.main_arg8) := h8
  have e9 : launchContents m' c (Proc.devRef .tc Cert.ReferenceIdeal.main_arg9) = m ((c.tc : Thread Cert.KernelIdeal.nD Cert.KernelIdeal.τ).loc Cert.KernelIdeal.main_arg9) := h9
  have e10 : launchContents m' c (Proc.devRef .tc Cert.ReferenceIdeal.main_arg10) = m ((c.tc : Thread Cert.KernelIdeal.nD Cert.KernelIdeal.τ).loc Cert.KernelIdeal.main_arg10) := h10
  have e11 : launchContents m' c (Proc.devRef .tc Cert.ReferenceIdeal.main_arg11) = m ((c.tc : Thread Cert.KernelIdeal.nD Cert.KernelIdeal.τ).loc Cert.KernelIdeal.main_arg11) := h11
  have e12 : launchContents m' c (Proc.devRef .tc Cert.ReferenceIdeal.main_arg12) = m ((c.tc : Thread Cert.KernelIdeal.nD Cert.KernelIdeal.τ).loc Cert.KernelIdeal.main_arg12) := h12
  have e13 : launchContents m' c (Proc.devRef .tc Cert.ReferenceIdeal.main_arg13) = m ((c.tc : Thread Cert.KernelIdeal.nD Cert.KernelIdeal.τ).loc Cert.KernelIdeal.main_arg13) := h13
  have e14 : launchContents m' c (Proc.devRef .tc Cert.ReferenceIdeal.main_arg14) = m ((c.tc : Thread Cert.KernelIdeal.nD Cert.KernelIdeal.τ).loc Cert.KernelIdeal.main_arg14) := h14
  have e15 : launchContents m' c (Proc.devRef .tc Cert.ReferenceIdeal.main_arg15) = m ((c.tc : Thread Cert.KernelIdeal.nD Cert.KernelIdeal.τ).loc Cert.KernelIdeal.main_arg15) := h15
  unfold RefMixer.Q Mixer.P
  rw [e0, e1, e2, e3, e4, e5, e6, e7, e8, e9, e10, e11, e12, e13, e14, e15]

/-- The reference's result is the call's. -/
theorem same (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (F : Fin' (Mixer.P m c)) (hp : RefMixer.Q V0 = Mixer.P m c) :
    RefMixer.finV (Cert.ReferenceIdeal.Value.res_main_v2 V0) (Cert.ReferenceIdeal.Value.res_main_v243 V0) (V0 (Proc.devRef .tc Cert.ReferenceIdeal.main_arg15))
      = (dats m 0 c).arrAt 15 Cert.KernelIdeal.cfg0.N := by
  rw [Mixer.arr_eq m c F]
  funext j
  idx_vars j
  refine (RefMixer.ref_at V0 j0 (by rw [hp]; exact F) j1 j2).trans ?_
  rw [hp]
end Cert.Proof.Same
-- ==== Proof.lean ====
/- The claims about the mixer call and the feed-forward call, each put together from its parts. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Run
public import proofs.«01_k».proof.Proof.Ffn
public import proofs.«01_k».proof.Proof.Twin
public import proofs.«01_k».proof.Proof.Same
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_finite.Gen.facts,
  frame_mixer, fun m g _ => run_frame (F := Ideal) m g, fun m g _ => run_frame (F := Ideal) m g,
  fun m g _ => (θ_run _ _ _).mono (fun r h => ⟨fun c => (h c).2, sem_eq_zero_of_no_sems (by decide) r.2⟩) (Cert.ReferenceIdeal.Value.run (F := Ideal) m g),
  fun m g _ => (θ_run _ _ _).mono (fun r h => ⟨fun c => (h c).2, sem_eq_zero_of_no_sems (by decide) r.2⟩) (Cert.ReferenceIdeal.Value.run (F := Ideal) m g),
  frame_ffn, fun m g _ => Cert.Kernel2Ideal.Gen.frame (F := Ideal) m g,
  fun m g _ => (θ_run _ _ _).mono (fun r h => ⟨fun c => (h c).2, sem_eq_zero_of_no_sems (by decide) r.2⟩) (Cert.Reference2Ideal.Value.run (F := Ideal) m g),
  trivial,
  fun m g m' g' hpre hm => ⟨fun c => (dats m 0 c).arrAt 15 Cert.KernelIdeal.cfg0.N,
    Same.run_value m g,
    (θ_run _ _ _).mono (fun _ h c => ⟨(h c).1.trans (Same.same m _ c (Finite.args m hpre c) (by
        obtain ⟨h0, h1, h2, h3, h4, h5, h6, h7, h8, h9, h10, h11, h12, h13, h14, h15⟩ := hm c
        exact Same.par_eq m m' c h0 h1 h2 h3 h4 h5 h6 h7 h8 h9 h10 h11 h12 h13 h14 h15)), (h c).2⟩)
      (Cert.ReferenceIdeal.Value.run (F := Ideal) m' g')⟩,
  trivial,
  fun m g m' g' _ hm => ⟨fun c => (Cert.Kernel2Ideal.Gen.dats m 0 c).arrAt 5 Cert.Kernel2Ideal.cfg0.N,
    Cert.Kernel2Ideal.Value.run_blocks m g,
    (θ_run _ _ _).mono (fun _ h c => ⟨(h c).1.trans (Ffn.same m m' c (hm c).1 (hm c).2.1 (hm c).2.2.1 (hm c).2.2.2.1 (hm c).2.2.2.2), (h c).2⟩)
      (Cert.Reference2Ideal.Value.run (F := Ideal) m' g')⟩⟩

end Cert.Proof
